-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_scores [hPre_finite_scores : Cert.Pre_finite_scores.Facts] (m : (ℓ : Loc Cert.KernelIdeal.nD Cert.KernelIdeal.τ Cert.KernelIdeal.sig) → Buf (Elt Ideal) ℓ) : Prop :=
  ∀ c : Dev Cert.KernelIdeal.nD,
    (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_scores [hPre_finite_scores : Cert.Pre_finite_scores.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def Pre_Reference (m : (ℓ : Loc Cert.Reference.nD Cert.Reference.τ Cert.Reference.sig) → Buf (Elt Bits) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ r.2.sem = fun _ => 0)

def quiescent_KernelIdeal_pre_finite_scores [hKernelIdeal : Cert.KernelIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_scores m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))
      ∧ r.2.sem = fun _ => 0)

def quiescent_ReferenceIdeal_pre_finite_scores [hReferenceIdeal : Cert.ReferenceIdeal.Facts] [hPre_finite_scores : Cert.Pre_finite_scores.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_scores m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))
      ∧ r.2.sem = fun _ => 0)

def quiescent_Reference [hReference : Cert.Reference.Facts] : Prop :=
  ∀ (m : (ℓ : Loc Cert.Reference.nD Cert.Reference.τ Cert.Reference.sig) → Buf (Elt Bits) ℓ) (g : Dev Cert.Reference.nD → PrngReg), Pre_Reference m →
    θ_run (Cert.Reference.defs (F := Bits)) (onTc (τ := Cert.Reference.τ) (Cert.Reference.main (F := Bits))) ⟨m, fun _ => 0, g⟩ (fun r => (∀ c : Dev Cert.Reference.nD,
      r.2.mem ((c.tc : Thread Cert.Reference.nD Cert.Reference.τ).loc Cert.Reference.main_arg0) = m ((c.tc : Thread Cert.Reference.nD Cert.Reference.τ).loc Cert.Reference.main_arg0)
      ∧ r.2.mem ((c.tc : Thread Cert.Reference.nD Cert.Reference.τ).loc Cert.Reference.main_arg1) = m ((c.tc : Thread Cert.Reference.nD Cert.Reference.τ).loc Cert.Reference.main_arg1)
      ∧ r.2.mem ((c.tc : Thread Cert.Reference.nD Cert.Reference.τ).loc Cert.Reference.main_arg2) = m ((c.tc : Thread Cert.Reference.nD Cert.Reference.τ).loc Cert.Reference.main_arg2)
      ∧ r.2.mem ((c.tc : Thread Cert.Reference.nD Cert.Reference.τ).loc Cert.Reference.main_arg3) = m ((c.tc : Thread Cert.Reference.nD Cert.Reference.τ).loc Cert.Reference.main_arg3)
      ∧ r.2.mem ((c.tc : Thread Cert.Reference.nD Cert.Reference.τ).loc Cert.Reference.main_arg4) = m ((c.tc : Thread Cert.Reference.nD Cert.Reference.τ).loc Cert.Reference.main_arg4)
      ∧ r.2.mem ((c.tc : Thread Cert.Reference.nD Cert.Reference.τ).loc Cert.Reference.main_arg5) = m ((c.tc : Thread Cert.Reference.nD Cert.Reference.τ).loc Cert.Reference.main_arg5)
      ∧ r.2.mem ((c.tc : Thread Cert.Reference.nD Cert.Reference.τ).loc Cert.Reference.main_arg6) = m ((c.tc : Thread Cert.Reference.nD Cert.Reference.τ).loc Cert.Reference.main_arg6)
      ∧ r.2.mem ((c.tc : Thread Cert.Reference.nD Cert.Reference.τ).loc Cert.Reference.main_arg7) = m ((c.tc : Thread Cert.Reference.nD Cert.Reference.τ).loc Cert.Reference.main_arg7)
      ∧ r.2.mem ((c.tc : Thread Cert.Reference.nD Cert.Reference.τ).loc Cert.Reference.main_arg8) = m ((c.tc : Thread Cert.Reference.nD Cert.Reference.τ).loc Cert.Reference.main_arg8)
      ∧ r.2.mem ((c.tc : Thread Cert.Reference.nD Cert.Reference.τ).loc Cert.Reference.main_arg9) = m ((c.tc : Thread Cert.Reference.nD Cert.Reference.τ).loc Cert.Reference.main_arg9)
      ∧ r.2.mem ((c.tc : Thread Cert.Reference.nD Cert.Reference.τ).loc Cert.Reference.main_arg10) = m ((c.tc : Thread Cert.Reference.nD Cert.Reference.τ).loc Cert.Reference.main_arg10)
      ∧ r.2.mem ((c.tc : Thread Cert.Reference.nD Cert.Reference.τ).loc Cert.Reference.main_arg11) = m ((c.tc : Thread Cert.Reference.nD Cert.Reference.τ).loc Cert.Reference.main_arg11)
      ∧ r.2.mem ((c.tc : Thread Cert.Reference.nD Cert.Reference.τ).loc Cert.Reference.main_arg12) = m ((c.tc : Thread Cert.Reference.nD Cert.Reference.τ).loc Cert.Reference.main_arg12))
      ∧ r.2.sem = fun _ => 0)

def preserves_Kernel_KernelIdeal : Prop :=
  IdealRules.named_const.Statement Cert.KernelIdeal.κ "mask" .f32 0xF149F2CA#32 ⊥

def preserves_Reference_ReferenceIdeal : Prop :=
  True

def algebraic_KernelIdeal_ReferenceIdeal_pre_finite_scores [hKernelIdeal : Cert.KernelIdeal.Facts] [hReferenceIdeal : Cert.ReferenceIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_scores m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v35)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v35) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v197) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hReference : Cert.Reference.Facts) (hPre_finite_scores : Cert.Pre_finite_scores.Facts),
    quiescent_Kernel (hKernel := hKernel)
    ∧ quiescent_KernelIdeal (hKernelIdeal := hKernelIdeal)
    ∧ quiescent_KernelIdeal_pre_finite_scores (hKernelIdeal := hKernelIdeal) (hPre_finite_scores := hPre_finite_scores)
    ∧ quiescent_ReferenceIdeal (hReferenceIdeal := hReferenceIdeal)
    ∧ quiescent_ReferenceIdeal_pre_finite_scores (hReferenceIdeal := hReferenceIdeal) (hPre_finite_scores := hPre_finite_scores)
    ∧ quiescent_Reference (hReference := hReference)
    ∧ preserves_Kernel_KernelIdeal
    ∧ preserves_Reference_ReferenceIdeal
    ∧ algebraic_KernelIdeal_ReferenceIdeal_pre_finite_scores (hKernelIdeal := hKernelIdeal) (hReferenceIdeal := hReferenceIdeal) (hPre_finite_scores := hPre_finite_scores)
-- ==== Pre_finite_scores.lean ====
abbrev S1x2048x768 : Shape := ⟨3, ![1, 2048, 768]⟩
abbrev S768 : Shape := ⟨1, ![768]⟩
abbrev S768x768 : Shape := ⟨2, ![768, 768]⟩
abbrev S12x16x64 : Shape := ⟨3, ![12, 16, 64]⟩
abbrev S12x1024x64 : Shape := ⟨3, ![12, 1024, 64]⟩
abbrev S2x12x1x64 : Shape := ⟨4, ![2, 12, 1, 64]⟩
abbrev S768x36 : Shape := ⟨2, ![768, 36]⟩
abbrev S36 : Shape := ⟨1, ![36]⟩
abbrev S_ : Shape := ⟨0, ![]⟩

class Facts : Prop where
  bcast_S_S1x2048x768 : S_.BroadcastsInDim S1x2048x768 (![] : Fin 0 → Fin S1x2048x768.rank)
  reducesTo_S1x2048x768_S_d0_1_2 : S1x2048x768.ReducesTo [0, 1, 2] S_
  h_S_ : 0 < S_.numel
  bcast_S_S768 : S_.BroadcastsInDim S768 (![] : Fin 0 → Fin S768.rank)
  reducesTo_S768_S_d0 : S768.ReducesTo [0] S_
  bcast_S_S768x768 : S_.BroadcastsInDim S768x768 (![] : Fin 0 → Fin S768x768.rank)
  reducesTo_S768x768_S_d0_1 : S768x768.ReducesTo [0, 1] S_
  bcast_S_S12x16x64 : S_.BroadcastsInDim S12x16x64 (![] : Fin 0 → Fin S12x16x64.rank)
  reducesTo_S12x16x64_S_d0_1_2 : S12x16x64.ReducesTo [0, 1, 2] S_
  bcast_S_S12x1024x64 : S_.BroadcastsInDim S12x1024x64 (![] : Fin 0 → Fin S12x1024x64.rank)
  reducesTo_S12x1024x64_S_d0_1_2 : S12x1024x64.ReducesTo [0, 1, 2] S_
  bcast_S_S2x12x1x64 : S_.BroadcastsInDim S2x12x1x64 (![] : Fin 0 → Fin S2x12x1x64.rank)
  reducesTo_S2x12x1x64_S_d0_1_2_3 : S2x12x1x64.ReducesTo [0, 1, 2, 3] S_

variable [Facts]

def fn_part1 {F : FTy → Type} [FloatOps F] (main_arg5 : FVec F S12x16x64 .f32) (main_arg7 : FVec F S12x1024x64 .f32) (main_arg9 : FVec F S2x12x1x64 .f32) (main_v13 : IVec S_ 1) (main_v16 : IVec S768x768 1) : IVec S_ 1 :=
  let main_c_5 : IVec S_ 1 := constantI S_ 1 1#1
  let main_v17 : IVec S_ 1 := (fun x v => Host.reduce IntOp.andi x v reducesTo_S768x768_S_d0_1 h_S_) main_v16 main_c_5
  let main_v18 : IVec S_ 1 := andi main_v13 main_v17
  let main_v19 : FVec F S12x16x64 .f32 := Host.absf main_arg5
  let main_cst_6 : FVec F S_ .f32 := constant S_ .f32 0x7F800000#32
  let main_v20 : FVec F S12x16x64 .f32 := broadcastInDim S12x16x64 ![] bcast_S_S12x16x64 main_cst_6
  let main_v21 : IVec S12x16x64 1 := cmpf .olt main_v19 main_v20
  let main_c_7 : IVec S_ 1 := constantI S_ 1 1#1
  let main_v22 : IVec S_ 1 := (fun x v => Host.reduce IntOp.andi x v reducesTo_S12x16x64_S_d0_1_2 h_S_) main_v21 main_c_7
  let main_v23 : IVec S_ 1 := andi main_v18 main_v22
  let main_v24 : FVec F S12x1024x64 .f32 := Host.absf main_arg7
  let main_cst_8 : FVec F S_ .f32 := constant S_ .f32 0x7F800000#32
  let main_v25 : FVec F S12x1024x64 .f32 := broadcastInDim S12x1024x64 ![] bcast_S_S12x1024x64 main_cst_8
  let main_v26 : IVec S12x1024x64 1 := cmpf .olt main_v24 main_v25
  let main_c_9 : IVec S_ 1 := constantI S_ 1 1#1
  let main_v27 : IVec S_ 1 := (fun x v => Host.reduce IntOp.andi x v reducesTo_S12x1024x64_S_d0_1_2 h_S_) main_v26 main_c_9
  let main_v28 : IVec S_ 1 := andi main_v23 main_v27
  let main_v29 : FVec F S2x12x1x64 .f32 := Host.absf main_arg9
  let main_cst_10 : FVec F S_ .f32 := constant S_ .f32 0x7F800000#32
  let main_v30 : FVec F S2x12x1x64 .f32 := broadcastInDim S2x12x1x64 ![] bcast_S_S2x12x1x64 main_cst_10
  let main_v31 : IVec S2x12x1x64 1 := cmpf .olt main_v29 main_v30
  let main_c_11 : IVec S_ 1 := constantI S_ 1 1#1
  let main_v32 : IVec S_ 1 := (fun x v => Host.reduce IntOp.andi x v reducesTo_S2x12x1x64_S_d0_1_2_3 h_S_) main_v31 main_c_11
  let main_v33 : IVec S_ 1 := andi main_v28 main_v32
  main_v33

def fn {F : FTy → Type} [FloatOps F] (main_arg0 : FVec F S1x2048x768 .f32) (main_arg1 : FVec F S768 .f32) (main_arg2 : FVec F S768x768 .f32) (main_arg3 : FVec F S768x768 .f32) (main_arg4 : FVec F S768x768 .f32) (main_arg5 : FVec F S12x16x64 .f32) (main_arg6 : FVec F S12x16x64 .f32) (main_arg7 : FVec F S12x1024x64 .f32) (main_arg8 : FVec F S12x1024x64 .f32) (main_arg9 : FVec F S2x12x1x64 .f32) (main_arg10 : FVec F S768x36 .f32) (main_arg11 : FVec F S36 .f32) (main_arg12 : FVec F S768x768 .f32) : IVec S_ 1 :=
  let main_v0 : FVec F S1x2048x768 .f32 := Host.absf main_arg0
  let main_cst : FVec F S_ .f32 := constant S_ .f32 0x7F800000#32
  let main_v1 : FVec F S1x2048x768 .f32 := broadcastInDim S1x2048x768 ![] bcast_S_S1x2048x768 main_cst
  let main_v2 : IVec S1x2048x768 1 := cmpf .olt main_v0 main_v1
  let main_c : IVec S_ 1 := constantI S_ 1 1#1
  let main_v3 : IVec S_ 1 := (fun x v => Host.reduce IntOp.andi x v reducesTo_S1x2048x768_S_d0_1_2 h_S_) main_v2 main_c
  let main_v4 : FVec F S768 .f32 := Host.absf main_arg1
  let main_cst_0 : FVec F S_ .f32 := constant S_ .f32 0x7F800000#32
  let main_v5 : FVec F S768 .f32 := broadcastInDim S768 ![] bcast_S_S768 main_cst_0
  let main_v6 : IVec S768 1 := cmpf .olt main_v4 main_v5
  let main_c_1 : IVec S_ 1 := constantI S_ 1 1#1
  let main_v7 : IVec S_ 1 := (fun x v => Host.reduce IntOp.andi x v reducesTo_S768_S_d0 h_S_) main_v6 main_c_1
  let main_v8 : IVec S_ 1 := andi main_v3 main_v7
  let main_v9 : FVec F S768x768 .f32 := Host.absf main_arg2
  let main_cst_2 : FVec F S_ .f32 := constant S_ .f32 0x7F800000#32
  let main_v10 : FVec F S768x768 .f32 := broadcastInDim S768x768 ![] bcast_S_S768x768 main_cst_2
  let main_v11 : IVec S768x768 1 := cmpf .olt main_v9 main_v10
  let main_c_3 : IVec S_ 1 := constantI S_ 1 1#1
  let main_v12 : IVec S_ 1 := (fun x v => Host.reduce IntOp.andi x v reducesTo_S768x768_S_d0_1 h_S_) main_v11 main_c_3
  let main_v13 : IVec S_ 1 := andi main_v8 main_v12
  let main_v14 : FVec F S768x768 .f32 := Host.absf main_arg3
  let main_cst_4 : FVec F S_ .f32 := constant S_ .f32 0x7F800000#32
  let main_v15 : FVec F S768x768 .f32 := broadcastInDim S768x768 ![] bcast_S_S768x768 main_cst_4
  let main_v16 : IVec S768x768 1 := cmpf .olt main_v14 main_v15
  fn_part1 (F := F) main_arg5 main_arg7 main_arg9 main_v13 main_v16
-- ==== Kernel.lean ====
abbrev S1x2048x768 : Shape := ⟨3, ![1, 2048, 768]⟩
abbrev S768 : Shape := ⟨1, ![768]⟩
abbrev S768x768 : Shape := ⟨2, ![768, 768]⟩
abbrev S12x16x64 : Shape := ⟨3, ![12, 16, 64]⟩
abbrev S12x1024x64 : Shape := ⟨3, ![12, 1024, 64]⟩
abbrev S2x12x1x64 : Shape := ⟨4, ![2, 12, 1, 64]⟩
abbrev S768x36 : Shape := ⟨2, ![768, 36]⟩
abbrev S36 : Shape := ⟨1, ![36]⟩
abbrev S2048x768 : Shape := ⟨2, ![2048, 768]⟩
abbrev S1x768 : Shape := ⟨2, ![1, 768]⟩
abbrev S1x36 : Shape := ⟨2, ![1, 36]⟩
abbrev S12x2048x64 : Shape := ⟨3, ![12, 2048, 64]⟩
abbrev S3x12x2048x1 : Shape := ⟨4, ![3, 12, 2048, 1]⟩
abbrev S256x768 : Shape := ⟨2, ![256, 768]⟩
abbrev S12x256x64 : Shape := ⟨3, ![12, 256, 64]⟩
abbrev S3x12x256x1 : Shape := ⟨4, ![3, 12, 256, 1]⟩
abbrev S256 : Shape := ⟨1, ![256]⟩
abbrev S256x1 : Shape := ⟨2, ![256, 1]⟩
abbrev S256x12x64 : Shape := ⟨3, ![256, 12, 64]⟩
abbrev S256x36 : Shape := ⟨2, ![256, 36]⟩
abbrev S36x256 : Shape := ⟨2, ![36, 256]⟩
abbrev S12x256x512 : Shape := ⟨3, ![12, 256, 512]⟩
abbrev S12x1x1024 : Shape := ⟨3, ![12, 1, 1024]⟩
abbrev S1x256x512 : Shape := ⟨3, ![1, 256, 512]⟩
abbrev S1x1x1024 : Shape := ⟨3, ![1, 1, 1024]⟩
abbrev S1x1024x64 : Shape := ⟨3, ![1, 1024, 64]⟩
abbrev S2x1x1x64 : Shape := ⟨4, ![2, 1, 1, 64]⟩
abbrev S1x256x64 : Shape := ⟨3, ![1, 256, 64]⟩
abbrev S256x512 : Shape := ⟨2, ![256, 512]⟩
abbrev S1x1024 : Shape := ⟨2, ![1, 1024]⟩
abbrev S255x512 : Shape := ⟨2, ![255, 512]⟩
abbrev S1x512 : Shape := ⟨2, ![1, 512]⟩
abbrev S256x1024 : Shape := ⟨2, ![256, 1024]⟩
abbrev S1024x64 : Shape := ⟨2, ![1024, 64]⟩
abbrev S256x64 : Shape := ⟨2, ![256, 64]⟩
abbrev S1x1x1x64 : Shape := ⟨4, ![1, 1, 1, 64]⟩
abbrev S1x64 : Shape := ⟨2, ![1, 64]⟩
abbrev S255x64 : Shape := ⟨2, ![255, 64]⟩
abbrev S2048 : Shape := ⟨1, ![2048]⟩
abbrev S1x2048 : Shape := ⟨2, ![1, 2048]⟩
abbrev S_ : Shape := ⟨0, ![]⟩
abbrev S128 : Shape := ⟨1, ![128]⟩
abbrev S128x1 : Shape := ⟨2, ![128, 1]⟩
abbrev S128x2048 : Shape := ⟨2, ![128, 2048]⟩
abbrev S3x1x256x1 : Shape := ⟨4, ![3, 1, 256, 1]⟩
abbrev S256x256 : Shape := ⟨2, ![256, 256]⟩
abbrev S256x255 : Shape := ⟨2, ![256, 255]⟩
abbrev S1x1x256x1 : Shape := ⟨4, ![1, 1, 256, 1]⟩
abbrev S1x512x64 : Shape := ⟨3, ![1, 512, 64]⟩
abbrev S16x256 : Shape := ⟨2, ![16, 256]⟩
abbrev S512x64 : Shape := ⟨2, ![512, 64]⟩
abbrev S256x16 : Shape := ⟨2, ![256, 16]⟩
abbrev S1x768x64 : Shape := ⟨3, ![1, 768, 64]⟩
abbrev S32x512 : Shape := ⟨2, ![32, 512]⟩
abbrev S768x64 : Shape := ⟨2, ![768, 64]⟩
abbrev S256x32 : Shape := ⟨2, ![256, 32]⟩
abbrev S48x768 : Shape := ⟨2, ![48, 768]⟩
abbrev S256x48 : Shape := ⟨2, ![256, 48]⟩
abbrev S1x1280x64 : Shape := ⟨3, ![1, 1280, 64]⟩
abbrev S64x1024 : Shape := ⟨2, ![64, 1024]⟩
abbrev S1280x64 : Shape := ⟨2, ![1280, 64]⟩
abbrev S256x1280 : Shape := ⟨2, ![256, 1280]⟩
abbrev S1x1536x64 : Shape := ⟨3, ![1, 1536, 64]⟩
abbrev S80x1280 : Shape := ⟨2, ![80, 1280]⟩
abbrev S1536x64 : Shape := ⟨2, ![1536, 64]⟩
abbrev S256x1536 : Shape := ⟨2, ![256, 1536]⟩
abbrev S256x80 : Shape := ⟨2, ![256, 80]⟩
abbrev S1x1792x64 : Shape := ⟨3, ![1, 1792, 64]⟩
abbrev S96x1536 : Shape := ⟨2, ![96, 1536]⟩
abbrev S1792x64 : Shape := ⟨2, ![1792, 64]⟩
abbrev S256x1792 : Shape := ⟨2, ![256, 1792]⟩
abbrev S256x96 : Shape := ⟨2, ![256, 96]⟩
abbrev S1x2048x64 : Shape := ⟨3, ![1, 2048, 64]⟩
abbrev S112x1792 : Shape := ⟨2, ![112, 1792]⟩
abbrev S2048x64 : Shape := ⟨2, ![2048, 64]⟩
abbrev S256x2048 : Shape := ⟨2, ![256, 2048]⟩
abbrev S256x112 : Shape := ⟨2, ![256, 112]⟩

abbrev nBuf : Space → Nat
  | .hbm => 72
  | .vmem => 162
  | .smem => 0
  | _ => 0

abbrev vmemTy0_0 (i : Nat) : BufTy := match i % 128 with
  | 0 => ⟨S256x768, .f32⟩
  | 1 => ⟨S256x768, .f32⟩
  | 2 => ⟨S1x768, .f32⟩
  | 3 => ⟨S768x768, .bf16⟩
  | 4 => ⟨S768x768, .bf16⟩
  | 5 => ⟨S768x768, .bf16⟩
  | 6 => ⟨S768x36, .bf16⟩
  | 7 => ⟨S1x36, .f32⟩
  | 8 => ⟨S12x256x64, .bf16⟩
  | 9 => ⟨S12x256x64, .bf16⟩
  | 10 => ⟨S12x256x64, .bf16⟩
  | 11 => ⟨S12x256x64, .bf16⟩
  | 12 => ⟨S12x256x64, .bf16⟩
  | 13 => ⟨S12x256x64, .bf16⟩
  | 14 => ⟨S12x256x64, .f32⟩
  | 15 => ⟨S12x256x64, .f32⟩
  | 16 => ⟨S12x256x64, .f32⟩
  | 17 => ⟨S12x256x64, .f32⟩
  | 18 => ⟨S3x12x256x1, .f32⟩
  | 19 => ⟨S3x12x256x1, .f32⟩
  | 20 => ⟨S1x256x512, .f32⟩
  | 21 => ⟨S1x256x512, .f32⟩
  | 22 => ⟨S1x256x512, .f32⟩
  | 23 => ⟨S1x256x512, .f32⟩
  | 24 => ⟨S1x1x1024, .f32⟩
  | 25 => ⟨S1x1x1024, .f32⟩
  | 26 => ⟨S1x1x1024, .f32⟩
  | 27 => ⟨S1x1x1024, .f32⟩
  | 28 => ⟨S1x1024x64, .bf16⟩
  | 29 => ⟨S1x1024x64, .bf16⟩
  | 30 => ⟨S1x1024x64, .bf16⟩
  | 31 => ⟨S1x1024x64, .bf16⟩
  | 32 => ⟨S2x1x1x64, .f32⟩
  | 33 => ⟨S2x1x1x64, .f32⟩
  | 34 => ⟨S1x256x64, .f32⟩
  | 35 => ⟨S1x256x64, .f32⟩
  | 36 => ⟨S1x256x64, .f32⟩
  | 37 => ⟨S1x256x64, .f32⟩
  | 38 => ⟨S1x256x64, .bf16⟩
  | 39 => ⟨S1x256x64, .bf16⟩
  | 40 => ⟨S1x256x64, .bf16⟩
  | 41 => ⟨S1x256x64, .bf16⟩
  | 42 => ⟨S1x256x64, .bf16⟩
  | 43 => ⟨S1x256x64, .bf16⟩
  | 44 => ⟨S1x256x64, .f32⟩
  | 45 => ⟨S1x256x64, .f32⟩
  | 46 => ⟨S1x256x64, .f32⟩
  | 47 => ⟨S1x256x64, .f32⟩
  | 48 => ⟨S3x1x256x1, .f32⟩
  | 49 => ⟨S3x1x256x1, .f32⟩
  | 50 => ⟨S1x256x64, .f32⟩
  | 51 => ⟨S1x256x64, .f32⟩
  | 52 => ⟨S1x256x64, .bf16⟩
  | 53 => ⟨S1x256x64, .bf16⟩
  | 54 => ⟨S1x512x64, .bf16⟩
  | 55 => ⟨S1x512x64, .bf16⟩
  | 56 => ⟨S1x512x64, .bf16⟩
  | 57 => ⟨S1x512x64, .bf16⟩
  | 58 => ⟨S1x256x64, .f32⟩
  | 59 => ⟨S1x256x64, .f32⟩
  | 60 => ⟨S1x256x64, .f32⟩
  | 61 => ⟨S1x256x64, .f32⟩
  | 62 => ⟨S3x1x256x1, .f32⟩
  | 63 => ⟨S3x1x256x1, .f32⟩
  | 64 => ⟨S16x256, .bf16⟩
  | 65 => ⟨S1x256x64, .f32⟩
  | 66 => ⟨S1x256x64, .f32⟩
  | 67 => ⟨S1x256x64, .bf16⟩
  | 68 => ⟨S1x256x64, .bf16⟩
  | 69 => ⟨S1x768x64, .bf16⟩
  | 70 => ⟨S1x768x64, .bf16⟩
  | 71 => ⟨S1x768x64, .bf16⟩
  | 72 => ⟨S1x768x64, .bf16⟩
  | 73 => ⟨S1x256x64, .f32⟩
  | 74 => ⟨S1x256x64, .f32⟩
  | 75 => ⟨S1x256x64, .f32⟩
  | 76 => ⟨S1x256x64, .f32⟩
  | 77 => ⟨S3x1x256x1, .f32⟩
  | 78 => ⟨S3x1x256x1, .f32⟩
  | 79 => ⟨S32x512, .bf16⟩
  | 80 => ⟨S1x256x64, .f32⟩
  | 81 => ⟨S1x256x64, .f32⟩
  | 82 => ⟨S1x256x64, .bf16⟩
  | 83 => ⟨S1x256x64, .bf16⟩
  | 84 => ⟨S1x1024x64, .bf16⟩
  | 85 => ⟨S1x1024x64, .bf16⟩
  | 86 => ⟨S1x1024x64, .bf16⟩
  | 87 => ⟨S1x1024x64, .bf16⟩
  | 88 => ⟨S1x256x64, .f32⟩
  | 89 => ⟨S1x256x64, .f32⟩
  | 90 => ⟨S1x256x64, .f32⟩
  | 91 => ⟨S1x256x64, .f32⟩
  | 92 => ⟨S3x1x256x1, .f32⟩
  | 93 => ⟨S3x1x256x1, .f32⟩
  | 94 => ⟨S48x768, .bf16⟩
  | 95 => ⟨S1x256x64, .f32⟩
  | 96 => ⟨S1x256x64, .f32⟩
  | 97 => ⟨S1x256x64, .bf16⟩
  | 98 => ⟨S1x256x64, .bf16⟩
  | 99 => ⟨S1x1280x64, .bf16⟩
  | 100 => ⟨S1x1280x64, .bf16⟩
  | 101 => ⟨S1x1280x64, .bf16⟩
  | 102 => ⟨S1x1280x64, .bf16⟩
  | 103 => ⟨S1x256x64, .f32⟩
  | 104 => ⟨S1x256x64, .f32⟩
  | 105 => ⟨S1x256x64, .f32⟩
  | 106 => ⟨S1x256x64, .f32⟩
  | 107 => ⟨S3x1x256x1, .f32⟩
  | 108 => ⟨S3x1x256x1, .f32⟩
  | 109 => ⟨S64x1024, .bf16⟩
  | 110 => ⟨S1x256x64, .f32⟩
  | 111 => ⟨S1x256x64, .f32⟩
  | 112 => ⟨S1x256x64, .bf16⟩
  | 113 => ⟨S1x256x64, .bf16⟩
  | 114 => ⟨S1x1536x64, .bf16⟩
  | 115 => ⟨S1x1536x64, .bf16⟩
  | 116 => ⟨S1x1536x64, .bf16⟩
  | 117 => ⟨S1x1536x64, .bf16⟩
  | 118 => ⟨S1x256x64, .f32⟩
  | 119 => ⟨S1x256x64, .f32⟩
  | 120 => ⟨S1x256x64, .f32⟩
  | 121 => ⟨S1x256x64, .f32⟩
  | 122 => ⟨S3x1x256x1, .f32⟩
  | 123 => ⟨S3x1x256x1, .f32⟩
  | 124 => ⟨S80x1280, .bf16⟩
  | 125 => ⟨S1x256x64, .f32⟩
  | 126 => ⟨S1x256x64, .f32⟩
  | 127 => ⟨S1x256x64, .bf16⟩
  | _ => ⟨S1x2048x768, .f32⟩

abbrev vmemTy0_1 (i : Nat) : BufTy := match i % 128 with
  | 0 => ⟨S1x256x64, .bf16⟩
  | 1 => ⟨S1x1792x64, .bf16⟩
  | 2 => ⟨S1x1792x64, .bf16⟩
  | 3 => ⟨S1x1792x64, .bf16⟩
  | 4 => ⟨S1x1792x64, .bf16⟩
  | 5 => ⟨S1x256x64, .f32⟩
  | 6 => ⟨S1x256x64, .f32⟩
  | 7 => ⟨S1x256x64, .f32⟩
  | 8 => ⟨S1x256x64, .f32⟩
  | 9 => ⟨S3x1x256x1, .f32⟩
  | 10 => ⟨S3x1x256x1, .f32⟩
  | 11 => ⟨S96x1536, .bf16⟩
  | 12 => ⟨S1x256x64, .f32⟩
  | 13 => ⟨S1x256x64, .f32⟩
  | 14 => ⟨S1x256x64, .bf16⟩
  | 15 => ⟨S1x256x64, .bf16⟩
  | 16 => ⟨S1x2048x64, .bf16⟩
  | 17 => ⟨S1x2048x64, .bf16⟩
  | 18 => ⟨S1x2048x64, .bf16⟩
  | 19 => ⟨S1x2048x64, .bf16⟩
  | 20 => ⟨S1x256x64, .f32⟩
  | 21 => ⟨S1x256x64, .f32⟩
  | 22 => ⟨S1x256x64, .f32⟩
  | 23 => ⟨S1x256x64, .f32⟩
  | 24 => ⟨S3x1x256x1, .f32⟩
  | 25 => ⟨S3x1x256x1, .f32⟩
  | 26 => ⟨S112x1792, .bf16⟩
  | 27 => ⟨S1x256x64, .f32⟩
  | 28 => ⟨S1x256x64, .f32⟩
  | 29 => ⟨S12x256x64, .f32⟩
  | 30 => ⟨S12x256x64, .f32⟩
  | 31 => ⟨S768x768, .bf16⟩
  | 32 => ⟨S256x768, .f32⟩
  | 33 => ⟨S256x768, .f32⟩
  | _ => ⟨S1x2048x768, .f32⟩

abbrev vmemTy (i : Nat) : BufTy := match i / 128 with
  | 0 => vmemTy0_0 i
  | 1 => vmemTy0_1 i
  | _ => ⟨S1x2048x768, .f32⟩

abbrev bufTy : (tb : Table) → Fin (tcTables nBuf tb) → BufTy
  | .hbm, ⟨0, _⟩ => ⟨S1x2048x768, .f32⟩
  | .hbm, ⟨1, _⟩ => ⟨S768, .f32⟩
  | .hbm, ⟨2, _⟩ => ⟨S768x768, .f32⟩
  | .hbm, ⟨3, _⟩ => ⟨S768x768, .f32⟩
  | .hbm, ⟨4, _⟩ => ⟨S768x768, .f32⟩
  | .hbm, ⟨5, _⟩ => ⟨S12x16x64, .f32⟩
  | .hbm, ⟨6, _⟩ => ⟨S12x16x64, .f32⟩
  | .hbm, ⟨7, _⟩ => ⟨S12x1024x64, .f32⟩
  | .hbm, ⟨8, _⟩ => ⟨S12x1024x64, .f32⟩
  | .hbm, ⟨9, _⟩ => ⟨S2x12x1x64, .f32⟩
  | .hbm, ⟨10, _⟩ => ⟨S768x36, .f32⟩
  | .hbm, ⟨11, _⟩ => ⟨S36, .f32⟩
  | .hbm, ⟨12, _⟩ => ⟨S768x768, .f32⟩
  | .hbm, ⟨13, _⟩ => ⟨S2048x768, .f32⟩
  | .hbm, ⟨14, _⟩ => ⟨S1x768, .f32⟩
  | .hbm, ⟨15, _⟩ => ⟨S1x36, .f32⟩
  | .hbm, ⟨16, _⟩ => ⟨S768x768, .bf16⟩
  | .hbm, ⟨17, _⟩ => ⟨S768x768, .bf16⟩
  | .hbm, ⟨18, _⟩ => ⟨S768x768, .bf16⟩
  | .hbm, ⟨19, _⟩ => ⟨S768x36, .bf16⟩
  | .hbm, ⟨20, _⟩ => ⟨S12x2048x64, .bf16⟩
  | .hbm, ⟨21, _⟩ => ⟨S12x2048x64, .bf16⟩
  | .hbm, ⟨22, _⟩ => ⟨S12x2048x64, .bf16⟩
  | .hbm, ⟨23, _⟩ => ⟨S12x2048x64, .f32⟩
  | .hbm, ⟨24, _⟩ => ⟨S12x2048x64, .f32⟩
  | .hbm, ⟨25, _⟩ => ⟨S3x12x2048x1, .f32⟩
  | .hbm, ⟨26, _⟩ => ⟨S12x256x512, .f32⟩
  | .hbm, ⟨27, _⟩ => ⟨S12x256x512, .f32⟩
  | .hbm, ⟨28, _⟩ => ⟨S12x1x1024, .f32⟩
  | .hbm, ⟨29, _⟩ => ⟨S12x1x1024, .f32⟩
  | .hbm, ⟨30, _⟩ => ⟨S12x1024x64, .bf16⟩
  | .hbm, ⟨31, _⟩ => ⟨S12x1024x64, .bf16⟩
  | .hbm, ⟨32, _⟩ => ⟨S12x256x64, .f32⟩
  | .hbm, ⟨33, _⟩ => ⟨S12x256x64, .f32⟩
  | .hbm, ⟨34, _⟩ => ⟨S2048, .i32⟩
  | .hbm, ⟨35, _⟩ => ⟨S1x2048, .i32⟩
  | .hbm, ⟨36, _⟩ => ⟨S_, .i32⟩
  | .hbm, ⟨37, _⟩ => ⟨S_, .i32⟩
  | .hbm, ⟨38, _⟩ => ⟨S1x2048, .i32⟩
  | .hbm, ⟨39, _⟩ => ⟨S1x2048, .i32⟩
  | .hbm, ⟨40, _⟩ => ⟨S1x2048, .i32⟩
  | .hbm, ⟨41, _⟩ => ⟨S_, .i32⟩
  | .hbm, ⟨42, _⟩ => ⟨S1x2048, .i32⟩
  | .hbm, ⟨43, _⟩ => ⟨S1x2048, .i1⟩
  | .hbm, ⟨44, _⟩ => ⟨S1x2048, .i32⟩
  | .hbm, ⟨45, _⟩ => ⟨S1x2048, .i32⟩
  | .hbm, ⟨46, _⟩ => ⟨S_, .i32⟩
  | .hbm, ⟨47, _⟩ => ⟨S1x2048, .i32⟩
  | .hbm, ⟨48, _⟩ => ⟨S1x2048, .i1⟩
  | .hbm, ⟨49, _⟩ => ⟨S1x2048, .i1⟩
  | .hbm, ⟨50, _⟩ => ⟨S_, .i32⟩
  | .hbm, ⟨51, _⟩ => ⟨S1x2048, .i32⟩
  | .hbm, ⟨52, _⟩ => ⟨S1x2048, .i32⟩
  | .hbm, ⟨53, _⟩ => ⟨S1x2048, .i32⟩
  | .hbm, ⟨54, _⟩ => ⟨S128, .i32⟩
  | .hbm, ⟨55, _⟩ => ⟨S128x1, .i32⟩
  | .hbm, ⟨56, _⟩ => ⟨S128x2048, .i32⟩
  | .hbm, ⟨57, _⟩ => ⟨S128x2048, .i32⟩
  | .hbm, ⟨58, _⟩ => ⟨S128x2048, .i1⟩
  | .hbm, ⟨59, _⟩ => ⟨S128x2048, .bf16⟩
  | .hbm, ⟨60, _⟩ => ⟨S12x256x64, .f32⟩
  | .hbm, ⟨61, _⟩ => ⟨S12x256x64, .f32⟩
  | .hbm, ⟨62, _⟩ => ⟨S12x256x64, .f32⟩
  | .hbm, ⟨63, _⟩ => ⟨S12x256x64, .f32⟩
  | .hbm, ⟨64, _⟩ => ⟨S12x256x64, .f32⟩
  | .hbm, ⟨65, _⟩ => ⟨S12x256x64, .f32⟩
  | .hbm, ⟨66, _⟩ => ⟨S12x256x64, .f32⟩
  | .hbm, ⟨67, _⟩ => ⟨S12x256x64, .f32⟩
  | .hbm, ⟨68, _⟩ => ⟨S12x2048x64, .f32⟩
  | .hbm, ⟨69, _⟩ => ⟨S768x768, .bf16⟩
  | .hbm, ⟨70, _⟩ => ⟨S2048x768, .f32⟩
  | .hbm, ⟨71, _⟩ => ⟨S1x2048x768, .f32⟩
  | .local _ .vmem, ⟨i, _⟩ => vmemTy i
  | _, _ => ⟨S1x2048x768, .f32⟩

abbrev dmaSemScopedAt0_0 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev dmaSemScopedAt0_1 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | _ => false

abbrev dmaSemScopedAt (i : Nat) : Bool := match i / 128 with
  | 0 => dmaSemScopedAt0_0 i
  | 1 => dmaSemScopedAt0_1 i
  | _ => false

abbrev vmemScopedAt0_0 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev vmemScopedAt0_1 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | _ => false

abbrev vmemScopedAt (i : Nat) : Bool := match i / 128 with
  | 0 => vmemScopedAt0_0 i
  | 1 => vmemScopedAt0_1 i
  | _ => false

abbrev bufScoped : (cs : CoreSpace) → Fin (nBuf (.core cs)) → Bool
  | .vmem, ⟨i, _⟩ => vmemScopedAt i
  | _, _ => false

abbrev semScoped : Fin 0 → Bool
  | ⟨_, h⟩ => absurd h (Nat.not_lt_zero _)

abbrev dmaSemScoped : Fin 162 → Bool
  | ⟨i, _⟩ => dmaSemScopedAt i

abbrev sig : RefSig :=
  ofTc nBuf bufTy 0 162 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7_0 : Ref sig .tc := ⟨.hbm, 20, rfl⟩
abbrev main_v7_1 : Ref sig .tc := ⟨.hbm, 21, rfl⟩
abbrev main_v7_2 : Ref sig .tc := ⟨.hbm, 22, rfl⟩
abbrev main_v7_3 : Ref sig .tc := ⟨.hbm, 23, rfl⟩
abbrev main_v7_4 : Ref sig .tc := ⟨.hbm, 24, rfl⟩
abbrev main_v7_5 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14_0 : Ref sig .tc := ⟨.hbm, 32, rfl⟩
abbrev main_v14_1 : Ref sig .tc := ⟨.hbm, 33, rfl⟩
abbrev main_v15 : Ref sig .tc := ⟨.hbm, 34, rfl⟩
abbrev main_v16 : Ref sig .tc := ⟨.hbm, 35, rfl⟩
abbrev main_c : Ref sig .tc := ⟨.hbm, 36, rfl⟩
abbrev main_call0_v0 : Ref sig .tc := ⟨.hbm, 37, rfl⟩
abbrev main_call0_v1 : Ref sig .tc := ⟨.hbm, 38, rfl⟩
abbrev main_call0_v2 : Ref sig .tc := ⟨.hbm, 39, rfl⟩
abbrev main_call0_v3 : Ref sig .tc := ⟨.hbm, 40, rfl⟩
abbrev main_call0_v4 : Ref sig .tc := ⟨.hbm, 41, rfl⟩
abbrev main_call0_v5 : Ref sig .tc := ⟨.hbm, 42, rfl⟩
abbrev main_call0_v6 : Ref sig .tc := ⟨.hbm, 43, rfl⟩
abbrev main_call0_v7 : Ref sig .tc := ⟨.hbm, 44, rfl⟩
abbrev main_call0_v8 : Ref sig .tc := ⟨.hbm, 45, rfl⟩
abbrev main_call0_c : Ref sig .tc := ⟨.hbm, 46, rfl⟩
abbrev main_call0_v9 : Ref sig .tc := ⟨.hbm, 47, rfl⟩
abbrev main_call0_v10 : Ref sig .tc := ⟨.hbm, 48, rfl⟩
abbrev main_call0_v11 : Ref sig .tc := ⟨.hbm, 49, rfl⟩
abbrev main_call0_c_0 : Ref sig .tc := ⟨.hbm, 50, rfl⟩
abbrev main_call0_v12 : Ref sig .tc := ⟨.hbm, 51, rfl⟩
abbrev main_call0_v13 : Ref sig .tc := ⟨.hbm, 52, rfl⟩
abbrev main_v17 : Ref sig .tc := ⟨.hbm, 53, rfl⟩
abbrev main_v18 : Ref sig .tc := ⟨.hbm, 54, rfl⟩
abbrev main_v19 : Ref sig .tc := ⟨.hbm, 55, rfl⟩
abbrev main_v20 : Ref sig .tc := ⟨.hbm, 56, rfl⟩
abbrev main_v21 : Ref sig .tc := ⟨.hbm, 57, rfl⟩
abbrev main_v22 : Ref sig .tc := ⟨.hbm, 58, rfl⟩
abbrev main_v23 : Ref sig .tc := ⟨.hbm, 59, rfl⟩
abbrev main_v24 : Ref sig .tc := ⟨.hbm, 60, rfl⟩
abbrev main_v25 : Ref sig .tc := ⟨.hbm, 61, rfl⟩
abbrev main_v26 : Ref sig .tc := ⟨.hbm, 62, rfl⟩
abbrev main_v27 : Ref sig .tc := ⟨.hbm, 63, rfl⟩
abbrev main_v28 : Ref sig .tc := ⟨.hbm, 64, rfl⟩
abbrev main_v29 : Ref sig .tc := ⟨.hbm, 65, rfl⟩
abbrev main_v30 : Ref sig .tc := ⟨.hbm, 66, rfl⟩
abbrev main_v31 : Ref sig .tc := ⟨.hbm, 67, rfl⟩
abbrev main_v32 : Ref sig .tc := ⟨.hbm, 68, rfl⟩
abbrev main_v33 : Ref sig .tc := ⟨.hbm, 69, rfl⟩
abbrev main_v34 : Ref sig .tc := ⟨.hbm, 70, rfl⟩
abbrev main_v35 : Ref sig .tc := ⟨.hbm, 71, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg10_1 : Ref sig .tc := ⟨.vmem, 15, rfl⟩
abbrev cc0_stg11_0 : Ref sig .tc := ⟨.vmem, 16, rfl⟩
abbrev cc0_stg11_1 : Ref sig .tc := ⟨.vmem, 17, rfl⟩
abbrev cc0_stg12_0 : Ref sig .tc := ⟨.vmem, 18, rfl⟩
abbrev cc0_stg12_1 : Ref sig .tc := ⟨.vmem, 19, rfl⟩
abbrev cc1_stg0_0 : Ref sig .tc := ⟨.vmem, 20, rfl⟩
abbrev cc1_stg0_1 : Ref sig .tc := ⟨.vmem, 21, rfl⟩
abbrev cc1_stg1_0 : Ref sig .tc := ⟨.vmem, 22, rfl⟩
abbrev cc1_stg1_1 : Ref sig .tc := ⟨.vmem, 23, rfl⟩
abbrev cc1_stg2_0 : Ref sig .tc := ⟨.vmem, 24, rfl⟩
abbrev cc1_stg2_1 : Ref sig .tc := ⟨.vmem, 25, rfl⟩
abbrev cc1_stg3_0 : Ref sig .tc := ⟨.vmem, 26, rfl⟩
abbrev cc1_stg3_1 : Ref sig .tc := ⟨.vmem, 27, rfl⟩
abbrev cc1_stg4_0 : Ref sig .tc := ⟨.vmem, 28, rfl⟩
abbrev cc1_stg4_1 : Ref sig .tc := ⟨.vmem, 29, rfl⟩
abbrev cc1_stg5_0 : Ref sig .tc := ⟨.vmem, 30, rfl⟩
abbrev cc1_stg5_1 : Ref sig .tc := ⟨.vmem, 31, rfl⟩
abbrev cc1_stg6_0 : Ref sig .tc := ⟨.vmem, 32, rfl⟩
abbrev cc1_stg6_1 : Ref sig .tc := ⟨.vmem, 33, rfl⟩
abbrev cc1_stg7_0 : Ref sig .tc := ⟨.vmem, 34, rfl⟩
abbrev cc1_stg7_1 : Ref sig .tc := ⟨.vmem, 35, rfl⟩
abbrev cc1_stg8_0 : Ref sig .tc := ⟨.vmem, 36, rfl⟩
abbrev cc1_stg8_1 : Ref sig .tc := ⟨.vmem, 37, rfl⟩
abbrev cc2_stg0_0 : Ref sig .tc := ⟨.vmem, 38, rfl⟩
abbrev cc2_stg0_1 : Ref sig .tc := ⟨.vmem, 39, rfl⟩
abbrev cc2_stg1_0 : Ref sig .tc := ⟨.vmem, 40, rfl⟩
abbrev cc2_stg1_1 : Ref sig .tc := ⟨.vmem, 41, rfl⟩
abbrev cc2_stg2_0 : Ref sig .tc := ⟨.vmem, 42, rfl⟩
abbrev cc2_stg2_1 : Ref sig .tc := ⟨.vmem, 43, rfl⟩
abbrev cc2_stg3_0 : Ref sig .tc := ⟨.vmem, 44, rfl⟩
abbrev cc2_stg3_1 : Ref sig .tc := ⟨.vmem, 45, rfl⟩
abbrev cc2_stg4_0 : Ref sig .tc := ⟨.vmem, 46, rfl⟩
abbrev cc2_stg4_1 : Ref sig .tc := ⟨.vmem, 47, rfl⟩
abbrev cc2_stg5_0 : Ref sig .tc := ⟨.vmem, 48, rfl⟩
abbrev cc2_stg5_1 : Ref sig .tc := ⟨.vmem, 49, rfl⟩
abbrev cc2_stg6_0 : Ref sig .tc := ⟨.vmem, 50, rfl⟩
abbrev cc2_stg6_1 : Ref sig .tc := ⟨.vmem, 51, rfl⟩
abbrev cc3_stg0_0 : Ref sig .tc := ⟨.vmem, 52, rfl⟩
abbrev cc3_stg0_1 : Ref sig .tc := ⟨.vmem, 53, rfl⟩
abbrev cc3_stg1_0 : Ref sig .tc := ⟨.vmem, 54, rfl⟩
abbrev cc3_stg1_1 : Ref sig .tc := ⟨.vmem, 55, rfl⟩
abbrev cc3_stg2_0 : Ref sig .tc := ⟨.vmem, 56, rfl⟩
abbrev cc3_stg2_1 : Ref sig .tc := ⟨.vmem, 57, rfl⟩
abbrev cc3_stg3_0 : Ref sig .tc := ⟨.vmem, 58, rfl⟩
abbrev cc3_stg3_1 : Ref sig .tc := ⟨.vmem, 59, rfl⟩
abbrev cc3_stg4_0 : Ref sig .tc := ⟨.vmem, 60, rfl⟩
abbrev cc3_stg4_1 : Ref sig .tc := ⟨.vmem, 61, rfl⟩
abbrev cc3_stg5_0 : Ref sig .tc := ⟨.vmem, 62, rfl⟩
abbrev cc3_stg5_1 : Ref sig .tc := ⟨.vmem, 63, rfl⟩
abbrev cc3_stg6_0 : Ref sig .tc := ⟨.vmem, 64, rfl⟩
abbrev cc3_stg7_0 : Ref sig .tc := ⟨.vmem, 65, rfl⟩
abbrev cc3_stg7_1 : Ref sig .tc := ⟨.vmem, 66, rfl⟩
abbrev cc4_stg0_0 : Ref sig .tc := ⟨.vmem, 67, rfl⟩
abbrev cc4_stg0_1 : Ref sig .tc := ⟨.vmem, 68, rfl⟩
abbrev cc4_stg1_0 : Ref sig .tc := ⟨.vmem, 69, rfl⟩
abbrev cc4_stg1_1 : Ref sig .tc := ⟨.vmem, 70, rfl⟩
abbrev cc4_stg2_0 : Ref sig .tc := ⟨.vmem, 71, rfl⟩
abbrev cc4_stg2_1 : Ref sig .tc := ⟨.vmem, 72, rfl⟩
abbrev cc4_stg3_0 : Ref sig .tc := ⟨.vmem, 73, rfl⟩
abbrev cc4_stg3_1 : Ref sig .tc := ⟨.vmem, 74, rfl⟩
abbrev cc4_stg4_0 : Ref sig .tc := ⟨.vmem, 75, rfl⟩
abbrev cc4_stg4_1 : Ref sig .tc := ⟨.vmem, 76, rfl⟩
abbrev cc4_stg5_0 : Ref sig .tc := ⟨.vmem, 77, rfl⟩
abbrev cc4_stg5_1 : Ref sig .tc := ⟨.vmem, 78, rfl⟩
abbrev cc4_stg6_0 : Ref sig .tc := ⟨.vmem, 79, rfl⟩
abbrev cc4_stg7_0 : Ref sig .tc := ⟨.vmem, 80, rfl⟩
abbrev cc4_stg7_1 : Ref sig .tc := ⟨.vmem, 81, rfl⟩
abbrev cc5_stg0_0 : Ref sig .tc := ⟨.vmem, 82, rfl⟩
abbrev cc5_stg0_1 : Ref sig .tc := ⟨.vmem, 83, rfl⟩
abbrev cc5_stg1_0 : Ref sig .tc := ⟨.vmem, 84, rfl⟩
abbrev cc5_stg1_1 : Ref sig .tc := ⟨.vmem, 85, rfl⟩
abbrev cc5_stg2_0 : Ref sig .tc := ⟨.vmem, 86, rfl⟩
abbrev cc5_stg2_1 : Ref sig .tc := ⟨.vmem, 87, rfl⟩
abbrev cc5_stg3_0 : Ref sig .tc := ⟨.vmem, 88, rfl⟩
abbrev cc5_stg3_1 : Ref sig .tc := ⟨.vmem, 89, rfl⟩
abbrev cc5_stg4_0 : Ref sig .tc := ⟨.vmem, 90, rfl⟩
abbrev cc5_stg4_1 : Ref sig .tc := ⟨.vmem, 91, rfl⟩
abbrev cc5_stg5_0 : Ref sig .tc := ⟨.vmem, 92, rfl⟩
abbrev cc5_stg5_1 : Ref sig .tc := ⟨.vmem, 93, rfl⟩
abbrev cc5_stg6_0 : Ref sig .tc := ⟨.vmem, 94, rfl⟩
abbrev cc5_stg7_0 : Ref sig .tc := ⟨.vmem, 95, rfl⟩
abbrev cc5_stg7_1 : Ref sig .tc := ⟨.vmem, 96, rfl⟩
abbrev cc6_stg0_0 : Ref sig .tc := ⟨.vmem, 97, rfl⟩
abbrev cc6_stg0_1 : Ref sig .tc := ⟨.vmem, 98, rfl⟩
abbrev cc6_stg1_0 : Ref sig .tc := ⟨.vmem, 99, rfl⟩
abbrev cc6_stg1_1 : Ref sig .tc := ⟨.vmem, 100, rfl⟩
abbrev cc6_stg2_0 : Ref sig .tc := ⟨.vmem, 101, rfl⟩
abbrev cc6_stg2_1 : Ref sig .tc := ⟨.vmem, 102, rfl⟩
abbrev cc6_stg3_0 : Ref sig .tc := ⟨.vmem, 103, rfl⟩
abbrev cc6_stg3_1 : Ref sig .tc := ⟨.vmem, 104, rfl⟩
abbrev cc6_stg4_0 : Ref sig .tc := ⟨.vmem, 105, rfl⟩
abbrev cc6_stg4_1 : Ref sig .tc := ⟨.vmem, 106, rfl⟩
abbrev cc6_stg5_0 : Ref sig .tc := ⟨.vmem, 107, rfl⟩
abbrev cc6_stg5_1 : Ref sig .tc := ⟨.vmem, 108, rfl⟩
abbrev cc6_stg6_0 : Ref sig .tc := ⟨.vmem, 109, rfl⟩
abbrev cc6_stg7_0 : Ref sig .tc := ⟨.vmem, 110, rfl⟩
abbrev cc6_stg7_1 : Ref sig .tc := ⟨.vmem, 111, rfl⟩
abbrev cc7_stg0_0 : Ref sig .tc := ⟨.vmem, 112, rfl⟩
abbrev cc7_stg0_1 : Ref sig .tc := ⟨.vmem, 113, rfl⟩
abbrev cc7_stg1_0 : Ref sig .tc := ⟨.vmem, 114, rfl⟩
abbrev cc7_stg1_1 : Ref sig .tc := ⟨.vmem, 115, rfl⟩
abbrev cc7_stg2_0 : Ref sig .tc := ⟨.vmem, 116, rfl⟩
abbrev cc7_stg2_1 : Ref sig .tc := ⟨.vmem, 117, rfl⟩
abbrev cc7_stg3_0 : Ref sig .tc := ⟨.vmem, 118, rfl⟩
abbrev cc7_stg3_1 : Ref sig .tc := ⟨.vmem, 119, rfl⟩
abbrev cc7_stg4_0 : Ref sig .tc := ⟨.vmem, 120, rfl⟩
abbrev cc7_stg4_1 : Ref sig .tc := ⟨.vmem, 121, rfl⟩
abbrev cc7_stg5_0 : Ref sig .tc := ⟨.vmem, 122, rfl⟩
abbrev cc7_stg5_1 : Ref sig .tc := ⟨.vmem, 123, rfl⟩
abbrev cc7_stg6_0 : Ref sig .tc := ⟨.vmem, 124, rfl⟩
abbrev cc7_stg7_0 : Ref sig .tc := ⟨.vmem, 125, rfl⟩
abbrev cc7_stg7_1 : Ref sig .tc := ⟨.vmem, 126, rfl⟩
abbrev cc8_stg0_0 : Ref sig .tc := ⟨.vmem, 127, rfl⟩
abbrev cc8_stg0_1 : Ref sig .tc := ⟨.vmem, 128, rfl⟩
abbrev cc8_stg1_0 : Ref sig .tc := ⟨.vmem, 129, rfl⟩
abbrev cc8_stg1_1 : Ref sig .tc := ⟨.vmem, 130, rfl⟩
abbrev cc8_stg2_0 : Ref sig .tc := ⟨.vmem, 131, rfl⟩
abbrev cc8_stg2_1 : Ref sig .tc := ⟨.vmem, 132, rfl⟩
abbrev cc8_stg3_0 : Ref sig .tc := ⟨.vmem, 133, rfl⟩
abbrev cc8_stg3_1 : Ref sig .tc := ⟨.vmem, 134, rfl⟩
abbrev cc8_stg4_0 : Ref sig .tc := ⟨.vmem, 135, rfl⟩
abbrev cc8_stg4_1 : Ref sig .tc := ⟨.vmem, 136, rfl⟩
abbrev cc8_stg5_0 : Ref sig .tc := ⟨.vmem, 137, rfl⟩
abbrev cc8_stg5_1 : Ref sig .tc := ⟨.vmem, 138, rfl⟩
abbrev cc8_stg6_0 : Ref sig .tc := ⟨.vmem, 139, rfl⟩
abbrev cc8_stg7_0 : Ref sig .tc := ⟨.vmem, 140, rfl⟩
abbrev cc8_stg7_1 : Ref sig .tc := ⟨.vmem, 141, rfl⟩
abbrev cc9_stg0_0 : Ref sig .tc := ⟨.vmem, 142, rfl⟩
abbrev cc9_stg0_1 : Ref sig .tc := ⟨.vmem, 143, rfl⟩
abbrev cc9_stg1_0 : Ref sig .tc := ⟨.vmem, 144, rfl⟩
abbrev cc9_stg1_1 : Ref sig .tc := ⟨.vmem, 145, rfl⟩
abbrev cc9_stg2_0 : Ref sig .tc := ⟨.vmem, 146, rfl⟩
abbrev cc9_stg2_1 : Ref sig .tc := ⟨.vmem, 147, rfl⟩
abbrev cc9_stg3_0 : Ref sig .tc := ⟨.vmem, 148, rfl⟩
abbrev cc9_stg3_1 : Ref sig .tc := ⟨.vmem, 149, rfl⟩
abbrev cc9_stg4_0 : Ref sig .tc := ⟨.vmem, 150, rfl⟩
abbrev cc9_stg4_1 : Ref sig .tc := ⟨.vmem, 151, rfl⟩
abbrev cc9_stg5_0 : Ref sig .tc := ⟨.vmem, 152, rfl⟩
abbrev cc9_stg5_1 : Ref sig .tc := ⟨.vmem, 153, rfl⟩
abbrev cc9_stg6_0 : Ref sig .tc := ⟨.vmem, 154, rfl⟩
abbrev cc9_stg7_0 : Ref sig .tc := ⟨.vmem, 155, rfl⟩
abbrev cc9_stg7_1 : Ref sig .tc := ⟨.vmem, 156, rfl⟩
abbrev cc10_stg0_0 : Ref sig .tc := ⟨.vmem, 157, rfl⟩
abbrev cc10_stg0_1 : Ref sig .tc := ⟨.vmem, 158, rfl⟩
abbrev cc10_stg1_0 : Ref sig .tc := ⟨.vmem, 159, rfl⟩
abbrev cc10_stg2_0 : Ref sig .tc := ⟨.vmem, 160, rfl⟩
abbrev cc10_stg2_1 : Ref sig .tc := ⟨.vmem, 161, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9
abbrev cc0_sem8_0 : DmaSem sig := 10
abbrev cc0_sem8_1 : DmaSem sig := 11
abbrev cc0_sem9_0 : DmaSem sig := 12
abbrev cc0_sem9_1 : DmaSem sig := 13
abbrev cc0_sem10_0 : DmaSem sig := 14
abbrev cc0_sem10_1 : DmaSem sig := 15
abbrev cc0_sem11_0 : DmaSem sig := 16
abbrev cc0_sem11_1 : DmaSem sig := 17
abbrev cc0_sem12_0 : DmaSem sig := 18
abbrev cc0_sem12_1 : DmaSem sig := 19
abbrev cc1_sem0_0 : DmaSem sig := 20
abbrev cc1_sem0_1 : DmaSem sig := 21
abbrev cc1_sem1_0 : DmaSem sig := 22
abbrev cc1_sem1_1 : DmaSem sig := 23
abbrev cc1_sem2_0 : DmaSem sig := 24
abbrev cc1_sem2_1 : DmaSem sig := 25
abbrev cc1_sem3_0 : DmaSem sig := 26
abbrev cc1_sem3_1 : DmaSem sig := 27
abbrev cc1_sem4_0 : DmaSem sig := 28
abbrev cc1_sem4_1 : DmaSem sig := 29
abbrev cc1_sem5_0 : DmaSem sig := 30
abbrev cc1_sem5_1 : DmaSem sig := 31
abbrev cc1_sem6_0 : DmaSem sig := 32
abbrev cc1_sem6_1 : DmaSem sig := 33
abbrev cc1_sem7_0 : DmaSem sig := 34
abbrev cc1_sem7_1 : DmaSem sig := 35
abbrev cc1_sem8_0 : DmaSem sig := 36
abbrev cc1_sem8_1 : DmaSem sig := 37
abbrev cc2_sem0_0 : DmaSem sig := 38
abbrev cc2_sem0_1 : DmaSem sig := 39
abbrev cc2_sem1_0 : DmaSem sig := 40
abbrev cc2_sem1_1 : DmaSem sig := 41
abbrev cc2_sem2_0 : DmaSem sig := 42
abbrev cc2_sem2_1 : DmaSem sig := 43
abbrev cc2_sem3_0 : DmaSem sig := 44
abbrev cc2_sem3_1 : DmaSem sig := 45
abbrev cc2_sem4_0 : DmaSem sig := 46
abbrev cc2_sem4_1 : DmaSem sig := 47
abbrev cc2_sem5_0 : DmaSem sig := 48
abbrev cc2_sem5_1 : DmaSem sig := 49
abbrev cc2_sem6_0 : DmaSem sig := 50
abbrev cc2_sem6_1 : DmaSem sig := 51
abbrev cc3_sem0_0 : DmaSem sig := 52
abbrev cc3_sem0_1 : DmaSem sig := 53
abbrev cc3_sem1_0 : DmaSem sig := 54
abbrev cc3_sem1_1 : DmaSem sig := 55
abbrev cc3_sem2_0 : DmaSem sig := 56
abbrev cc3_sem2_1 : DmaSem sig := 57
abbrev cc3_sem3_0 : DmaSem sig := 58
abbrev cc3_sem3_1 : DmaSem sig := 59
abbrev cc3_sem4_0 : DmaSem sig := 60
abbrev cc3_sem4_1 : DmaSem sig := 61
abbrev cc3_sem5_0 : DmaSem sig := 62
abbrev cc3_sem5_1 : DmaSem sig := 63
abbrev cc3_sem6_0 : DmaSem sig := 64
abbrev cc3_sem7_0 : DmaSem sig := 65
abbrev cc3_sem7_1 : DmaSem sig := 66
abbrev cc4_sem0_0 : DmaSem sig := 67
abbrev cc4_sem0_1 : DmaSem sig := 68
abbrev cc4_sem1_0 : DmaSem sig := 69
abbrev cc4_sem1_1 : DmaSem sig := 70
abbrev cc4_sem2_0 : DmaSem sig := 71
abbrev cc4_sem2_1 : DmaSem sig := 72
abbrev cc4_sem3_0 : DmaSem sig := 73
abbrev cc4_sem3_1 : DmaSem sig := 74
abbrev cc4_sem4_0 : DmaSem sig := 75
abbrev cc4_sem4_1 : DmaSem sig := 76
abbrev cc4_sem5_0 : DmaSem sig := 77
abbrev cc4_sem5_1 : DmaSem sig := 78
abbrev cc4_sem6_0 : DmaSem sig := 79
abbrev cc4_sem7_0 : DmaSem sig := 80
abbrev cc4_sem7_1 : DmaSem sig := 81
abbrev cc5_sem0_0 : DmaSem sig := 82
abbrev cc5_sem0_1 : DmaSem sig := 83
abbrev cc5_sem1_0 : DmaSem sig := 84
abbrev cc5_sem1_1 : DmaSem sig := 85
abbrev cc5_sem2_0 : DmaSem sig := 86
abbrev cc5_sem2_1 : DmaSem sig := 87
abbrev cc5_sem3_0 : DmaSem sig := 88
abbrev cc5_sem3_1 : DmaSem sig := 89
abbrev cc5_sem4_0 : DmaSem sig := 90
abbrev cc5_sem4_1 : DmaSem sig := 91
abbrev cc5_sem5_0 : DmaSem sig := 92
abbrev cc5_sem5_1 : DmaSem sig := 93
abbrev cc5_sem6_0 : DmaSem sig := 94
abbrev cc5_sem7_0 : DmaSem sig := 95
abbrev cc5_sem7_1 : DmaSem sig := 96
abbrev cc6_sem0_0 : DmaSem sig := 97
abbrev cc6_sem0_1 : DmaSem sig := 98
abbrev cc6_sem1_0 : DmaSem sig := 99
abbrev cc6_sem1_1 : DmaSem sig := 100
abbrev cc6_sem2_0 : DmaSem sig := 101
abbrev cc6_sem2_1 : DmaSem sig := 102
abbrev cc6_sem3_0 : DmaSem sig := 103
abbrev cc6_sem3_1 : DmaSem sig := 104
abbrev cc6_sem4_0 : DmaSem sig := 105
abbrev cc6_sem4_1 : DmaSem sig := 106
abbrev cc6_sem5_0 : DmaSem sig := 107
abbrev cc6_sem5_1 : DmaSem sig := 108
abbrev cc6_sem6_0 : DmaSem sig := 109
abbrev cc6_sem7_0 : DmaSem sig := 110
abbrev cc6_sem7_1 : DmaSem sig := 111
abbrev cc7_sem0_0 : DmaSem sig := 112
abbrev cc7_sem0_1 : DmaSem sig := 113
abbrev cc7_sem1_0 : DmaSem sig := 114
abbrev cc7_sem1_1 : DmaSem sig := 115
abbrev cc7_sem2_0 : DmaSem sig := 116
abbrev cc7_sem2_1 : DmaSem sig := 117
abbrev cc7_sem3_0 : DmaSem sig := 118
abbrev cc7_sem3_1 : DmaSem sig := 119
abbrev cc7_sem4_0 : DmaSem sig := 120
abbrev cc7_sem4_1 : DmaSem sig := 121
abbrev cc7_sem5_0 : DmaSem sig := 122
abbrev cc7_sem5_1 : DmaSem sig := 123
abbrev cc7_sem6_0 : DmaSem sig := 124
abbrev cc7_sem7_0 : DmaSem sig := 125
abbrev cc7_sem7_1 : DmaSem sig := 126
abbrev cc8_sem0_0 : DmaSem sig := 127
abbrev cc8_sem0_1 : DmaSem sig := 128
abbrev cc8_sem1_0 : DmaSem sig := 129
abbrev cc8_sem1_1 : DmaSem sig := 130
abbrev cc8_sem2_0 : DmaSem sig := 131
abbrev cc8_sem2_1 : DmaSem sig := 132
abbrev cc8_sem3_0 : DmaSem sig := 133
abbrev cc8_sem3_1 : DmaSem sig := 134
abbrev cc8_sem4_0 : DmaSem sig := 135
abbrev cc8_sem4_1 : DmaSem sig := 136
abbrev cc8_sem5_0 : DmaSem sig := 137
abbrev cc8_sem5_1 : DmaSem sig := 138
abbrev cc8_sem6_0 : DmaSem sig := 139
abbrev cc8_sem7_0 : DmaSem sig := 140
abbrev cc8_sem7_1 : DmaSem sig := 141
abbrev cc9_sem0_0 : DmaSem sig := 142
abbrev cc9_sem0_1 : DmaSem sig := 143
abbrev cc9_sem1_0 : DmaSem sig := 144
abbrev cc9_sem1_1 : DmaSem sig := 145
abbrev cc9_sem2_0 : DmaSem sig := 146
abbrev cc9_sem2_1 : DmaSem sig := 147
abbrev cc9_sem3_0 : DmaSem sig := 148
abbrev cc9_sem3_1 : DmaSem sig := 149
abbrev cc9_sem4_0 : DmaSem sig := 150
abbrev cc9_sem4_1 : DmaSem sig := 151
abbrev cc9_sem5_0 : DmaSem sig := 152
abbrev cc9_sem5_1 : DmaSem sig := 153
abbrev cc9_sem6_0 : DmaSem sig := 154
abbrev cc9_sem7_0 : DmaSem sig := 155
abbrev cc9_sem7_1 : DmaSem sig := 156
abbrev cc10_sem0_0 : DmaSem sig := 157
abbrev cc10_sem0_1 : DmaSem sig := 158
abbrev cc10_sem1_0 : DmaSem sig := 159
abbrev cc10_sem2_0 : DmaSem sig := 160
abbrev cc10_sem2_1 : DmaSem sig := 161

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_12 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, arg0.toNat, c0_i32_1.toNat]

abbrev stage0_0 : Fin 2 → Memref sig .tc .vmem S256x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x768 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S768x768 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S768x768 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S768x768 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S768x36 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x36 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S12x256x64 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S12x256x64 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S12x256x64 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S12x256x64 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S12x256x64 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S3x12x256x1 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev grid1 : Pipeline.Grid := ⟨1, ![12], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_3 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_4 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_5 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_6 (i : grid1.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc1_transform_7 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_8 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S1x256x512 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1x256x512 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S1x1x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S1x1x1024 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S1x1024x64 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S1x1024x64 .bf16 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S2x1x1x64 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev stage1_7 : Fin 2 → Memref sig .tc .vmem S1x256x64 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev stage1_8 : Fin 2 → Memref sig .tc .vmem S1x256x64 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]

abbrev grid2 : Pipeline.Grid := ⟨1, ![12], ![false]⟩

def cc2_transform_0 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc2_transform_1 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc2_transform_2 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc2_transform_3 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc2_transform_4 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc2_transform_5 (i : grid2.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc2_transform_6 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage2_0 : Fin 2 → Memref sig .tc .vmem S1x256x64 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S1x256x64 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S1x256x64 .bf16 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S1x256x64 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 2 → Memref sig .tc .vmem S1x256x64 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev stage2_5 : Fin 2 → Memref sig .tc .vmem S3x1x256x1 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev stage2_6 : Fin 2 → Memref sig .tc .vmem S1x256x64 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev grid3 : Pipeline.Grid := ⟨1, ![12], ![false]⟩

def cc3_transform_0 (i : grid3.Coords) : Fin 3 → Nat :=
  let arg0 : BitVec 32 := BitVec.ofNat 32 (i 0).val
  let c1_i32 : BitVec 32 := 1#32
  let c0_i32 : BitVec 32 := 0#32
  let c0_i32_0 : BitVec 32 := 0#32
  ![arg0.toNat, c1_i32.toNat, c0_i32.toNat]

def cc3_transform_1 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc3_transform_2 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc3_transform_3 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc3_transform_4 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc3_transform_5 (i : grid3.Coords) : Fin 4 → Nat :=
  let arg0 : BitVec 32 := BitVec.ofNat 32 (i 0).val
  let c0_i32 : BitVec 32 := 0#32
  let c1_i32 : BitVec 32 := 1#32
  let c0_i32_0 : BitVec 32 := 0#32
  let c0_i32_1 : BitVec 32 := 0#32
  ![c0_i32.toNat, arg0.toNat, c1_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_7 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage3_0 : Fin 2 → Memref sig .tc .vmem S1x256x64 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S1x512x64 .bf16 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S1x512x64 .bf16 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 2 → Memref sig .tc .vmem S1x256x64 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev stage3_4 : Fin 2 → Memref sig .tc .vmem S1x256x64 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

abbrev stage3_5 : Fin 2 → Memref sig .tc .vmem S3x1x256x1 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

abbrev stage3_6 : Fin 1 → Memref sig .tc .vmem S16x256 .bf16 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![false]

abbrev stage3_7 : Fin 2 → Memref sig .tc .vmem S1x256x64 .f32 := fun | 0 => Memref.whole cc3_stg7_0 | 1 => Memref.whole cc3_stg7_1 | ⟨_ + 2, h⟩ => absurd h (Nat.not_lt.2 (Nat.le_add_left _ _))
abbrev sem3_7 : Fin 2 → DmaSem sig := fun | 0 => cc3_sem7_0 | 1 => cc3_sem7_1 | ⟨_ + 2, h⟩ => absurd h (Nat.not_lt.2 (Nat.le_add_left _ _))
abbrev reads3_7 : Fin grid3.rank → Bool := ![true]

abbrev grid4 : Pipeline.Grid := ⟨1, ![12], ![false]⟩

def cc4_transform_0 (i : grid4.Coords) : Fin 3 → Nat :=
  let arg0 : BitVec 32 := BitVec.ofNat 32 (i 0).val
  let c2_i32 : BitVec 32 := 2#32
  let c0_i32 : BitVec 32 := 0#32
  let c0_i32_0 : BitVec 32 := 0#32
  ![arg0.toNat, c2_i32.toNat, c0_i32.toNat]

def cc4_transform_1 (i : grid4.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc4_transform_2 (i : grid4.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc4_transform_3 (i : grid4.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc4_transform_4 (i : grid4.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc4_transform_5 (i : grid4.Coords) : Fin 4 → Nat :=
  let arg0 : BitVec 32 := BitVec.ofNat 32 (i 0).val
  let c0_i32 : BitVec 32 := 0#32
  let c2_i32 : BitVec 32 := 2#32
  let c0_i32_0 : BitVec 32 := 0#32
  let c0_i32_1 : BitVec 32 := 0#32
  ![c0_i32.toNat, arg0.toNat, c2_i32.toNat, c0_i32_0.toNat]

def cc4_transform_6 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_7 (i : grid4.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage4_0 : Fin 2 → Memref sig .tc .vmem S1x256x64 .bf16 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S1x768x64 .bf16 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 2 → Memref sig .tc .vmem S1x768x64 .bf16 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev stage4_3 : Fin 2 → Memref sig .tc .vmem S1x256x64 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

abbrev stage4_4 : Fin 2 → Memref sig .tc .vmem S1x256x64 .f32 := fun | 0 => Memref.whole cc4_stg4_0 | 1 => Memref.whole cc4_stg4_1 | ⟨_ + 2, h⟩ => absurd h (Nat.not_lt.2 (Nat.le_add_left _ _))
abbrev sem4_4 : Fin 2 → DmaSem sig := fun | 0 => cc4_sem4_0 | 1 => cc4_sem4_1 | ⟨_ + 2, h⟩ => absurd h (Nat.not_lt.2 (Nat.le_add_left _ _))
abbrev reads4_4 : Fin grid4.rank → Bool := ![true]

abbrev stage4_5 : Fin 2 → Memref sig .tc .vmem S3x1x256x1 .f32 := fun | 0 => Memref.whole cc4_stg5_0 | 1 => Memref.whole cc4_stg5_1 | ⟨_ + 2, h⟩ => absurd h (Nat.not_lt.2 (Nat.le_add_left _ _))
abbrev sem4_5 : Fin 2 → DmaSem sig := fun | 0 => cc4_sem5_0 | 1 => cc4_sem5_1 | ⟨_ + 2, h⟩ => absurd h (Nat.not_lt.2 (Nat.le_add_left _ _))
abbrev reads4_5 : Fin grid4.rank → Bool := ![true]

abbrev stage4_6 : Fin 1 → Memref sig .tc .vmem S32x512 .bf16 := fun | 0 => Memref.whole cc4_stg6_0 | ⟨_ + 1, h⟩ => absurd h (Nat.not_lt.2 (Nat.le_add_left _ _))
abbrev sem4_6 : Fin 1 → DmaSem sig := fun | 0 => cc4_sem6_0 | ⟨_ + 1, h⟩ => absurd h (Nat.not_lt.2 (Nat.le_add_left _ _))
abbrev reads4_6 : Fin grid4.rank → Bool := ![false]

abbrev stage4_7 : Fin 2 → Memref sig .tc .vmem S1x256x64 .f32 := fun | 0 => Memref.whole cc4_stg7_0 | 1 => Memref.whole cc4_stg7_1 | ⟨_ + 2, h⟩ => absurd h (Nat.not_lt.2 (Nat.le_add_left _ _))
abbrev sem4_7 : Fin 2 → DmaSem sig := fun | 0 => cc4_sem7_0 | 1 => cc4_sem7_1 | ⟨_ + 2, h⟩ => absurd h (Nat.not_lt.2 (Nat.le_add_left _ _))
abbrev reads4_7 : Fin grid4.rank → Bool := ![true]

abbrev grid5 : Pipeline.Grid := ⟨1, ![12], ![false]⟩

def cc5_transform_0 (i : grid5.Coords) : Fin 3 → Nat :=
  let arg0 : BitVec 32 := BitVec.ofNat 32 (i 0).val
  let c3_i32 : BitVec 32 := 3#32
  let c0_i32 : BitVec 32 := 0#32
  let c0_i32_0 : BitVec 32 := 0#32
  ![arg0.toNat, c3_i32.toNat, c0_i32.toNat]

def cc5_transform_1 (i : grid5.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc5_transform_2 (i : grid5.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc5_transform_3 (i : grid5.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc5_transform_4 (i : grid5.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc5_transform_5 (i : grid5.Coords) : Fin 4 → Nat :=
  let arg0 : BitVec 32 := BitVec.ofNat 32 (i 0).val
  let c0_i32 : BitVec 32 := 0#32
  let c3_i32 : BitVec 32 := 3#32
  let c0_i32_0 : BitVec 32 := 0#32
  let c0_i32_1 : BitVec 32 := 0#32
  ![c0_i32.toNat, arg0.toNat, c3_i32.toNat, c0_i32_0.toNat]

def cc5_transform_6 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_7 (i : grid5.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage5_0 : Fin 2 → Memref sig .tc .vmem S1x256x64 .bf16 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S1x1024x64 .bf16 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 2 → Memref sig .tc .vmem S1x1024x64 .bf16 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev stage5_3 : Fin 2 → Memref sig .tc .vmem S1x256x64 .f32 := fun | 0 => Memref.whole cc5_stg3_0 | 1 => Memref.whole cc5_stg3_1 | ⟨_ + 2, h⟩ => absurd h (Nat.not_lt.2 (Nat.le_add_left _ _))
abbrev sem5_3 : Fin 2 → DmaSem sig := fun | 0 => cc5_sem3_0 | 1 => cc5_sem3_1 | ⟨_ + 2, h⟩ => absurd h (Nat.not_lt.2 (Nat.le_add_left _ _))
abbrev reads5_3 : Fin grid5.rank → Bool := ![true]

abbrev stage5_4 : Fin 2 → Memref sig .tc .vmem S1x256x64 .f32 := fun | 0 => Memref.whole cc5_stg4_0 | 1 => Memref.whole cc5_stg4_1 | ⟨_ + 2, h⟩ => absurd h (Nat.not_lt.2 (Nat.le_add_left _ _))
abbrev sem5_4 : Fin 2 → DmaSem sig := fun | 0 => cc5_sem4_0 | 1 => cc5_sem4_1 | ⟨_ + 2, h⟩ => absurd h (Nat.not_lt.2 (Nat.le_add_left _ _))
abbrev reads5_4 : Fin grid5.rank → Bool := ![true]

abbrev stage5_5 : Fin 2 → Memref sig .tc .vmem S3x1x256x1 .f32 := fun | 0 => Memref.whole cc5_stg5_0 | 1 => Memref.whole cc5_stg5_1 | ⟨_ + 2, h⟩ => absurd h (Nat.not_lt.2 (Nat.le_add_left _ _))
abbrev sem5_5 : Fin 2 → DmaSem sig := fun | 0 => cc5_sem5_0 | 1 => cc5_sem5_1 | ⟨_ + 2, h⟩ => absurd h (Nat.not_lt.2 (Nat.le_add_left _ _))
abbrev reads5_5 : Fin grid5.rank → Bool := ![true]

abbrev stage5_6 : Fin 1 → Memref sig .tc .vmem S48x768 .bf16 := fun | 0 => Memref.whole cc5_stg6_0 | ⟨_ + 1, h⟩ => absurd h (Nat.not_lt.2 (Nat.le_add_left _ _))
abbrev sem5_6 : Fin 1 → DmaSem sig := fun | 0 => cc5_sem6_0 | ⟨_ + 1, h⟩ => absurd h (Nat.not_lt.2 (Nat.le_add_left _ _))
abbrev reads5_6 : Fin grid5.rank → Bool := ![false]

abbrev stage5_7 : Fin 2 → Memref sig .tc .vmem S1x256x64 .f32 := fun | 0 => Memref.whole cc5_stg7_0 | 1 => Memref.whole cc5_stg7_1 | ⟨_ + 2, h⟩ => absurd h (Nat.not_lt.2 (Nat.le_add_left _ _))
abbrev sem5_7 : Fin 2 → DmaSem sig := fun | 0 => cc5_sem7_0 | 1 => cc5_sem7_1 | ⟨_ + 2, h⟩ => absurd h (Nat.not_lt.2 (Nat.le_add_left _ _))
abbrev reads5_7 : Fin grid5.rank → Bool := ![true]

abbrev grid6 : Pipeline.Grid := ⟨1, ![12], ![false]⟩

def cc6_transform_0 (i : grid6.Coords) : Fin 3 → Nat :=
  let arg0 : BitVec 32 := BitVec.ofNat 32 (i 0).val
  let c4_i32 : BitVec 32 := 4#32
  let c0_i32 : BitVec 32 := 0#32
  let c0_i32_0 : BitVec 32 := 0#32
  ![arg0.toNat, c4_i32.toNat, c0_i32.toNat]

def cc6_transform_1 (i : grid6.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc6_transform_2 (i : grid6.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc6_transform_3 (i : grid6.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc6_transform_4 (i : grid6.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc6_transform_5 (i : grid6.Coords) : Fin 4 → Nat :=
  let arg0 : BitVec 32 := BitVec.ofNat 32 (i 0).val
  let c0_i32 : BitVec 32 := 0#32
  let c4_i32 : BitVec 32 := 4#32
  let c0_i32_0 : BitVec 32 := 0#32
  let c0_i32_1 : BitVec 32 := 0#32
  ![c0_i32.toNat, arg0.toNat, c4_i32.toNat, c0_i32_0.toNat]

def cc6_transform_6 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_7 (i : grid6.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage6_0 : Fin 2 → Memref sig .tc .vmem S1x256x64 .bf16 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 2 → Memref sig .tc .vmem S1x1280x64 .bf16 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![true]

abbrev stage6_2 : Fin 2 → Memref sig .tc .vmem S1x1280x64 .bf16 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true]

abbrev stage6_3 : Fin 2 → Memref sig .tc .vmem S1x256x64 .f32 := fun | 0 => Memref.whole cc6_stg3_0 | 1 => Memref.whole cc6_stg3_1 | ⟨_ + 2, h⟩ => absurd h (Nat.not_lt.2 (Nat.le_add_left _ _))
abbrev sem6_3 : Fin 2 → DmaSem sig := fun | 0 => cc6_sem3_0 | 1 => cc6_sem3_1 | ⟨_ + 2, h⟩ => absurd h (Nat.not_lt.2 (Nat.le_add_left _ _))
abbrev reads6_3 : Fin grid6.rank → Bool := ![true]

abbrev stage6_4 : Fin 2 → Memref sig .tc .vmem S1x256x64 .f32 := fun | 0 => Memref.whole cc6_stg4_0 | 1 => Memref.whole cc6_stg4_1 | ⟨_ + 2, h⟩ => absurd h (Nat.not_lt.2 (Nat.le_add_left _ _))
abbrev sem6_4 : Fin 2 → DmaSem sig := fun | 0 => cc6_sem4_0 | 1 => cc6_sem4_1 | ⟨_ + 2, h⟩ => absurd h (Nat.not_lt.2 (Nat.le_add_left _ _))
abbrev reads6_4 : Fin grid6.rank → Bool := ![true]

abbrev stage6_5 : Fin 2 → Memref sig .tc .vmem S3x1x256x1 .f32 := fun | 0 => Memref.whole cc6_stg5_0 | 1 => Memref.whole cc6_stg5_1 | ⟨_ + 2, h⟩ => absurd h (Nat.not_lt.2 (Nat.le_add_left _ _))
abbrev sem6_5 : Fin 2 → DmaSem sig := fun | 0 => cc6_sem5_0 | 1 => cc6_sem5_1 | ⟨_ + 2, h⟩ => absurd h (Nat.not_lt.2 (Nat.le_add_left _ _))
abbrev reads6_5 : Fin grid6.rank → Bool := ![true]

abbrev stage6_6 : Fin 1 → Memref sig .tc .vmem S64x1024 .bf16 := fun | 0 => Memref.whole cc6_stg6_0 | ⟨_ + 1, h⟩ => absurd h (Nat.not_lt.2 (Nat.le_add_left _ _))
abbrev sem6_6 : Fin 1 → DmaSem sig := fun | 0 => cc6_sem6_0 | ⟨_ + 1, h⟩ => absurd h (Nat.not_lt.2 (Nat.le_add_left _ _))
abbrev reads6_6 : Fin grid6.rank → Bool := ![false]

abbrev stage6_7 : Fin 2 → Memref sig .tc .vmem S1x256x64 .f32 := fun | 0 => Memref.whole cc6_stg7_0 | 1 => Memref.whole cc6_stg7_1 | ⟨_ + 2, h⟩ => absurd h (Nat.not_lt.2 (Nat.le_add_left _ _))
abbrev sem6_7 : Fin 2 → DmaSem sig := fun | 0 => cc6_sem7_0 | 1 => cc6_sem7_1 | ⟨_ + 2, h⟩ => absurd h (Nat.not_lt.2 (Nat.le_add_left _ _))
abbrev reads6_7 : Fin grid6.rank → Bool := ![true]

abbrev grid7 : Pipeline.Grid := ⟨1, ![12], ![false]⟩

def cc7_transform_0 (i : grid7.Coords) : Fin 3 → Nat :=
  let arg0 : BitVec 32 := BitVec.ofNat 32 (i 0).val
  let c5_i32 : BitVec 32 := 5#32
  let c0_i32 : BitVec 32 := 0#32
  let c0_i32_0 : BitVec 32 := 0#32
  ![arg0.toNat, c5_i32.toNat, c0_i32.toNat]

def cc7_transform_1 (i : grid7.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc7_transform_2 (i : grid7.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc7_transform_3 (i : grid7.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc7_transform_4 (i : grid7.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc7_transform_5 (i : grid7.Coords) : Fin 4 → Nat :=
  let arg0 : BitVec 32 := BitVec.ofNat 32 (i 0).val
  let c0_i32 : BitVec 32 := 0#32
  let c5_i32 : BitVec 32 := 5#32
  let c0_i32_0 : BitVec 32 := 0#32
  let c0_i32_1 : BitVec 32 := 0#32
  ![c0_i32.toNat, arg0.toNat, c5_i32.toNat, c0_i32_0.toNat]

def cc7_transform_6 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_7 (i : grid7.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage7_0 : Fin 2 → Memref sig .tc .vmem S1x256x64 .bf16 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 2 → Memref sig .tc .vmem S1x1536x64 .bf16 := fun | 0 => Memref.whole cc7_stg1_0 | 1 => Memref.whole cc7_stg1_1 | ⟨_ + 2, h⟩ => absurd h (Nat.not_lt.2 (Nat.le_add_left _ _))
abbrev sem7_1 : Fin 2 → DmaSem sig := fun | 0 => cc7_sem1_0 | 1 => cc7_sem1_1 | ⟨_ + 2, h⟩ => absurd h (Nat.not_lt.2 (Nat.le_add_left _ _))
abbrev reads7_1 : Fin grid7.rank → Bool := ![true]

abbrev stage7_2 : Fin 2 → Memref sig .tc .vmem S1x1536x64 .bf16 := fun | 0 => Memref.whole cc7_stg2_0 | 1 => Memref.whole cc7_stg2_1 | ⟨_ + 2, h⟩ => absurd h (Nat.not_lt.2 (Nat.le_add_left _ _))
abbrev sem7_2 : Fin 2 → DmaSem sig := fun | 0 => cc7_sem2_0 | 1 => cc7_sem2_1 | ⟨_ + 2, h⟩ => absurd h (Nat.not_lt.2 (Nat.le_add_left _ _))
abbrev reads7_2 : Fin grid7.rank → Bool := ![true]

abbrev stage7_3 : Fin 2 → Memref sig .tc .vmem S1x256x64 .f32 := fun | 0 => Memref.whole cc7_stg3_0 | 1 => Memref.whole cc7_stg3_1 | ⟨_ + 2, h⟩ => absurd h (Nat.not_lt.2 (Nat.le_add_left _ _))
abbrev sem7_3 : Fin 2 → DmaSem sig := fun | 0 => cc7_sem3_0 | 1 => cc7_sem3_1 | ⟨_ + 2, h⟩ => absurd h (Nat.not_lt.2 (Nat.le_add_left _ _))
abbrev reads7_3 : Fin grid7.rank → Bool := ![true]

abbrev stage7_4 : Fin 2 → Memref sig .tc .vmem S1x256x64 .f32 := fun | 0 => Memref.whole cc7_stg4_0 | 1 => Memref.whole cc7_stg4_1 | ⟨_ + 2, h⟩ => absurd h (Nat.not_lt.2 (Nat.le_add_left _ _))
abbrev sem7_4 : Fin 2 → DmaSem sig := fun | 0 => cc7_sem4_0 | 1 => cc7_sem4_1 | ⟨_ + 2, h⟩ => absurd h (Nat.not_lt.2 (Nat.le_add_left _ _))
abbrev reads7_4 : Fin grid7.rank → Bool := ![true]

abbrev stage7_5 : Fin 2 → Memref sig .tc .vmem S3x1x256x1 .f32 := fun | 0 => Memref.whole cc7_stg5_0 | 1 => Memref.whole cc7_stg5_1 | ⟨_ + 2, h⟩ => absurd h (Nat.not_lt.2 (Nat.le_add_left _ _))
abbrev sem7_5 : Fin 2 → DmaSem sig := fun | 0 => cc7_sem5_0 | 1 => cc7_sem5_1 | ⟨_ + 2, h⟩ => absurd h (Nat.not_lt.2 (Nat.le_add_left _ _))
abbrev reads7_5 : Fin grid7.rank → Bool := ![true]

abbrev stage7_6 : Fin 1 → Memref sig .tc .vmem S80x1280 .bf16 := fun | 0 => Memref.whole cc7_stg6_0 | ⟨_ + 1, h⟩ => absurd h (Nat.not_lt.2 (Nat.le_add_left _ _))
abbrev sem7_6 : Fin 1 → DmaSem sig := fun | 0 => cc7_sem6_0 | ⟨_ + 1, h⟩ => absurd h (Nat.not_lt.2 (Nat.le_add_left _ _))
abbrev reads7_6 : Fin grid7.rank → Bool := ![false]

abbrev stage7_7 : Fin 2 → Memref sig .tc .vmem S1x256x64 .f32 := fun | 0 => Memref.whole cc7_stg7_0 | 1 => Memref.whole cc7_stg7_1 | ⟨_ + 2, h⟩ => absurd h (Nat.not_lt.2 (Nat.le_add_left _ _))
abbrev sem7_7 : Fin 2 → DmaSem sig := fun | 0 => cc7_sem7_0 | 1 => cc7_sem7_1 | ⟨_ + 2, h⟩ => absurd h (Nat.not_lt.2 (Nat.le_add_left _ _))
abbrev reads7_7 : Fin grid7.rank → Bool := ![true]

abbrev grid8 : Pipeline.Grid := ⟨1, ![12], ![false]⟩

def cc8_transform_0 (i : grid8.Coords) : Fin 3 → Nat :=
  let arg0 : BitVec 32 := BitVec.ofNat 32 (i 0).val
  let c6_i32 : BitVec 32 := 6#32
  let c0_i32 : BitVec 32 := 0#32
  let c0_i32_0 : BitVec 32 := 0#32
  ![arg0.toNat, c6_i32.toNat, c0_i32.toNat]

def cc8_transform_1 (i : grid8.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc8_transform_2 (i : grid8.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc8_transform_3 (i : grid8.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc8_transform_4 (i : grid8.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc8_transform_5 (i : grid8.Coords) : Fin 4 → Nat :=
  let arg0 : BitVec 32 := BitVec.ofNat 32 (i 0).val
  let c0_i32 : BitVec 32 := 0#32
  let c6_i32 : BitVec 32 := 6#32
  let c0_i32_0 : BitVec 32 := 0#32
  let c0_i32_1 : BitVec 32 := 0#32
  ![c0_i32.toNat, arg0.toNat, c6_i32.toNat, c0_i32_0.toNat]

def cc8_transform_6 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_7 (i : grid8.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage8_0 : Fin 2 → Memref sig .tc .vmem S1x256x64 .bf16 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true]

abbrev stage8_1 : Fin 2 → Memref sig .tc .vmem S1x1792x64 .bf16 := fun | 0 => Memref.whole cc8_stg1_0 | 1 => Memref.whole cc8_stg1_1 | ⟨_ + 2, h⟩ => absurd h (Nat.not_lt.2 (Nat.le_add_left _ _))
abbrev sem8_1 : Fin 2 → DmaSem sig := fun | 0 => cc8_sem1_0 | 1 => cc8_sem1_1 | ⟨_ + 2, h⟩ => absurd h (Nat.not_lt.2 (Nat.le_add_left _ _))
abbrev reads8_1 : Fin grid8.rank → Bool := ![true]

abbrev stage8_2 : Fin 2 → Memref sig .tc .vmem S1x1792x64 .bf16 := fun | 0 => Memref.whole cc8_stg2_0 | 1 => Memref.whole cc8_stg2_1 | ⟨_ + 2, h⟩ => absurd h (Nat.not_lt.2 (Nat.le_add_left _ _))
abbrev sem8_2 : Fin 2 → DmaSem sig := fun | 0 => cc8_sem2_0 | 1 => cc8_sem2_1 | ⟨_ + 2, h⟩ => absurd h (Nat.not_lt.2 (Nat.le_add_left _ _))
abbrev reads8_2 : Fin grid8.rank → Bool := ![true]

abbrev stage8_3 : Fin 2 → Memref sig .tc .vmem S1x256x64 .f32 := fun | 0 => Memref.whole cc8_stg3_0 | 1 => Memref.whole cc8_stg3_1 | ⟨_ + 2, h⟩ => absurd h (Nat.not_lt.2 (Nat.le_add_left _ _))
abbrev sem8_3 : Fin 2 → DmaSem sig := fun | 0 => cc8_sem3_0 | 1 => cc8_sem3_1 | ⟨_ + 2, h⟩ => absurd h (Nat.not_lt.2 (Nat.le_add_left _ _))
abbrev reads8_3 : Fin grid8.rank → Bool := ![true]

abbrev stage8_4 : Fin 2 → Memref sig .tc .vmem S1x256x64 .f32 := fun | 0 => Memref.whole cc8_stg4_0 | 1 => Memref.whole cc8_stg4_1 | ⟨_ + 2, h⟩ => absurd h (Nat.not_lt.2 (Nat.le_add_left _ _))
abbrev sem8_4 : Fin 2 → DmaSem sig := fun | 0 => cc8_sem4_0 | 1 => cc8_sem4_1 | ⟨_ + 2, h⟩ => absurd h (Nat.not_lt.2 (Nat.le_add_left _ _))
abbrev reads8_4 : Fin grid8.rank → Bool := ![true]

abbrev stage8_5 : Fin 2 → Memref sig .tc .vmem S3x1x256x1 .f32 := fun | 0 => Memref.whole cc8_stg5_0 | 1 => Memref.whole cc8_stg5_1 | ⟨_ + 2, h⟩ => absurd h (Nat.not_lt.2 (Nat.le_add_left _ _))
abbrev sem8_5 : Fin 2 → DmaSem sig := fun | 0 => cc8_sem5_0 | 1 => cc8_sem5_1 | ⟨_ + 2, h⟩ => absurd h (Nat.not_lt.2 (Nat.le_add_left _ _))
abbrev reads8_5 : Fin grid8.rank → Bool := ![true]

abbrev stage8_6 : Fin 1 → Memref sig .tc .vmem S96x1536 .bf16 := fun | 0 => Memref.whole cc8_stg6_0 | ⟨_ + 1, h⟩ => absurd h (Nat.not_lt.2 (Nat.le_add_left _ _))
abbrev sem8_6 : Fin 1 → DmaSem sig := fun | 0 => cc8_sem6_0 | ⟨_ + 1, h⟩ => absurd h (Nat.not_lt.2 (Nat.le_add_left _ _))
abbrev reads8_6 : Fin grid8.rank → Bool := ![false]

abbrev stage8_7 : Fin 2 → Memref sig .tc .vmem S1x256x64 .f32 := fun | 0 => Memref.whole cc8_stg7_0 | 1 => Memref.whole cc8_stg7_1 | ⟨_ + 2, h⟩ => absurd h (Nat.not_lt.2 (Nat.le_add_left _ _))
abbrev sem8_7 : Fin 2 → DmaSem sig := fun | 0 => cc8_sem7_0 | 1 => cc8_sem7_1 | ⟨_ + 2, h⟩ => absurd h (Nat.not_lt.2 (Nat.le_add_left _ _))
abbrev reads8_7 : Fin grid8.rank → Bool := ![true]

abbrev grid9 : Pipeline.Grid := ⟨1, ![12], ![false]⟩

def cc9_transform_0 (i : grid9.Coords) : Fin 3 → Nat :=
  let arg0 : BitVec 32 := BitVec.ofNat 32 (i 0).val
  let c7_i32 : BitVec 32 := 7#32
  let c0_i32 : BitVec 32 := 0#32
  let c0_i32_0 : BitVec 32 := 0#32
  ![arg0.toNat, c7_i32.toNat, c0_i32.toNat]

def cc9_transform_1 (i : grid9.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc9_transform_2 (i : grid9.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc9_transform_3 (i : grid9.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc9_transform_4 (i : grid9.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc9_transform_5 (i : grid9.Coords) : Fin 4 → Nat :=
  let arg0 : BitVec 32 := BitVec.ofNat 32 (i 0).val
  let c0_i32 : BitVec 32 := 0#32
  let c7_i32 : BitVec 32 := 7#32
  let c0_i32_0 : BitVec 32 := 0#32
  let c0_i32_1 : BitVec 32 := 0#32
  ![c0_i32.toNat, arg0.toNat, c7_i32.toNat, c0_i32_0.toNat]

def cc9_transform_6 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_7 (i : grid9.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage9_0 : Fin 2 → Memref sig .tc .vmem S1x256x64 .bf16 := fun | 0 => Memref.whole cc9_stg0_0 | 1 => Memref.whole cc9_stg0_1 | ⟨_ + 2, h⟩ => absurd h (Nat.not_lt.2 (Nat.le_add_left _ _))
abbrev sem9_0 : Fin 2 → DmaSem sig := fun | 0 => cc9_sem0_0 | 1 => cc9_sem0_1 | ⟨_ + 2, h⟩ => absurd h (Nat.not_lt.2 (Nat.le_add_left _ _))
abbrev reads9_0 : Fin grid9.rank → Bool := ![true]

abbrev stage9_1 : Fin 2 → Memref sig .tc .vmem S1x2048x64 .bf16 := fun | 0 => Memref.whole cc9_stg1_0 | 1 => Memref.whole cc9_stg1_1 | ⟨_ + 2, h⟩ => absurd h (Nat.not_lt.2 (Nat.le_add_left _ _))
abbrev sem9_1 : Fin 2 → DmaSem sig := fun | 0 => cc9_sem1_0 | 1 => cc9_sem1_1 | ⟨_ + 2, h⟩ => absurd h (Nat.not_lt.2 (Nat.le_add_left _ _))
abbrev reads9_1 : Fin grid9.rank → Bool := ![true]

abbrev stage9_2 : Fin 2 → Memref sig .tc .vmem S1x2048x64 .bf16 := fun | 0 => Memref.whole cc9_stg2_0 | 1 => Memref.whole cc9_stg2_1 | ⟨_ + 2, h⟩ => absurd h (Nat.not_lt.2 (Nat.le_add_left _ _))
abbrev sem9_2 : Fin 2 → DmaSem sig := fun | 0 => cc9_sem2_0 | 1 => cc9_sem2_1 | ⟨_ + 2, h⟩ => absurd h (Nat.not_lt.2 (Nat.le_add_left _ _))
abbrev reads9_2 : Fin grid9.rank → Bool := ![true]

abbrev stage9_3 : Fin 2 → Memref sig .tc .vmem S1x256x64 .f32 := fun | 0 => Memref.whole cc9_stg3_0 | 1 => Memref.whole cc9_stg3_1 | ⟨_ + 2, h⟩ => absurd h (Nat.not_lt.2 (Nat.le_add_left _ _))
abbrev sem9_3 : Fin 2 → DmaSem sig := fun | 0 => cc9_sem3_0 | 1 => cc9_sem3_1 | ⟨_ + 2, h⟩ => absurd h (Nat.not_lt.2 (Nat.le_add_left _ _))
abbrev reads9_3 : Fin grid9.rank → Bool := ![true]

abbrev stage9_4 : Fin 2 → Memref sig .tc .vmem S1x256x64 .f32 := fun | 0 => Memref.whole cc9_stg4_0 | 1 => Memref.whole cc9_stg4_1 | ⟨_ + 2, h⟩ => absurd h (Nat.not_lt.2 (Nat.le_add_left _ _))
abbrev sem9_4 : Fin 2 → DmaSem sig := fun | 0 => cc9_sem4_0 | 1 => cc9_sem4_1 | ⟨_ + 2, h⟩ => absurd h (Nat.not_lt.2 (Nat.le_add_left _ _))
abbrev reads9_4 : Fin grid9.rank → Bool := ![true]

abbrev stage9_5 : Fin 2 → Memref sig .tc .vmem S3x1x256x1 .f32 := fun | 0 => Memref.whole cc9_stg5_0 | 1 => Memref.whole cc9_stg5_1 | ⟨_ + 2, h⟩ => absurd h (Nat.not_lt.2 (Nat.le_add_left _ _))
abbrev sem9_5 : Fin 2 → DmaSem sig := fun | 0 => cc9_sem5_0 | 1 => cc9_sem5_1 | ⟨_ + 2, h⟩ => absurd h (Nat.not_lt.2 (Nat.le_add_left _ _))
abbrev reads9_5 : Fin grid9.rank → Bool := ![true]

abbrev stage9_6 : Fin 1 → Memref sig .tc .vmem S112x1792 .bf16 := fun | 0 => Memref.whole cc9_stg6_0 | ⟨_ + 1, h⟩ => absurd h (Nat.not_lt.2 (Nat.le_add_left _ _))
abbrev sem9_6 : Fin 1 → DmaSem sig := fun | 0 => cc9_sem6_0 | ⟨_ + 1, h⟩ => absurd h (Nat.not_lt.2 (Nat.le_add_left _ _))
abbrev reads9_6 : Fin grid9.rank → Bool := ![false]

abbrev stage9_7 : Fin 2 → Memref sig .tc .vmem S1x256x64 .f32 := fun | 0 => Memref.whole cc9_stg7_0 | 1 => Memref.whole cc9_stg7_1 | ⟨_ + 2, h⟩ => absurd h (Nat.not_lt.2 (Nat.le_add_left _ _))
abbrev sem9_7 : Fin 2 → DmaSem sig := fun | 0 => cc9_sem7_0 | 1 => cc9_sem7_1 | ⟨_ + 2, h⟩ => absurd h (Nat.not_lt.2 (Nat.le_add_left _ _))
abbrev reads9_7 : Fin grid9.rank → Bool := ![true]

abbrev grid10 : Pipeline.Grid := ⟨1, ![8], ![false]⟩

def cc10_transform_0 (i : grid10.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc10_transform_1 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_2 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage10_0 : Fin 2 → Memref sig .tc .vmem S12x256x64 .f32 := fun | 0 => Memref.whole cc10_stg0_0 | 1 => Memref.whole cc10_stg0_1 | ⟨_ + 2, h⟩ => absurd h (Nat.not_lt.2 (Nat.le_add_left _ _))
abbrev sem10_0 : Fin 2 → DmaSem sig := fun | 0 => cc10_sem0_0 | 1 => cc10_sem0_1 | ⟨_ + 2, h⟩ => absurd h (Nat.not_lt.2 (Nat.le_add_left _ _))
abbrev reads10_0 : Fin grid10.rank → Bool := ![true]

abbrev stage10_1 : Fin 1 → Memref sig .tc .vmem S768x768 .bf16 := fun | 0 => Memref.whole cc10_stg1_0 | ⟨_ + 1, h⟩ => absurd h (Nat.not_lt.2 (Nat.le_add_left _ _))
abbrev sem10_1 : Fin 1 → DmaSem sig := fun | 0 => cc10_sem1_0 | ⟨_ + 1, h⟩ => absurd h (Nat.not_lt.2 (Nat.le_add_left _ _))
abbrev reads10_1 : Fin grid10.rank → Bool := ![false]

abbrev stage10_2 : Fin 2 → Memref sig .tc .vmem S256x768 .f32 := fun | 0 => Memref.whole cc10_stg2_0 | 1 => Memref.whole cc10_stg2_1 | ⟨_ + 2, h⟩ => absurd h (Nat.not_lt.2 (Nat.le_add_left _ _))
abbrev sem10_2 : Fin 2 → DmaSem sig := fun | 0 => cc10_sem2_0 | 1 => cc10_sem2_1 | ⟨_ + 2, h⟩ => absurd h (Nat.not_lt.2 (Nat.le_add_left _ _))
abbrev reads10_2 : Fin grid10.rank → Bool := ![true]
-- ==== KernelIdeal.lean ====
variable {F : FTy → Type} [FloatOps F] [Named F]
def κ : String → Option EReal := fun
  | "mask" => some ⊥
  | _ => none
-- ==== Reference.lean ====
abbrev S1x2048x768 : Shape := ⟨3, ![1, 2048, 768]⟩
abbrev S768 : Shape := ⟨1, ![768]⟩
abbrev S768x768 : Shape := ⟨2, ![768, 768]⟩
abbrev S12x16x64 : Shape := ⟨3, ![12, 16, 64]⟩
abbrev S12x1024x64 : Shape := ⟨3, ![12, 1024, 64]⟩
abbrev S2x12x1x64 : Shape := ⟨4, ![2, 12, 1, 64]⟩
abbrev S768x36 : Shape := ⟨2, ![768, 36]⟩
abbrev S36 : Shape := ⟨1, ![36]⟩
abbrev S_ : Shape := ⟨0, ![]⟩
abbrev S1x2048 : Shape := ⟨2, ![1, 2048]⟩
abbrev S1x2048x1 : Shape := ⟨3, ![1, 2048, 1]⟩
abbrev S1x1x768 : Shape := ⟨3, ![1, 1, 768]⟩
abbrev S1x2048x12x64 : Shape := ⟨4, ![1, 2048, 12, 64]⟩
abbrev S1x12x2048x64 : Shape := ⟨4, ![1, 12, 2048, 64]⟩
abbrev S255 : Shape := ⟨1, ![255]⟩
abbrev S255x1 : Shape := ⟨2, ![255, 1]⟩
abbrev S16 : Shape := ⟨1, ![16]⟩
abbrev S1x16 : Shape := ⟨2, ![1, 16]⟩
abbrev S255x16 : Shape := ⟨2, ![255, 16]⟩
abbrev S255x16x1 : Shape := ⟨3, ![255, 16, 1]⟩
abbrev S1x12x255x16x64 : Shape := ⟨5, ![1, 12, 255, 16, 64]⟩
abbrev S1x12x1x16x64 : Shape := ⟨5, ![1, 12, 1, 16, 64]⟩
abbrev S1x12x255x1024 : Shape := ⟨4, ![1, 12, 255, 1024]⟩
abbrev S12x64x1x255 : Shape := ⟨4, ![12, 64, 1, 255]⟩
abbrev S1x12x255x64 : Shape := ⟨4, ![1, 12, 255, 64]⟩
abbrev S1x12x1x64 : Shape := ⟨4, ![1, 12, 1, 64]⟩
abbrev S12x1x64 : Shape := ⟨3, ![12, 1, 64]⟩
abbrev S1x12x256x64 : Shape := ⟨4, ![1, 12, 256, 64]⟩
abbrev S1x12x2048x256 : Shape := ⟨4, ![1, 12, 2048, 256]⟩
abbrev S2048 : Shape := ⟨1, ![2048]⟩
abbrev S2048x1 : Shape := ⟨2, ![2048, 1]⟩
abbrev S1x255 : Shape := ⟨2, ![1, 255]⟩
abbrev S2048x255 : Shape := ⟨2, ![2048, 255]⟩
abbrev S2048x256 : Shape := ⟨2, ![2048, 256]⟩
abbrev S1x1x2048x256 : Shape := ⟨4, ![1, 1, 2048, 256]⟩
abbrev S1x12x2048 : Shape := ⟨3, ![1, 12, 2048]⟩
abbrev S1x12x2048x1 : Shape := ⟨4, ![1, 12, 2048, 1]⟩
abbrev S1x12x2048x255 : Shape := ⟨4, ![1, 12, 2048, 255]⟩
abbrev S1x12x2048x128x2 : Shape := ⟨5, ![1, 12, 2048, 128, 2]⟩
abbrev S1x12x2048x128 : Shape := ⟨4, ![1, 12, 2048, 128]⟩
abbrev S1x12x2048x4 : Shape := ⟨4, ![1, 12, 2048, 4]⟩
abbrev S1x12x2048x4x1 : Shape := ⟨5, ![1, 12, 2048, 4, 1]⟩
abbrev S1x1x1x1x128 : Shape := ⟨5, ![1, 1, 1, 1, 128]⟩
abbrev S1x12x2048x4x128 : Shape := ⟨5, ![1, 12, 2048, 4, 128]⟩
abbrev S1x128 : Shape := ⟨2, ![1, 128]⟩
abbrev S2048x128 : Shape := ⟨2, ![2048, 128]⟩
abbrev S1x1x2048x128 : Shape := ⟨4, ![1, 1, 2048, 128]⟩
abbrev S1 : Shape := ⟨1, ![1]⟩
abbrev S1x1 : Shape := ⟨2, ![1, 1]⟩
abbrev S1x12x2048x2048 : Shape := ⟨4, ![1, 12, 2048, 2048]⟩
abbrev S2048x2048 : Shape := ⟨2, ![2048, 2048]⟩
abbrev S1x1x2048x2048 : Shape := ⟨4, ![1, 1, 2048, 2048]⟩
abbrev S1x2048x36 : Shape := ⟨3, ![1, 2048, 36]⟩
abbrev S1x1x36 : Shape := ⟨3, ![1, 1, 36]⟩
abbrev S1x2048x3x12 : Shape := ⟨4, ![1, 2048, 3, 12]⟩
abbrev S3x1x12x2048 : Shape := ⟨4, ![3, 1, 12, 2048]⟩
abbrev S3x1x12x2048x1 : Shape := ⟨5, ![3, 1, 12, 2048, 1]⟩
abbrev S1x1x12x2048x1 : Shape := ⟨5, ![1, 1, 12, 2048, 1]⟩

abbrev nBuf : Space → Nat
  | .hbm => 325
  | .vmem => 0
  | .smem => 0
  | _ => 0

abbrev hbmTy0_0 (i : Nat) : BufTy := match i % 128 with
  | 0 => ⟨S1x2048x768, .f32⟩
  | 1 => ⟨S768, .f32⟩
  | 2 => ⟨S768x768, .f32⟩
  | 3 => ⟨S768x768, .f32⟩
  | 4 => ⟨S768x768, .f32⟩
  | 5 => ⟨S12x16x64, .f32⟩
  | 6 => ⟨S12x16x64, .f32⟩
  | 7 => ⟨S12x1024x64, .f32⟩
  | 8 => ⟨S12x1024x64, .f32⟩
  | 9 => ⟨S2x12x1x64, .f32⟩
  | 10 => ⟨S768x36, .f32⟩
  | 11 => ⟨S36, .f32⟩
  | 12 => ⟨S768x768, .f32⟩
  | 13 => ⟨S1x2048x768, .f32⟩
  | 14 => ⟨S_, .f32⟩
  | 15 => ⟨S1x2048, .f32⟩
  | 16 => ⟨S1x2048x1, .f32⟩
  | 17 => ⟨S_, .f32⟩
  | 18 => ⟨S1x2048x1, .f32⟩
  | 19 => ⟨S1x2048x1, .f32⟩
  | 20 => ⟨S_, .f32⟩
  | 21 => ⟨S1x2048x1, .f32⟩
  | 22 => ⟨S1x2048x1, .f32⟩
  | 23 => ⟨S1x2048x1, .f32⟩
  | 24 => ⟨S1x2048x768, .f32⟩
  | 25 => ⟨S1x2048x768, .f32⟩
  | 26 => ⟨S1x1x768, .f32⟩
  | 27 => ⟨S1x2048x768, .f32⟩
  | 28 => ⟨S1x2048x768, .f32⟩
  | 29 => ⟨S1x2048x768, .f32⟩
  | 30 => ⟨S1x2048x12x64, .f32⟩
  | 31 => ⟨S1x12x2048x64, .f32⟩
  | 32 => ⟨S1x2048x768, .f32⟩
  | 33 => ⟨S1x2048x12x64, .f32⟩
  | 34 => ⟨S1x12x2048x64, .f32⟩
  | 35 => ⟨S1x2048x768, .f32⟩
  | 36 => ⟨S1x2048x12x64, .f32⟩
  | 37 => ⟨S1x12x2048x64, .f32⟩
  | 38 => ⟨S255, .i32⟩
  | 39 => ⟨S_, .i32⟩
  | 40 => ⟨S255, .i32⟩
  | 41 => ⟨S255, .i32⟩
  | 42 => ⟨S255x1, .i32⟩
  | 43 => ⟨S16, .i32⟩
  | 44 => ⟨S1x16, .i32⟩
  | 45 => ⟨S255x16, .i32⟩
  | 46 => ⟨S255x16, .i32⟩
  | 47 => ⟨S255x16, .i32⟩
  | 48 => ⟨S_, .i32⟩
  | 49 => ⟨S255x16, .i32⟩
  | 50 => ⟨S255x16, .i1⟩
  | 51 => ⟨S_, .i32⟩
  | 52 => ⟨S255x16, .i32⟩
  | 53 => ⟨S255x16, .i32⟩
  | 54 => ⟨S255x16, .i32⟩
  | 55 => ⟨S255x16x1, .i32⟩
  | 56 => ⟨S1x12x255x16x64, .f32⟩
  | 57 => ⟨S1x12x1x16x64, .f32⟩
  | 58 => ⟨S1x12x255x16x64, .f32⟩
  | 59 => ⟨S1x12x255x16x64, .f32⟩
  | 60 => ⟨S_, .i32⟩
  | 61 => ⟨S255x16, .i32⟩
  | 62 => ⟨S255x16, .i1⟩
  | 63 => ⟨S_, .i32⟩
  | 64 => ⟨S255x16, .i32⟩
  | 65 => ⟨S255x16, .i32⟩
  | 66 => ⟨S255x16, .i32⟩
  | 67 => ⟨S255x16x1, .i32⟩
  | 68 => ⟨S1x12x255x16x64, .f32⟩
  | 69 => ⟨S1x12x1x16x64, .f32⟩
  | 70 => ⟨S1x12x255x16x64, .f32⟩
  | 71 => ⟨S1x12x255x16x64, .f32⟩
  | 72 => ⟨S1x12x255x1024, .f32⟩
  | 73 => ⟨S12x64x1x255, .f32⟩
  | 74 => ⟨S1x12x255x64, .f32⟩
  | 75 => ⟨S1x12x255x1024, .f32⟩
  | 76 => ⟨S12x64x1x255, .f32⟩
  | 77 => ⟨S1x12x255x64, .f32⟩
  | 78 => ⟨S1x12x1x64, .f32⟩
  | 79 => ⟨S12x1x64, .f32⟩
  | 80 => ⟨S1x12x1x64, .f32⟩
  | 81 => ⟨S1x12x1x64, .f32⟩
  | 82 => ⟨S12x1x64, .f32⟩
  | 83 => ⟨S1x12x1x64, .f32⟩
  | 84 => ⟨S1x12x256x64, .f32⟩
  | 85 => ⟨S1x12x256x64, .f32⟩
  | 86 => ⟨S1x12x2048x256, .f32⟩
  | 87 => ⟨S_, .f32⟩
  | 88 => ⟨S1x12x2048x256, .f32⟩
  | 89 => ⟨S1x12x2048x256, .f32⟩
  | 90 => ⟨S2048, .i32⟩
  | 91 => ⟨S2048x1, .i32⟩
  | 92 => ⟨S_, .i1⟩
  | 93 => ⟨S2048x1, .i1⟩
  | 94 => ⟨S_, .i32⟩
  | 95 => ⟨S255, .i32⟩
  | 96 => ⟨S255, .i32⟩
  | 97 => ⟨S_, .i32⟩
  | 98 => ⟨S255, .i32⟩
  | 99 => ⟨S255, .i32⟩
  | 100 => ⟨S1x255, .i32⟩
  | 101 => ⟨S2048x255, .i32⟩
  | 102 => ⟨S2048x255, .i32⟩
  | 103 => ⟨S2048x255, .i1⟩
  | 104 => ⟨S2048x256, .i1⟩
  | 105 => ⟨S1x1x2048x256, .i1⟩
  | 106 => ⟨S_, .f32⟩
  | 107 => ⟨S_, .f32⟩
  | 108 => ⟨S1x12x2048x256, .i1⟩
  | 109 => ⟨S1x12x2048x256, .f32⟩
  | 110 => ⟨S1x12x2048x256, .f32⟩
  | 111 => ⟨S_, .f32⟩
  | 112 => ⟨S1x12x2048, .f32⟩
  | 113 => ⟨S_, .f32⟩
  | 114 => ⟨S1x12x2048, .f32⟩
  | 115 => ⟨S1x12x2048, .f32⟩
  | 116 => ⟨S1x12x2048x1, .f32⟩
  | 117 => ⟨S1x12x2048x256, .f32⟩
  | 118 => ⟨S1x12x2048x256, .f32⟩
  | 119 => ⟨S1x12x2048x256, .f32⟩
  | 120 => ⟨S_, .f32⟩
  | 121 => ⟨S1x12x2048, .f32⟩
  | 122 => ⟨S1x12x2048x1, .f32⟩
  | 123 => ⟨S1x12x2048x256, .f32⟩
  | 124 => ⟨S1x12x2048x256, .f32⟩
  | 125 => ⟨S1x12x2048x64, .f32⟩
  | 126 => ⟨S1x12x2048x255, .f32⟩
  | 127 => ⟨S_, .i32⟩
  | _ => ⟨S1x2048x768, .f32⟩

abbrev hbmTy0_1 (i : Nat) : BufTy := match i % 128 with
  | 0 => ⟨S_, .f32⟩
  | 1 => ⟨S1x12x2048x256, .f32⟩
  | 2 => ⟨S1x12x2048x128x2, .f32⟩
  | 3 => ⟨S_, .f32⟩
  | 4 => ⟨S1x12x2048x128, .f32⟩
  | 5 => ⟨S1x12x2048x4, .f32⟩
  | 6 => ⟨S1x12x2048x4, .i32⟩
  | 7 => ⟨S_, .f32⟩
  | 8 => ⟨S1x12x2048x4, .f32⟩
  | 9 => ⟨S1x12x2048x4, .f32⟩
  | 10 => ⟨S1x12x2048x4, .f32⟩
  | 11 => ⟨S1x12x2048x4x1, .i32⟩
  | 12 => ⟨S1x1x1x1x128, .i32⟩
  | 13 => ⟨S1x12x2048x4x128, .i32⟩
  | 14 => ⟨S1x12x2048x4x128, .i32⟩
  | 15 => ⟨S1x12x2048x4x128, .i1⟩
  | 16 => ⟨S1x12x2048x4x128, .f32⟩
  | 17 => ⟨S1x12x2048x4x1, .f32⟩
  | 18 => ⟨S1x12x2048x4x128, .f32⟩
  | 19 => ⟨S1x12x2048x4x128, .f32⟩
  | 20 => ⟨S_, .f32⟩
  | 21 => ⟨S1x12x2048x128, .f32⟩
  | 22 => ⟨S2048, .i32⟩
  | 23 => ⟨S_, .i32⟩
  | 24 => ⟨S_, .i32⟩
  | 25 => ⟨S2048, .i32⟩
  | 26 => ⟨S2048, .i32⟩
  | 27 => ⟨S2048, .i32⟩
  | 28 => ⟨S_, .i32⟩
  | 29 => ⟨S2048, .i32⟩
  | 30 => ⟨S2048, .i1⟩
  | 31 => ⟨S2048, .i32⟩
  | 32 => ⟨S2048, .i32⟩
  | 33 => ⟨S_, .i32⟩
  | 34 => ⟨S2048, .i32⟩
  | 35 => ⟨S2048, .i1⟩
  | 36 => ⟨S2048, .i1⟩
  | 37 => ⟨S_, .i32⟩
  | 38 => ⟨S2048, .i32⟩
  | 39 => ⟨S2048, .i32⟩
  | 40 => ⟨S2048, .i32⟩
  | 41 => ⟨S2048x1, .i32⟩
  | 42 => ⟨S1x128, .i32⟩
  | 43 => ⟨S2048x128, .i32⟩
  | 44 => ⟨S2048x128, .i32⟩
  | 45 => ⟨S2048x128, .i1⟩
  | 46 => ⟨S2048x128, .f32⟩
  | 47 => ⟨S1x1x2048x128, .f32⟩
  | 48 => ⟨S1x12x2048x128, .f32⟩
  | 49 => ⟨S1x12x2048x128, .f32⟩
  | 50 => ⟨S2048, .i32⟩
  | 51 => ⟨S_, .i32⟩
  | 52 => ⟨S_, .i32⟩
  | 53 => ⟨S2048, .i32⟩
  | 54 => ⟨S2048, .i32⟩
  | 55 => ⟨S2048, .i32⟩
  | 56 => ⟨S_, .i32⟩
  | 57 => ⟨S2048, .i32⟩
  | 58 => ⟨S2048, .i1⟩
  | 59 => ⟨S2048, .i32⟩
  | 60 => ⟨S2048, .i32⟩
  | 61 => ⟨S_, .i32⟩
  | 62 => ⟨S2048, .i32⟩
  | 63 => ⟨S2048, .i1⟩
  | 64 => ⟨S2048, .i1⟩
  | 65 => ⟨S_, .i32⟩
  | 66 => ⟨S2048, .i32⟩
  | 67 => ⟨S2048, .i32⟩
  | 68 => ⟨S2048, .i32⟩
  | 69 => ⟨S_, .i32⟩
  | 70 => ⟨S2048, .i32⟩
  | 71 => ⟨S2048, .i1⟩
  | 72 => ⟨S_, .i32⟩
  | 73 => ⟨S2048, .i32⟩
  | 74 => ⟨S2048, .i32⟩
  | 75 => ⟨S2048, .i32⟩
  | 76 => ⟨S2048x1, .i32⟩
  | 77 => ⟨S1, .i32⟩
  | 78 => ⟨S_, .i32⟩
  | 79 => ⟨S2048x1, .i32⟩
  | 80 => ⟨S2048x1, .i1⟩
  | 81 => ⟨S1x1, .i32⟩
  | 82 => ⟨S2048x1, .i32⟩
  | 83 => ⟨S2048x1, .i1⟩
  | 84 => ⟨S2048x1, .i1⟩
  | 85 => ⟨S_, .i1⟩
  | 86 => ⟨S2048, .i1⟩
  | 87 => ⟨S1x12x2048x2048, .f32⟩
  | 88 => ⟨S1x12x2048x2048, .i1⟩
  | 89 => ⟨S_, .f32⟩
  | 90 => ⟨S1x12x2048x2048, .f32⟩
  | 91 => ⟨S1x12x2048x2048, .f32⟩
  | 92 => ⟨S2048, .i32⟩
  | 93 => ⟨S1x2048, .i32⟩
  | 94 => ⟨S2048x2048, .i32⟩
  | 95 => ⟨S2048x2048, .i32⟩
  | 96 => ⟨S2048x2048, .i1⟩
  | 97 => ⟨S_, .f32⟩
  | 98 => ⟨S1x12x2048x2048, .f32⟩
  | 99 => ⟨S1x12x2048x2048, .i1⟩
  | 100 => ⟨S1x1x2048x2048, .i1⟩
  | 101 => ⟨S1x12x2048x2048, .i1⟩
  | 102 => ⟨S1x12x2048x2048, .i1⟩
  | 103 => ⟨S1x12x2048x2048, .f32⟩
  | 104 => ⟨S_, .f32⟩
  | 105 => ⟨S1x12x2048x2048, .f32⟩
  | 106 => ⟨S1x12x2048x2048, .f32⟩
  | 107 => ⟨S_, .f32⟩
  | 108 => ⟨S_, .f32⟩
  | 109 => ⟨S1x12x2048x2048, .f32⟩
  | 110 => ⟨S1x12x2048x2048, .f32⟩
  | 111 => ⟨S_, .f32⟩
  | 112 => ⟨S1x12x2048, .f32⟩
  | 113 => ⟨S_, .f32⟩
  | 114 => ⟨S1x12x2048, .f32⟩
  | 115 => ⟨S1x12x2048, .f32⟩
  | 116 => ⟨S1x12x2048x1, .f32⟩
  | 117 => ⟨S1x12x2048x2048, .f32⟩
  | 118 => ⟨S1x12x2048x2048, .f32⟩
  | 119 => ⟨S1x12x2048x2048, .f32⟩
  | 120 => ⟨S_, .f32⟩
  | 121 => ⟨S1x12x2048, .f32⟩
  | 122 => ⟨S1x12x2048x1, .f32⟩
  | 123 => ⟨S1x12x2048x2048, .f32⟩
  | 124 => ⟨S1x12x2048x2048, .f32⟩
  | 125 => ⟨S_, .f32⟩
  | 126 => ⟨S_, .f32⟩
  | 127 => ⟨S1x12x2048x2048, .f32⟩
  | _ => ⟨S1x2048x768, .f32⟩

abbrev hbmTy0_2 (i : Nat) : BufTy := match i % 128 with
  | 0 => ⟨S1x12x2048x2048, .f32⟩
  | 1 => ⟨S1x12x2048x2048, .f32⟩
  | 2 => ⟨S1x12x2048x64, .f32⟩
  | 3 => ⟨S2048, .i32⟩
  | 4 => ⟨S1x2048, .i32⟩
  | 5 => ⟨S2048x2048, .i32⟩
  | 6 => ⟨S2048x2048, .i32⟩
  | 7 => ⟨S2048x2048, .i32⟩
  | 8 => ⟨S_, .i32⟩
  | 9 => ⟨S2048x2048, .i32⟩
  | 10 => ⟨S2048x2048, .i1⟩
  | 11 => ⟨S2048x2048, .i1⟩
  | 12 => ⟨S1x12x2048x2048, .f32⟩
  | 13 => ⟨S_, .f32⟩
  | 14 => ⟨S1x12x2048x2048, .f32⟩
  | 15 => ⟨S1x12x2048x2048, .f32⟩
  | 16 => ⟨S1x1x2048x2048, .i1⟩
  | 17 => ⟨S_, .f32⟩
  | 18 => ⟨S_, .f32⟩
  | 19 => ⟨S1x12x2048x2048, .i1⟩
  | 20 => ⟨S1x12x2048x2048, .f32⟩
  | 21 => ⟨S1x12x2048x2048, .f32⟩
  | 22 => ⟨S_, .f32⟩
  | 23 => ⟨S1x12x2048, .f32⟩
  | 24 => ⟨S_, .f32⟩
  | 25 => ⟨S1x12x2048, .f32⟩
  | 26 => ⟨S1x12x2048, .f32⟩
  | 27 => ⟨S1x12x2048x1, .f32⟩
  | 28 => ⟨S1x12x2048x2048, .f32⟩
  | 29 => ⟨S1x12x2048x2048, .f32⟩
  | 30 => ⟨S1x12x2048x2048, .f32⟩
  | 31 => ⟨S_, .f32⟩
  | 32 => ⟨S1x12x2048, .f32⟩
  | 33 => ⟨S1x12x2048x1, .f32⟩
  | 34 => ⟨S1x12x2048x2048, .f32⟩
  | 35 => ⟨S1x12x2048x2048, .f32⟩
  | 36 => ⟨S1x12x2048x64, .f32⟩
  | 37 => ⟨S1x2048x36, .f32⟩
  | 38 => ⟨S1x1x36, .f32⟩
  | 39 => ⟨S1x2048x36, .f32⟩
  | 40 => ⟨S1x2048x36, .f32⟩
  | 41 => ⟨S1x2048x36, .f32⟩
  | 42 => ⟨S1x2048x36, .f32⟩
  | 43 => ⟨S_, .f32⟩
  | 44 => ⟨S1x2048x36, .f32⟩
  | 45 => ⟨S1x2048x36, .f32⟩
  | 46 => ⟨S_, .f32⟩
  | 47 => ⟨S1x2048x36, .f32⟩
  | 48 => ⟨S1x2048x36, .f32⟩
  | 49 => ⟨S1x2048x3x12, .f32⟩
  | 50 => ⟨S3x1x12x2048, .f32⟩
  | 51 => ⟨S3x1x12x2048x1, .f32⟩
  | 52 => ⟨S1x1x12x2048x1, .f32⟩
  | 53 => ⟨S1x12x2048x1, .f32⟩
  | 54 => ⟨S1x12x2048x64, .f32⟩
  | 55 => ⟨S1x12x2048x64, .f32⟩
  | 56 => ⟨S1x1x12x2048x1, .f32⟩
  | 57 => ⟨S1x12x2048x1, .f32⟩
  | 58 => ⟨S1x12x2048x64, .f32⟩
  | 59 => ⟨S1x12x2048x64, .f32⟩
  | 60 => ⟨S1x12x2048x64, .f32⟩
  | 61 => ⟨S1x1x12x2048x1, .f32⟩
  | 62 => ⟨S1x12x2048x1, .f32⟩
  | 63 => ⟨S1x12x2048x64, .f32⟩
  | 64 => ⟨S1x12x2048x64, .f32⟩
  | 65 => ⟨S1x12x2048x64, .f32⟩
  | 66 => ⟨S1x2048x12x64, .f32⟩
  | 67 => ⟨S1x2048x768, .f32⟩
  | 68 => ⟨S1x2048x768, .f32⟩
  | _ => ⟨S1x2048x768, .f32⟩

abbrev hbmTy (i : Nat) : BufTy := match i / 128 with
  | 0 => hbmTy0_0 i
  | 1 => hbmTy0_1 i
  | 2 => hbmTy0_2 i
  | _ => ⟨S1x2048x768, .f32⟩

abbrev bufTy : (tb : Table) → Fin (tcTables nBuf tb) → BufTy
  | .hbm, ⟨i, _⟩ => hbmTy i
  | _, _ => ⟨S1x2048x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_cst : Ref sig .tc := ⟨.hbm, 14, rfl⟩
abbrev main_v1 : Ref sig .tc := ⟨.hbm, 15, rfl⟩
abbrev main_v2 : Ref sig .tc := ⟨.hbm, 16, rfl⟩
abbrev main_cst_0 : Ref sig .tc := ⟨.hbm, 17, rfl⟩
abbrev main_v3 : Ref sig .tc := ⟨.hbm, 18, rfl⟩
abbrev main_v4 : Ref sig .tc := ⟨.hbm, 19, rfl⟩
abbrev main_cst_1 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_c : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_c_2 : Ref sig .tc := ⟨.hbm, 48, rfl⟩
abbrev main_v31 : Ref sig .tc := ⟨.hbm, 49, rfl⟩
abbrev main_v32 : Ref sig .tc := ⟨.hbm, 50, rfl⟩
abbrev main_c_3 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_c_4 : Ref sig .tc := ⟨.hbm, 60, rfl⟩
abbrev main_v41 : Ref sig .tc := ⟨.hbm, 61, rfl⟩
abbrev main_v42 : Ref sig .tc := ⟨.hbm, 62, rfl⟩
abbrev main_c_5 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_cst_6 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_c_7 : Ref sig .tc := ⟨.hbm, 92, rfl⟩
abbrev main_v70 : Ref sig .tc := ⟨.hbm, 93, rfl⟩
abbrev main_c_8 : Ref sig .tc := ⟨.hbm, 94, rfl⟩
abbrev main_v71 : Ref sig .tc := ⟨.hbm, 95, rfl⟩
abbrev main_v72 : Ref sig .tc := ⟨.hbm, 96, rfl⟩
abbrev main_c_9 : Ref sig .tc := ⟨.hbm, 97, rfl⟩
abbrev main_v73 : Ref sig .tc := ⟨.hbm, 98, rfl⟩
abbrev main_v74 : Ref sig .tc := ⟨.hbm, 99, rfl⟩
abbrev main_v75 : Ref sig .tc := ⟨.hbm, 100, rfl⟩
abbrev main_v76 : Ref sig .tc := ⟨.hbm, 101, rfl⟩
abbrev main_v77 : Ref sig .tc := ⟨.hbm, 102, rfl⟩
abbrev main_v78 : Ref sig .tc := ⟨.hbm, 103, rfl⟩
abbrev main_v79 : Ref sig .tc := ⟨.hbm, 104, rfl⟩
abbrev main_v80 : Ref sig .tc := ⟨.hbm, 105, rfl⟩
abbrev main_cst_10 : Ref sig .tc := ⟨.hbm, 106, rfl⟩
abbrev main_call0_v0 : Ref sig .tc := ⟨.hbm, 107, rfl⟩
abbrev main_call0_v1 : Ref sig .tc := ⟨.hbm, 108, rfl⟩
abbrev main_call0_v2 : Ref sig .tc := ⟨.hbm, 109, rfl⟩
abbrev main_v81 : Ref sig .tc := ⟨.hbm, 110, rfl⟩
abbrev main_cst_11 : Ref sig .tc := ⟨.hbm, 111, rfl⟩
abbrev main_v82 : Ref sig .tc := ⟨.hbm, 112, rfl⟩
abbrev main_cst_12 : Ref sig .tc := ⟨.hbm, 113, rfl⟩
abbrev main_v83 : Ref sig .tc := ⟨.hbm, 114, rfl⟩
abbrev main_v84 : Ref sig .tc := ⟨.hbm, 115, rfl⟩
abbrev main_v85 : Ref sig .tc := ⟨.hbm, 116, rfl⟩
abbrev main_v86 : Ref sig .tc := ⟨.hbm, 117, rfl⟩
abbrev main_v87 : Ref sig .tc := ⟨.hbm, 118, rfl⟩
abbrev main_v88 : Ref sig .tc := ⟨.hbm, 119, rfl⟩
abbrev main_cst_13 : Ref sig .tc := ⟨.hbm, 120, rfl⟩
abbrev main_v89 : Ref sig .tc := ⟨.hbm, 121, rfl⟩
abbrev main_v90 : Ref sig .tc := ⟨.hbm, 122, rfl⟩
abbrev main_v91 : Ref sig .tc := ⟨.hbm, 123, rfl⟩
abbrev main_v92 : Ref sig .tc := ⟨.hbm, 124, rfl⟩
abbrev main_v93 : Ref sig .tc := ⟨.hbm, 125, rfl⟩
abbrev main_v94 : Ref sig .tc := ⟨.hbm, 126, rfl⟩
abbrev main_c_14 : Ref sig .tc := ⟨.hbm, 127, rfl⟩
abbrev main_call1_v0 : Ref sig .tc := ⟨.hbm, 128, rfl⟩
abbrev main_v95 : Ref sig .tc := ⟨.hbm, 129, rfl⟩
abbrev main_v96 : Ref sig .tc := ⟨.hbm, 130, rfl⟩
abbrev main_cst_15 : Ref sig .tc := ⟨.hbm, 131, rfl⟩
abbrev main_v97 : Ref sig .tc := ⟨.hbm, 132, rfl⟩
abbrev main_values : Ref sig .tc := ⟨.hbm, 133, rfl⟩
abbrev main_indices : Ref sig .tc := ⟨.hbm, 134, rfl⟩
abbrev main_cst_16 : Ref sig .tc := ⟨.hbm, 135, rfl⟩
abbrev main_v98 : Ref sig .tc := ⟨.hbm, 136, rfl⟩
abbrev main_v99 : Ref sig .tc := ⟨.hbm, 137, rfl⟩
abbrev main_v100 : Ref sig .tc := ⟨.hbm, 138, rfl⟩
abbrev main_call2_v0 : Ref sig .tc := ⟨.hbm, 139, rfl⟩
abbrev main_call2_v1 : Ref sig .tc := ⟨.hbm, 140, rfl⟩
abbrev main_call2_v2 : Ref sig .tc := ⟨.hbm, 141, rfl⟩
abbrev main_call2_v3 : Ref sig .tc := ⟨.hbm, 142, rfl⟩
abbrev main_call2_v4 : Ref sig .tc := ⟨.hbm, 143, rfl⟩
abbrev main_v101 : Ref sig .tc := ⟨.hbm, 144, rfl⟩
abbrev main_v102 : Ref sig .tc := ⟨.hbm, 145, rfl⟩
abbrev main_v103 : Ref sig .tc := ⟨.hbm, 146, rfl⟩
abbrev main_v104 : Ref sig .tc := ⟨.hbm, 147, rfl⟩
abbrev main_cst_17 : Ref sig .tc := ⟨.hbm, 148, rfl⟩
abbrev main_v105 : Ref sig .tc := ⟨.hbm, 149, rfl⟩
abbrev main_v106 : Ref sig .tc := ⟨.hbm, 150, rfl⟩
abbrev main_c_18 : Ref sig .tc := ⟨.hbm, 151, rfl⟩
abbrev main_call3_v0 : Ref sig .tc := ⟨.hbm, 152, rfl⟩
abbrev main_call3_v1 : Ref sig .tc := ⟨.hbm, 153, rfl⟩
abbrev main_call3_v2 : Ref sig .tc := ⟨.hbm, 154, rfl⟩
abbrev main_call3_v3 : Ref sig .tc := ⟨.hbm, 155, rfl⟩
abbrev main_call3_v4 : Ref sig .tc := ⟨.hbm, 156, rfl⟩
abbrev main_call3_v5 : Ref sig .tc := ⟨.hbm, 157, rfl⟩
abbrev main_call3_v6 : Ref sig .tc := ⟨.hbm, 158, rfl⟩
abbrev main_call3_v7 : Ref sig .tc := ⟨.hbm, 159, rfl⟩
abbrev main_call3_v8 : Ref sig .tc := ⟨.hbm, 160, rfl⟩
abbrev main_call3_c : Ref sig .tc := ⟨.hbm, 161, rfl⟩
abbrev main_call3_v9 : Ref sig .tc := ⟨.hbm, 162, rfl⟩
abbrev main_call3_v10 : Ref sig .tc := ⟨.hbm, 163, rfl⟩
abbrev main_call3_v11 : Ref sig .tc := ⟨.hbm, 164, rfl⟩
abbrev main_call3_c_0 : Ref sig .tc := ⟨.hbm, 165, rfl⟩
abbrev main_call3_v12 : Ref sig .tc := ⟨.hbm, 166, rfl⟩
abbrev main_call3_v13 : Ref sig .tc := ⟨.hbm, 167, rfl⟩
abbrev main_v107 : Ref sig .tc := ⟨.hbm, 168, rfl⟩
abbrev main_call4_v0 : Ref sig .tc := ⟨.hbm, 169, rfl⟩
abbrev main_call4_v1 : Ref sig .tc := ⟨.hbm, 170, rfl⟩
abbrev main_call4_v2 : Ref sig .tc := ⟨.hbm, 171, rfl⟩
abbrev main_call4_v3 : Ref sig .tc := ⟨.hbm, 172, rfl⟩
abbrev main_call4_v4 : Ref sig .tc := ⟨.hbm, 173, rfl⟩
abbrev main_v108 : Ref sig .tc := ⟨.hbm, 174, rfl⟩
abbrev main_v109 : Ref sig .tc := ⟨.hbm, 175, rfl⟩
abbrev main_v110 : Ref sig .tc := ⟨.hbm, 176, rfl⟩
abbrev main_v111 : Ref sig .tc := ⟨.hbm, 177, rfl⟩
abbrev main_v112 : Ref sig .tc := ⟨.hbm, 178, rfl⟩
abbrev main_c_19 : Ref sig .tc := ⟨.hbm, 179, rfl⟩
abbrev main_call5_v0 : Ref sig .tc := ⟨.hbm, 180, rfl⟩
abbrev main_call5_v1 : Ref sig .tc := ⟨.hbm, 181, rfl⟩
abbrev main_call5_v2 : Ref sig .tc := ⟨.hbm, 182, rfl⟩
abbrev main_call5_v3 : Ref sig .tc := ⟨.hbm, 183, rfl⟩
abbrev main_call5_v4 : Ref sig .tc := ⟨.hbm, 184, rfl⟩
abbrev main_call5_v5 : Ref sig .tc := ⟨.hbm, 185, rfl⟩
abbrev main_call5_v6 : Ref sig .tc := ⟨.hbm, 186, rfl⟩
abbrev main_call5_v7 : Ref sig .tc := ⟨.hbm, 187, rfl⟩
abbrev main_call5_v8 : Ref sig .tc := ⟨.hbm, 188, rfl⟩
abbrev main_call5_c : Ref sig .tc := ⟨.hbm, 189, rfl⟩
abbrev main_call5_v9 : Ref sig .tc := ⟨.hbm, 190, rfl⟩
abbrev main_call5_v10 : Ref sig .tc := ⟨.hbm, 191, rfl⟩
abbrev main_call5_v11 : Ref sig .tc := ⟨.hbm, 192, rfl⟩
abbrev main_call5_c_0 : Ref sig .tc := ⟨.hbm, 193, rfl⟩
abbrev main_call5_v12 : Ref sig .tc := ⟨.hbm, 194, rfl⟩
abbrev main_call5_v13 : Ref sig .tc := ⟨.hbm, 195, rfl⟩
abbrev main_v113 : Ref sig .tc := ⟨.hbm, 196, rfl⟩
abbrev main_call6_c : Ref sig .tc := ⟨.hbm, 197, rfl⟩
abbrev main_call6_v0 : Ref sig .tc := ⟨.hbm, 198, rfl⟩
abbrev main_call6_v1 : Ref sig .tc := ⟨.hbm, 199, rfl⟩
abbrev main_call6_c_0 : Ref sig .tc := ⟨.hbm, 200, rfl⟩
abbrev main_call6_v2 : Ref sig .tc := ⟨.hbm, 201, rfl⟩
abbrev main_call6_v3 : Ref sig .tc := ⟨.hbm, 202, rfl⟩
abbrev main_call6_v4 : Ref sig .tc := ⟨.hbm, 203, rfl⟩
abbrev main_call6_v5 : Ref sig .tc := ⟨.hbm, 204, rfl⟩
abbrev main_call6_c_1 : Ref sig .tc := ⟨.hbm, 205, rfl⟩
abbrev main_call6_c_2 : Ref sig .tc := ⟨.hbm, 206, rfl⟩
abbrev main_call6_v6 : Ref sig .tc := ⟨.hbm, 207, rfl⟩
abbrev main_call6_v7 : Ref sig .tc := ⟨.hbm, 208, rfl⟩
abbrev main_call6_v8 : Ref sig .tc := ⟨.hbm, 209, rfl⟩
abbrev main_call6_v9 : Ref sig .tc := ⟨.hbm, 210, rfl⟩
abbrev main_call6_v10 : Ref sig .tc := ⟨.hbm, 211, rfl⟩
abbrev main_call6_v11 : Ref sig .tc := ⟨.hbm, 212, rfl⟩
abbrev main_call6_c_3 : Ref sig .tc := ⟨.hbm, 213, rfl⟩
abbrev main_call6_v12 : Ref sig .tc := ⟨.hbm, 214, rfl⟩
abbrev main_call6_v13 : Ref sig .tc := ⟨.hbm, 215, rfl⟩
abbrev main_call6_v14 : Ref sig .tc := ⟨.hbm, 216, rfl⟩
abbrev main_call6_cst : Ref sig .tc := ⟨.hbm, 217, rfl⟩
abbrev main_call6_v15 : Ref sig .tc := ⟨.hbm, 218, rfl⟩
abbrev main_v114 : Ref sig .tc := ⟨.hbm, 219, rfl⟩
abbrev main_v115 : Ref sig .tc := ⟨.hbm, 220, rfl⟩
abbrev main_v116 : Ref sig .tc := ⟨.hbm, 221, rfl⟩
abbrev main_v117 : Ref sig .tc := ⟨.hbm, 222, rfl⟩
abbrev main_v118 : Ref sig .tc := ⟨.hbm, 223, rfl⟩
abbrev main_v119 : Ref sig .tc := ⟨.hbm, 224, rfl⟩
abbrev main_cst_20 : Ref sig .tc := ⟨.hbm, 225, rfl⟩
abbrev main_v120 : Ref sig .tc := ⟨.hbm, 226, rfl⟩
abbrev main_v121 : Ref sig .tc := ⟨.hbm, 227, rfl⟩
abbrev main_v122 : Ref sig .tc := ⟨.hbm, 228, rfl⟩
abbrev main_v123 : Ref sig .tc := ⟨.hbm, 229, rfl⟩
abbrev main_v124 : Ref sig .tc := ⟨.hbm, 230, rfl⟩
abbrev main_v125 : Ref sig .tc := ⟨.hbm, 231, rfl⟩
abbrev main_cst_21 : Ref sig .tc := ⟨.hbm, 232, rfl⟩
abbrev main_v126 : Ref sig .tc := ⟨.hbm, 233, rfl⟩
abbrev main_v127 : Ref sig .tc := ⟨.hbm, 234, rfl⟩
abbrev main_cst_22 : Ref sig .tc := ⟨.hbm, 235, rfl⟩
abbrev main_call7_v0 : Ref sig .tc := ⟨.hbm, 236, rfl⟩
abbrev main_call7_v1 : Ref sig .tc := ⟨.hbm, 237, rfl⟩
abbrev main_v128 : Ref sig .tc := ⟨.hbm, 238, rfl⟩
abbrev main_cst_23 : Ref sig .tc := ⟨.hbm, 239, rfl⟩
abbrev main_v129 : Ref sig .tc := ⟨.hbm, 240, rfl⟩
abbrev main_cst_24 : Ref sig .tc := ⟨.hbm, 241, rfl⟩
abbrev main_v130 : Ref sig .tc := ⟨.hbm, 242, rfl⟩
abbrev main_v131 : Ref sig .tc := ⟨.hbm, 243, rfl⟩
abbrev main_v132 : Ref sig .tc := ⟨.hbm, 244, rfl⟩
abbrev main_v133 : Ref sig .tc := ⟨.hbm, 245, rfl⟩
abbrev main_v134 : Ref sig .tc := ⟨.hbm, 246, rfl⟩
abbrev main_v135 : Ref sig .tc := ⟨.hbm, 247, rfl⟩
abbrev main_cst_25 : Ref sig .tc := ⟨.hbm, 248, rfl⟩
abbrev main_v136 : Ref sig .tc := ⟨.hbm, 249, rfl⟩
abbrev main_v137 : Ref sig .tc := ⟨.hbm, 250, rfl⟩
abbrev main_v138 : Ref sig .tc := ⟨.hbm, 251, rfl⟩
abbrev main_v139 : Ref sig .tc := ⟨.hbm, 252, rfl⟩
abbrev main_cst_26 : Ref sig .tc := ⟨.hbm, 253, rfl⟩
abbrev main_call8_v0 : Ref sig .tc := ⟨.hbm, 254, rfl⟩
abbrev main_call8_v1 : Ref sig .tc := ⟨.hbm, 255, rfl⟩
abbrev main_v140 : Ref sig .tc := ⟨.hbm, 256, rfl⟩
abbrev main_v141 : Ref sig .tc := ⟨.hbm, 257, rfl⟩
abbrev main_v142 : Ref sig .tc := ⟨.hbm, 258, rfl⟩
abbrev main_v143 : Ref sig .tc := ⟨.hbm, 259, rfl⟩
abbrev main_v144 : Ref sig .tc := ⟨.hbm, 260, rfl⟩
abbrev main_v145 : Ref sig .tc := ⟨.hbm, 261, rfl⟩
abbrev main_v146 : Ref sig .tc := ⟨.hbm, 262, rfl⟩
abbrev main_v147 : Ref sig .tc := ⟨.hbm, 263, rfl⟩
abbrev main_c_27 : Ref sig .tc := ⟨.hbm, 264, rfl⟩
abbrev main_v148 : Ref sig .tc := ⟨.hbm, 265, rfl⟩
abbrev main_v149 : Ref sig .tc := ⟨.hbm, 266, rfl⟩
abbrev main_v150 : Ref sig .tc := ⟨.hbm, 267, rfl⟩
abbrev main_v151 : Ref sig .tc := ⟨.hbm, 268, rfl⟩
abbrev main_cst_28 : Ref sig .tc := ⟨.hbm, 269, rfl⟩
abbrev main_v152 : Ref sig .tc := ⟨.hbm, 270, rfl⟩
abbrev main_v153 : Ref sig .tc := ⟨.hbm, 271, rfl⟩
abbrev main_v154 : Ref sig .tc := ⟨.hbm, 272, rfl⟩
abbrev main_cst_29 : Ref sig .tc := ⟨.hbm, 273, rfl⟩
abbrev main_call9_v0 : Ref sig .tc := ⟨.hbm, 274, rfl⟩
abbrev main_call9_v1 : Ref sig .tc := ⟨.hbm, 275, rfl⟩
abbrev main_call9_v2 : Ref sig .tc := ⟨.hbm, 276, rfl⟩
abbrev main_v155 : Ref sig .tc := ⟨.hbm, 277, rfl⟩
abbrev main_cst_30 : Ref sig .tc := ⟨.hbm, 278, rfl⟩
abbrev main_v156 : Ref sig .tc := ⟨.hbm, 279, rfl⟩
abbrev main_cst_31 : Ref sig .tc := ⟨.hbm, 280, rfl⟩
abbrev main_v157 : Ref sig .tc := ⟨.hbm, 281, rfl⟩
abbrev main_v158 : Ref sig .tc := ⟨.hbm, 282, rfl⟩
abbrev main_v159 : Ref sig .tc := ⟨.hbm, 283, rfl⟩
abbrev main_v160 : Ref sig .tc := ⟨.hbm, 284, rfl⟩
abbrev main_v161 : Ref sig .tc := ⟨.hbm, 285, rfl⟩
abbrev main_v162 : Ref sig .tc := ⟨.hbm, 286, rfl⟩
abbrev main_cst_32 : Ref sig .tc := ⟨.hbm, 287, rfl⟩
abbrev main_v163 : Ref sig .tc := ⟨.hbm, 288, rfl⟩
abbrev main_v164 : Ref sig .tc := ⟨.hbm, 289, rfl⟩
abbrev main_v165 : Ref sig .tc := ⟨.hbm, 290, rfl⟩
abbrev main_v166 : Ref sig .tc := ⟨.hbm, 291, rfl⟩
abbrev main_v167 : Ref sig .tc := ⟨.hbm, 292, rfl⟩
abbrev main_v168 : Ref sig .tc := ⟨.hbm, 293, rfl⟩
abbrev main_v169 : Ref sig .tc := ⟨.hbm, 294, rfl⟩
abbrev main_v170 : Ref sig .tc := ⟨.hbm, 295, rfl⟩
abbrev main_v171 : Ref sig .tc := ⟨.hbm, 296, rfl⟩
abbrev main_v172 : Ref sig .tc := ⟨.hbm, 297, rfl⟩
abbrev main_v173 : Ref sig .tc := ⟨.hbm, 298, rfl⟩
abbrev main_cst_33 : Ref sig .tc := ⟨.hbm, 299, rfl⟩
abbrev main_v174 : Ref sig .tc := ⟨.hbm, 300, rfl⟩
abbrev main_v175 : Ref sig .tc := ⟨.hbm, 301, rfl⟩
abbrev main_cst_34 : Ref sig .tc := ⟨.hbm, 302, rfl⟩
abbrev main_v176 : Ref sig .tc := ⟨.hbm, 303, rfl⟩
abbrev main_v177 : Ref sig .tc := ⟨.hbm, 304, rfl⟩
abbrev main_v178 : Ref sig .tc := ⟨.hbm, 305, rfl⟩
abbrev main_v179 : Ref sig .tc := ⟨.hbm, 306, rfl⟩
abbrev main_v180 : Ref sig .tc := ⟨.hbm, 307, rfl⟩
abbrev main_v181 : Ref sig .tc := ⟨.hbm, 308, rfl⟩
abbrev main_v182 : Ref sig .tc := ⟨.hbm, 309, rfl⟩
abbrev main_v183 : Ref sig .tc := ⟨.hbm, 310, rfl⟩
abbrev main_v184 : Ref sig .tc := ⟨.hbm, 311, rfl⟩
abbrev main_v185 : Ref sig .tc := ⟨.hbm, 312, rfl⟩
abbrev main_v186 : Ref sig .tc := ⟨.hbm, 313, rfl⟩
abbrev main_v187 : Ref sig .tc := ⟨.hbm, 314, rfl⟩
abbrev main_v188 : Ref sig .tc := ⟨.hbm, 315, rfl⟩
abbrev main_v189 : Ref sig .tc := ⟨.hbm, 316, rfl⟩
abbrev main_v190 : Ref sig .tc := ⟨.hbm, 317, rfl⟩
abbrev main_v191 : Ref sig .tc := ⟨.hbm, 318, rfl⟩
abbrev main_v192 : Ref sig .tc := ⟨.hbm, 319, rfl⟩
abbrev main_v193 : Ref sig .tc := ⟨.hbm, 320, rfl⟩
abbrev main_v194 : Ref sig .tc := ⟨.hbm, 321, rfl⟩
abbrev main_v195 : Ref sig .tc := ⟨.hbm, 322, rfl⟩
abbrev main_v196 : Ref sig .tc := ⟨.hbm, 323, rfl⟩
abbrev main_v197 : Ref sig .tc := ⟨.hbm, 324, rfl⟩

abbrev nD : Nat := 1
abbrev τ : Topo := Topo.v7x

variable {F : FTy → Type} [FloatOps F]
-- ==== Proof.Frame.Region.lean ====
/- One kernel region of a program of several, for a kernel whose body is a function of its input blocks: what each
   input window's buffer holds at a grid point, the segment record of the region, and the contents of the buffers at its
   exit. Stated once for any program and any pipeline of it. -/
module

public import Idealize.ShloMosaic.Lib.Pipeline.FrameBody
public import Idealize.ShloMosaic.Lib.Pipeline.RegionsLoop
public import Idealize.ShloMosaic.Lib.Pipeline.FrameSuffix
public import Idealize.ShloMosaic.Lib.Tactic

@[expose] public section

noncomputable section

namespace SparseAttn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg PCfg Window BodyObligation cellOf LaunchFacts arrRef)

variable {nD : Nat} {τ : Topo} {sig : RefSig} {Λ₀ : Labels} {F : FTy → Type} [FloatOps F]
variable {U : Type} [URA U]

/-! ## The input windows -/

section Windows
variable {cfg : Cfg sig Λ₀} {c : Dev nD}

/-- Window `w`'s block at grid point `t`, read off the array contents `A`, on the whole staging buffer (a window none of
    whose blocks is cut fills all of it; elsewhere an arbitrary value that nothing reads). -/
def blockAt (cfg : Cfg sig Λ₀) (c : Dev nD) (w : Fin cfg.W) (A : Buf (Elt F) ((cfg.win w).arr.view.loc (c.tc : Thread nD τ))) (t : Fin cfg.N) :
    (cfg.win w).block.Idx → Elt F (cfg.win w).elt :=
  (cfg.win w).fill (cfg.grid.coords t) (fun _ => Classical.choice inferInstance) (((cfg.win w).blk t).view.read (Elt F) A)

/-- Where no block of the window is cut, a fill covers the whole buffer, whatever it held. -/
theorem fill_uncut (w : Fin cfg.W) (hsize : ∀ t a, (cfg.win w).xsize (cfg.grid.coords t) a = (cfg.win w).size a) (t : Fin cfg.N)
    (d d' : (cfg.win w).block.Idx → Elt F (cfg.win w).elt)
    (g : ((cfg.win w).xblock (cfg.grid.coords t)).Idx → Elt F (cfg.win w).elt) :
    (cfg.win w).fill (cfg.grid.coords t) d g = (cfg.win w).fill (cfg.grid.coords t) d' g := by
  funext j
  have hm : (cfg.win w).moved (cfg.grid.coords t) j = true :=
    ((cfg.win w).moved_iff _ j).mpr fun a => by rw [hsize t a]; exact (j a).isLt
  unfold Pipeline.Window.fill; rw [dif_pos hm, dif_pos hm]

/-- An input window of which no block is cut, whose body leaves the block in place, holds the block at every point. -/
theorem before_uncut (dat : Dat τ (Elt F) Unit ℕ U ℕ cfg c) (w : Fin cfg.W) (hin : (cfg.win w).isOut = false)
    (hlive : ∀ i, cfg.idle w i = false)
    (hclip : ∀ t t' : Fin cfg.N, (cfg.win w).index t = (cfg.win w).index t' →
      (cfg.win w).clip (cfg.grid.coords t) = (cfg.win w).clip (cfg.grid.coords t'))
    (hsize : ∀ t a, (cfg.win w).xsize (cfg.grid.coords t) a = (cfg.win w).size a)
    (hafter : ∀ t, dat.after w t = blockAt cfg c w (dat.A w) t) (t : Fin cfg.N) (d) :
    dat.before w t d = blockAt cfg c w (dat.A w) t :=
  (dat.before_in_eq_fetched w hin hlive hclip
      (fun t => by rw [hafter]; unfold blockAt; rw [Pipeline.Window.cut_fill]; rfl) t d).trans
    (fill_uncut w hsize t _ _ _)

end Windows

/-! ## The body beside what it does not touch -/

/-- A body that runs on 6 input buffers and one output buffer, and gives the inputs back, runs beside two assertions that it does not touch. -/
theorem keep7 {α0 α1 α2 α3 α4 α5 : Type} {M : Type} [URA M] {β γ : Type} {Φ O Q0 Q1 Q2 Q3 Q4 Q5 R : sProp M} {Z : β → sProp M} {g : γ → β} {T : (PUnit → sProp M) → sProp M}
    (h : ∀ K : PUnit → sProp M, iprop(Q0 ∗ Q1 ∗ Q2 ∗ Q3 ∗ Q4 ∗ Q5 ∗ (∃ d, Z d) ∗ (iprop(Q0 ∗ Q1 ∗ Q2 ∗ Q3 ∗ Q4 ∗ Q5 ∗ R) -∗ K ⟨⟩)) ⊢ T K) :
    iprop(Φ ∗ O ∗ (∃ _ : α0, Q0) ∗ (∃ _ : α1, Q1) ∗ (∃ _ : α2, Q2) ∗ (∃ _ : α3, Q3) ∗ (∃ _ : α4, Q4) ∗ (∃ _ : α5, Q5) ∗ (∃ d, Z (g d))) ⊢ T fun _ => iprop(Φ ∗ O ∗ Q0 ∗ Q1 ∗ Q2 ∗ Q3 ∗ Q4 ∗ Q5 ∗ R) := by
  iintro ⟨HΦ, Ho, ⟨%d0, H0⟩, ⟨%d1, H1⟩, ⟨%d2, H2⟩, ⟨%d3, H3⟩, ⟨%d4, H4⟩, ⟨%d5, H5⟩, ⟨%d, Hz⟩⟩
  iapply h
  isplitl [H0]; · iexact H0
  isplitl [H1]; · iexact H1
  isplitl [H2]; · iexact H2
  isplitl [H3]; · iexact H3
  isplitl [H4]; · iexact H4
  isplitl [H5]; · iexact H5
  isplitl [Hz]; · iexists g d; iexact Hz
  iintro ⟨H0, H1, H2, H3, H4, H5, Hr⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact Hr

/-- A body that runs on 7 input buffers and one output buffer, and gives the inputs back, runs beside two assertions that it does not touch. -/
theorem keep8 {α0 α1 α2 α3 α4 α5 α6 : Type} {M : Type} [URA M] {β γ : Type} {Φ O Q0 Q1 Q2 Q3 Q4 Q5 Q6 R : sProp M} {Z : β → sProp M} {g : γ → β} {T : (PUnit → sProp M) → sProp M}
    (h : ∀ K : PUnit → sProp M, iprop(Q0 ∗ Q1 ∗ Q2 ∗ Q3 ∗ Q4 ∗ Q5 ∗ Q6 ∗ (∃ d, Z d) ∗ (iprop(Q0 ∗ Q1 ∗ Q2 ∗ Q3 ∗ Q4 ∗ Q5 ∗ Q6 ∗ R) -∗ K ⟨⟩)) ⊢ T K) :
    iprop(Φ ∗ O ∗ (∃ _ : α0, Q0) ∗ (∃ _ : α1, Q1) ∗ (∃ _ : α2, Q2) ∗ (∃ _ : α3, Q3) ∗ (∃ _ : α4, Q4) ∗ (∃ _ : α5, Q5) ∗ (∃ _ : α6, Q6) ∗ (∃ d, Z (g d))) ⊢ T fun _ => iprop(Φ ∗ O ∗ Q0 ∗ Q1 ∗ Q2 ∗ Q3 ∗ Q4 ∗ Q5 ∗ Q6 ∗ R) := by
  iintro ⟨HΦ, Ho, ⟨%d0, H0⟩, ⟨%d1, H1⟩, ⟨%d2, H2⟩, ⟨%d3, H3⟩, ⟨%d4, H4⟩, ⟨%d5, H5⟩, ⟨%d6, H6⟩, ⟨%d, Hz⟩⟩
  iapply h
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [Hz]; · iexists g d; iexact Hz
  iintro ⟨H0, H1, H2, H3, H4, H5, H6, Hr⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact Hr

/-! ## The region's segment record -/

section Record
variable {n : Nat} (cfgs : Fin n → Cfg sig Λ₀)

/-- The thread state beside the buffers: the generator register at some state, and nothing owed. -/
abbrev restR (c : Dev nD) : sProp (MT nD τ sig Unit (Elt F) ℕ U ℕ) :=
  iprop((∃ r, prngReg c r) ∗ ∃ W, owes (c : Thread nD τ) (0 : CellTallies nD τ sig Unit) W)

/-- The buffers' contents at the exit of the region of pipeline `p`: its arrays at what the pipeline leaves, every other
    buffer as entered. -/
def exitOf (p : Fin n) (dat : (c : Dev nD) → Dat τ (Elt F) Unit ℕ U ℕ (cfgs p) c) (W : Dev nD → Valuation τ sig (Elt F)) :
    Dev nD → Valuation τ sig (Elt F) :=
  fun c => Pipeline.withArrays (cfgs p).spec c (W c) fun w => (dat c).arrAt w (cfgs p).N

variable {cfgs}

/-- After a call, an array of it is what its pipeline leaves. -/
theorem exitOf_arr {p : Fin n} (hl : LaunchFacts (nD := nD) (τ := τ) cfgs p) (dat : (c : Dev nD) → Dat τ (Elt F) Unit ℕ U ℕ (cfgs p) c)
    (W : Dev nD → Valuation τ sig (Elt F)) (c : Dev nD) (w : Fin (cfgs p).W) :
    exitOf cfgs p dat W c (Proc.devRef .tc (arrRef (cfgs p).spec w)) = (dat c).arrAt w (cfgs p).N := by
  unfold exitOf; exact Pipeline.withArrays_arr (cfgs p).spec hl.win.arr_inj c _ _ w

/-- After a call, a buffer that is none of its arrays is as before. -/
theorem exitOf_of_ne (p : Fin n) (dat : (c : Dev nD) → Dat τ (Elt F) Unit ℕ U ℕ (cfgs p) c)
    (W : Dev nD → Valuation τ sig (Elt F)) (c : Dev nD) (b : Ref sig .tc) (hb : ∀ w, arrRef (cfgs p).spec w ≠ b) :
    exitOf cfgs p dat W c (Proc.devRef .tc b) = W c (Proc.devRef .tc b) := by
  unfold exitOf; exact Pipeline.withArrays_of_ne (cfgs p).spec c _ _ b hb

/-- A reference that is no output array of the region keeps its contents across it. -/
theorem exitOf_of {p : Fin n} (hl : LaunchFacts (nD := nD) (τ := τ) cfgs p) (dat : (c : Dev nD) → Dat τ (Elt F) Unit ℕ U ℕ (cfgs p) c)
    (W : Dev nD → Valuation τ sig (Elt F)) (hA : ∀ c w, (dat c).A w = W c (Proc.devRef .tc (arrRef (cfgs p).spec w)))
    (c : Dev nD) (r : Ref sig .tc) (h : ∀ w : Fin (cfgs p).W, arrRef (cfgs p).spec w = r → ((cfgs p).win w).isOut = false) :
    exitOf cfgs p dat W c (Proc.devRef .tc r) = W c (Proc.devRef .tc r) := by
  by_cases hw : ∃ w : Fin (cfgs p).W, arrRef (cfgs p).spec w = r
  · obtain ⟨w, rfl⟩ := hw
    exact (exitOf_arr hl dat W c w).trans (((dat c).arrAt_in w (h w rfl) _).trans (hA c w))
  · exact exitOf_of_ne p dat W c r fun w e => hw ⟨w, e⟩

variable (pdats : (p : Fin n) → (c : Dev nD) → Dat τ (Elt F) Unit ℕ U ℕ
  (Pipeline.pin (fun q => (cfgs q).toPCfg (Val := Elt F)) (fun q => (cfgs q).toPCfg_adm) p) c)
  (defs₀ : Defs nD τ sig (Elt F) Λ₀)

set_option backward.isDefEq.respectTransparency.types false in
/-- The segment record of the region of pipeline `p`, entered with every unscoped buffer at `W` and left with every
    unscoped buffer at `exitOf … W`. -/
def regionOf (p : Fin n) (hl : LaunchFacts (nD := nD) (τ := τ) cfgs p)
    (W : Dev nD → Valuation τ sig (Elt F)) (dat : (c : Dev nD) → Dat τ (Elt F) Unit ℕ U ℕ (cfgs p) c)
    (hdat : ∀ c, pdats p c = dat c)
    (hA : ∀ c w, (dat c).A w = W c (Proc.devRef .tc (arrRef (cfgs p).spec w)))
    (hq : ∀ c w, (dat c).q w = fullShare) (howed : ∀ c t, (dat c).owed t = 0)
    (hΦ : ∀ c t, (dat c).Φ t = Pipeline.ΦA (cfgs p).spec c) (hrec : ∀ c x, x ∈ (dat c).recorded 0)
    (hbody : ∀ c, BodyObligation (dat c) defs₀ Variants.none () Set.univ) :
    Pipeline.RegionSeg (fun q => (cfgs q).toPCfg (Val := Elt F)) (fun q => (cfgs q).toPCfg_adm) pdats () defs₀ Variants.none
      (fun _ => ∅) (fun _ _ => 0) p where
  win := hl.win.to₀
  block_pos := hl.block_pos
  stage_whole := hl.stage_whole
  K := PEmpty
  osem k := k.elim
  ho := Pipeline.OwnSemFacts.none _
  hbody c := by rw [hdat]; exact (hbody c).loose
  hwaits := Pipeline.hwaits_of_owed_zero _ _ _ _ _ _ p fun c t => by rw [hdat]; exact howed c t
  pre c := iprop(StableHlo.held (c : Thread nD τ) (Pipeline.ucRefs τ sig) (W c) ∗ restR c)
  post c := iprop(StableHlo.held (c : Thread nD τ) (Pipeline.ucRefs τ sig) (exitOf cfgs p dat W c) ∗ restR c)
  X c := iprop(∃ r, prngReg c r)
  Y c := iprop(∃ r, prngReg c r)
  Z c := Pipeline.unscopedRest (Ix := Unit) (Name := ℕ) (U := U) (Lvl := ℕ) (cfgs p).spec c (fun b => W c (Proc.devRef .tc b))
  hentry c := by
    rw [Pipeline.ownSems0_none]
    have hsplit := Pipeline.arrays_of_unscopedBufs (p := p) (fun q => (cfgs q).toPCfg (Val := Elt F)) (fun q => (cfgs q).toPCfg_adm) pdats
      hl.win hl.arr_whole c ((pdats p c).share_full fun w => by rw [hdat]; exact hq c w) (fun b => W c (Proc.devRef .tc b))
      (fun w => by rw [hdat]; exact hA c w)
    rw [Pipeline.unscopedBufs_held c (W c)] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [hdat, howed]
      icases HO with ⟨%W, HO⟩; iexists W; isplitr; · ipureintro; exact fun _ _ => Or.inl (hrec c _)
      iexact HO
    isplitl [Hp]; · iexact Hp
    iexact Hrest
  hin c := by
    rw [show (pdats p c).Φ 0 = Pipeline.ΦA (cfgs p).spec c from by rw [hdat]; exact hΦ c 0]; unfold Pipeline.ΦA
    iintro ⟨Hp, -, Hr⟩
    isplitl [Hr]; · iexact Hr
    iexact Hp
  hout c := by
    rw [Pipeline.ownSems0_none, show (pdats p c).Φ (Fin.last _) = Pipeline.ΦA (cfgs p).spec c from by rw [hdat]; exact hΦ c _]; unfold Pipeline.ΦA
    iintro ⟨Hr, Hp⟩
    isplitl [Hp]; · iexact Hp
    isplitr; · iempintro
    iexact Hr
  hexit c := by
    have hjoin := Pipeline.unscopedBufs_of_arrays (p := p) (fun q => (cfgs q).toPCfg (Val := Elt F)) (fun q => (cfgs q).toPCfg_adm)
      (Ix := Unit) (Name := ℕ) (U := U) (Lvl := ℕ)
      hl.win hl.arr_whole c pdats ((pdats p c).share_full fun w => by rw [hdat]; exact hq c w)
      (fun b => W c (Proc.devRef .tc b)) (fun b => exitOf cfgs p dat W c (Proc.devRef .tc b)) ((pdats p c).arrAt · (cfgs p).N)
      (fun w => by rw [hdat]; exact (exitOf_arr hl dat W c w).symm)
      (fun b hb => exitOf_of_ne p dat W c b fun w e => hb (Finset.mem_image.mpr ⟨w, Finset.mem_univ _, e⟩))
    rw [Pipeline.unscopedBufs_held c (exitOf cfgs p dat W c)] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    rw [hdat, howed]
    icases HO with ⟨%W, -, HO⟩; iexists W; iexact HO

end Record

end SparseAttn

end
-- ==== Proof.Frame.KernelIdeal.Region0.lean ====
/- KernelIdeal's region 0 (the projections): what the body leaves in its output buffers, as a function of its input blocks, and the
   pipeline's proof data at the buffer contents `V` the region is entered with. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Ring
public import Idealize.ShloMosaic.Lib.WordCmp
public import proofs.«01_k».proof.Proof.Frame.Region

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation)

variable {F : FTy → Type} [FloatOps F] [Named F]
local notation "𝕄" => MT nD τ sig Unit (Elt F) ℕ (UR sig nD τ) ℕ
variable (V : (c : Dev nD) → (b : Ref sig .tc) → Buf (Elt F) ((c : Thread nD τ).loc b))

/-- A block that the body reads or writes. -/
abbrev r0_0 : Rect S256x768 := Rect.unit (s := S256x768) ![0, 0] S256x768.size inb_S256x768_S256x768_0_0
/-- A block that the body reads or writes. -/
abbrev r0_1 : Rect S1x768 := Rect.unit (s := S1x768) ![0, 0] S1x768.size inb_S1x768_S1x768_0_0
/-- A block that the body reads or writes. -/
abbrev r0_2 : Rect S768x768 := Rect.unit (s := S768x768) ![0, 0] S768x768.size inb_S768x768_S768x768_0_0
/-- A block that the body reads or writes. -/
abbrev r0_3 : Rect S12x256x64 := Rect.unit (s := S12x256x64) ![0, 0, 0] S12x256x64.size inb_S12x256x64_S12x256x64_0_0_0
/-- A block that the body reads or writes. -/
abbrev r0_4 : Rect S768x36 := Rect.unit (s := S768x36) ![0, 0] S768x36.size inb_S768x36_S768x36_0_0
/-- A block that the body reads or writes. -/
abbrev r0_5 : Rect S1x36 := Rect.unit (s := S1x36) ![0, 0] S1x36.size inb_S1x36_S1x36_0_0
/-- A block that the body reads or writes. -/
abbrev r0_6 : Rect S3x12x256x1 := Rect.unit (s := S3x12x256x1) ![0, 0, 0, 0] S3x12x256x1.size inb_S3x12x256x1_S3x12x256x1_0_0_0_0

/-- What the body stores in window 7. -/
def val0_7 (x0 : Vec F S256x768 .f32) (x1 : Vec F S1x768 .f32) (x2 : Vec F S768x768 .bf16) (x3 : Vec F S768x768 .bf16) (x4 : Vec F S768x768 .bf16) (x5 : Vec F S768x36 .bf16) (x6 : Vec F S1x36 .f32) : Vec F S12x256x64 .bf16 :=
  k0_pay8 (View.ld x0 r0_0) (View.ld x1 r0_1) (View.ld x2 r0_2)
/-- Window 7's buffer after the body. -/
def out0_7 (x0 : Vec F S256x768 .f32) (x1 : Vec F S1x768 .f32) (x2 : Vec F S768x768 .bf16) (x3 : Vec F S768x768 .bf16) (x4 : Vec F S768x768 .bf16) (x5 : Vec F S768x36 .bf16) (x6 : Vec F S1x36 .f32) : Vec F S12x256x64 .bf16 := View.canon [⟨r0_3, val0_7 x0 x1 x2 x3 x4 x5 x6⟩]
/-- The pieces stored into output window 7 cover it. -/
theorem cover0_7 (p0 : Vec F S12x256x64 .bf16) (y : S12x256x64.Idx) : ∃ pc ∈ ([⟨r0_3, p0⟩] : List (View.Piece (Elt F) S12x256x64 .bf16)), y ∈ pc.1.set :=
  View.cover_of_tiled [⟨r0_3, p0⟩] S12x256x64.size (by rfl) y

/-- What the body stores in window 8. -/
def val0_8 (x0 : Vec F S256x768 .f32) (x1 : Vec F S1x768 .f32) (x2 : Vec F S768x768 .bf16) (x3 : Vec F S768x768 .bf16) (x4 : Vec F S768x768 .bf16) (x5 : Vec F S768x36 .bf16) (x6 : Vec F S1x36 .f32) : Vec F S12x256x64 .bf16 :=
  k0_pay9 (View.ld x0 r0_0) (View.ld x1 r0_1) (View.ld x3 r0_2)
/-- Window 8's buffer after the body. -/
def out0_8 (x0 : Vec F S256x768 .f32) (x1 : Vec F S1x768 .f32) (x2 : Vec F S768x768 .bf16) (x3 : Vec F S768x768 .bf16) (x4 : Vec F S768x768 .bf16) (x5 : Vec F S768x36 .bf16) (x6 : Vec F S1x36 .f32) : Vec F S12x256x64 .bf16 := View.canon [⟨r0_3, val0_8 x0 x1 x2 x3 x4 x5 x6⟩]
/-- The pieces stored into output window 8 cover it. -/
theorem cover0_8 (p0 : Vec F S12x256x64 .bf16) (y : S12x256x64.Idx) : ∃ pc ∈ ([⟨r0_3, p0⟩] : List (View.Piece (Elt F) S12x256x64 .bf16)), y ∈ pc.1.set :=
  View.cover_of_tiled [⟨r0_3, p0⟩] S12x256x64.size (by rfl) y

/-- What the body stores in window 9. -/
def val0_9 (x0 : Vec F S256x768 .f32) (x1 : Vec F S1x768 .f32) (x2 : Vec F S768x768 .bf16) (x3 : Vec F S768x768 .bf16) (x4 : Vec F S768x768 .bf16) (x5 : Vec F S768x36 .bf16) (x6 : Vec F S1x36 .f32) : Vec F S12x256x64 .bf16 :=
  let v10 : FVec F S256x768 .f32 := k0_pay7 (View.ld x0 r0_0) (View.ld x1 r0_1) (View.ld x4 r0_2)
  k0_pay1 v10
/-- Window 9's buffer after the body. -/
def out0_9 (x0 : Vec F S256x768 .f32) (x1 : Vec F S1x768 .f32) (x2 : Vec F S768x768 .bf16) (x3 : Vec F S768x768 .bf16) (x4 : Vec F S768x768 .bf16) (x5 : Vec F S768x36 .bf16) (x6 : Vec F S1x36 .f32) : Vec F S12x256x64 .bf16 := View.canon [⟨r0_3, val0_9 x0 x1 x2 x3 x4 x5 x6⟩]
/-- The pieces stored into output window 9 cover it. -/
theorem cover0_9 (p0 : Vec F S12x256x64 .bf16) (y : S12x256x64.Idx) : ∃ pc ∈ ([⟨r0_3, p0⟩] : List (View.Piece (Elt F) S12x256x64 .bf16)), y ∈ pc.1.set :=
  View.cover_of_tiled [⟨r0_3, p0⟩] S12x256x64.size (by rfl) y

/-- What the body stores in window 10. -/
def val0_10 (x0 : Vec F S256x768 .f32) (x1 : Vec F S1x768 .f32) (x2 : Vec F S768x768 .bf16) (x3 : Vec F S768x768 .bf16) (x4 : Vec F S768x768 .bf16) (x5 : Vec F S768x36 .bf16) (x6 : Vec F S1x36 .f32) : Vec F S12x256x64 .f32 :=
  k0_pay2 (k0_pay6 (View.ld x0 r0_0) (View.ld x1 r0_1) (View.ld x3 r0_2))
/-- Window 10's buffer after the body. -/
def out0_10 (x0 : Vec F S256x768 .f32) (x1 : Vec F S1x768 .f32) (x2 : Vec F S768x768 .bf16) (x3 : Vec F S768x768 .bf16) (x4 : Vec F S768x768 .bf16) (x5 : Vec F S768x36 .bf16) (x6 : Vec F S1x36 .f32) : Vec F S12x256x64 .f32 := View.canon [⟨r0_3, val0_10 x0 x1 x2 x3 x4 x5 x6⟩]
/-- The pieces stored into output window 10 cover it. -/
theorem cover0_10 (p0 : Vec F S12x256x64 .f32) (y : S12x256x64.Idx) : ∃ pc ∈ ([⟨r0_3, p0⟩] : List (View.Piece (Elt F) S12x256x64 .f32)), y ∈ pc.1.set :=
  View.cover_of_tiled [⟨r0_3, p0⟩] S12x256x64.size (by rfl) y

/-- What the body stores in window 11. -/
def val0_11 (x0 : Vec F S256x768 .f32) (x1 : Vec F S1x768 .f32) (x2 : Vec F S768x768 .bf16) (x3 : Vec F S768x768 .bf16) (x4 : Vec F S768x768 .bf16) (x5 : Vec F S768x36 .bf16) (x6 : Vec F S1x36 .f32) : Vec F S12x256x64 .f32 :=
  let v10 : FVec F S256x768 .f32 := k0_pay7 (View.ld x0 r0_0) (View.ld x1 r0_1) (View.ld x4 r0_2)
  k0_pay3 v10
/-- Window 11's buffer after the body. -/
def out0_11 (x0 : Vec F S256x768 .f32) (x1 : Vec F S1x768 .f32) (x2 : Vec F S768x768 .bf16) (x3 : Vec F S768x768 .bf16) (x4 : Vec F S768x768 .bf16) (x5 : Vec F S768x36 .bf16) (x6 : Vec F S1x36 .f32) : Vec F S12x256x64 .f32 := View.canon [⟨r0_3, val0_11 x0 x1 x2 x3 x4 x5 x6⟩]
/-- The pieces stored into output window 11 cover it. -/
theorem cover0_11 (p0 : Vec F S12x256x64 .f32) (y : S12x256x64.Idx) : ∃ pc ∈ ([⟨r0_3, p0⟩] : List (View.Piece (Elt F) S12x256x64 .f32)), y ∈ pc.1.set :=
  View.cover_of_tiled [⟨r0_3, p0⟩] S12x256x64.size (by rfl) y

/-- What the body stores in window 12. -/
def val0_12 (x0 : Vec F S256x768 .f32) (x1 : Vec F S1x768 .f32) (x2 : Vec F S768x768 .bf16) (x3 : Vec F S768x768 .bf16) (x4 : Vec F S768x768 .bf16) (x5 : Vec F S768x36 .bf16) (x6 : Vec F S1x36 .f32) : Vec F S3x12x256x1 .f32 :=
  k0_pay4 (k0_pay5 (View.ld x0 r0_0) (View.ld x1 r0_1)) (View.ld x5 r0_4) (View.ld x6 r0_5)
/-- Window 12's buffer after the body. -/
def out0_12 (x0 : Vec F S256x768 .f32) (x1 : Vec F S1x768 .f32) (x2 : Vec F S768x768 .bf16) (x3 : Vec F S768x768 .bf16) (x4 : Vec F S768x768 .bf16) (x5 : Vec F S768x36 .bf16) (x6 : Vec F S1x36 .f32) : Vec F S3x12x256x1 .f32 := View.canon [⟨r0_6, val0_12 x0 x1 x2 x3 x4 x5 x6⟩]
/-- The pieces stored into output window 12 cover it. -/
theorem cover0_12 (p0 : Vec F S3x12x256x1 .f32) (y : S3x12x256x1.Idx) : ∃ pc ∈ ([⟨r0_6, p0⟩] : List (View.Piece (Elt F) S3x12x256x1 .f32)), y ∈ pc.1.set :=
  View.cover_of_tiled [⟨r0_6, p0⟩] S3x12x256x1.size (by rfl) y

set_option maxHeartbeats 1000000 in
/-- The body, run on whole buffers: the inputs stay, each output is left at its `out`. -/
theorem sound_kernel0 (c : Dev nD) (E : Set ℕ) (i : grid0.Coords) (arg1 : Memref sig .tc .vmem S256x768 .f32) (harg1 : arg1.IsWhole) (arg2 : Memref sig .tc .vmem S1x768 .f32) (harg2 : arg2.IsWhole) (arg3 : Memref sig .tc .vmem S768x768 .bf16) (harg3 : arg3.IsWhole) (arg4 : Memref sig .tc .vmem S768x768 .bf16) (harg4 : arg4.IsWhole) (arg5 : Memref sig .tc .vmem S768x768 .bf16) (harg5 : arg5.IsWhole) (arg6 : Memref sig .tc .vmem S768x36 .bf16) (harg6 : arg6.IsWhole) (arg7 : Memref sig .tc .vmem S1x36 .f32) (harg7 : arg7.IsWhole) (arg8 : Memref sig .tc .vmem S12x256x64 .bf16) (harg8 : arg8.IsWhole) (arg9 : Memref sig .tc .vmem S12x256x64 .bf16) (harg9 : arg9.IsWhole) (arg10 : Memref sig .tc .vmem S12x256x64 .bf16) (harg10 : arg10.IsWhole) (arg11 : Memref sig .tc .vmem S12x256x64 .f32) (harg11 : arg11.IsWhole) (arg12 : Memref sig .tc .vmem S12x256x64 .f32) (harg12 : arg12.IsWhole) (arg13 : Memref sig .tc .vmem S3x12x256x1 .f32) (harg13 : arg13.IsWhole)
    (x0 : Vec F S256x768 .f32) (x1 : Vec F S1x768 .f32) (x2 : Vec F S768x768 .bf16) (x3 : Vec F S768x768 .bf16) (x4 : Vec F S768x768 .bf16) (x5 : Vec F S768x36 .bf16) (x6 : Vec F S1x36 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare (out0_7 x0 x1 x2 x3 x4 x5 x6) ∗ owns (c : Thread nD τ) arg9 fullShare (out0_8 x0 x1 x2 x3 x4 x5 x6) ∗ owns (c : Thread nD τ) arg10 fullShare (out0_9 x0 x1 x2 x3 x4 x5 x6) ∗ owns (c : Thread nD τ) arg11 fullShare (out0_10 x0 x1 x2 x3 x4 x5 x6) ∗ owns (c : Thread nD τ) arg12 fullShare (out0_11 x0 x1 x2 x3 x4 x5 x6) ∗ owns (c : Thread nD τ) arg13 fullShare (out0_12 x0 x1 x2 x3 x4 x5 x6)) -∗ K ⟨⟩))
      ⊢ wp frame (wpE (defs₀ (F := F)) Variants.none c none) E (cc0__proj_kernel i arg1 harg1 arg2 harg2 arg3 harg3 arg4 harg4 arg5 harg5 arg6 harg6 arg7 harg7 arg8 harg8 arg9 harg9 arg10 harg10 arg11 harg11 arg12 harg12 arg13 harg13) K := by
  simp only [cc0__proj_kernel_eq_skeleton]; unfold cc0__proj_kernel_skel
  simp only [k0_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%d9, %f9, -, H9⟩, ⟨%d10, %f10, -, H10⟩, ⟨%d11, %f11, -, H11⟩, ⟨%d12, %f12, -, H12⟩, Hk⟩
  subst hf0 hf1 hf2 hf3 hf4 hf5 hf6
  sl_exec
  sl_step
  iapply Hk
  isplitl [H0]; · iexists f0; isplitr; (· ipureintro; rfl); iexact H0
  isplitl [H1]; · iexists f1; isplitr; (· ipureintro; rfl); iexact H1
  isplitl [H2]; · iexists f2; isplitr; (· ipureintro; rfl); iexact H2
  isplitl [H3]; · iexists f3; isplitr; (· ipureintro; rfl); iexact H3
  isplitl [H4]; · iexists f4; isplitr; (· ipureintro; rfl); iexact H4
  isplitl [H5]; · iexists f5; isplitr; (· ipureintro; rfl); iexact H5
  isplitl [H6]; · iexists f6; isplitr; (· ipureintro; rfl); iexact H6
  isplitl [H7]
  · iexists _; isplitr
    swap; · iexact H7
    ipureintro
    refine (View.read_writes_eq_canon _ _ _ (cover0_7 _)).trans ?_
    rfl
  isplitl [H8]
  · iexists _; isplitr
    swap; · iexact H8
    ipureintro
    refine (View.read_writes_eq_canon _ _ _ (cover0_8 _)).trans ?_
    rfl
  isplitl [H9]
  · iexists _; isplitr
    swap; · iexact H9
    ipureintro
    refine (View.read_writes_eq_canon _ _ _ (cover0_9 _)).trans ?_
    rfl
  isplitl [H10]
  · iexists _; isplitr
    swap; · iexact H10
    ipureintro
    refine (View.read_writes_eq_canon _ _ _ (cover0_10 _)).trans ?_
    rfl
  isplitl [H11]
  · iexists _; isplitr
    swap; · iexact H11
    ipureintro
    refine (View.read_writes_eq_canon _ _ _ (cover0_11 _)).trans ?_
    rfl
  iexists _; isplitr
  swap; · iexact H12
  ipureintro
  refine (View.read_writes_eq_canon _ _ _ (cover0_12 _)).trans ?_
  rfl

/-- Window `w`'s block at point `t`. -/
abbrev in0 (c : Dev nD) (w : Fin cfg0.W) (t : Fin cfg0.N) := SparseAttn.blockAt (F := F) cfg0 c w (V c (Pipeline.arrRef spec0 w)) t

/-- The pipeline's proof data on core `c`. -/
def dat0 (c : Dev nD) : Dat τ (Elt F) Unit ℕ (UR sig nD τ) ℕ cfg0 c where
  A w := V c (Pipeline.arrRef spec0 w)
  after w t := match w with
    | ⟨0, _⟩ => in0 V c 0 t
    | ⟨1, _⟩ => in0 V c 1 t
    | ⟨2, _⟩ => in0 V c 2 t
    | ⟨3, _⟩ => in0 V c 3 t
    | ⟨4, _⟩ => in0 V c 4 t
    | ⟨5, _⟩ => in0 V c 5 t
    | ⟨6, _⟩ => in0 V c 6 t
    | ⟨7, _⟩ => out0_7 (in0 V c 0 t) (in0 V c 1 t) (in0 V c 2 t) (in0 V c 3 t) (in0 V c 4 t) (in0 V c 5 t) (in0 V c 6 t)
    | ⟨8, _⟩ => out0_8 (in0 V c 0 t) (in0 V c 1 t) (in0 V c 2 t) (in0 V c 3 t) (in0 V c 4 t) (in0 V c 5 t) (in0 V c 6 t)
    | ⟨9, _⟩ => out0_9 (in0 V c 0 t) (in0 V c 1 t) (in0 V c 2 t) (in0 V c 3 t) (in0 V c 4 t) (in0 V c 5 t) (in0 V c 6 t)
    | ⟨10, _⟩ => out0_10 (in0 V c 0 t) (in0 V c 1 t) (in0 V c 2 t) (in0 V c 3 t) (in0 V c 4 t) (in0 V c 5 t) (in0 V c 6 t)
    | ⟨11, _⟩ => out0_11 (in0 V c 0 t) (in0 V c 1 t) (in0 V c 2 t) (in0 V c 3 t) (in0 V c 4 t) (in0 V c 5 t) (in0 V c 6 t)
    | ⟨12, _⟩ => out0_12 (in0 V c 0 t) (in0 V c 1 t) (in0 V c 2 t) (in0 V c 3 t) (in0 V c 4 t) (in0 V c 5 t) (in0 V c 6 t)
  Φ _ := Pipeline.ΦA spec0 c
  q _ := fullShare
  owed _ := 0

/-- The arrays are entered as the region finds them. -/
theorem A_eq0 (c : Dev nD) (w : Fin cfg0.W) : (dat0 V c).A w = V c (Pipeline.arrRef spec0 w) := by dsimp only [dat0]
/-- The body leaves the input windows' blocks in place. -/
theorem after0 (c : Dev nD) (t : Fin cfg0.N) (w : Fin cfg0.W) (hw : w.val < 7) : (dat0 V c).after w t = in0 V c w t := by
  fin_cases w <;> first | exact absurd hw (by decide) | rfl
/-- It leaves its result in output window 7. -/
theorem after0_7 (c : Dev nD) (t : Fin cfg0.N) : (dat0 V c).after 7 t = out0_7 (in0 V c 0 t) (in0 V c 1 t) (in0 V c 2 t) (in0 V c 3 t) (in0 V c 4 t) (in0 V c 5 t) (in0 V c 6 t) := by dsimp only [dat0]
/-- It leaves its result in output window 8. -/
theorem after0_8 (c : Dev nD) (t : Fin cfg0.N) : (dat0 V c).after 8 t = out0_8 (in0 V c 0 t) (in0 V c 1 t) (in0 V c 2 t) (in0 V c 3 t) (in0 V c 4 t) (in0 V c 5 t) (in0 V c 6 t) := by dsimp only [dat0]
/-- It leaves its result in output window 9. -/
theorem after0_9 (c : Dev nD) (t : Fin cfg0.N) : (dat0 V c).after 9 t = out0_9 (in0 V c 0 t) (in0 V c 1 t) (in0 V c 2 t) (in0 V c 3 t) (in0 V c 4 t) (in0 V c 5 t) (in0 V c 6 t) := by dsimp only [dat0]
/-- It leaves its result in output window 10. -/
theorem after0_10 (c : Dev nD) (t : Fin cfg0.N) : (dat0 V c).after 10 t = out0_10 (in0 V c 0 t) (in0 V c 1 t) (in0 V c 2 t) (in0 V c 3 t) (in0 V c 4 t) (in0 V c 5 t) (in0 V c 6 t) := by dsimp only [dat0]
/-- It leaves its result in output window 11. -/
theorem after0_11 (c : Dev nD) (t : Fin cfg0.N) : (dat0 V c).after 11 t = out0_11 (in0 V c 0 t) (in0 V c 1 t) (in0 V c 2 t) (in0 V c 3 t) (in0 V c 4 t) (in0 V c 5 t) (in0 V c 6 t) := by dsimp only [dat0]
/-- It leaves its result in output window 12. -/
theorem after0_12 (c : Dev nD) (t : Fin cfg0.N) : (dat0 V c).after 12 t = out0_12 (in0 V c 0 t) (in0 V c 1 t) (in0 V c 2 t) (in0 V c 3 t) (in0 V c 4 t) (in0 V c 5 t) (in0 V c 6 t) := by dsimp only [dat0]
/-- At every point the input windows' buffers hold their blocks. -/
theorem before0 (c : Dev nD) (t : Fin cfg0.N) (w : Fin cfg0.W) (hw : w.val < 7) (d) : (dat0 V c).before w t d = in0 V c w t :=
  SparseAttn.before_uncut (dat0 V c) w (by clear d; revert w; decide) (fun _ => rfl) (by clear d; revert w; decide +kernel) (by clear d; revert w; decide +kernel) (fun t => after0 V c t w hw) t d

/-- The body obligation, at every point. -/
theorem body_obligation0 (c : Dev nD) : BodyObligation (dat0 (F := F) V c) (defs₀ (F := F)) Variants.none () Set.univ := fun t => by
  rw [bigSep_W0, bigSep_W0, show defs₀ (F := F) .tc cfg0.body (cfg0.bodyArgs t (cfg0.slots t)) = bodyAt0 t from by unfold defs₀; rw [Defs.onTc_tc]]
  unfold bodyAt0
  simp only [before0 V c t 0 (by decide), before0 V c t 1 (by decide), before0 V c t 2 (by decide), before0 V c t 3 (by decide), before0 V c t 4 (by decide), before0 V c t 5 (by decide), before0 V c t 6 (by decide)]
  rw [show (dat0 V c).Φ t.succ = (dat0 V c).Φ t.castSucc from rfl,
    show (dat0 V c).owesAt () t.succ = (dat0 V c).owesAt () t.castSucc from rfl,
    after0 V c t 0 (by decide), after0 V c t 1 (by decide), after0 V c t 2 (by decide), after0 V c t 3 (by decide), after0 V c t 4 (by decide), after0 V c t 5 (by decide), after0 V c t 6 (by decide), after0_7, after0_8, after0_9, after0_10, after0_11, after0_12]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
  iapply (sound_kernel0 c Set.univ (grid0.coords t) _ _ _ _ _ _ _ _ _ _ _ _ _ _ _ _ _ _ _ _ _ _ _ _ _ _ (in0 V c 0 t) (in0 V c 1 t) (in0 V c 2 t) (in0 V c 3 t) (in0 V c 4 t) (in0 V c 5 t) (in0 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexists _; iexact H8
  isplitl [H9]; · iexists _; iexact H9
  isplitl [H10]; · iexists _; iexact H10
  isplitl [H11]; · iexists _; iexact H11
  isplitl [H12]; · iexists _; iexact H12
  iintro ⟨H0, H1, H2, H3, H4, H5, H6, H7, H8, H9, H10, H11, H12⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  iexact H12

end Cert.KernelIdeal.Gen

end
-- ==== Proof.Frame.KernelIdeal.Region1.lean ====
/- KernelIdeal's region 1 (the compression): what the body leaves in its output buffers, as a function of its input blocks, and the
   pipeline's proof data at the buffer contents `V` the region is entered with. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Ring
public import Idealize.ShloMosaic.Lib.WordCmp
public import proofs.«01_k».proof.Proof.Frame.Region

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation)

variable {F : FTy → Type} [FloatOps F] [Named F]
local notation "𝕄" => MT nD τ sig Unit (Elt F) ℕ (UR sig nD τ) ℕ
variable (V : (c : Dev nD) → (b : Ref sig .tc) → Buf (Elt F) ((c : Thread nD τ).loc b))

/-- A block that the body reads or writes. -/
abbrev r1_0 : Rect S1x256x512 := Rect.unit (s := S1x256x512) ![0, 0, 0] S1x256x512.size inb_S1x256x512_S1x256x512_0_0_0
/-- A block that the body reads or writes. -/
abbrev r1_1 : Rect S1x1x1024 := Rect.unit (s := S1x1x1024) ![0, 0, 0] S1x1x1024.size inb_S1x1x1024_S1x1x1024_0_0_0
/-- A block that the body reads or writes. -/
abbrev r1_2 : Rect S1x1024x64 := Rect.unit (s := S1x1024x64) ![0, 0, 0] S1x1024x64.size inb_S1x1024x64_S1x1024x64_0_0_0
/-- A block that the body reads or writes. -/
abbrev r1_3 : Rect S2x1x1x64 := Rect.unit (s := S2x1x1x64) ![0, 0, 0, 0] S1x1x1x64.size inb_S2x1x1x64_S1x1x1x64_0_0_0_0
/-- A block that the body reads or writes. -/
abbrev r1_4 : Rect S1x256x64 := Rect.unit (s := S1x256x64) ![0, 0, 0] S1x256x64.size inb_S1x256x64_S1x256x64_0_0_0
/-- A block that the body reads or writes. -/
abbrev r1_5 : Rect S2x1x1x64 := Rect.unit (s := S2x1x1x64) ![1, 0, 0, 0] S1x1x1x64.size inb_S2x1x1x64_S1x1x1x64_1_0_0_0

/-- What the body stores in window 7. -/
def val1_7 (x0 : Vec F S1x256x512 .f32) (x1 : Vec F S1x256x512 .f32) (x2 : Vec F S1x1x1024 .f32) (x3 : Vec F S1x1x1024 .f32) (x4 : Vec F S1x1024x64 .bf16) (x5 : Vec F S1x1024x64 .bf16) (x6 : Vec F S2x1x1x64 .f32) : Vec F S1x256x64 .f32 :=
  k1_pay1 (k1_pay3 (View.ld x0 r1_0) (View.ld x2 r1_1) (View.ld x4 r1_2)) (View.ld x6 r1_3)
/-- Window 7's buffer after the body. -/
def out1_7 (x0 : Vec F S1x256x512 .f32) (x1 : Vec F S1x256x512 .f32) (x2 : Vec F S1x1x1024 .f32) (x3 : Vec F S1x1x1024 .f32) (x4 : Vec F S1x1024x64 .bf16) (x5 : Vec F S1x1024x64 .bf16) (x6 : Vec F S2x1x1x64 .f32) : Vec F S1x256x64 .f32 := View.canon [⟨r1_4, val1_7 x0 x1 x2 x3 x4 x5 x6⟩]
/-- The pieces stored into output window 7 cover it. -/
theorem cover1_7 (p0 : Vec F S1x256x64 .f32) (y : S1x256x64.Idx) : ∃ pc ∈ ([⟨r1_4, p0⟩] : List (View.Piece (Elt F) S1x256x64 .f32)), y ∈ pc.1.set :=
  View.cover_of_tiled [⟨r1_4, p0⟩] S1x256x64.size (by rfl) y

/-- What the body stores in window 8. -/
def val1_8 (x0 : Vec F S1x256x512 .f32) (x1 : Vec F S1x256x512 .f32) (x2 : Vec F S1x1x1024 .f32) (x3 : Vec F S1x1x1024 .f32) (x4 : Vec F S1x1024x64 .bf16) (x5 : Vec F S1x1024x64 .bf16) (x6 : Vec F S2x1x1x64 .f32) : Vec F S1x256x64 .f32 :=
  k1_pay2 (k1_pay4 (View.ld x1 r1_0) (View.ld x3 r1_1) (View.ld x5 r1_2)) (View.ld x6 r1_5)
/-- Window 8's buffer after the body. -/
def out1_8 (x0 : Vec F S1x256x512 .f32) (x1 : Vec F S1x256x512 .f32) (x2 : Vec F S1x1x1024 .f32) (x3 : Vec F S1x1x1024 .f32) (x4 : Vec F S1x1024x64 .bf16) (x5 : Vec F S1x1024x64 .bf16) (x6 : Vec F S2x1x1x64 .f32) : Vec F S1x256x64 .f32 := View.canon [⟨r1_4, val1_8 x0 x1 x2 x3 x4 x5 x6⟩]
/-- The pieces stored into output window 8 cover it. -/
theorem cover1_8 (p0 : Vec F S1x256x64 .f32) (y : S1x256x64.Idx) : ∃ pc ∈ ([⟨r1_4, p0⟩] : List (View.Piece (Elt F) S1x256x64 .f32)), y ∈ pc.1.set :=
  View.cover_of_tiled [⟨r1_4, p0⟩] S1x256x64.size (by rfl) y

set_option maxHeartbeats 1000000 in
/-- The body, run on whole buffers: the inputs stay, each output is left at its `out`. -/
theorem sound_kernel1 (c : Dev nD) (E : Set ℕ) (i : grid1.Coords) (arg1 : Memref sig .tc .vmem S1x256x512 .f32) (harg1 : arg1.IsWhole) (arg2 : Memref sig .tc .vmem S1x256x512 .f32) (harg2 : arg2.IsWhole) (arg3 : Memref sig .tc .vmem S1x1x1024 .f32) (harg3 : arg3.IsWhole) (arg4 : Memref sig .tc .vmem S1x1x1024 .f32) (harg4 : arg4.IsWhole) (arg5 : Memref sig .tc .vmem S1x1024x64 .bf16) (harg5 : arg5.IsWhole) (arg6 : Memref sig .tc .vmem S1x1024x64 .bf16) (harg6 : arg6.IsWhole) (arg7 : Memref sig .tc .vmem S2x1x1x64 .f32) (harg7 : arg7.IsWhole) (arg8 : Memref sig .tc .vmem S1x256x64 .f32) (harg8 : arg8.IsWhole) (arg9 : Memref sig .tc .vmem S1x256x64 .f32) (harg9 : arg9.IsWhole)
    (x0 : Vec F S1x256x512 .f32) (x1 : Vec F S1x256x512 .f32) (x2 : Vec F S1x1x1024 .f32) (x3 : Vec F S1x1x1024 .f32) (x4 : Vec F S1x1024x64 .bf16) (x5 : Vec F S1x1024x64 .bf16) (x6 : Vec F S2x1x1x64 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d) ∗ (∃ d, owns (c : Thread nD τ) arg9 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare (out1_7 x0 x1 x2 x3 x4 x5 x6) ∗ owns (c : Thread nD τ) arg9 fullShare (out1_8 x0 x1 x2 x3 x4 x5 x6)) -∗ K ⟨⟩))
      ⊢ wp frame (wpE (defs₀ (F := F)) Variants.none c none) E (cc1__compress_kernel i arg1 harg1 arg2 harg2 arg3 harg3 arg4 harg4 arg5 harg5 arg6 harg6 arg7 harg7 arg8 harg8 arg9 harg9) K := by
  simp only [cc1__compress_kernel_eq_skeleton]; unfold cc1__compress_kernel_skel
  simp only [k1_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, Hk⟩
  subst hf0 hf1 hf2 hf3 hf4 hf5 hf6
  sl_exec
  sl_step
  iapply Hk
  isplitl [H0]; · iexists f0; isplitr; (· ipureintro; rfl); iexact H0
  isplitl [H1]; · iexists f1; isplitr; (· ipureintro; rfl); iexact H1
  isplitl [H2]; · iexists f2; isplitr; (· ipureintro; rfl); iexact H2
  isplitl [H3]; · iexists f3; isplitr; (· ipureintro; rfl); iexact H3
  isplitl [H4]; · iexists f4; isplitr; (· ipureintro; rfl); iexact H4
  isplitl [H5]; · iexists f5; isplitr; (· ipureintro; rfl); iexact H5
  isplitl [H6]; · iexists f6; isplitr; (· ipureintro; rfl); iexact H6
  isplitl [H7]
  · iexists _; isplitr
    swap; · iexact H7
    ipureintro
    exact View.read_writes_eq_canon _ _ _ (cover1_7 _)
  iexists _; isplitr
  swap; · iexact H8
  ipureintro
  exact View.read_writes_eq_canon _ _ _ (cover1_8 _)

/-- Window `w`'s block at point `t`. -/
abbrev in1 (c : Dev nD) (w : Fin cfg1.W) (t : Fin cfg1.N) := SparseAttn.blockAt (F := F) cfg1 c w (V c (Pipeline.arrRef spec1 w)) t

/-- The pipeline's proof data on core `c`. -/
def dat1 (c : Dev nD) : Dat τ (Elt F) Unit ℕ (UR sig nD τ) ℕ cfg1 c where
  A w := V c (Pipeline.arrRef spec1 w)
  after w t := match w with
    | ⟨0, _⟩ => in1 V c 0 t
    | ⟨1, _⟩ => in1 V c 1 t
    | ⟨2, _⟩ => in1 V c 2 t
    | ⟨3, _⟩ => in1 V c 3 t
    | ⟨4, _⟩ => in1 V c 4 t
    | ⟨5, _⟩ => in1 V c 5 t
    | ⟨6, _⟩ => in1 V c 6 t
    | ⟨7, _⟩ => out1_7 (in1 V c 0 t) (in1 V c 1 t) (in1 V c 2 t) (in1 V c 3 t) (in1 V c 4 t) (in1 V c 5 t) (in1 V c 6 t)
    | ⟨8, _⟩ => out1_8 (in1 V c 0 t) (in1 V c 1 t) (in1 V c 2 t) (in1 V c 3 t) (in1 V c 4 t) (in1 V c 5 t) (in1 V c 6 t)
  Φ _ := Pipeline.ΦA spec1 c
  q _ := fullShare
  owed _ := 0

/-- The arrays are entered as the region finds them. -/
theorem A_eq1 (c : Dev nD) (w : Fin cfg1.W) : (dat1 V c).A w = V c (Pipeline.arrRef spec1 w) := by dsimp only [dat1]
/-- The body leaves the input windows' blocks in place. -/
theorem after1 (c : Dev nD) (t : Fin cfg1.N) (w : Fin cfg1.W) (hw : w.val < 7) : (dat1 V c).after w t = in1 V c w t := by
  fin_cases w <;> first | exact absurd hw (by decide) | rfl
/-- It leaves its result in output window 7. -/
theorem after1_7 (c : Dev nD) (t : Fin cfg1.N) : (dat1 V c).after 7 t = out1_7 (in1 V c 0 t) (in1 V c 1 t) (in1 V c 2 t) (in1 V c 3 t) (in1 V c 4 t) (in1 V c 5 t) (in1 V c 6 t) := by dsimp only [dat1]
/-- It leaves its result in output window 8. -/
theorem after1_8 (c : Dev nD) (t : Fin cfg1.N) : (dat1 V c).after 8 t = out1_8 (in1 V c 0 t) (in1 V c 1 t) (in1 V c 2 t) (in1 V c 3 t) (in1 V c 4 t) (in1 V c 5 t) (in1 V c 6 t) := by dsimp only [dat1]
/-- At every point the input windows' buffers hold their blocks. -/
theorem before1 (c : Dev nD) (t : Fin cfg1.N) (w : Fin cfg1.W) (hw : w.val < 7) (d) : (dat1 V c).before w t d = in1 V c w t :=
  SparseAttn.before_uncut (dat1 V c) w (by clear d; revert w; decide) (fun _ => rfl) (by clear d; revert w; decide +kernel) (by clear d; revert w; decide +kernel) (fun t => after1 V c t w hw) t d

/-- The body obligation, at every point. -/
theorem body_obligation1 (c : Dev nD) : BodyObligation (dat1 (F := F) V c) (defs₀ (F := F)) Variants.none () Set.univ := fun t => by
  rw [bigSep_W1, bigSep_W1, show defs₀ (F := F) .tc cfg1.body (cfg1.bodyArgs t (cfg1.slots t)) = bodyAt1 t from by unfold defs₀; rw [Defs.onTc_tc]]
  unfold bodyAt1
  simp only [before1 V c t 0 (by decide), before1 V c t 1 (by decide), before1 V c t 2 (by decide), before1 V c t 3 (by decide), before1 V c t 4 (by decide), before1 V c t 5 (by decide), before1 V c t 6 (by decide)]
  rw [show (dat1 V c).Φ t.succ = (dat1 V c).Φ t.castSucc from rfl,
    show (dat1 V c).owesAt () t.succ = (dat1 V c).owesAt () t.castSucc from rfl,
    after1 V c t 0 (by decide), after1 V c t 1 (by decide), after1 V c t 2 (by decide), after1 V c t 3 (by decide), after1 V c t 4 (by decide), after1 V c t 5 (by decide), after1 V c t 6 (by decide), after1_7, after1_8]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (sound_kernel1 c Set.univ (grid1.coords t) _ _ _ _ _ _ _ _ _ _ _ _ _ _ _ _ _ _ (in1 V c 0 t) (in1 V c 1 t) (in1 V c 2 t) (in1 V c 3 t) (in1 V c 4 t) (in1 V c 5 t) (in1 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexists _; iexact H8
  iintro ⟨H0, H1, H2, H3, H4, H5, H6, H7, H8⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

end Cert.KernelIdeal.Gen

end
-- ==== Proof.Frame.KernelIdeal.Region2.lean ====
/- KernelIdeal's region 2 (the attention over query tile 0): what the body leaves in its output buffers, as a function of its input blocks, and the
   pipeline's proof data at the buffer contents `V` the region is entered with. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Ring
public import Idealize.ShloMosaic.Lib.WordCmp
public import proofs.«01_k».proof.Proof.Frame.Region

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation)

variable {F : FTy → Type} [FloatOps F] [Named F]
local notation "𝕄" => MT nD τ sig Unit (Elt F) ℕ (UR sig nD τ) ℕ
variable (V : (c : Dev nD) → (b : Ref sig .tc) → Buf (Elt F) ((c : Thread nD τ).loc b))

/-- A block that the body reads or writes. -/
abbrev r2_0 : Rect S1x256x64 := Rect.unit (s := S1x256x64) ![0, 0, 0] S1x256x64.size inb_S1x256x64_S1x256x64_0_0_0
/-- A block that the body reads or writes. -/
abbrev r2_1 : Rect S3x1x256x1 := Rect.unit (s := S3x1x256x1) ![0, 0, 0, 0] S1x1x256x1.size inb_S3x1x256x1_S1x1x256x1_0_0_0_0
/-- A block that the body reads or writes. -/
abbrev r2_2 : Rect S3x1x256x1 := Rect.unit (s := S3x1x256x1) ![1, 0, 0, 0] S1x1x256x1.size inb_S3x1x256x1_S1x1x256x1_1_0_0_0
/-- A block that the body reads or writes. -/
abbrev r2_3 : Rect S3x1x256x1 := Rect.unit (s := S3x1x256x1) ![2, 0, 0, 0] S1x1x256x1.size inb_S3x1x256x1_S1x1x256x1_2_0_0_0

/-- What the body stores in window 6. -/
def val2_6 (x0 : Vec F S1x256x64 .bf16) (x1 : Vec F S1x256x64 .bf16) (x2 : Vec F S1x256x64 .bf16) (x3 : Vec F S1x256x64 .f32) (x4 : Vec F S1x256x64 .f32) (x5 : Vec F S3x1x256x1 .f32) : Vec F S1x256x64 .f32 :=
  let v28 : IVec S256x1 32 := k2_pay3
  let v29 : FVec F S256x256 .f32 := k2_pay4 (View.ld x0 r2_0) (View.ld x3 r2_0)
  let v30 : IVec S256x256 32 := iota .tc S256x256 32 [1] iota_S256x256_d1_w32
  let v31 : FVec F S256x256 .f32 := k2_pay9 v29
  let v32 : FVec F S256x64 .bf16 := k2_pay20 (View.ld x2 r2_0)
  let v33 : FVec F S256x256 .f32 := k2_pay21 (k2_pay2 (View.ld x0 r2_0)) (View.ld x1 r2_0)
  k2_pay1 (k2_pay5 (View.ld x0 r2_0) (View.ld x3 r2_0) (View.ld x4 r2_0)) v32 v33 (k2_pay25 (k2_pay8 v29) (k2_pay11 v30 v31) (k2_pay14 v30 v31) (k2_pay15 v30 v31) (k2_pay19 v28 16#32 (k2_pay16 v28) (k2_pay17 v28) k2_pay18) v32 v33 (iota .tc S256x256 32 [0] iota_S256x256_d0_w32) (iota .tc S256x256 32 [1] iota_S256x256_d1_w32) k2_pay22 16#32 k2_pay23 k2_pay24) (k2_pay26 v28) (k2_pay27 (F := F)) (View.ld x5 r2_1) (View.ld x5 r2_2) (View.ld x5 r2_3)
/-- Window 6's buffer after the body. -/
def out2_6 (x0 : Vec F S1x256x64 .bf16) (x1 : Vec F S1x256x64 .bf16) (x2 : Vec F S1x256x64 .bf16) (x3 : Vec F S1x256x64 .f32) (x4 : Vec F S1x256x64 .f32) (x5 : Vec F S3x1x256x1 .f32) : Vec F S1x256x64 .f32 := View.canon [⟨r2_0, val2_6 x0 x1 x2 x3 x4 x5⟩]
/-- The output's pieces cover it. -/
theorem cover2_6 (p0 : Vec F S1x256x64 .f32) (y : S1x256x64.Idx) : ∃ pc ∈ ([⟨r2_0, p0⟩] : List (View.Piece (Elt F) S1x256x64 .f32)), y ∈ pc.1.set :=
  View.cover_of_tiled [⟨r2_0, p0⟩] S1x256x64.size (by rfl) y

set_option maxHeartbeats 1000000 in
/-- The body, run on whole buffers: the inputs stay, each output is left at its `out`. -/
theorem sound_kernel2 (c : Dev nD) (E : Set ℕ) (i : grid2.Coords) (arg1 : Memref sig .tc .vmem S1x256x64 .bf16) (harg1 : arg1.IsWhole) (arg2 : Memref sig .tc .vmem S1x256x64 .bf16) (harg2 : arg2.IsWhole) (arg3 : Memref sig .tc .vmem S1x256x64 .bf16) (harg3 : arg3.IsWhole) (arg4 : Memref sig .tc .vmem S1x256x64 .f32) (harg4 : arg4.IsWhole) (arg5 : Memref sig .tc .vmem S1x256x64 .f32) (harg5 : arg5.IsWhole) (arg6 : Memref sig .tc .vmem S3x1x256x1 .f32) (harg6 : arg6.IsWhole) (arg7 : Memref sig .tc .vmem S1x256x64 .f32) (harg7 : arg7.IsWhole)
    (x0 : Vec F S1x256x64 .bf16) (x1 : Vec F S1x256x64 .bf16) (x2 : Vec F S1x256x64 .bf16) (x3 : Vec F S1x256x64 .f32) (x4 : Vec F S1x256x64 .f32) (x5 : Vec F S3x1x256x1 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (out2_6 x0 x1 x2 x3 x4 x5)) -∗ K ⟨⟩))
      ⊢ wp frame (wpE (defs₀ (F := F)) Variants.none c none) E (cc2__lambda_ i arg1 harg1 arg2 harg2 arg3 harg3 arg4 harg4 arg5 harg5 arg6 harg6 arg7 harg7) K := by
  simp only [cc2__lambda__eq_skeleton]; unfold cc2__lambda__skel
  simp only [k2_part1_eq_skeleton, k2_part2_eq_skeleton, k2_part3_eq_skeleton, k2_part4_eq_skeleton, k2_part5_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]; · iexists f0; isplitr; (· ipureintro; rfl); iexact H0
  isplitl [H1]; · iexists f1; isplitr; (· ipureintro; rfl); iexact H1
  isplitl [H2]; · iexists f2; isplitr; (· ipureintro; rfl); iexact H2
  isplitl [H3]; · iexists f3; isplitr; (· ipureintro; rfl); iexact H3
  isplitl [H4]; · iexists f4; isplitr; (· ipureintro; rfl); iexact H4
  isplitl [H5]; · iexists f5; isplitr; (· ipureintro; rfl); iexact H5
  iexists _; isplitr
  swap; · iexact H6
  ipureintro
  refine (View.read_writes_eq_canon _ _ _ (cover2_6 _)).trans ?_
  rfl

/-- Window `w`'s block at point `t`. -/
abbrev in2 (c : Dev nD) (w : Fin cfg2.W) (t : Fin cfg2.N) := SparseAttn.blockAt (F := F) cfg2 c w (V c (Pipeline.arrRef spec2 w)) t

/-- The pipeline's proof data on core `c`. -/
def dat2 (c : Dev nD) : Dat τ (Elt F) Unit ℕ (UR sig nD τ) ℕ cfg2 c where
  A w := V c (Pipeline.arrRef spec2 w)
  after w t := match w with
    | ⟨0, _⟩ => in2 V c 0 t
    | ⟨1, _⟩ => in2 V c 1 t
    | ⟨2, _⟩ => in2 V c 2 t
    | ⟨3, _⟩ => in2 V c 3 t
    | ⟨4, _⟩ => in2 V c 4 t
    | ⟨5, _⟩ => in2 V c 5 t
    | ⟨6, _⟩ => out2_6 (in2 V c 0 t) (in2 V c 1 t) (in2 V c 2 t) (in2 V c 3 t) (in2 V c 4 t) (in2 V c 5 t)
  Φ _ := Pipeline.ΦA spec2 c
  q _ := fullShare
  owed _ := 0

/-- The arrays are entered as the region finds them. -/
theorem A_eq2 (c : Dev nD) (w : Fin cfg2.W) : (dat2 V c).A w = V c (Pipeline.arrRef spec2 w) := by dsimp only [dat2]
/-- The body leaves the input windows' blocks in place. -/
theorem after2 (c : Dev nD) (t : Fin cfg2.N) (w : Fin cfg2.W) (hw : w ≠ 6) : (dat2 V c).after w t = in2 V c w t := by
  fin_cases w <;> first | rfl | exact absurd rfl hw
/-- It leaves its result in the output window. -/
theorem after2_6 (c : Dev nD) (t : Fin cfg2.N) : (dat2 V c).after 6 t = out2_6 (in2 V c 0 t) (in2 V c 1 t) (in2 V c 2 t) (in2 V c 3 t) (in2 V c 4 t) (in2 V c 5 t) := by dsimp only [dat2]
/-- At every point the input windows' buffers hold their blocks. -/
theorem before2 (c : Dev nD) (t : Fin cfg2.N) (w : Fin cfg2.W) (hw : w ≠ 6) (d) : (dat2 V c).before w t d = in2 V c w t :=
  SparseAttn.before_uncut (dat2 V c) w (by clear d; revert w; decide) (fun _ => rfl) (by clear d; revert w; decide +kernel) (by clear d; revert w; decide +kernel) (fun t => after2 V c t w hw) t d

/-- The body obligation, at every point. -/
theorem body_obligation2 (c : Dev nD) : BodyObligation (dat2 (F := F) V c) (defs₀ (F := F)) Variants.none () Set.univ := fun t => by
  rw [bigSep_W2, bigSep_W2, show defs₀ (F := F) .tc cfg2.body (cfg2.bodyArgs t (cfg2.slots t)) = bodyAt2 t from by unfold defs₀; rw [Defs.onTc_tc]]
  unfold bodyAt2
  simp only [before2 V c t 0 (by decide), before2 V c t 1 (by decide), before2 V c t 2 (by decide), before2 V c t 3 (by decide), before2 V c t 4 (by decide), before2 V c t 5 (by decide)]
  rw [show (dat2 V c).Φ t.succ = (dat2 V c).Φ t.castSucc from rfl,
    show (dat2 V c).owesAt () t.succ = (dat2 V c).owesAt () t.castSucc from rfl,
    after2 V c t 0 (by decide), after2 V c t 1 (by decide), after2 V c t 2 (by decide), after2 V c t 3 (by decide), after2 V c t 4 (by decide), after2 V c t 5 (by decide), after2_6]
  exact SparseAttn.keep7 (Z := owns (c : Thread nD τ) (st2_6 t) fullShare) (g := (dat2 V c).before 6 t) fun _ => sound_kernel2 c Set.univ (grid2.coords t) _ _ _ _ _ _ _ _ _ _ _ _ _ _ (in2 V c 0 t) (in2 V c 1 t) (in2 V c 2 t) (in2 V c 3 t) (in2 V c 4 t) (in2 V c 5 t) _

end Cert.KernelIdeal.Gen

end
-- ==== Proof.Frame.KernelIdeal.Region3.lean ====
/- KernelIdeal's region 3 (the attention over query tile 1): what the body leaves in its output buffers, as a function of its input blocks, and the
   pipeline's proof data at the buffer contents `V` the region is entered with. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Ring
public import Idealize.ShloMosaic.Lib.WordCmp
public import proofs.«01_k».proof.Proof.Frame.Region

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation)

variable {F : FTy → Type} [FloatOps F] [Named F]
local notation "𝕄" => MT nD τ sig Unit (Elt F) ℕ (UR sig nD τ) ℕ
variable (V : (c : Dev nD) → (b : Ref sig .tc) → Buf (Elt F) ((c : Thread nD τ).loc b))

/-- A block that the body reads or writes. -/
abbrev r3_0 : Rect S1x256x64 := Rect.unit (s := S1x256x64) ![0, 0, 0] S1x256x64.size inb_S1x256x64_S1x256x64_0_0_0
/-- A block that the body reads or writes. -/
abbrev r3_1 : Rect S1x512x64 := Rect.unit (s := S1x512x64) ![0, 0, 0] S1x512x64.size inb_S1x512x64_S1x512x64_0_0_0
/-- A block that the body reads or writes. -/
abbrev r3_2 : Rect S16x256 := Rect.unit (s := S16x256) ![0, 0] S16x256.size inb_S16x256_S16x256_0_0
/-- A block that the body reads or writes. -/
abbrev r3_3 : Rect S3x1x256x1 := Rect.unit (s := S3x1x256x1) ![0, 0, 0, 0] S1x1x256x1.size inb_S3x1x256x1_S1x1x256x1_0_0_0_0
/-- A block that the body reads or writes. -/
abbrev r3_4 : Rect S3x1x256x1 := Rect.unit (s := S3x1x256x1) ![1, 0, 0, 0] S1x1x256x1.size inb_S3x1x256x1_S1x1x256x1_1_0_0_0
/-- A block that the body reads or writes. -/
abbrev r3_5 : Rect S3x1x256x1 := Rect.unit (s := S3x1x256x1) ![2, 0, 0, 0] S1x1x256x1.size inb_S3x1x256x1_S1x1x256x1_2_0_0_0

/-- What the body stores in window 7. -/
def val3_7 (x0 : Vec F S1x256x64 .bf16) (x1 : Vec F S1x512x64 .bf16) (x2 : Vec F S1x512x64 .bf16) (x3 : Vec F S1x256x64 .f32) (x4 : Vec F S1x256x64 .f32) (x5 : Vec F S3x1x256x1 .f32) (x6 : Vec F S16x256 .bf16) : Vec F S1x256x64 .f32 :=
  let v32 : IVec S256x1 32 := k3_pay3
  let v33 : FVec F S256x256 .f32 := k3_pay4 (View.ld x0 r3_0) (View.ld x3 r3_0)
  let v34 : IVec S256x256 32 := iota .tc S256x256 32 [1] iota_S256x256_d1_w32
  let v35 : IVec S256x1 32 := k3_pay8 v33
  let v36 : FVec F S256x256 .f32 := k3_pay9 v33
  let v37 : IVec S256x1 32 := k3_pay11 v34 v36
  let v38 : IVec S256x1 32 := k3_pay14 v34 v36
  let v39 : IVec S256x1 32 := k3_pay15 v34 v36
  let v40 : FVec F S512x64 .bf16 := k3_pay20 (View.ld x2 r3_1)
  let v41 : FVec F S256x512 .f32 := k3_pay21 (k3_pay2 (View.ld x0 r3_0)) (View.ld x1 r3_1)
  k3_pay1 (k3_pay29 v40 (k3_pay25 v35 v37 v38 v39 (k3_pay19 v32 16#32 (k3_pay16 v32) (k3_pay17 v32) k3_pay18) v41 (iota .tc S256x256 32 [0] iota_S256x256_d0_w32) (iota .tc S256x256 32 [1] iota_S256x256_d1_w32) k3_pay22 16#32 k3_pay23 k3_pay24) (k3_pay26 v35 v37 v38 v39 (View.ld x6 r3_2)) (k3_pay27 v41) (k3_pay28 (F := F))) (k3_pay30 v32 v40 v41) (k3_pay31 (k3_pay5 (View.ld x0 r3_0) (View.ld x3 r3_0) (View.ld x4 r3_0)) (View.ld x5 r3_3)) (View.ld x5 r3_4) (View.ld x5 r3_5)
/-- Window 7's buffer after the body. -/
def out3_7 (x0 : Vec F S1x256x64 .bf16) (x1 : Vec F S1x512x64 .bf16) (x2 : Vec F S1x512x64 .bf16) (x3 : Vec F S1x256x64 .f32) (x4 : Vec F S1x256x64 .f32) (x5 : Vec F S3x1x256x1 .f32) (x6 : Vec F S16x256 .bf16) : Vec F S1x256x64 .f32 := View.canon [⟨r3_0, val3_7 x0 x1 x2 x3 x4 x5 x6⟩]
/-- The output's pieces cover it. -/
theorem cover3_7 (p0 : Vec F S1x256x64 .f32) (y : S1x256x64.Idx) : ∃ pc ∈ ([⟨r3_0, p0⟩] : List (View.Piece (Elt F) S1x256x64 .f32)), y ∈ pc.1.set :=
  View.cover_of_tiled [⟨r3_0, p0⟩] S1x256x64.size (by rfl) y

set_option maxHeartbeats 1000000 in
/-- The body, run on whole buffers: the inputs stay, each output is left at its `out`. -/
theorem sound_kernel3 (c : Dev nD) (E : Set ℕ) (i : grid3.Coords) (arg1 : Memref sig .tc .vmem S1x256x64 .bf16) (harg1 : arg1.IsWhole) (arg2 : Memref sig .tc .vmem S1x512x64 .bf16) (harg2 : arg2.IsWhole) (arg3 : Memref sig .tc .vmem S1x512x64 .bf16) (harg3 : arg3.IsWhole) (arg4 : Memref sig .tc .vmem S1x256x64 .f32) (harg4 : arg4.IsWhole) (arg5 : Memref sig .tc .vmem S1x256x64 .f32) (harg5 : arg5.IsWhole) (arg6 : Memref sig .tc .vmem S3x1x256x1 .f32) (harg6 : arg6.IsWhole) (arg7 : Memref sig .tc .vmem S16x256 .bf16) (harg7 : arg7.IsWhole) (arg8 : Memref sig .tc .vmem S1x256x64 .f32) (harg8 : arg8.IsWhole)
    (x0 : Vec F S1x256x64 .bf16) (x1 : Vec F S1x512x64 .bf16) (x2 : Vec F S1x512x64 .bf16) (x3 : Vec F S1x256x64 .f32) (x4 : Vec F S1x256x64 .f32) (x5 : Vec F S3x1x256x1 .f32) (x6 : Vec F S16x256 .bf16) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare (out3_7 x0 x1 x2 x3 x4 x5 x6)) -∗ K ⟨⟩))
      ⊢ wp frame (wpE (defs₀ (F := F)) Variants.none c none) E (cc3__attn_kernel i arg1 harg1 arg2 harg2 arg3 harg3 arg4 harg4 arg5 harg5 arg6 harg6 arg7 harg7 arg8 harg8) K := by
  simp only [cc3__attn_kernel_eq_skeleton]; unfold cc3__attn_kernel_skel
  simp only [k3_part1_eq_skeleton, k3_part2_eq_skeleton, k3_part3_eq_skeleton, k3_part4_eq_skeleton, k3_part5_eq_skeleton, k3_part6_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf0 hf1 hf2 hf3 hf4 hf5 hf6
  sl_exec
  sl_step
  iapply Hk
  isplitl [H0]; · iexists f0; isplitr; (· ipureintro; rfl); iexact H0
  isplitl [H1]; · iexists f1; isplitr; (· ipureintro; rfl); iexact H1
  isplitl [H2]; · iexists f2; isplitr; (· ipureintro; rfl); iexact H2
  isplitl [H3]; · iexists f3; isplitr; (· ipureintro; rfl); iexact H3
  isplitl [H4]; · iexists f4; isplitr; (· ipureintro; rfl); iexact H4
  isplitl [H5]; · iexists f5; isplitr; (· ipureintro; rfl); iexact H5
  isplitl [H6]; · iexists f6; isplitr; (· ipureintro; rfl); iexact H6
  iexists _; isplitr
  swap; · iexact H7
  ipureintro
  refine (View.read_writes_eq_canon _ _ _ (cover3_7 _)).trans ?_
  rfl

/-- Window `w`'s block at point `t`. -/
abbrev in3 (c : Dev nD) (w : Fin cfg3.W) (t : Fin cfg3.N) := SparseAttn.blockAt (F := F) cfg3 c w (V c (Pipeline.arrRef spec3 w)) t

/-- The pipeline's proof data on core `c`. -/
def dat3 (c : Dev nD) : Dat τ (Elt F) Unit ℕ (UR sig nD τ) ℕ cfg3 c where
  A w := V c (Pipeline.arrRef spec3 w)
  after w t := match w with
    | ⟨0, _⟩ => in3 V c 0 t
    | ⟨1, _⟩ => in3 V c 1 t
    | ⟨2, _⟩ => in3 V c 2 t
    | ⟨3, _⟩ => in3 V c 3 t
    | ⟨4, _⟩ => in3 V c 4 t
    | ⟨5, _⟩ => in3 V c 5 t
    | ⟨6, _⟩ => in3 V c 6 t
    | ⟨7, _⟩ => out3_7 (in3 V c 0 t) (in3 V c 1 t) (in3 V c 2 t) (in3 V c 3 t) (in3 V c 4 t) (in3 V c 5 t) (in3 V c 6 t)
  Φ _ := Pipeline.ΦA spec3 c
  q _ := fullShare
  owed _ := 0

/-- The arrays are entered as the region finds them. -/
theorem A_eq3 (c : Dev nD) (w : Fin cfg3.W) : (dat3 V c).A w = V c (Pipeline.arrRef spec3 w) := by dsimp only [dat3]
/-- The body leaves the input windows' blocks in place. -/
theorem after3 (c : Dev nD) (t : Fin cfg3.N) (w : Fin cfg3.W) (hw : w ≠ 7) : (dat3 V c).after w t = in3 V c w t := by
  fin_cases w <;> first | rfl | exact absurd rfl hw
/-- It leaves its result in the output window. -/
theorem after3_7 (c : Dev nD) (t : Fin cfg3.N) : (dat3 V c).after 7 t = out3_7 (in3 V c 0 t) (in3 V c 1 t) (in3 V c 2 t) (in3 V c 3 t) (in3 V c 4 t) (in3 V c 5 t) (in3 V c 6 t) := by dsimp only [dat3]
/-- At every point the input windows' buffers hold their blocks. -/
theorem before3 (c : Dev nD) (t : Fin cfg3.N) (w : Fin cfg3.W) (hw : w ≠ 7) (d) : (dat3 V c).before w t d = in3 V c w t :=
  SparseAttn.before_uncut (dat3 V c) w (by clear d; revert w; decide) (fun _ => rfl) (by clear d; revert w; decide +kernel) (by clear d; revert w; decide +kernel) (fun t => after3 V c t w hw) t d

/-- The body obligation, at every point. -/
theorem body_obligation3 (c : Dev nD) : BodyObligation (dat3 (F := F) V c) (defs₀ (F := F)) Variants.none () Set.univ := fun t => by
  rw [bigSep_W3, bigSep_W3, show defs₀ (F := F) .tc cfg3.body (cfg3.bodyArgs t (cfg3.slots t)) = bodyAt3 t from by unfold defs₀; rw [Defs.onTc_tc]]
  unfold bodyAt3
  simp only [before3 V c t 0 (by decide), before3 V c t 1 (by decide), before3 V c t 2 (by decide), before3 V c t 3 (by decide), before3 V c t 4 (by decide), before3 V c t 5 (by decide), before3 V c t 6 (by decide)]
  rw [show (dat3 V c).Φ t.succ = (dat3 V c).Φ t.castSucc from rfl,
    show (dat3 V c).owesAt () t.succ = (dat3 V c).owesAt () t.castSucc from rfl,
    after3 V c t 0 (by decide), after3 V c t 1 (by decide), after3 V c t 2 (by decide), after3 V c t 3 (by decide), after3 V c t 4 (by decide), after3 V c t 5 (by decide), after3 V c t 6 (by decide), after3_7]
  exact SparseAttn.keep8 (Z := owns (c : Thread nD τ) (st3_7 t) fullShare) (g := (dat3 V c).before 7 t) fun _ => sound_kernel3 c Set.univ (grid3.coords t) _ _ _ _ _ _ _ _ _ _ _ _ _ _ _ _ (in3 V c 0 t) (in3 V c 1 t) (in3 V c 2 t) (in3 V c 3 t) (in3 V c 4 t) (in3 V c 5 t) (in3 V c 6 t) _

end Cert.KernelIdeal.Gen

end
-- ==== Proof.Frame.KernelIdeal.Region4.lean ====
/- KernelIdeal's region 4 (the attention over query tile 2): what the body leaves in its output buffers, as a function of its input blocks, and the
   pipeline's proof data at the buffer contents `V` the region is entered with. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Ring
public import Idealize.ShloMosaic.Lib.WordCmp
public import proofs.«01_k».proof.Proof.Frame.Region

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation)

variable {F : FTy → Type} [FloatOps F] [Named F]
local notation "𝕄" => MT nD τ sig Unit (Elt F) ℕ (UR sig nD τ) ℕ
variable (V : (c : Dev nD) → (b : Ref sig .tc) → Buf (Elt F) ((c : Thread nD τ).loc b))

/-- A block that the body reads or writes. -/
abbrev r4_0 : Rect S1x256x64 := Rect.unit (s := S1x256x64) ![0, 0, 0] S1x256x64.size inb_S1x256x64_S1x256x64_0_0_0
/-- A block that the body reads or writes. -/
abbrev r4_1 : Rect S1x768x64 := Rect.unit (s := S1x768x64) ![0, 0, 0] S1x768x64.size inb_S1x768x64_S1x768x64_0_0_0
/-- A block that the body reads or writes. -/
abbrev r4_2 : Rect S32x512 := Rect.unit (s := S32x512) ![0, 0] S32x512.size inb_S32x512_S32x512_0_0
/-- A block that the body reads or writes. -/
abbrev r4_3 : Rect S3x1x256x1 := Rect.unit (s := S3x1x256x1) ![0, 0, 0, 0] S1x1x256x1.size inb_S3x1x256x1_S1x1x256x1_0_0_0_0
/-- A block that the body reads or writes. -/
abbrev r4_4 : Rect S3x1x256x1 := Rect.unit (s := S3x1x256x1) ![1, 0, 0, 0] S1x1x256x1.size inb_S3x1x256x1_S1x1x256x1_1_0_0_0
/-- A block that the body reads or writes. -/
abbrev r4_5 : Rect S3x1x256x1 := Rect.unit (s := S3x1x256x1) ![2, 0, 0, 0] S1x1x256x1.size inb_S3x1x256x1_S1x1x256x1_2_0_0_0

/-- What the body stores in window 7. -/
def val4_7 (x0 : Vec F S1x256x64 .bf16) (x1 : Vec F S1x768x64 .bf16) (x2 : Vec F S1x768x64 .bf16) (x3 : Vec F S1x256x64 .f32) (x4 : Vec F S1x256x64 .f32) (x5 : Vec F S3x1x256x1 .f32) (x6 : Vec F S32x512 .bf16) : Vec F S1x256x64 .f32 :=
  let v32 : IVec S256x1 32 := k4_pay3
  let v33 : FVec F S256x256 .f32 := k4_pay4 (View.ld x0 r4_0) (View.ld x3 r4_0)
  let v34 : IVec S256x256 32 := iota .tc S256x256 32 [1] iota_S256x256_d1_w32
  let v35 : IVec S256x1 32 := k4_pay8 v33
  let v36 : FVec F S256x256 .f32 := k4_pay9 v33
  let v37 : IVec S256x1 32 := k4_pay11 v34 v36
  let v38 : IVec S256x1 32 := k4_pay14 v34 v36
  let v39 : IVec S256x1 32 := k4_pay15 v34 v36
  let v40 : FVec F S768x64 .bf16 := k4_pay20 (View.ld x2 r4_1)
  let v41 : FVec F S256x768 .f32 := k4_pay21 (k4_pay2 (View.ld x0 r4_0)) (View.ld x1 r4_1)
  k4_pay1 (k4_pay29 v40 (k4_pay25 v35 v37 v38 v39 (k4_pay19 v32 16#32 (k4_pay16 v32) (k4_pay17 v32) k4_pay18) v41 (iota .tc S256x256 32 [0] iota_S256x256_d0_w32) (iota .tc S256x256 32 [1] iota_S256x256_d1_w32) k4_pay22 16#32 k4_pay23 k4_pay24) (k4_pay26 v35 v37 v38 v39 (View.ld x6 r4_2)) (k4_pay27 v41) (k4_pay28 (F := F))) (k4_pay30 v32 v40 v41) (k4_pay31 (k4_pay5 (View.ld x0 r4_0) (View.ld x3 r4_0) (View.ld x4 r4_0)) (View.ld x5 r4_3)) (View.ld x5 r4_4) (View.ld x5 r4_5)
/-- Window 7's buffer after the body. -/
def out4_7 (x0 : Vec F S1x256x64 .bf16) (x1 : Vec F S1x768x64 .bf16) (x2 : Vec F S1x768x64 .bf16) (x3 : Vec F S1x256x64 .f32) (x4 : Vec F S1x256x64 .f32) (x5 : Vec F S3x1x256x1 .f32) (x6 : Vec F S32x512 .bf16) : Vec F S1x256x64 .f32 := View.canon [⟨r4_0, val4_7 x0 x1 x2 x3 x4 x5 x6⟩]
/-- The output's pieces cover it. -/
theorem cover4_7 (p0 : Vec F S1x256x64 .f32) (y : S1x256x64.Idx) : ∃ pc ∈ ([⟨r4_0, p0⟩] : List (View.Piece (Elt F) S1x256x64 .f32)), y ∈ pc.1.set :=
  View.cover_of_tiled [⟨r4_0, p0⟩] S1x256x64.size (by rfl) y

set_option maxHeartbeats 1000000 in
/-- The body, run on whole buffers: the inputs stay, each output is left at its `out`. -/
theorem sound_kernel4 (c : Dev nD) (E : Set ℕ) (i : grid4.Coords) (arg1 : Memref sig .tc .vmem S1x256x64 .bf16) (harg1 : arg1.IsWhole) (arg2 : Memref sig .tc .vmem S1x768x64 .bf16) (harg2 : arg2.IsWhole) (arg3 : Memref sig .tc .vmem S1x768x64 .bf16) (harg3 : arg3.IsWhole) (arg4 : Memref sig .tc .vmem S1x256x64 .f32) (harg4 : arg4.IsWhole) (arg5 : Memref sig .tc .vmem S1x256x64 .f32) (harg5 : arg5.IsWhole) (arg6 : Memref sig .tc .vmem S3x1x256x1 .f32) (harg6 : arg6.IsWhole) (arg7 : Memref sig .tc .vmem S32x512 .bf16) (harg7 : arg7.IsWhole) (arg8 : Memref sig .tc .vmem S1x256x64 .f32) (harg8 : arg8.IsWhole)
    (x0 : Vec F S1x256x64 .bf16) (x1 : Vec F S1x768x64 .bf16) (x2 : Vec F S1x768x64 .bf16) (x3 : Vec F S1x256x64 .f32) (x4 : Vec F S1x256x64 .f32) (x5 : Vec F S3x1x256x1 .f32) (x6 : Vec F S32x512 .bf16) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare (out4_7 x0 x1 x2 x3 x4 x5 x6)) -∗ K ⟨⟩))
      ⊢ wp frame (wpE (defs₀ (F := F)) Variants.none c none) E (cc4__attn_kernel i arg1 harg1 arg2 harg2 arg3 harg3 arg4 harg4 arg5 harg5 arg6 harg6 arg7 harg7 arg8 harg8) K := by
  simp only [cc4__attn_kernel_eq_skeleton]; unfold cc4__attn_kernel_skel
  simp only [k4_part1_eq_skeleton, k4_part2_eq_skeleton, k4_part3_eq_skeleton, k4_part4_eq_skeleton, k4_part5_eq_skeleton, k4_part6_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf0 hf1 hf2 hf3 hf4 hf5 hf6
  sl_exec
  sl_step
  iapply Hk
  isplitl [H0]; · iexists f0; isplitr; (· ipureintro; rfl); iexact H0
  isplitl [H1]; · iexists f1; isplitr; (· ipureintro; rfl); iexact H1
  isplitl [H2]; · iexists f2; isplitr; (· ipureintro; rfl); iexact H2
  isplitl [H3]; · iexists f3; isplitr; (· ipureintro; rfl); iexact H3
  isplitl [H4]; · iexists f4; isplitr; (· ipureintro; rfl); iexact H4
  isplitl [H5]; · iexists f5; isplitr; (· ipureintro; rfl); iexact H5
  isplitl [H6]; · iexists f6; isplitr; (· ipureintro; rfl); iexact H6
  iexists _; isplitr
  swap; · iexact H7
  ipureintro
  refine (View.read_writes_eq_canon _ _ _ (cover4_7 _)).trans ?_
  rfl

/-- Window `w`'s block at point `t`. -/
abbrev in4 (c : Dev nD) (w : Fin cfg4.W) (t : Fin cfg4.N) := SparseAttn.blockAt (F := F) cfg4 c w (V c (Pipeline.arrRef spec4 w)) t

/-- The pipeline's proof data on core `c`. -/
def dat4 (c : Dev nD) : Dat τ (Elt F) Unit ℕ (UR sig nD τ) ℕ cfg4 c where
  A w := V c (Pipeline.arrRef spec4 w)
  after w t := match w with
    | ⟨0, _⟩ => in4 V c 0 t
    | ⟨1, _⟩ => in4 V c 1 t
    | ⟨2, _⟩ => in4 V c 2 t
    | ⟨3, _⟩ => in4 V c 3 t
    | ⟨4, _⟩ => in4 V c 4 t
    | ⟨5, _⟩ => in4 V c 5 t
    | ⟨6, _⟩ => in4 V c 6 t
    | ⟨7, _⟩ => out4_7 (in4 V c 0 t) (in4 V c 1 t) (in4 V c 2 t) (in4 V c 3 t) (in4 V c 4 t) (in4 V c 5 t) (in4 V c 6 t)
  Φ _ := Pipeline.ΦA spec4 c
  q _ := fullShare
  owed _ := 0

/-- The arrays are entered as the region finds them. -/
theorem A_eq4 (c : Dev nD) (w : Fin cfg4.W) : (dat4 V c).A w = V c (Pipeline.arrRef spec4 w) := by dsimp only [dat4]
/-- The body leaves the input windows' blocks in place. -/
theorem after4 (c : Dev nD) (t : Fin cfg4.N) (w : Fin cfg4.W) (hw : w ≠ 7) : (dat4 V c).after w t = in4 V c w t := by
  fin_cases w <;> first | rfl | exact absurd rfl hw
/-- It leaves its result in the output window. -/
theorem after4_7 (c : Dev nD) (t : Fin cfg4.N) : (dat4 V c).after 7 t = out4_7 (in4 V c 0 t) (in4 V c 1 t) (in4 V c 2 t) (in4 V c 3 t) (in4 V c 4 t) (in4 V c 5 t) (in4 V c 6 t) := by dsimp only [dat4]
/-- At every point the input windows' buffers hold their blocks. -/
theorem before4 (c : Dev nD) (t : Fin cfg4.N) (w : Fin cfg4.W) (hw : w ≠ 7) (d) : (dat4 V c).before w t d = in4 V c w t :=
  SparseAttn.before_uncut (dat4 V c) w (by clear d; revert w; decide) (fun _ => rfl) (by clear d; revert w; decide +kernel) (by clear d; revert w; decide +kernel) (fun t => after4 V c t w hw) t d

/-- The body obligation, at every point. -/
theorem body_obligation4 (c : Dev nD) : BodyObligation (dat4 (F := F) V c) (defs₀ (F := F)) Variants.none () Set.univ := fun t => by
  rw [bigSep_W4, bigSep_W4, show defs₀ (F := F) .tc cfg4.body (cfg4.bodyArgs t (cfg4.slots t)) = bodyAt4 t from by unfold defs₀; rw [Defs.onTc_tc]]
  unfold bodyAt4
  simp only [before4 V c t 0 (by decide), before4 V c t 1 (by decide), before4 V c t 2 (by decide), before4 V c t 3 (by decide), before4 V c t 4 (by decide), before4 V c t 5 (by decide), before4 V c t 6 (by decide)]
  rw [show (dat4 V c).Φ t.succ = (dat4 V c).Φ t.castSucc from rfl,
    show (dat4 V c).owesAt () t.succ = (dat4 V c).owesAt () t.castSucc from rfl,
    after4 V c t 0 (by decide), after4 V c t 1 (by decide), after4 V c t 2 (by decide), after4 V c t 3 (by decide), after4 V c t 4 (by decide), after4 V c t 5 (by decide), after4 V c t 6 (by decide), after4_7]
  exact SparseAttn.keep8 (Z := owns (c : Thread nD τ) (st4_7 t) fullShare) (g := (dat4 V c).before 7 t) fun _ => sound_kernel4 c Set.univ (grid4.coords t) _ _ _ _ _ _ _ _ _ _ _ _ _ _ _ _ (in4 V c 0 t) (in4 V c 1 t) (in4 V c 2 t) (in4 V c 3 t) (in4 V c 4 t) (in4 V c 5 t) (in4 V c 6 t) _

end Cert.KernelIdeal.Gen

end
-- ==== Proof.Frame.KernelIdeal.Region5.lean ====
/- KernelIdeal's region 5 (the attention over query tile 3): what the body leaves in its output buffers, as a function of its input blocks, and the
   pipeline's proof data at the buffer contents `V` the region is entered with. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Ring
public import Idealize.ShloMosaic.Lib.WordCmp
public import proofs.«01_k».proof.Proof.Frame.Region

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation)

variable {F : FTy → Type} [FloatOps F] [Named F]
local notation "𝕄" => MT nD τ sig Unit (Elt F) ℕ (UR sig nD τ) ℕ
variable (V : (c : Dev nD) → (b : Ref sig .tc) → Buf (Elt F) ((c : Thread nD τ).loc b))

/-- A block that the body reads or writes. -/
abbrev r5_0 : Rect S1x256x64 := Rect.unit (s := S1x256x64) ![0, 0, 0] S1x256x64.size inb_S1x256x64_S1x256x64_0_0_0
/-- A block that the body reads or writes. -/
abbrev r5_1 : Rect S1x1024x64 := Rect.unit (s := S1x1024x64) ![0, 0, 0] S1x1024x64.size inb_S1x1024x64_S1x1024x64_0_0_0
/-- A block that the body reads or writes. -/
abbrev r5_2 : Rect S48x768 := Rect.unit (s := S48x768) ![0, 0] S48x768.size inb_S48x768_S48x768_0_0
/-- A block that the body reads or writes. -/
abbrev r5_3 : Rect S3x1x256x1 := Rect.unit (s := S3x1x256x1) ![0, 0, 0, 0] S1x1x256x1.size inb_S3x1x256x1_S1x1x256x1_0_0_0_0
/-- A block that the body reads or writes. -/
abbrev r5_4 : Rect S3x1x256x1 := Rect.unit (s := S3x1x256x1) ![1, 0, 0, 0] S1x1x256x1.size inb_S3x1x256x1_S1x1x256x1_1_0_0_0
/-- A block that the body reads or writes. -/
abbrev r5_5 : Rect S3x1x256x1 := Rect.unit (s := S3x1x256x1) ![2, 0, 0, 0] S1x1x256x1.size inb_S3x1x256x1_S1x1x256x1_2_0_0_0

/-- What the body stores in window 7. -/
def val5_7 (x0 : Vec F S1x256x64 .bf16) (x1 : Vec F S1x1024x64 .bf16) (x2 : Vec F S1x1024x64 .bf16) (x3 : Vec F S1x256x64 .f32) (x4 : Vec F S1x256x64 .f32) (x5 : Vec F S3x1x256x1 .f32) (x6 : Vec F S48x768 .bf16) : Vec F S1x256x64 .f32 :=
  let v32 : IVec S256x1 32 := k5_pay3
  let v33 : FVec F S256x256 .f32 := k5_pay4 (View.ld x0 r5_0) (View.ld x3 r5_0)
  let v34 : IVec S256x256 32 := iota .tc S256x256 32 [1] iota_S256x256_d1_w32
  let v35 : IVec S256x1 32 := k5_pay8 v33
  let v36 : FVec F S256x256 .f32 := k5_pay9 v33
  let v37 : IVec S256x1 32 := k5_pay11 v34 v36
  let v38 : IVec S256x1 32 := k5_pay14 v34 v36
  let v39 : IVec S256x1 32 := k5_pay15 v34 v36
  let v40 : FVec F S1024x64 .bf16 := k5_pay20 (View.ld x2 r5_1)
  let v41 : FVec F S256x1024 .f32 := k5_pay21 (k5_pay2 (View.ld x0 r5_0)) (View.ld x1 r5_1)
  k5_pay1 (k5_pay29 v40 (k5_pay25 v35 v37 v38 v39 (k5_pay19 v32 16#32 (k5_pay16 v32) (k5_pay17 v32) k5_pay18) v41 (iota .tc S256x256 32 [0] iota_S256x256_d0_w32) (iota .tc S256x256 32 [1] iota_S256x256_d1_w32) k5_pay22 16#32 k5_pay23 k5_pay24) (k5_pay26 v35 v37 v38 v39 (View.ld x6 r5_2)) (k5_pay27 v41) (k5_pay28 (F := F))) (k5_pay30 v32 v40 v41) (k5_pay31 (k5_pay5 (View.ld x0 r5_0) (View.ld x3 r5_0) (View.ld x4 r5_0)) (View.ld x5 r5_3)) (View.ld x5 r5_4) (View.ld x5 r5_5)
/-- Window 7's buffer after the body. -/
def out5_7 (x0 : Vec F S1x256x64 .bf16) (x1 : Vec F S1x1024x64 .bf16) (x2 : Vec F S1x1024x64 .bf16) (x3 : Vec F S1x256x64 .f32) (x4 : Vec F S1x256x64 .f32) (x5 : Vec F S3x1x256x1 .f32) (x6 : Vec F S48x768 .bf16) : Vec F S1x256x64 .f32 := View.canon [⟨r5_0, val5_7 x0 x1 x2 x3 x4 x5 x6⟩]
/-- The output's pieces cover it. -/
theorem cover5_7 (p0 : Vec F S1x256x64 .f32) (y : S1x256x64.Idx) : ∃ pc ∈ ([⟨r5_0, p0⟩] : List (View.Piece (Elt F) S1x256x64 .f32)), y ∈ pc.1.set :=
  View.cover_of_tiled [⟨r5_0, p0⟩] S1x256x64.size (by rfl) y

set_option maxHeartbeats 1000000 in
/-- The body, run on whole buffers: the inputs stay, each output is left at its `out`. -/
theorem sound_kernel5 (c : Dev nD) (E : Set ℕ) (i : grid5.Coords) (arg1 : Memref sig .tc .vmem S1x256x64 .bf16) (harg1 : arg1.IsWhole) (arg2 : Memref sig .tc .vmem S1x1024x64 .bf16) (harg2 : arg2.IsWhole) (arg3 : Memref sig .tc .vmem S1x1024x64 .bf16) (harg3 : arg3.IsWhole) (arg4 : Memref sig .tc .vmem S1x256x64 .f32) (harg4 : arg4.IsWhole) (arg5 : Memref sig .tc .vmem S1x256x64 .f32) (harg5 : arg5.IsWhole) (arg6 : Memref sig .tc .vmem S3x1x256x1 .f32) (harg6 : arg6.IsWhole) (arg7 : Memref sig .tc .vmem S48x768 .bf16) (harg7 : arg7.IsWhole) (arg8 : Memref sig .tc .vmem S1x256x64 .f32) (harg8 : arg8.IsWhole)
    (x0 : Vec F S1x256x64 .bf16) (x1 : Vec F S1x1024x64 .bf16) (x2 : Vec F S1x1024x64 .bf16) (x3 : Vec F S1x256x64 .f32) (x4 : Vec F S1x256x64 .f32) (x5 : Vec F S3x1x256x1 .f32) (x6 : Vec F S48x768 .bf16) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare (out5_7 x0 x1 x2 x3 x4 x5 x6)) -∗ K ⟨⟩))
      ⊢ wp frame (wpE (defs₀ (F := F)) Variants.none c none) E (cc5__attn_kernel i arg1 harg1 arg2 harg2 arg3 harg3 arg4 harg4 arg5 harg5 arg6 harg6 arg7 harg7 arg8 harg8) K := by
  simp only [cc5__attn_kernel_eq_skeleton]; unfold cc5__attn_kernel_skel
  simp only [k5_part1_eq_skeleton, k5_part2_eq_skeleton, k5_part3_eq_skeleton, k5_part4_eq_skeleton, k5_part5_eq_skeleton, k5_part6_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf0 hf1 hf2 hf3 hf4 hf5 hf6
  sl_exec
  sl_step
  iapply Hk
  isplitl [H0]; · iexists f0; isplitr; (· ipureintro; rfl); iexact H0
  isplitl [H1]; · iexists f1; isplitr; (· ipureintro; rfl); iexact H1
  isplitl [H2]; · iexists f2; isplitr; (· ipureintro; rfl); iexact H2
  isplitl [H3]; · iexists f3; isplitr; (· ipureintro; rfl); iexact H3
  isplitl [H4]; · iexists f4; isplitr; (· ipureintro; rfl); iexact H4
  isplitl [H5]; · iexists f5; isplitr; (· ipureintro; rfl); iexact H5
  isplitl [H6]; · iexists f6; isplitr; (· ipureintro; rfl); iexact H6
  iexists _; isplitr
  swap; · iexact H7
  ipureintro
  refine (View.read_writes_eq_canon _ _ _ (cover5_7 _)).trans ?_
  rfl

/-- Window `w`'s block at point `t`. -/
abbrev in5 (c : Dev nD) (w : Fin cfg5.W) (t : Fin cfg5.N) := SparseAttn.blockAt (F := F) cfg5 c w (V c (Pipeline.arrRef spec5 w)) t

/-- The pipeline's proof data on core `c`. -/
def dat5 (c : Dev nD) : Dat τ (Elt F) Unit ℕ (UR sig nD τ) ℕ cfg5 c where
  A w := V c (Pipeline.arrRef spec5 w)
  after w t := match w with
    | ⟨0, _⟩ => in5 V c 0 t
    | ⟨1, _⟩ => in5 V c 1 t
    | ⟨2, _⟩ => in5 V c 2 t
    | ⟨3, _⟩ => in5 V c 3 t
    | ⟨4, _⟩ => in5 V c 4 t
    | ⟨5, _⟩ => in5 V c 5 t
    | ⟨6, _⟩ => in5 V c 6 t
    | ⟨7, _⟩ => out5_7 (in5 V c 0 t) (in5 V c 1 t) (in5 V c 2 t) (in5 V c 3 t) (in5 V c 4 t) (in5 V c 5 t) (in5 V c 6 t)
  Φ _ := Pipeline.ΦA spec5 c
  q _ := fullShare
  owed _ := 0

/-- The arrays are entered as the region finds them. -/
theorem A_eq5 (c : Dev nD) (w : Fin cfg5.W) : (dat5 V c).A w = V c (Pipeline.arrRef spec5 w) := by dsimp only [dat5]
/-- The body leaves the input windows' blocks in place. -/
theorem after5 (c : Dev nD) (t : Fin cfg5.N) (w : Fin cfg5.W) (hw : w ≠ 7) : (dat5 V c).after w t = in5 V c w t := by
  fin_cases w <;> first | rfl | exact absurd rfl hw
/-- It leaves its result in the output window. -/
theorem after5_7 (c : Dev nD) (t : Fin cfg5.N) : (dat5 V c).after 7 t = out5_7 (in5 V c 0 t) (in5 V c 1 t) (in5 V c 2 t) (in5 V c 3 t) (in5 V c 4 t) (in5 V c 5 t) (in5 V c 6 t) := by dsimp only [dat5]
/-- At every point the input windows' buffers hold their blocks. -/
theorem before5 (c : Dev nD) (t : Fin cfg5.N) (w : Fin cfg5.W) (hw : w ≠ 7) (d) : (dat5 V c).before w t d = in5 V c w t :=
  SparseAttn.before_uncut (dat5 V c) w (by clear d; revert w; decide) (fun _ => rfl) (by clear d; revert w; decide +kernel) (by clear d; revert w; decide +kernel) (fun t => after5 V c t w hw) t d

/-- The body obligation, at every point. -/
theorem body_obligation5 (c : Dev nD) : BodyObligation (dat5 (F := F) V c) (defs₀ (F := F)) Variants.none () Set.univ := fun t => by
  rw [bigSep_W5, bigSep_W5, show defs₀ (F := F) .tc cfg5.body (cfg5.bodyArgs t (cfg5.slots t)) = bodyAt5 t from by unfold defs₀; rw [Defs.onTc_tc]]
  unfold bodyAt5
  simp only [before5 V c t 0 (by decide), before5 V c t 1 (by decide), before5 V c t 2 (by decide), before5 V c t 3 (by decide), before5 V c t 4 (by decide), before5 V c t 5 (by decide), before5 V c t 6 (by decide)]
  rw [show (dat5 V c).Φ t.succ = (dat5 V c).Φ t.castSucc from rfl,
    show (dat5 V c).owesAt () t.succ = (dat5 V c).owesAt () t.castSucc from rfl,
    after5 V c t 0 (by decide), after5 V c t 1 (by decide), after5 V c t 2 (by decide), after5 V c t 3 (by decide), after5 V c t 4 (by decide), after5 V c t 5 (by decide), after5 V c t 6 (by decide), after5_7]
  exact SparseAttn.keep8 (Z := owns (c : Thread nD τ) (st5_7 t) fullShare) (g := (dat5 V c).before 7 t) fun _ => sound_kernel5 c Set.univ (grid5.coords t) _ _ _ _ _ _ _ _ _ _ _ _ _ _ _ _ (in5 V c 0 t) (in5 V c 1 t) (in5 V c 2 t) (in5 V c 3 t) (in5 V c 4 t) (in5 V c 5 t) (in5 V c 6 t) _

end Cert.KernelIdeal.Gen

end
-- ==== Proof.Frame.KernelIdeal.Region6.lean ====
/- KernelIdeal's region 6 (the attention over query tile 4): what the body leaves in its output buffers, as a function of its input blocks, and the
   pipeline's proof data at the buffer contents `V` the region is entered with. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Ring
public import Idealize.ShloMosaic.Lib.WordCmp
public import proofs.«01_k».proof.Proof.Frame.Region

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation)

variable {F : FTy → Type} [FloatOps F] [Named F]
local notation "𝕄" => MT nD τ sig Unit (Elt F) ℕ (UR sig nD τ) ℕ
variable (V : (c : Dev nD) → (b : Ref sig .tc) → Buf (Elt F) ((c : Thread nD τ).loc b))

/-- A block that the body reads or writes. -/
abbrev r6_0 : Rect S1x256x64 := Rect.unit (s := S1x256x64) ![0, 0, 0] S1x256x64.size inb_S1x256x64_S1x256x64_0_0_0
/-- A block that the body reads or writes. -/
abbrev r6_1 : Rect S1x1280x64 := Rect.unit (s := S1x1280x64) ![0, 0, 0] S1x1280x64.size inb_S1x1280x64_S1x1280x64_0_0_0
/-- A block that the body reads or writes. -/
abbrev r6_2 : Rect S64x1024 := Rect.unit (s := S64x1024) ![0, 0] S64x1024.size inb_S64x1024_S64x1024_0_0
/-- A block that the body reads or writes. -/
abbrev r6_3 : Rect S3x1x256x1 := Rect.unit (s := S3x1x256x1) ![0, 0, 0, 0] S1x1x256x1.size inb_S3x1x256x1_S1x1x256x1_0_0_0_0
/-- A block that the body reads or writes. -/
abbrev r6_4 : Rect S3x1x256x1 := Rect.unit (s := S3x1x256x1) ![1, 0, 0, 0] S1x1x256x1.size inb_S3x1x256x1_S1x1x256x1_1_0_0_0
/-- A block that the body reads or writes. -/
abbrev r6_5 : Rect S3x1x256x1 := Rect.unit (s := S3x1x256x1) ![2, 0, 0, 0] S1x1x256x1.size inb_S3x1x256x1_S1x1x256x1_2_0_0_0

/-- What the body stores in window 7. -/
def val6_7 (x0 : Vec F S1x256x64 .bf16) (x1 : Vec F S1x1280x64 .bf16) (x2 : Vec F S1x1280x64 .bf16) (x3 : Vec F S1x256x64 .f32) (x4 : Vec F S1x256x64 .f32) (x5 : Vec F S3x1x256x1 .f32) (x6 : Vec F S64x1024 .bf16) : Vec F S1x256x64 .f32 :=
  let v32 : IVec S256x1 32 := k6_pay3
  let v33 : FVec F S256x256 .f32 := k6_pay4 (View.ld x0 r6_0) (View.ld x3 r6_0)
  let v34 : IVec S256x256 32 := iota .tc S256x256 32 [1] iota_S256x256_d1_w32
  let v35 : IVec S256x1 32 := k6_pay8 v33
  let v36 : FVec F S256x256 .f32 := k6_pay9 v33
  let v37 : IVec S256x1 32 := k6_pay11 v34 v36
  let v38 : IVec S256x1 32 := k6_pay14 v34 v36
  let v39 : IVec S256x1 32 := k6_pay15 v34 v36
  let v40 : FVec F S1280x64 .bf16 := k6_pay20 (View.ld x2 r6_1)
  let v41 : FVec F S256x1280 .f32 := k6_pay21 (k6_pay2 (View.ld x0 r6_0)) (View.ld x1 r6_1)
  k6_pay1 (k6_pay29 v40 (k6_pay25 v35 v37 v38 v39 (k6_pay19 v32 16#32 (k6_pay16 v32) (k6_pay17 v32) k6_pay18) v41 (iota .tc S256x256 32 [0] iota_S256x256_d0_w32) (iota .tc S256x256 32 [1] iota_S256x256_d1_w32) k6_pay22 16#32 k6_pay23 k6_pay24) (k6_pay26 v35 v37 v38 v39 (View.ld x6 r6_2)) (k6_pay27 v41) (k6_pay28 (F := F))) (k6_pay30 v32 v40 v41) (k6_pay31 (k6_pay5 (View.ld x0 r6_0) (View.ld x3 r6_0) (View.ld x4 r6_0)) (View.ld x5 r6_3)) (View.ld x5 r6_4) (View.ld x5 r6_5)
/-- Window 7's buffer after the body. -/
def out6_7 (x0 : Vec F S1x256x64 .bf16) (x1 : Vec F S1x1280x64 .bf16) (x2 : Vec F S1x1280x64 .bf16) (x3 : Vec F S1x256x64 .f32) (x4 : Vec F S1x256x64 .f32) (x5 : Vec F S3x1x256x1 .f32) (x6 : Vec F S64x1024 .bf16) : Vec F S1x256x64 .f32 := View.canon [⟨r6_0, val6_7 x0 x1 x2 x3 x4 x5 x6⟩]
/-- The output's pieces cover it. -/
theorem cover6_7 (p0 : Vec F S1x256x64 .f32) (y : S1x256x64.Idx) : ∃ pc ∈ ([⟨r6_0, p0⟩] : List (View.Piece (Elt F) S1x256x64 .f32)), y ∈ pc.1.set :=
  View.cover_of_tiled [⟨r6_0, p0⟩] S1x256x64.size (by rfl) y

set_option maxHeartbeats 1000000 in
/-- The body, run on whole buffers: the inputs stay, each output is left at its `out`. -/
theorem sound_kernel6 (c : Dev nD) (E : Set ℕ) (i : grid6.Coords) (arg1 : Memref sig .tc .vmem S1x256x64 .bf16) (harg1 : arg1.IsWhole) (arg2 : Memref sig .tc .vmem S1x1280x64 .bf16) (harg2 : arg2.IsWhole) (arg3 : Memref sig .tc .vmem S1x1280x64 .bf16) (harg3 : arg3.IsWhole) (arg4 : Memref sig .tc .vmem S1x256x64 .f32) (harg4 : arg4.IsWhole) (arg5 : Memref sig .tc .vmem S1x256x64 .f32) (harg5 : arg5.IsWhole) (arg6 : Memref sig .tc .vmem S3x1x256x1 .f32) (harg6 : arg6.IsWhole) (arg7 : Memref sig .tc .vmem S64x1024 .bf16) (harg7 : arg7.IsWhole) (arg8 : Memref sig .tc .vmem S1x256x64 .f32) (harg8 : arg8.IsWhole)
    (x0 : Vec F S1x256x64 .bf16) (x1 : Vec F S1x1280x64 .bf16) (x2 : Vec F S1x1280x64 .bf16) (x3 : Vec F S1x256x64 .f32) (x4 : Vec F S1x256x64 .f32) (x5 : Vec F S3x1x256x1 .f32) (x6 : Vec F S64x1024 .bf16) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare (out6_7 x0 x1 x2 x3 x4 x5 x6)) -∗ K ⟨⟩))
      ⊢ wp frame (wpE (defs₀ (F := F)) Variants.none c none) E (cc6__attn_kernel i arg1 harg1 arg2 harg2 arg3 harg3 arg4 harg4 arg5 harg5 arg6 harg6 arg7 harg7 arg8 harg8) K := by
  simp only [cc6__attn_kernel_eq_skeleton]; unfold cc6__attn_kernel_skel
  simp only [k6_part1_eq_skeleton, k6_part2_eq_skeleton, k6_part3_eq_skeleton, k6_part4_eq_skeleton, k6_part5_eq_skeleton, k6_part6_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf0 hf1 hf2 hf3 hf4 hf5 hf6
  sl_exec
  sl_step
  iapply Hk
  isplitl [H0]; · iexists f0; isplitr; (· ipureintro; rfl); iexact H0
  isplitl [H1]; · iexists f1; isplitr; (· ipureintro; rfl); iexact H1
  isplitl [H2]; · iexists f2; isplitr; (· ipureintro; rfl); iexact H2
  isplitl [H3]; · iexists f3; isplitr; (· ipureintro; rfl); iexact H3
  isplitl [H4]; · iexists f4; isplitr; (· ipureintro; rfl); iexact H4
  isplitl [H5]; · iexists f5; isplitr; (· ipureintro; rfl); iexact H5
  isplitl [H6]; · iexists f6; isplitr; (· ipureintro; rfl); iexact H6
  iexists _; isplitr
  swap; · iexact H7
  ipureintro
  refine (View.read_writes_eq_canon _ _ _ (cover6_7 _)).trans ?_
  rfl

/-- Window `w`'s block at point `t`. -/
abbrev in6 (c : Dev nD) (w : Fin cfg6.W) (t : Fin cfg6.N) := SparseAttn.blockAt (F := F) cfg6 c w (V c (Pipeline.arrRef spec6 w)) t

/-- The pipeline's proof data on core `c`. -/
def dat6 (c : Dev nD) : Dat τ (Elt F) Unit ℕ (UR sig nD τ) ℕ cfg6 c where
  A w := V c (Pipeline.arrRef spec6 w)
  after w t := match w with
    | ⟨0, _⟩ => in6 V c 0 t
    | ⟨1, _⟩ => in6 V c 1 t
    | ⟨2, _⟩ => in6 V c 2 t
    | ⟨3, _⟩ => in6 V c 3 t
    | ⟨4, _⟩ => in6 V c 4 t
    | ⟨5, _⟩ => in6 V c 5 t
    | ⟨6, _⟩ => in6 V c 6 t
    | ⟨7, _⟩ => out6_7 (in6 V c 0 t) (in6 V c 1 t) (in6 V c 2 t) (in6 V c 3 t) (in6 V c 4 t) (in6 V c 5 t) (in6 V c 6 t)
  Φ _ := Pipeline.ΦA spec6 c
  q _ := fullShare
  owed _ := 0

/-- The arrays are entered as the region finds them. -/
theorem A_eq6 (c : Dev nD) (w : Fin cfg6.W) : (dat6 V c).A w = V c (Pipeline.arrRef spec6 w) := by dsimp only [dat6]
/-- The body leaves the input windows' blocks in place. -/
theorem after6 (c : Dev nD) (t : Fin cfg6.N) (w : Fin cfg6.W) (hw : w ≠ 7) : (dat6 V c).after w t = in6 V c w t := by
  fin_cases w <;> first | rfl | exact absurd rfl hw
/-- It leaves its result in the output window. -/
theorem after6_7 (c : Dev nD) (t : Fin cfg6.N) : (dat6 V c).after 7 t = out6_7 (in6 V c 0 t) (in6 V c 1 t) (in6 V c 2 t) (in6 V c 3 t) (in6 V c 4 t) (in6 V c 5 t) (in6 V c 6 t) := by dsimp only [dat6]
/-- At every point the input windows' buffers hold their blocks. -/
theorem before6 (c : Dev nD) (t : Fin cfg6.N) (w : Fin cfg6.W) (hw : w ≠ 7) (d) : (dat6 V c).before w t d = in6 V c w t :=
  SparseAttn.before_uncut (dat6 V c) w (by clear d; revert w; decide) (fun _ => rfl) (by clear d; revert w; decide +kernel) (by clear d; revert w; decide +kernel) (fun t => after6 V c t w hw) t d

/-- The body obligation, at every point. -/
theorem body_obligation6 (c : Dev nD) : BodyObligation (dat6 (F := F) V c) (defs₀ (F := F)) Variants.none () Set.univ := fun t => by
  rw [bigSep_W6, bigSep_W6, show defs₀ (F := F) .tc cfg6.body (cfg6.bodyArgs t (cfg6.slots t)) = bodyAt6 t from by unfold defs₀; rw [Defs.onTc_tc]]
  unfold bodyAt6
  simp only [before6 V c t 0 (by decide), before6 V c t 1 (by decide), before6 V c t 2 (by decide), before6 V c t 3 (by decide), before6 V c t 4 (by decide), before6 V c t 5 (by decide), before6 V c t 6 (by decide)]
  rw [show (dat6 V c).Φ t.succ = (dat6 V c).Φ t.castSucc from rfl,
    show (dat6 V c).owesAt () t.succ = (dat6 V c).owesAt () t.castSucc from rfl,
    after6 V c t 0 (by decide), after6 V c t 1 (by decide), after6 V c t 2 (by decide), after6 V c t 3 (by decide), after6 V c t 4 (by decide), after6 V c t 5 (by decide), after6 V c t 6 (by decide), after6_7]
  exact SparseAttn.keep8 (Z := owns (c : Thread nD τ) (st6_7 t) fullShare) (g := (dat6 V c).before 7 t) fun _ => sound_kernel6 c Set.univ (grid6.coords t) _ _ _ _ _ _ _ _ _ _ _ _ _ _ _ _ (in6 V c 0 t) (in6 V c 1 t) (in6 V c 2 t) (in6 V c 3 t) (in6 V c 4 t) (in6 V c 5 t) (in6 V c 6 t) _

end Cert.KernelIdeal.Gen

end
-- ==== Proof.Frame.KernelIdeal.Region7.lean ====
/- KernelIdeal's region 7 (the attention over query tile 5): what the body leaves in its output buffers, as a function of its input blocks, and the
   pipeline's proof data at the buffer contents `V` the region is entered with. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Ring
public import Idealize.ShloMosaic.Lib.WordCmp
public import proofs.«01_k».proof.Proof.Frame.Region

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation)

variable {F : FTy → Type} [FloatOps F] [Named F]
local notation "𝕄" => MT nD τ sig Unit (Elt F) ℕ (UR sig nD τ) ℕ
variable (V : (c : Dev nD) → (b : Ref sig .tc) → Buf (Elt F) ((c : Thread nD τ).loc b))

/-- A block that the body reads or writes. -/
abbrev r7_0 : Rect S1x256x64 := Rect.unit (s := S1x256x64) ![0, 0, 0] S1x256x64.size inb_S1x256x64_S1x256x64_0_0_0
/-- A block that the body reads or writes. -/
abbrev r7_1 : Rect S1x1536x64 := Rect.unit (s := S1x1536x64) ![0, 0, 0] S1x1536x64.size inb_S1x1536x64_S1x1536x64_0_0_0
/-- A block that the body reads or writes. -/
abbrev r7_2 : Rect S80x1280 := Rect.unit (s := S80x1280) ![0, 0] S80x1280.size inb_S80x1280_S80x1280_0_0
/-- A block that the body reads or writes. -/
abbrev r7_3 : Rect S3x1x256x1 := Rect.unit (s := S3x1x256x1) ![0, 0, 0, 0] S1x1x256x1.size inb_S3x1x256x1_S1x1x256x1_0_0_0_0
/-- A block that the body reads or writes. -/
abbrev r7_4 : Rect S3x1x256x1 := Rect.unit (s := S3x1x256x1) ![1, 0, 0, 0] S1x1x256x1.size inb_S3x1x256x1_S1x1x256x1_1_0_0_0
/-- A block that the body reads or writes. -/
abbrev r7_5 : Rect S3x1x256x1 := Rect.unit (s := S3x1x256x1) ![2, 0, 0, 0] S1x1x256x1.size inb_S3x1x256x1_S1x1x256x1_2_0_0_0

/-- What the body stores in window 7. -/
def val7_7 (x0 : Vec F S1x256x64 .bf16) (x1 : Vec F S1x1536x64 .bf16) (x2 : Vec F S1x1536x64 .bf16) (x3 : Vec F S1x256x64 .f32) (x4 : Vec F S1x256x64 .f32) (x5 : Vec F S3x1x256x1 .f32) (x6 : Vec F S80x1280 .bf16) : Vec F S1x256x64 .f32 :=
  let v32 : IVec S256x1 32 := k7_pay3
  let v33 : FVec F S256x256 .f32 := k7_pay4 (View.ld x0 r7_0) (View.ld x3 r7_0)
  let v34 : IVec S256x256 32 := iota .tc S256x256 32 [1] iota_S256x256_d1_w32
  let v35 : IVec S256x1 32 := k7_pay8 v33
  let v36 : FVec F S256x256 .f32 := k7_pay9 v33
  let v37 : IVec S256x1 32 := k7_pay11 v34 v36
  let v38 : IVec S256x1 32 := k7_pay14 v34 v36
  let v39 : IVec S256x1 32 := k7_pay15 v34 v36
  let v40 : FVec F S1536x64 .bf16 := k7_pay20 (View.ld x2 r7_1)
  let v41 : FVec F S256x1536 .f32 := k7_pay21 (k7_pay2 (View.ld x0 r7_0)) (View.ld x1 r7_1)
  k7_pay1 (k7_pay29 v40 (k7_pay25 v35 v37 v38 v39 (k7_pay19 v32 16#32 (k7_pay16 v32) (k7_pay17 v32) k7_pay18) v41 (iota .tc S256x256 32 [0] iota_S256x256_d0_w32) (iota .tc S256x256 32 [1] iota_S256x256_d1_w32) k7_pay22 16#32 k7_pay23 k7_pay24) (k7_pay26 v35 v37 v38 v39 (View.ld x6 r7_2)) (k7_pay27 v41) (k7_pay28 (F := F))) (k7_pay30 v32 v40 v41) (k7_pay31 (k7_pay5 (View.ld x0 r7_0) (View.ld x3 r7_0) (View.ld x4 r7_0)) (View.ld x5 r7_3)) (View.ld x5 r7_4) (View.ld x5 r7_5)
/-- Window 7's buffer after the body. -/
def out7_7 (x0 : Vec F S1x256x64 .bf16) (x1 : Vec F S1x1536x64 .bf16) (x2 : Vec F S1x1536x64 .bf16) (x3 : Vec F S1x256x64 .f32) (x4 : Vec F S1x256x64 .f32) (x5 : Vec F S3x1x256x1 .f32) (x6 : Vec F S80x1280 .bf16) : Vec F S1x256x64 .f32 := View.canon [⟨r7_0, val7_7 x0 x1 x2 x3 x4 x5 x6⟩]
/-- The output's pieces cover it. -/
theorem cover7_7 (p0 : Vec F S1x256x64 .f32) (y : S1x256x64.Idx) : ∃ pc ∈ ([⟨r7_0, p0⟩] : List (View.Piece (Elt F) S1x256x64 .f32)), y ∈ pc.1.set :=
  View.cover_of_tiled [⟨r7_0, p0⟩] S1x256x64.size (by rfl) y

set_option maxHeartbeats 1000000 in
/-- The body, run on whole buffers: the inputs stay, each output is left at its `out`. -/
theorem sound_kernel7 (c : Dev nD) (E : Set ℕ) (i : grid7.Coords) (arg1 : Memref sig .tc .vmem S1x256x64 .bf16) (harg1 : arg1.IsWhole) (arg2 : Memref sig .tc .vmem S1x1536x64 .bf16) (harg2 : arg2.IsWhole) (arg3 : Memref sig .tc .vmem S1x1536x64 .bf16) (harg3 : arg3.IsWhole) (arg4 : Memref sig .tc .vmem S1x256x64 .f32) (harg4 : arg4.IsWhole) (arg5 : Memref sig .tc .vmem S1x256x64 .f32) (harg5 : arg5.IsWhole) (arg6 : Memref sig .tc .vmem S3x1x256x1 .f32) (harg6 : arg6.IsWhole) (arg7 : Memref sig .tc .vmem S80x1280 .bf16) (harg7 : arg7.IsWhole) (arg8 : Memref sig .tc .vmem S1x256x64 .f32) (harg8 : arg8.IsWhole)
    (x0 : Vec F S1x256x64 .bf16) (x1 : Vec F S1x1536x64 .bf16) (x2 : Vec F S1x1536x64 .bf16) (x3 : Vec F S1x256x64 .f32) (x4 : Vec F S1x256x64 .f32) (x5 : Vec F S3x1x256x1 .f32) (x6 : Vec F S80x1280 .bf16) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare (out7_7 x0 x1 x2 x3 x4 x5 x6)) -∗ K ⟨⟩))
      ⊢ wp frame (wpE (defs₀ (F := F)) Variants.none c none) E (cc7__attn_kernel i arg1 harg1 arg2 harg2 arg3 harg3 arg4 harg4 arg5 harg5 arg6 harg6 arg7 harg7 arg8 harg8) K := by
  simp only [cc7__attn_kernel_eq_skeleton]; unfold cc7__attn_kernel_skel
  simp only [k7_part1_eq_skeleton, k7_part2_eq_skeleton, k7_part3_eq_skeleton, k7_part4_eq_skeleton, k7_part5_eq_skeleton, k7_part6_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf0 hf1 hf2 hf3 hf4 hf5 hf6
  sl_exec
  sl_step
  iapply Hk
  isplitl [H0]; · iexists f0; isplitr; (· ipureintro; rfl); iexact H0
  isplitl [H1]; · iexists f1; isplitr; (· ipureintro; rfl); iexact H1
  isplitl [H2]; · iexists f2; isplitr; (· ipureintro; rfl); iexact H2
  isplitl [H3]; · iexists f3; isplitr; (· ipureintro; rfl); iexact H3
  isplitl [H4]; · iexists f4; isplitr; (· ipureintro; rfl); iexact H4
  isplitl [H5]; · iexists f5; isplitr; (· ipureintro; rfl); iexact H5
  isplitl [H6]; · iexists f6; isplitr; (· ipureintro; rfl); iexact H6
  iexists _; isplitr
  swap; · iexact H7
  ipureintro
  refine (View.read_writes_eq_canon _ _ _ (cover7_7 _)).trans ?_
  rfl

/-- Window `w`'s block at point `t`. -/
abbrev in7 (c : Dev nD) (w : Fin cfg7.W) (t : Fin cfg7.N) := SparseAttn.blockAt (F := F) cfg7 c w (V c (Pipeline.arrRef spec7 w)) t

/-- The pipeline's proof data on core `c`. -/
def dat7 (c : Dev nD) : Dat τ (Elt F) Unit ℕ (UR sig nD τ) ℕ cfg7 c where
  A w := V c (Pipeline.arrRef spec7 w)
  after w t := match w with
    | ⟨0, _⟩ => in7 V c 0 t
    | ⟨1, _⟩ => in7 V c 1 t
    | ⟨2, _⟩ => in7 V c 2 t
    | ⟨3, _⟩ => in7 V c 3 t
    | ⟨4, _⟩ => in7 V c 4 t
    | ⟨5, _⟩ => in7 V c 5 t
    | ⟨6, _⟩ => in7 V c 6 t
    | ⟨7, _⟩ => out7_7 (in7 V c 0 t) (in7 V c 1 t) (in7 V c 2 t) (in7 V c 3 t) (in7 V c 4 t) (in7 V c 5 t) (in7 V c 6 t)
  Φ _ := Pipeline.ΦA spec7 c
  q _ := fullShare
  owed _ := 0

/-- The arrays are entered as the region finds them. -/
theorem A_eq7 (c : Dev nD) (w : Fin cfg7.W) : (dat7 V c).A w = V c (Pipeline.arrRef spec7 w) := by dsimp only [dat7]
/-- The body leaves the input windows' blocks in place. -/
theorem after7 (c : Dev nD) (t : Fin cfg7.N) (w : Fin cfg7.W) (hw : w ≠ 7) : (dat7 V c).after w t = in7 V c w t := by
  fin_cases w <;> first | rfl | exact absurd rfl hw
/-- It leaves its result in the output window. -/
theorem after7_7 (c : Dev nD) (t : Fin cfg7.N) : (dat7 V c).after 7 t = out7_7 (in7 V c 0 t) (in7 V c 1 t) (in7 V c 2 t) (in7 V c 3 t) (in7 V c 4 t) (in7 V c 5 t) (in7 V c 6 t) := by dsimp only [dat7]
/-- At every point the input windows' buffers hold their blocks. -/
theorem before7 (c : Dev nD) (t : Fin cfg7.N) (w : Fin cfg7.W) (hw : w ≠ 7) (d) : (dat7 V c).before w t d = in7 V c w t :=
  SparseAttn.before_uncut (dat7 V c) w (by clear d; revert w; decide) (fun _ => rfl) (by clear d; revert w; decide +kernel) (by clear d; revert w; decide +kernel) (fun t => after7 V c t w hw) t d

/-- The body obligation, at every point. -/
theorem body_obligation7 (c : Dev nD) : BodyObligation (dat7 (F := F) V c) (defs₀ (F := F)) Variants.none () Set.univ := fun t => by
  rw [bigSep_W7, bigSep_W7, show defs₀ (F := F) .tc cfg7.body (cfg7.bodyArgs t (cfg7.slots t)) = bodyAt7 t from by unfold defs₀; rw [Defs.onTc_tc]]
  unfold bodyAt7
  simp only [before7 V c t 0 (by decide), before7 V c t 1 (by decide), before7 V c t 2 (by decide), before7 V c t 3 (by decide), before7 V c t 4 (by decide), before7 V c t 5 (by decide), before7 V c t 6 (by decide)]
  rw [show (dat7 V c).Φ t.succ = (dat7 V c).Φ t.castSucc from rfl,
    show (dat7 V c).owesAt () t.succ = (dat7 V c).owesAt () t.castSucc from rfl,
    after7 V c t 0 (by decide), after7 V c t 1 (by decide), after7 V c t 2 (by decide), after7 V c t 3 (by decide), after7 V c t 4 (by decide), after7 V c t 5 (by decide), after7 V c t 6 (by decide), after7_7]
  exact SparseAttn.keep8 (Z := owns (c : Thread nD τ) (st7_7 t) fullShare) (g := (dat7 V c).before 7 t) fun _ => sound_kernel7 c Set.univ (grid7.coords t) _ _ _ _ _ _ _ _ _ _ _ _ _ _ _ _ (in7 V c 0 t) (in7 V c 1 t) (in7 V c 2 t) (in7 V c 3 t) (in7 V c 4 t) (in7 V c 5 t) (in7 V c 6 t) _

end Cert.KernelIdeal.Gen

end
-- ==== Proof.Frame.KernelIdeal.Region8.lean ====
/- KernelIdeal's region 8 (the attention over query tile 6): what the body leaves in its output buffers, as a function of its input blocks, and the
   pipeline's proof data at the buffer contents `V` the region is entered with. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Ring
public import Idealize.ShloMosaic.Lib.WordCmp
public import proofs.«01_k».proof.Proof.Frame.Region

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation)

variable {F : FTy → Type} [FloatOps F] [Named F]
local notation "𝕄" => MT nD τ sig Unit (Elt F) ℕ (UR sig nD τ) ℕ
variable (V : (c : Dev nD) → (b : Ref sig .tc) → Buf (Elt F) ((c : Thread nD τ).loc b))

/-- A block that the body reads or writes. -/
abbrev r8_0 : Rect S1x256x64 := Rect.unit (s := S1x256x64) ![0, 0, 0] S1x256x64.size inb_S1x256x64_S1x256x64_0_0_0
/-- A block that the body reads or writes. -/
abbrev r8_1 : Rect S1x1792x64 := Rect.unit (s := S1x1792x64) ![0, 0, 0] S1x1792x64.size inb_S1x1792x64_S1x1792x64_0_0_0
/-- A block that the body reads or writes. -/
abbrev r8_2 : Rect S96x1536 := Rect.unit (s := S96x1536) ![0, 0] S96x1536.size inb_S96x1536_S96x1536_0_0
/-- A block that the body reads or writes. -/
abbrev r8_3 : Rect S3x1x256x1 := Rect.unit (s := S3x1x256x1) ![0, 0, 0, 0] S1x1x256x1.size inb_S3x1x256x1_S1x1x256x1_0_0_0_0
/-- A block that the body reads or writes. -/
abbrev r8_4 : Rect S3x1x256x1 := Rect.unit (s := S3x1x256x1) ![1, 0, 0, 0] S1x1x256x1.size inb_S3x1x256x1_S1x1x256x1_1_0_0_0
/-- A block that the body reads or writes. -/
abbrev r8_5 : Rect S3x1x256x1 := Rect.unit (s := S3x1x256x1) ![2, 0, 0, 0] S1x1x256x1.size inb_S3x1x256x1_S1x1x256x1_2_0_0_0

/-- What the body stores in window 7. -/
def val8_7 (x0 : Vec F S1x256x64 .bf16) (x1 : Vec F S1x1792x64 .bf16) (x2 : Vec F S1x1792x64 .bf16) (x3 : Vec F S1x256x64 .f32) (x4 : Vec F S1x256x64 .f32) (x5 : Vec F S3x1x256x1 .f32) (x6 : Vec F S96x1536 .bf16) : Vec F S1x256x64 .f32 :=
  let v32 : IVec S256x1 32 := k8_pay3
  let v33 : FVec F S256x256 .f32 := k8_pay4 (View.ld x0 r8_0) (View.ld x3 r8_0)
  let v34 : IVec S256x256 32 := iota .tc S256x256 32 [1] iota_S256x256_d1_w32
  let v35 : IVec S256x1 32 := k8_pay8 v33
  let v36 : FVec F S256x256 .f32 := k8_pay9 v33
  let v37 : IVec S256x1 32 := k8_pay11 v34 v36
  let v38 : IVec S256x1 32 := k8_pay14 v34 v36
  let v39 : IVec S256x1 32 := k8_pay15 v34 v36
  let v40 : FVec F S1792x64 .bf16 := k8_pay20 (View.ld x2 r8_1)
  let v41 : FVec F S256x1792 .f32 := k8_pay21 (k8_pay2 (View.ld x0 r8_0)) (View.ld x1 r8_1)
  k8_pay1 (k8_pay29 v40 (k8_pay25 v35 v37 v38 v39 (k8_pay19 v32 16#32 (k8_pay16 v32) (k8_pay17 v32) k8_pay18) v41 (iota .tc S256x256 32 [0] iota_S256x256_d0_w32) (iota .tc S256x256 32 [1] iota_S256x256_d1_w32) k8_pay22 16#32 k8_pay23 k8_pay24) (k8_pay26 v35 v37 v38 v39 (View.ld x6 r8_2)) (k8_pay27 v41) (k8_pay28 (F := F))) (k8_pay30 v32 v40 v41) (k8_pay31 (k8_pay5 (View.ld x0 r8_0) (View.ld x3 r8_0) (View.ld x4 r8_0)) (View.ld x5 r8_3)) (View.ld x5 r8_4) (View.ld x5 r8_5)
/-- Window 7's buffer after the body. -/
def out8_7 (x0 : Vec F S1x256x64 .bf16) (x1 : Vec F S1x1792x64 .bf16) (x2 : Vec F S1x1792x64 .bf16) (x3 : Vec F S1x256x64 .f32) (x4 : Vec F S1x256x64 .f32) (x5 : Vec F S3x1x256x1 .f32) (x6 : Vec F S96x1536 .bf16) : Vec F S1x256x64 .f32 := View.canon [⟨r8_0, val8_7 x0 x1 x2 x3 x4 x5 x6⟩]
/-- The output's pieces cover it. -/
theorem cover8_7 (p0 : Vec F S1x256x64 .f32) (y : S1x256x64.Idx) : ∃ pc ∈ ([⟨r8_0, p0⟩] : List (View.Piece (Elt F) S1x256x64 .f32)), y ∈ pc.1.set :=
  View.cover_of_tiled [⟨r8_0, p0⟩] S1x256x64.size (by rfl) y

set_option maxHeartbeats 1000000 in
/-- The body, run on whole buffers: the inputs stay, each output is left at its `out`. -/
theorem sound_kernel8 (c : Dev nD) (E : Set ℕ) (i : grid8.Coords) (arg1 : Memref sig .tc .vmem S1x256x64 .bf16) (harg1 : arg1.IsWhole) (arg2 : Memref sig .tc .vmem S1x1792x64 .bf16) (harg2 : arg2.IsWhole) (arg3 : Memref sig .tc .vmem S1x1792x64 .bf16) (harg3 : arg3.IsWhole) (arg4 : Memref sig .tc .vmem S1x256x64 .f32) (harg4 : arg4.IsWhole) (arg5 : Memref sig .tc .vmem S1x256x64 .f32) (harg5 : arg5.IsWhole) (arg6 : Memref sig .tc .vmem S3x1x256x1 .f32) (harg6 : arg6.IsWhole) (arg7 : Memref sig .tc .vmem S96x1536 .bf16) (harg7 : arg7.IsWhole) (arg8 : Memref sig .tc .vmem S1x256x64 .f32) (harg8 : arg8.IsWhole)
    (x0 : Vec F S1x256x64 .bf16) (x1 : Vec F S1x1792x64 .bf16) (x2 : Vec F S1x1792x64 .bf16) (x3 : Vec F S1x256x64 .f32) (x4 : Vec F S1x256x64 .f32) (x5 : Vec F S3x1x256x1 .f32) (x6 : Vec F S96x1536 .bf16) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare (out8_7 x0 x1 x2 x3 x4 x5 x6)) -∗ K ⟨⟩))
      ⊢ wp frame (wpE (defs₀ (F := F)) Variants.none c none) E (cc8__attn_kernel i arg1 harg1 arg2 harg2 arg3 harg3 arg4 harg4 arg5 harg5 arg6 harg6 arg7 harg7 arg8 harg8) K := by
  simp only [cc8__attn_kernel_eq_skeleton]; unfold cc8__attn_kernel_skel
  simp only [k8_part1_eq_skeleton, k8_part2_eq_skeleton, k8_part3_eq_skeleton, k8_part4_eq_skeleton, k8_part5_eq_skeleton, k8_part6_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf0 hf1 hf2 hf3 hf4 hf5 hf6
  sl_exec
  sl_step
  iapply Hk
  isplitl [H0]; · iexists f0; isplitr; (· ipureintro; rfl); iexact H0
  isplitl [H1]; · iexists f1; isplitr; (· ipureintro; rfl); iexact H1
  isplitl [H2]; · iexists f2; isplitr; (· ipureintro; rfl); iexact H2
  isplitl [H3]; · iexists f3; isplitr; (· ipureintro; rfl); iexact H3
  isplitl [H4]; · iexists f4; isplitr; (· ipureintro; rfl); iexact H4
  isplitl [H5]; · iexists f5; isplitr; (· ipureintro; rfl); iexact H5
  isplitl [H6]; · iexists f6; isplitr; (· ipureintro; rfl); iexact H6
  iexists _; isplitr
  swap; · iexact H7
  ipureintro
  refine (View.read_writes_eq_canon _ _ _ (cover8_7 _)).trans ?_
  rfl

/-- Window `w`'s block at point `t`. -/
abbrev in8 (c : Dev nD) (w : Fin cfg8.W) (t : Fin cfg8.N) := SparseAttn.blockAt (F := F) cfg8 c w (V c (Pipeline.arrRef spec8 w)) t

/-- The pipeline's proof data on core `c`. -/
def dat8 (c : Dev nD) : Dat τ (Elt F) Unit ℕ (UR sig nD τ) ℕ cfg8 c where
  A w := V c (Pipeline.arrRef spec8 w)
  after w t := match w with
    | ⟨0, _⟩ => in8 V c 0 t
    | ⟨1, _⟩ => in8 V c 1 t
    | ⟨2, _⟩ => in8 V c 2 t
    | ⟨3, _⟩ => in8 V c 3 t
    | ⟨4, _⟩ => in8 V c 4 t
    | ⟨5, _⟩ => in8 V c 5 t
    | ⟨6, _⟩ => in8 V c 6 t
    | ⟨7, _⟩ => out8_7 (in8 V c 0 t) (in8 V c 1 t) (in8 V c 2 t) (in8 V c 3 t) (in8 V c 4 t) (in8 V c 5 t) (in8 V c 6 t)
  Φ _ := Pipeline.ΦA spec8 c
  q _ := fullShare
  owed _ := 0

/-- The arrays are entered as the region finds them. -/
theorem A_eq8 (c : Dev nD) (w : Fin cfg8.W) : (dat8 V c).A w = V c (Pipeline.arrRef spec8 w) := by dsimp only [dat8]
/-- The body leaves the input windows' blocks in place. -/
theorem after8 (c : Dev nD) (t : Fin cfg8.N) (w : Fin cfg8.W) (hw : w ≠ 7) : (dat8 V c).after w t = in8 V c w t := by
  fin_cases w <;> first | rfl | exact absurd rfl hw
/-- It leaves its result in the output window. -/
theorem after8_7 (c : Dev nD) (t : Fin cfg8.N) : (dat8 V c).after 7 t = out8_7 (in8 V c 0 t) (in8 V c 1 t) (in8 V c 2 t) (in8 V c 3 t) (in8 V c 4 t) (in8 V c 5 t) (in8 V c 6 t) := by dsimp only [dat8]
/-- At every point the input windows' buffers hold their blocks. -/
theorem before8 (c : Dev nD) (t : Fin cfg8.N) (w : Fin cfg8.W) (hw : w ≠ 7) (d) : (dat8 V c).before w t d = in8 V c w t :=
  SparseAttn.before_uncut (dat8 V c) w (by clear d; revert w; decide) (fun _ => rfl) (by clear d; revert w; decide +kernel) (by clear d; revert w; decide +kernel) (fun t => after8 V c t w hw) t d

/-- The body obligation, at every point. -/
theorem body_obligation8 (c : Dev nD) : BodyObligation (dat8 (F := F) V c) (defs₀ (F := F)) Variants.none () Set.univ := fun t => by
  rw [bigSep_W8, bigSep_W8, show defs₀ (F := F) .tc cfg8.body (cfg8.bodyArgs t (cfg8.slots t)) = bodyAt8 t from by unfold defs₀; rw [Defs.onTc_tc]]
  unfold bodyAt8
  simp only [before8 V c t 0 (by decide), before8 V c t 1 (by decide), before8 V c t 2 (by decide), before8 V c t 3 (by decide), before8 V c t 4 (by decide), before8 V c t 5 (by decide), before8 V c t 6 (by decide)]
  rw [show (dat8 V c).Φ t.succ = (dat8 V c).Φ t.castSucc from rfl,
    show (dat8 V c).owesAt () t.succ = (dat8 V c).owesAt () t.castSucc from rfl,
    after8 V c t 0 (by decide), after8 V c t 1 (by decide), after8 V c t 2 (by decide), after8 V c t 3 (by decide), after8 V c t 4 (by decide), after8 V c t 5 (by decide), after8 V c t 6 (by decide), after8_7]
  exact SparseAttn.keep8 (Z := owns (c : Thread nD τ) (st8_7 t) fullShare) (g := (dat8 V c).before 7 t) fun _ => sound_kernel8 c Set.univ (grid8.coords t) _ _ _ _ _ _ _ _ _ _ _ _ _ _ _ _ (in8 V c 0 t) (in8 V c 1 t) (in8 V c 2 t) (in8 V c 3 t) (in8 V c 4 t) (in8 V c 5 t) (in8 V c 6 t) _

end Cert.KernelIdeal.Gen

end
-- ==== Proof.Frame.KernelIdeal.Region9.lean ====
/- KernelIdeal's region 9 (the attention over query tile 7): what the body leaves in its output buffers, as a function of its input blocks, and the
   pipeline's proof data at the buffer contents `V` the region is entered with. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Ring
public import Idealize.ShloMosaic.Lib.WordCmp
public import proofs.«01_k».proof.Proof.Frame.Region

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation)

variable {F : FTy → Type} [FloatOps F] [Named F]
local notation "𝕄" => MT nD τ sig Unit (Elt F) ℕ (UR sig nD τ) ℕ
variable (V : (c : Dev nD) → (b : Ref sig .tc) → Buf (Elt F) ((c : Thread nD τ).loc b))

/-- A block that the body reads or writes. -/
abbrev r9_0 : Rect S1x256x64 := Rect.unit (s := S1x256x64) ![0, 0, 0] S1x256x64.size inb_S1x256x64_S1x256x64_0_0_0
/-- A block that the body reads or writes. -/
abbrev r9_1 : Rect S1x2048x64 := Rect.unit (s := S1x2048x64) ![0, 0, 0] S1x2048x64.size inb_S1x2048x64_S1x2048x64_0_0_0
/-- A block that the body reads or writes. -/
abbrev r9_2 : Rect S112x1792 := Rect.unit (s := S112x1792) ![0, 0] S112x1792.size inb_S112x1792_S112x1792_0_0
/-- A block that the body reads or writes. -/
abbrev r9_3 : Rect S3x1x256x1 := Rect.unit (s := S3x1x256x1) ![0, 0, 0, 0] S1x1x256x1.size inb_S3x1x256x1_S1x1x256x1_0_0_0_0
/-- A block that the body reads or writes. -/
abbrev r9_4 : Rect S3x1x256x1 := Rect.unit (s := S3x1x256x1) ![1, 0, 0, 0] S1x1x256x1.size inb_S3x1x256x1_S1x1x256x1_1_0_0_0
/-- A block that the body reads or writes. -/
abbrev r9_5 : Rect S3x1x256x1 := Rect.unit (s := S3x1x256x1) ![2, 0, 0, 0] S1x1x256x1.size inb_S3x1x256x1_S1x1x256x1_2_0_0_0

/-- What the body stores in window 7. -/
def val9_7 (x0 : Vec F S1x256x64 .bf16) (x1 : Vec F S1x2048x64 .bf16) (x2 : Vec F S1x2048x64 .bf16) (x3 : Vec F S1x256x64 .f32) (x4 : Vec F S1x256x64 .f32) (x5 : Vec F S3x1x256x1 .f32) (x6 : Vec F S112x1792 .bf16) : Vec F S1x256x64 .f32 :=
  let v32 : IVec S256x1 32 := k9_pay3
  let v33 : FVec F S256x256 .f32 := k9_pay4 (View.ld x0 r9_0) (View.ld x3 r9_0)
  let v34 : IVec S256x256 32 := iota .tc S256x256 32 [1] iota_S256x256_d1_w32
  let v35 : IVec S256x1 32 := k9_pay8 v33
  let v36 : FVec F S256x256 .f32 := k9_pay9 v33
  let v37 : IVec S256x1 32 := k9_pay11 v34 v36
  let v38 : IVec S256x1 32 := k9_pay14 v34 v36
  let v39 : IVec S256x1 32 := k9_pay15 v34 v36
  let v40 : FVec F S2048x64 .bf16 := k9_pay20 (View.ld x2 r9_1)
  let v41 : FVec F S256x2048 .f32 := k9_pay21 (k9_pay2 (View.ld x0 r9_0)) (View.ld x1 r9_1)
  k9_pay1 (k9_pay29 v40 (k9_pay25 v35 v37 v38 v39 (k9_pay19 v32 16#32 (k9_pay16 v32) (k9_pay17 v32) k9_pay18) v41 (iota .tc S256x256 32 [0] iota_S256x256_d0_w32) (iota .tc S256x256 32 [1] iota_S256x256_d1_w32) k9_pay22 16#32 k9_pay23 k9_pay24) (k9_pay26 v35 v37 v38 v39 (View.ld x6 r9_2)) (k9_pay27 v41) (k9_pay28 (F := F))) (k9_pay30 v32 v40 v41) (k9_pay31 (k9_pay5 (View.ld x0 r9_0) (View.ld x3 r9_0) (View.ld x4 r9_0)) (View.ld x5 r9_3)) (View.ld x5 r9_4) (View.ld x5 r9_5)
/-- Window 7's buffer after the body. -/
def out9_7 (x0 : Vec F S1x256x64 .bf16) (x1 : Vec F S1x2048x64 .bf16) (x2 : Vec F S1x2048x64 .bf16) (x3 : Vec F S1x256x64 .f32) (x4 : Vec F S1x256x64 .f32) (x5 : Vec F S3x1x256x1 .f32) (x6 : Vec F S112x1792 .bf16) : Vec F S1x256x64 .f32 := View.canon [⟨r9_0, val9_7 x0 x1 x2 x3 x4 x5 x6⟩]
/-- The output's pieces cover it. -/
theorem cover9_7 (p0 : Vec F S1x256x64 .f32) (y : S1x256x64.Idx) : ∃ pc ∈ ([⟨r9_0, p0⟩] : List (View.Piece (Elt F) S1x256x64 .f32)), y ∈ pc.1.set :=
  View.cover_of_tiled [⟨r9_0, p0⟩] S1x256x64.size (by rfl) y

set_option maxHeartbeats 1000000 in
/-- The body, run on whole buffers: the inputs stay, each output is left at its `out`. -/
theorem sound_kernel9 (c : Dev nD) (E : Set ℕ) (i : grid9.Coords) (arg1 : Memref sig .tc .vmem S1x256x64 .bf16) (harg1 : arg1.IsWhole) (arg2 : Memref sig .tc .vmem S1x2048x64 .bf16) (harg2 : arg2.IsWhole) (arg3 : Memref sig .tc .vmem S1x2048x64 .bf16) (harg3 : arg3.IsWhole) (arg4 : Memref sig .tc .vmem S1x256x64 .f32) (harg4 : arg4.IsWhole) (arg5 : Memref sig .tc .vmem S1x256x64 .f32) (harg5 : arg5.IsWhole) (arg6 : Memref sig .tc .vmem S3x1x256x1 .f32) (harg6 : arg6.IsWhole) (arg7 : Memref sig .tc .vmem S112x1792 .bf16) (harg7 : arg7.IsWhole) (arg8 : Memref sig .tc .vmem S1x256x64 .f32) (harg8 : arg8.IsWhole)
    (x0 : Vec F S1x256x64 .bf16) (x1 : Vec F S1x2048x64 .bf16) (x2 : Vec F S1x2048x64 .bf16) (x3 : Vec F S1x256x64 .f32) (x4 : Vec F S1x256x64 .f32) (x5 : Vec F S3x1x256x1 .f32) (x6 : Vec F S112x1792 .bf16) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare (out9_7 x0 x1 x2 x3 x4 x5 x6)) -∗ K ⟨⟩))
      ⊢ wp frame (wpE (defs₀ (F := F)) Variants.none c none) E (cc9__attn_kernel i arg1 harg1 arg2 harg2 arg3 harg3 arg4 harg4 arg5 harg5 arg6 harg6 arg7 harg7 arg8 harg8) K := by
  simp only [cc9__attn_kernel_eq_skeleton]; unfold cc9__attn_kernel_skel
  simp only [k9_part1_eq_skeleton, k9_part2_eq_skeleton, k9_part3_eq_skeleton, k9_part4_eq_skeleton, k9_part5_eq_skeleton, k9_part6_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf0 hf1 hf2 hf3 hf4 hf5 hf6
  sl_exec
  sl_step
  iapply Hk
  isplitl [H0]; · iexists f0; isplitr; (· ipureintro; rfl); iexact H0
  isplitl [H1]; · iexists f1; isplitr; (· ipureintro; rfl); iexact H1
  isplitl [H2]; · iexists f2; isplitr; (· ipureintro; rfl); iexact H2
  isplitl [H3]; · iexists f3; isplitr; (· ipureintro; rfl); iexact H3
  isplitl [H4]; · iexists f4; isplitr; (· ipureintro; rfl); iexact H4
  isplitl [H5]; · iexists f5; isplitr; (· ipureintro; rfl); iexact H5
  isplitl [H6]; · iexists f6; isplitr; (· ipureintro; rfl); iexact H6
  iexists _; isplitr
  swap; · iexact H7
  ipureintro
  refine (View.read_writes_eq_canon _ _ _ (cover9_7 _)).trans ?_
  rfl

/-- Window `w`'s block at point `t`. -/
abbrev in9 (c : Dev nD) (w : Fin cfg9.W) (t : Fin cfg9.N) := SparseAttn.blockAt (F := F) cfg9 c w (V c (Pipeline.arrRef spec9 w)) t

/-- The pipeline's proof data on core `c`. -/
def dat9 (c : Dev nD) : Dat τ (Elt F) Unit ℕ (UR sig nD τ) ℕ cfg9 c where
  A w := V c (Pipeline.arrRef spec9 w)
  after w t := match w with
    | ⟨0, _⟩ => in9 V c 0 t
    | ⟨1, _⟩ => in9 V c 1 t
    | ⟨2, _⟩ => in9 V c 2 t
    | ⟨3, _⟩ => in9 V c 3 t
    | ⟨4, _⟩ => in9 V c 4 t
    | ⟨5, _⟩ => in9 V c 5 t
    | ⟨6, _⟩ => in9 V c 6 t
    | ⟨7, _⟩ => out9_7 (in9 V c 0 t) (in9 V c 1 t) (in9 V c 2 t) (in9 V c 3 t) (in9 V c 4 t) (in9 V c 5 t) (in9 V c 6 t)
  Φ _ := Pipeline.ΦA spec9 c
  q _ := fullShare
  owed _ := 0

/-- The arrays are entered as the region finds them. -/
theorem A_eq9 (c : Dev nD) (w : Fin cfg9.W) : (dat9 V c).A w = V c (Pipeline.arrRef spec9 w) := by dsimp only [dat9]
/-- The body leaves the input windows' blocks in place. -/
theorem after9 (c : Dev nD) (t : Fin cfg9.N) (w : Fin cfg9.W) (hw : w ≠ 7) : (dat9 V c).after w t = in9 V c w t := by
  fin_cases w <;> first | rfl | exact absurd rfl hw
/-- It leaves its result in the output window. -/
theorem after9_7 (c : Dev nD) (t : Fin cfg9.N) : (dat9 V c).after 7 t = out9_7 (in9 V c 0 t) (in9 V c 1 t) (in9 V c 2 t) (in9 V c 3 t) (in9 V c 4 t) (in9 V c 5 t) (in9 V c 6 t) := by dsimp only [dat9]
/-- At every point the input windows' buffers hold their blocks. -/
theorem before9 (c : Dev nD) (t : Fin cfg9.N) (w : Fin cfg9.W) (hw : w ≠ 7) (d) : (dat9 V c).before w t d = in9 V c w t :=
  SparseAttn.before_uncut (dat9 V c) w (by clear d; revert w; decide) (fun _ => rfl) (by clear d; revert w; decide +kernel) (by clear d; revert w; decide +kernel) (fun t => after9 V c t w hw) t d

/-- The body obligation, at every point. -/
theorem body_obligation9 (c : Dev nD) : BodyObligation (dat9 (F := F) V c) (defs₀ (F := F)) Variants.none () Set.univ := fun t => by
  rw [bigSep_W9, bigSep_W9, show defs₀ (F := F) .tc cfg9.body (cfg9.bodyArgs t (cfg9.slots t)) = bodyAt9 t from by unfold defs₀; rw [Defs.onTc_tc]]
  unfold bodyAt9
  simp only [before9 V c t 0 (by decide), before9 V c t 1 (by decide), before9 V c t 2 (by decide), before9 V c t 3 (by decide), before9 V c t 4 (by decide), before9 V c t 5 (by decide), before9 V c t 6 (by decide)]
  rw [show (dat9 V c).Φ t.succ = (dat9 V c).Φ t.castSucc from rfl,
    show (dat9 V c).owesAt () t.succ = (dat9 V c).owesAt () t.castSucc from rfl,
    after9 V c t 0 (by decide), after9 V c t 1 (by decide), after9 V c t 2 (by decide), after9 V c t 3 (by decide), after9 V c t 4 (by decide), after9 V c t 5 (by decide), after9 V c t 6 (by decide), after9_7]
  exact SparseAttn.keep8 (Z := owns (c : Thread nD τ) (st9_7 t) fullShare) (g := (dat9 V c).before 7 t) fun _ => sound_kernel9 c Set.univ (grid9.coords t) _ _ _ _ _ _ _ _ _ _ _ _ _ _ _ _ (in9 V c 0 t) (in9 V c 1 t) (in9 V c 2 t) (in9 V c 3 t) (in9 V c 4 t) (in9 V c 5 t) (in9 V c 6 t) _

end Cert.KernelIdeal.Gen

end
-- ==== Proof.Frame.KernelIdeal.Region10.lean ====
/- KernelIdeal's region 10 (the output projection): what the body leaves in its output buffers, as a function of its input blocks, and the
   pipeline's proof data at the buffer contents `V` the region is entered with. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Ring
public import Idealize.ShloMosaic.Lib.WordCmp
public import proofs.«01_k».proof.Proof.Frame.Region

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation)

variable {F : FTy → Type} [FloatOps F] [Named F]
local notation "𝕄" => MT nD τ sig Unit (Elt F) ℕ (UR sig nD τ) ℕ
variable (V : (c : Dev nD) → (b : Ref sig .tc) → Buf (Elt F) ((c : Thread nD τ).loc b))

/-- A block that the body reads or writes. -/
abbrev r10_0 : Rect S12x256x64 := Rect.unit (s := S12x256x64) ![0, 0, 0] S12x256x64.size inb_S12x256x64_S12x256x64_0_0_0
/-- A block that the body reads or writes. -/
abbrev r10_1 : Rect S768x768 := Rect.unit (s := S768x768) ![0, 0] S768x768.size inb_S768x768_S768x768_0_0
/-- A block that the body reads or writes. -/
abbrev r10_2 : Rect S256x768 := Rect.unit (s := S256x768) ![0, 0] S256x768.size inb_S256x768_S256x768_0_0

/-- What the body stores in window 2. -/
def val10_2 (x0 : Vec F S12x256x64 .f32) (x1 : Vec F S768x768 .bf16) : Vec F S256x768 .f32 :=
  k10_pay1 (View.ld x0 r10_0) (View.ld x1 r10_1)
/-- Window 2's buffer after the body. -/
def out10_2 (x0 : Vec F S12x256x64 .f32) (x1 : Vec F S768x768 .bf16) : Vec F S256x768 .f32 := View.canon [⟨r10_2, val10_2 x0 x1⟩]
/-- The pieces stored into output window 2 cover it. -/
theorem cover10_2 (p0 : Vec F S256x768 .f32) (y : S256x768.Idx) : ∃ pc ∈ ([⟨r10_2, p0⟩] : List (View.Piece (Elt F) S256x768 .f32)), y ∈ pc.1.set :=
  View.cover_of_tiled [⟨r10_2, p0⟩] S256x768.size (by rfl) y

set_option maxHeartbeats 1000000 in
/-- The body, run on whole buffers: the inputs stay, each output is left at its `out`. -/
theorem sound_kernel10 (c : Dev nD) (E : Set ℕ) (i : grid10.Coords) (arg1 : Memref sig .tc .vmem S12x256x64 .f32) (harg1 : arg1.IsWhole) (arg2 : Memref sig .tc .vmem S768x768 .bf16) (harg2 : arg2.IsWhole) (arg3 : Memref sig .tc .vmem S256x768 .f32) (harg3 : arg3.IsWhole)
    (x0 : Vec F S12x256x64 .f32) (x1 : Vec F S768x768 .bf16) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out10_2 x0 x1)) -∗ K ⟨⟩))
      ⊢ wp frame (wpE (defs₀ (F := F)) Variants.none c none) E (cc10__out_kernel i arg1 harg1 arg2 harg2 arg3 harg3) K := by
  simp only [cc10__out_kernel_eq_skeleton]; unfold cc10__out_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]; · iexists f0; isplitr; (· ipureintro; rfl); iexact H0
  isplitl [H1]; · iexists f1; isplitr; (· ipureintro; rfl); iexact H1
  iexists _; isplitr
  swap; · iexact H2
  ipureintro
  exact View.read_writes_eq_canon _ _ _ (cover10_2 _)

/-- Window `w`'s block at point `t`. -/
abbrev in10 (c : Dev nD) (w : Fin cfg10.W) (t : Fin cfg10.N) := SparseAttn.blockAt (F := F) cfg10 c w (V c (Pipeline.arrRef spec10 w)) t

/-- The pipeline's proof data on core `c`. -/
def dat10 (c : Dev nD) : Dat τ (Elt F) Unit ℕ (UR sig nD τ) ℕ cfg10 c where
  A w := V c (Pipeline.arrRef spec10 w)
  after w t := match w with
    | ⟨0, _⟩ => in10 V c 0 t
    | ⟨1, _⟩ => in10 V c 1 t
    | ⟨2, _⟩ => out10_2 (in10 V c 0 t) (in10 V c 1 t)
  Φ _ := Pipeline.ΦA spec10 c
  q _ := fullShare
  owed _ := 0

/-- The arrays are entered as the region finds them. -/
theorem A_eq10 (c : Dev nD) (w : Fin cfg10.W) : (dat10 V c).A w = V c (Pipeline.arrRef spec10 w) := by dsimp only [dat10]
/-- The body leaves the input windows' blocks in place. -/
theorem after10 (c : Dev nD) (t : Fin cfg10.N) (w : Fin cfg10.W) (hw : w.val < 2) : (dat10 V c).after w t = in10 V c w t := by
  fin_cases w <;> first | exact absurd hw (by decide) | rfl
/-- It leaves its result in output window 2. -/
theorem after10_2 (c : Dev nD) (t : Fin cfg10.N) : (dat10 V c).after 2 t = out10_2 (in10 V c 0 t) (in10 V c 1 t) := by dsimp only [dat10]
/-- At every point the input windows' buffers hold their blocks. -/
theorem before10 (c : Dev nD) (t : Fin cfg10.N) (w : Fin cfg10.W) (hw : w.val < 2) (d) : (dat10 V c).before w t d = in10 V c w t :=
  SparseAttn.before_uncut (dat10 V c) w (by clear d; revert w; decide) (fun _ => rfl) (by clear d; revert w; decide +kernel) (by clear d; revert w; decide +kernel) (fun t => after10 V c t w hw) t d

/-- The body obligation, at every point. -/
theorem body_obligation10 (c : Dev nD) : BodyObligation (dat10 (F := F) V c) (defs₀ (F := F)) Variants.none () Set.univ := fun t => by
  rw [bigSep_W10, bigSep_W10, show defs₀ (F := F) .tc cfg10.body (cfg10.bodyArgs t (cfg10.slots t)) = bodyAt10 t from by unfold defs₀; rw [Defs.onTc_tc]]
  unfold bodyAt10
  simp only [before10 V c t 0 (by decide), before10 V c t 1 (by decide)]
  rw [show (dat10 V c).Φ t.succ = (dat10 V c).Φ t.castSucc from rfl,
    show (dat10 V c).owesAt () t.succ = (dat10 V c).owesAt () t.castSucc from rfl,
    after10 V c t 0 (by decide), after10 V c t 1 (by decide), after10_2]
  iintro ⟨HΦ, Ho, ⟨%d0, H0⟩, ⟨%d1, H1⟩, ⟨%d2, H2⟩⟩
  iapply (sound_kernel10 c Set.univ (grid10.coords t) _ _ _ _ _ _ (in10 V c 0 t) (in10 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

end Cert.KernelIdeal.Gen

end
-- ==== Proof.Frame.KernelIdeal.Run.lean ====
/- KernelIdeal's run: the buffers' contents between @main's items, and its final state. -/
module

public import proofs.«01_k».proof.Proof.Frame.KernelIdeal.Region0
public import proofs.«01_k».proof.Proof.Frame.KernelIdeal.Region1
public import proofs.«01_k».proof.Proof.Frame.KernelIdeal.Region2
public import proofs.«01_k».proof.Proof.Frame.KernelIdeal.Region3
public import proofs.«01_k».proof.Proof.Frame.KernelIdeal.Region4
public import proofs.«01_k».proof.Proof.Frame.KernelIdeal.Region5
public import proofs.«01_k».proof.Proof.Frame.KernelIdeal.Region6
public import proofs.«01_k».proof.Proof.Frame.KernelIdeal.Region7
public import proofs.«01_k».proof.Proof.Frame.KernelIdeal.Region8
public import proofs.«01_k».proof.Proof.Frame.KernelIdeal.Region9
public import proofs.«01_k».proof.Proof.Frame.KernelIdeal.Region10
public import proofs.«01_k».proof.Proof.Gen.KernelIdeal.Regions
public import Idealize.ShloMosaic.Lib.Pipeline.RegionsLoop
public import Idealize.ShloMosaic.Lib.Tactic

@[expose] public section

set_option maxRecDepth 16384

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg BodyObligation)
open Cert.KernelIdeal Cert.KernelIdeal.Gen SparseAttn

variable {F : FTy → Type} [FloatOps F] [Named F]
local notation "𝕄" => MT nD τ sig Unit (Elt F) ℕ (UR sig nD τ) ℕ
local notation "Vals" => Dev nD → Valuation τ sig (Elt F)

/-! ## The contents between items -/

/-- A valuation read at the TensorCore's references. -/
abbrev at' (W : Vals) (c : Dev nD) (b : Ref sig .tc) : Buf (Elt F) ((c : Thread nD τ).loc b) := W c b

section
variable (m : (ℓ : Loc nD τ sig) → Buf (Elt F) ℓ)

/-- The buffers at launch. -/
abbrev W0 : Vals := fun c b => m (c, b)
/-- After `hostOps0`. -/
def W1 : Vals := fun c => StableHlo.after hostOps0 (W0 m c)
/-- After region 0. -/
def W2 : Vals := exitOf cfgs 0 (dat0 (at' (W1 m))) (W1 m)
/-- After `hostOps1`. -/
def W3 : Vals := fun c => StableHlo.after hostOps1 (W2 m c)
/-- After region 1. -/
def W4 : Vals := exitOf cfgs 1 (dat1 (at' (W3 m))) (W3 m)
/-- After `hostOps2`. -/
def W5 : Vals := fun c => StableHlo.after hostOps2 (W4 m c)
/-- After `hostOps2_1`. -/
def W6 : Vals := fun c => StableHlo.after hostOps2_1 (W5 m c)
/-- After `hostOps2_2`. -/
def W7 : Vals := fun c => StableHlo.after hostOps2_2 (W6 m c)
/-- After region 2. -/
def W8 : Vals := exitOf cfgs 2 (dat2 (at' (W7 m))) (W7 m)
/-- After region 3. -/
def W9 : Vals := exitOf cfgs 3 (dat3 (at' (W8 m))) (W8 m)
/-- After region 4. -/
def W10 : Vals := exitOf cfgs 4 (dat4 (at' (W9 m))) (W9 m)
/-- After region 5. -/
def W11 : Vals := exitOf cfgs 5 (dat5 (at' (W10 m))) (W10 m)
/-- After region 6. -/
def W12 : Vals := exitOf cfgs 6 (dat6 (at' (W11 m))) (W11 m)
/-- After region 7. -/
def W13 : Vals := exitOf cfgs 7 (dat7 (at' (W12 m))) (W12 m)
/-- After region 8. -/
def W14 : Vals := exitOf cfgs 8 (dat8 (at' (W13 m))) (W13 m)
/-- After region 9. -/
def W15 : Vals := exitOf cfgs 9 (dat9 (at' (W14 m))) (W14 m)
/-- After `hostOps10`. -/
def W16 : Vals := fun c => StableHlo.after hostOps10 (W15 m c)
/-- After region 10. -/
def W17 : Vals := exitOf cfgs 10 (dat10 (at' (W16 m))) (W16 m)
/-- After `hostOps11`. -/
def W18 : Vals := fun c => StableHlo.after hostOps11 (W17 m c)

/-- Every pipeline's proof data, each at its region's entry contents. -/
def pdats : (p : Fin 11) → (c : Dev nD) → Dat τ (Elt F) Unit ℕ (UR sig nD τ) ℕ (Pipeline.pin (pcfgs (F := F)) adm p) c
  | ⟨0, _⟩ => fun c => dat0 (at' (W1 m)) c
  | ⟨1, _⟩ => fun c => dat1 (at' (W3 m)) c
  | ⟨2, _⟩ => fun c => dat2 (at' (W7 m)) c
  | ⟨3, _⟩ => fun c => dat3 (at' (W8 m)) c
  | ⟨4, _⟩ => fun c => dat4 (at' (W9 m)) c
  | ⟨5, _⟩ => fun c => dat5 (at' (W10 m)) c
  | ⟨6, _⟩ => fun c => dat6 (at' (W11 m)) c
  | ⟨7, _⟩ => fun c => dat7 (at' (W12 m)) c
  | ⟨8, _⟩ => fun c => dat8 (at' (W13 m)) c
  | ⟨9, _⟩ => fun c => dat9 (at' (W14 m)) c
  | ⟨10, _⟩ => fun c => dat10 (at' (W16 m)) c

/-! ## No item writes an argument -/

/-- @main's arguments. -/
abbrev argRefs : List (Ref sig .tc) := [main_arg0, main_arg1, main_arg2, main_arg3, main_arg4, main_arg5, main_arg6, main_arg7, main_arg8, main_arg9, main_arg10, main_arg11, main_arg12]

/-- The host operations `hostOps0` write no argument. -/
theorem notin_hostOps0 : ∀ a ∈ argRefs, a ∉ hostOps0_W := ListAll.forall_mem_of_all_decide (by decide +kernel)
/-- Call 0 has the arguments among its inputs alone. -/
theorem argIn0 : ∀ a ∈ argRefs, ∀ w : Fin cfg0.W, Pipeline.arrRef spec0 w = a → (cfg0.win w).isOut = false :=
  ListAll.forall_mem_of_all_decide (by decide +kernel)
/-- The host operations `hostOps1` write no argument. -/
theorem notin_hostOps1 : ∀ a ∈ argRefs, a ∉ hostOps1_W := ListAll.forall_mem_of_all_decide (by decide +kernel)
/-- Call 1 has the arguments among its inputs alone. -/
theorem argIn1 : ∀ a ∈ argRefs, ∀ w : Fin cfg1.W, Pipeline.arrRef spec1 w = a → (cfg1.win w).isOut = false :=
  ListAll.forall_mem_of_all_decide (by decide +kernel)
/-- The host operations `hostOps2` write no argument. -/
theorem notin_hostOps2 : ∀ a ∈ argRefs, a ∉ hostOps2_W := ListAll.forall_mem_of_all_decide (by decide +kernel)
/-- The host operations `hostOps2_1` write no argument. -/
theorem notin_hostOps2_1 : ∀ a ∈ argRefs, a ∉ hostOps2_1_W := ListAll.forall_mem_of_all_decide (by decide +kernel)
/-- The host operations `hostOps2_2` write no argument. -/
theorem notin_hostOps2_2 : ∀ a ∈ argRefs, a ∉ hostOps2_2_W := ListAll.forall_mem_of_all_decide (by decide +kernel)
/-- Call 2 has the arguments among its inputs alone. -/
theorem argIn2 : ∀ a ∈ argRefs, ∀ w : Fin cfg2.W, Pipeline.arrRef spec2 w = a → (cfg2.win w).isOut = false :=
  ListAll.forall_mem_of_all_decide (by decide +kernel)
/-- Call 3 has the arguments among its inputs alone. -/
theorem argIn3 : ∀ a ∈ argRefs, ∀ w : Fin cfg3.W, Pipeline.arrRef spec3 w = a → (cfg3.win w).isOut = false :=
  ListAll.forall_mem_of_all_decide (by decide +kernel)
/-- Call 4 has the arguments among its inputs alone. -/
theorem argIn4 : ∀ a ∈ argRefs, ∀ w : Fin cfg4.W, Pipeline.arrRef spec4 w = a → (cfg4.win w).isOut = false :=
  ListAll.forall_mem_of_all_decide (by decide +kernel)
/-- Call 5 has the arguments among its inputs alone. -/
theorem argIn5 : ∀ a ∈ argRefs, ∀ w : Fin cfg5.W, Pipeline.arrRef spec5 w = a → (cfg5.win w).isOut = false :=
  ListAll.forall_mem_of_all_decide (by decide +kernel)
/-- Call 6 has the arguments among its inputs alone. -/
theorem argIn6 : ∀ a ∈ argRefs, ∀ w : Fin cfg6.W, Pipeline.arrRef spec6 w = a → (cfg6.win w).isOut = false :=
  ListAll.forall_mem_of_all_decide (by decide +kernel)
/-- Call 7 has the arguments among its inputs alone. -/
theorem argIn7 : ∀ a ∈ argRefs, ∀ w : Fin cfg7.W, Pipeline.arrRef spec7 w = a → (cfg7.win w).isOut = false :=
  ListAll.forall_mem_of_all_decide (by decide +kernel)
/-- Call 8 has the arguments among its inputs alone. -/
theorem argIn8 : ∀ a ∈ argRefs, ∀ w : Fin cfg8.W, Pipeline.arrRef spec8 w = a → (cfg8.win w).isOut = false :=
  ListAll.forall_mem_of_all_decide (by decide +kernel)
/-- Call 9 has the arguments among its inputs alone. -/
theorem argIn9 : ∀ a ∈ argRefs, ∀ w : Fin cfg9.W, Pipeline.arrRef spec9 w = a → (cfg9.win w).isOut = false :=
  ListAll.forall_mem_of_all_decide (by decide +kernel)
/-- The host operations `hostOps10` write no argument. -/
theorem notin_hostOps10 : ∀ a ∈ argRefs, a ∉ hostOps10_W := ListAll.forall_mem_of_all_decide (by decide +kernel)
/-- Call 10 has the arguments among its inputs alone. -/
theorem argIn10 : ∀ a ∈ argRefs, ∀ w : Fin cfg10.W, Pipeline.arrRef spec10 w = a → (cfg10.win w).isOut = false :=
  ListAll.forall_mem_of_all_decide (by decide +kernel)
/-- The host operations `hostOps11` write no argument. -/
theorem notin_hostOps11 : ∀ a ∈ argRefs, a ∉ hostOps11_W := ListAll.forall_mem_of_all_decide (by decide +kernel)

/-- The arguments end as they began. -/
theorem W18_args (c : Dev nD) : ∀ a ∈ argRefs, W18 m c (Proc.devRef .tc a) = m ((c : Thread nD τ).loc a) := fun a ha =>
  (show W18 m c _ = W17 m c _ from StableHlo.after_of_writes_sub hostOps11 _ hostOps11_writes (notin_hostOps11 a ha)).trans <|
  (show W17 m c _ = W16 m c _ from exitOf_of (cfgs := cfgs) launch10 _ (W16 m) (A_eq10 (at' (W16 m))) c a (argIn10 a ha)).trans <|
  (show W16 m c _ = W15 m c _ from StableHlo.after_of_writes_sub hostOps10 _ hostOps10_writes (notin_hostOps10 a ha)).trans <|
  (show W15 m c _ = W14 m c _ from exitOf_of (cfgs := cfgs) launch9 _ (W14 m) (A_eq9 (at' (W14 m))) c a (argIn9 a ha)).trans <|
  (show W14 m c _ = W13 m c _ from exitOf_of (cfgs := cfgs) launch8 _ (W13 m) (A_eq8 (at' (W13 m))) c a (argIn8 a ha)).trans <|
  (show W13 m c _ = W12 m c _ from exitOf_of (cfgs := cfgs) launch7 _ (W12 m) (A_eq7 (at' (W12 m))) c a (argIn7 a ha)).trans <|
  (show W12 m c _ = W11 m c _ from exitOf_of (cfgs := cfgs) launch6 _ (W11 m) (A_eq6 (at' (W11 m))) c a (argIn6 a ha)).trans <|
  (show W11 m c _ = W10 m c _ from exitOf_of (cfgs := cfgs) launch5 _ (W10 m) (A_eq5 (at' (W10 m))) c a (argIn5 a ha)).trans <|
  (show W10 m c _ = W9 m c _ from exitOf_of (cfgs := cfgs) launch4 _ (W9 m) (A_eq4 (at' (W9 m))) c a (argIn4 a ha)).trans <|
  (show W9 m c _ = W8 m c _ from exitOf_of (cfgs := cfgs) launch3 _ (W8 m) (A_eq3 (at' (W8 m))) c a (argIn3 a ha)).trans <|
  (show W8 m c _ = W7 m c _ from exitOf_of (cfgs := cfgs) launch2 _ (W7 m) (A_eq2 (at' (W7 m))) c a (argIn2 a ha)).trans <|
  (show W7 m c _ = W6 m c _ from StableHlo.after_of_writes_sub hostOps2_2 _ hostOps2_2_writes (notin_hostOps2_2 a ha)).trans <|
  (show W6 m c _ = W5 m c _ from StableHlo.after_of_writes_sub hostOps2_1 _ hostOps2_1_writes (notin_hostOps2_1 a ha)).trans <|
  (show W5 m c _ = W4 m c _ from StableHlo.after_of_writes_sub hostOps2 _ hostOps2_writes (notin_hostOps2 a ha)).trans <|
  (show W4 m c _ = W3 m c _ from exitOf_of (cfgs := cfgs) launch1 _ (W3 m) (A_eq1 (at' (W3 m))) c a (argIn1 a ha)).trans <|
  (show W3 m c _ = W2 m c _ from StableHlo.after_of_writes_sub hostOps1 _ hostOps1_writes (notin_hostOps1 a ha)).trans <|
  (show W2 m c _ = W1 m c _ from exitOf_of (cfgs := cfgs) launch0 _ (W1 m) (A_eq0 (at' (W1 m))) c a (argIn0 a ha)).trans <|
  (show W1 m c _ = W0 m c _ from StableHlo.after_of_writes_sub hostOps0 _ hostOps0_writes (notin_hostOps0 a ha)).trans <|
  rfl

/-! ## @main as segments -/

/-- A host stretch as a segment, entered at the contents `W`. -/
abbrev hseg (ops : List (HloOp τ sig (Elt F))) (hsub : ops.Forall fun op => op.bufs ⊆ StableHlo.tcRefs τ sig)
    (hfresh : ops.Forall fun op => op.fresh = ∅) (W : Vals) :
    Pipeline.HostSeg (Name := ℕ) (U := UR sig nD τ) (pcfgs (F := F)) defs₀ Variants.none (fun _ => (∅ : Finset Unit)) (fun _ _ => (0 : ℕ)) :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W restR

set_option backward.isDefEq.respectTransparency.types false in
/-- Call 0, as a segment of the program. -/
def reg0 : Pipeline.RegionSeg (pcfgs (F := F)) adm (pdats m) () defs₀ Variants.none (fun _ => (∅ : Finset Unit)) (fun _ _ => (0 : ℕ)) 0 :=
  regionOf (cfgs := cfgs) (pdats m) defs₀ 0 launch0 (W1 m) (dat0 (at' (W1 m))) (fun _ => rfl) (A_eq0 (at' (W1 m)))
    (fun _ _ => rfl) (fun _ _ => rfl) (fun _ _ => rfl) (fun _ _ => trivial) (body_obligation0 (at' (W1 m)))
set_option backward.isDefEq.respectTransparency.types false in
/-- Call 1, as a segment of the program. -/
def reg1 : Pipeline.RegionSeg (pcfgs (F := F)) adm (pdats m) () defs₀ Variants.none (fun _ => (∅ : Finset Unit)) (fun _ _ => (0 : ℕ)) 1 :=
  regionOf (cfgs := cfgs) (pdats m) defs₀ 1 launch1 (W3 m) (dat1 (at' (W3 m))) (fun _ => rfl) (A_eq1 (at' (W3 m)))
    (fun _ _ => rfl) (fun _ _ => rfl) (fun _ _ => rfl) (fun _ _ => trivial) (body_obligation1 (at' (W3 m)))
set_option backward.isDefEq.respectTransparency.types false in
/-- Call 2, as a segment of the program. -/
def reg2 : Pipeline.RegionSeg (pcfgs (F := F)) adm (pdats m) () defs₀ Variants.none (fun _ => (∅ : Finset Unit)) (fun _ _ => (0 : ℕ)) 2 :=
  regionOf (cfgs := cfgs) (pdats m) defs₀ 2 launch2 (W7 m) (dat2 (at' (W7 m))) (fun _ => rfl) (A_eq2 (at' (W7 m)))
    (fun _ _ => rfl) (fun _ _ => rfl) (fun _ _ => rfl) (fun _ _ => trivial) (body_obligation2 (at' (W7 m)))
set_option backward.isDefEq.respectTransparency.types false in
/-- Call 3, as a segment of the program. -/
def reg3 : Pipeline.RegionSeg (pcfgs (F := F)) adm (pdats m) () defs₀ Variants.none (fun _ => (∅ : Finset Unit)) (fun _ _ => (0 : ℕ)) 3 :=
  regionOf (cfgs := cfgs) (pdats m) defs₀ 3 launch3 (W8 m) (dat3 (at' (W8 m))) (fun _ => rfl) (A_eq3 (at' (W8 m)))
    (fun _ _ => rfl) (fun _ _ => rfl) (fun _ _ => rfl) (fun _ _ => trivial) (body_obligation3 (at' (W8 m)))
set_option backward.isDefEq.respectTransparency.types false in
/-- Call 4, as a segment of the program. -/
def reg4 : Pipeline.RegionSeg (pcfgs (F := F)) adm (pdats m) () defs₀ Variants.none (fun _ => (∅ : Finset Unit)) (fun _ _ => (0 : ℕ)) 4 :=
  regionOf (cfgs := cfgs) (pdats m) defs₀ 4 launch4 (W9 m) (dat4 (at' (W9 m))) (fun _ => rfl) (A_eq4 (at' (W9 m)))
    (fun _ _ => rfl) (fun _ _ => rfl) (fun _ _ => rfl) (fun _ _ => trivial) (body_obligation4 (at' (W9 m)))
set_option backward.isDefEq.respectTransparency.types false in
/-- Call 5, as a segment of the program. -/
def reg5 : Pipeline.RegionSeg (pcfgs (F := F)) adm (pdats m) () defs₀ Variants.none (fun _ => (∅ : Finset Unit)) (fun _ _ => (0 : ℕ)) 5 :=
  regionOf (cfgs := cfgs) (pdats m) defs₀ 5 launch5 (W10 m) (dat5 (at' (W10 m))) (fun _ => rfl) (A_eq5 (at' (W10 m)))
    (fun _ _ => rfl) (fun _ _ => rfl) (fun _ _ => rfl) (fun _ _ => trivial) (body_obligation5 (at' (W10 m)))
set_option backward.isDefEq.respectTransparency.types false in
/-- Call 6, as a segment of the program. -/
def reg6 : Pipeline.RegionSeg (pcfgs (F := F)) adm (pdats m) () defs₀ Variants.none (fun _ => (∅ : Finset Unit)) (fun _ _ => (0 : ℕ)) 6 :=
  regionOf (cfgs := cfgs) (pdats m) defs₀ 6 launch6 (W11 m) (dat6 (at' (W11 m))) (fun _ => rfl) (A_eq6 (at' (W11 m)))
    (fun _ _ => rfl) (fun _ _ => rfl) (fun _ _ => rfl) (fun _ _ => trivial) (body_obligation6 (at' (W11 m)))
set_option backward.isDefEq.respectTransparency.types false in
/-- Call 7, as a segment of the program. -/
def reg7 : Pipeline.RegionSeg (pcfgs (F := F)) adm (pdats m) () defs₀ Variants.none (fun _ => (∅ : Finset Unit)) (fun _ _ => (0 : ℕ)) 7 :=
  regionOf (cfgs := cfgs) (pdats m) defs₀ 7 launch7 (W12 m) (dat7 (at' (W12 m))) (fun _ => rfl) (A_eq7 (at' (W12 m)))
    (fun _ _ => rfl) (fun _ _ => rfl) (fun _ _ => rfl) (fun _ _ => trivial) (body_obligation7 (at' (W12 m)))
set_option backward.isDefEq.respectTransparency.types false in
/-- Call 8, as a segment of the program. -/
def reg8 : Pipeline.RegionSeg (pcfgs (F := F)) adm (pdats m) () defs₀ Variants.none (fun _ => (∅ : Finset Unit)) (fun _ _ => (0 : ℕ)) 8 :=
  regionOf (cfgs := cfgs) (pdats m) defs₀ 8 launch8 (W13 m) (dat8 (at' (W13 m))) (fun _ => rfl) (A_eq8 (at' (W13 m)))
    (fun _ _ => rfl) (fun _ _ => rfl) (fun _ _ => rfl) (fun _ _ => trivial) (body_obligation8 (at' (W13 m)))
set_option backward.isDefEq.respectTransparency.types false in
/-- Call 9, as a segment of the program. -/
def reg9 : Pipeline.RegionSeg (pcfgs (F := F)) adm (pdats m) () defs₀ Variants.none (fun _ => (∅ : Finset Unit)) (fun _ _ => (0 : ℕ)) 9 :=
  regionOf (cfgs := cfgs) (pdats m) defs₀ 9 launch9 (W14 m) (dat9 (at' (W14 m))) (fun _ => rfl) (A_eq9 (at' (W14 m)))
    (fun _ _ => rfl) (fun _ _ => rfl) (fun _ _ => rfl) (fun _ _ => trivial) (body_obligation9 (at' (W14 m)))
set_option backward.isDefEq.respectTransparency.types false in
/-- Call 10, as a segment of the program. -/
def reg10 : Pipeline.RegionSeg (pcfgs (F := F)) adm (pdats m) () defs₀ Variants.none (fun _ => (∅ : Finset Unit)) (fun _ _ => (0 : ℕ)) 10 :=
  regionOf (cfgs := cfgs) (pdats m) defs₀ 10 launch10 (W16 m) (dat10 (at' (W16 m))) (fun _ => rfl) (A_eq10 (at' (W16 m)))
    (fun _ _ => rfl) (fun _ _ => rfl) (fun _ _ => rfl) (fun _ _ => trivial) (body_obligation10 (at' (W16 m)))

/-- The whole program, as segments. -/
abbrev segs : List (Pipeline.Seg (pcfgs (F := F)) adm (pdats m) () defs₀ Variants.none (fun _ => (∅ : Finset Unit)) (fun _ _ => (0 : ℕ))) :=
  [ .host (hseg hostOps0 hostOps0_sub hostOps0_fresh (W0 m)),
    .region (reg0 m),
    .host (hseg hostOps1 hostOps1_sub hostOps1_fresh (W2 m)),
    .region (reg1 m),
    .host (hseg hostOps2 hostOps2_sub hostOps2_fresh (W4 m)),
    .host (hseg hostOps2_1 hostOps2_1_sub hostOps2_1_fresh (W5 m)),
    .host (hseg hostOps2_2 hostOps2_2_sub hostOps2_2_fresh (W6 m)),
    .region (reg2 m),
    .region (reg3 m),
    .region (reg4 m),
    .region (reg5 m),
    .region (reg6 m),
    .region (reg7 m),
    .region (reg8 m),
    .region (reg9 m),
    .host (hseg hostOps10 hostOps10_sub hostOps10_fresh (W15 m)),
    .region (reg10 m),
    .host (hseg hostOps11 hostOps11_sub hostOps11_fresh (W17 m)) ]

/-- The program is the run of its segments. -/
theorem main_run (c : Dev nD) : main (F := F) c = Pipeline.Seg.run (segs m) := (main_chain c).trans (by chain_rfl)

variable (ρ : Dev nD → PrngReg)

set_option backward.isDefEq.respectTransparency.types false in
/-- Every weakly fair execution of @main from any memory with zero counters terminates without a fault, and its final
    state has every unscoped buffer at `W18` and every semaphore counter at zero. -/
theorem run : θ_run defs (onTc (τ := τ) (main (F := F))) ⟨m, fun _ => 0, ρ⟩ (fun r =>
    (∀ c : Dev nD, ∀ b ∈ Pipeline.ucRefs τ sig, r.2.mem ((c : Thread nD τ).1, b) = W18 m c b) ∧ r.2.sem = fun _ => 0) :=
  Pipeline.θ_run_regions_kit_sems (pcfgs (F := F)) adm (pdats m) () cellOf_inj emb₁ defs₀ Variants.none (fun _ => ∅) (fun _ _ => 0) m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ restR c))
    (Tₙ := fun c => iprop(StableHlo.held (c : Thread nD τ) (Pipeline.ucRefs τ sig) (W18 m c) ∗ ∃ r, prngReg c r))
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach (fun _ => ∅) (fun _ _ => 0) fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W18 m c b)
    (hfin := fun c s' => by
      iintro ⟨⟨Hh, -⟩, HSI⟩
      unfold StableHlo.held
      imodintro
      iapply (pointsTo_read_all (Pipeline.ucRefs τ sig) (fun b => (((c : Thread nD τ)).1, b)) (W18 m c) s')
      isplitl [Hh] <;> iassumption)
    (hQ := fun s h hz => ⟨h, funext fun g => hz g (.inr (regions_no_unscoped g.2))⟩)

/-- A buffer outside every scope is among the buffers whose end is stated. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- The frame: every execution ends with the arguments as launched and every semaphore counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12))
      ∧ r.2.sem = fun _ => 0) :=
  (θ_run defs _ _).mono (fun r h => by
    refine ⟨fun c => ?_, h.2⟩
    have H : ∀ a ∈ argRefs, ¬ (Proc.devRef .tc a : DevRef τ sig).isScoped →
        r.2.mem ((c.tc : Thread nD τ).loc a) = m ((c.tc : Thread nD τ).loc a) := fun a ha hu =>
      (h.1 c _ (mem_uc a hu)).trans (W18_args m c a ha)
    exact ⟨H main_arg0 (by decide) (by decide), H main_arg1 (by decide) (by decide), H main_arg2 (by decide) (by decide), H main_arg3 (by decide) (by decide), H main_arg4 (by decide) (by decide), H main_arg5 (by decide) (by decide), H main_arg6 (by decide) (by decide), H main_arg7 (by decide) (by decide), H main_arg8 (by decide) (by decide), H main_arg9 (by decide) (by decide), H main_arg10 (by decide) (by decide), H main_arg11 (by decide) (by decide), H main_arg12 (by decide) (by decide)⟩) (run m ρ)

end

end Cert.KernelIdeal.Run

end
-- ==== Proof.Value.Real.lean ====
module

public import Idealize.ShloMosaic.Lib.Pointwise
public import Idealize.ShloMosaic.Lib.IdealHost

/-!
# Masked softmax over the extended reals

Values that are real numbers, sums and products of them, and the softmax of a row whose masked entries are `⊥`:
its weights are real, the masked ones are `0`, and dropping masked entries from the row changes nothing.
-/

@[expose] public section

noncomputable section

namespace SparseAttn

open Idealize.ShloMosaic

/-- The value is a real number. -/
def IsReal (x : EReal) : Prop := ∃ r : ℝ, x = (r : EReal)

/-- A real number is real. -/
theorem IsReal.coe (r : ℝ) : IsReal (r : EReal) := ⟨r, rfl⟩
/-- Zero is real. -/
theorem IsReal.zero : IsReal (0 : EReal) := ⟨0, rfl⟩
/-- One is real. -/
theorem IsReal.one : IsReal (1 : EReal) := ⟨1, rfl⟩
/-- A sum of two reals is real. -/
theorem IsReal.add {x y : EReal} : IsReal x → IsReal y → IsReal (x + y) := by
  rintro ⟨a, rfl⟩ ⟨b, rfl⟩; exact ⟨a + b, (EReal.coe_add a b).symm⟩
/-- A product of two reals is real. -/
theorem IsReal.mul {x y : EReal} : IsReal x → IsReal y → IsReal (x * y) := by
  rintro ⟨a, rfl⟩ ⟨b, rfl⟩; exact ⟨a * b, (EReal.coe_mul a b).symm⟩

/-- The coercion of a finite sum of reals. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A finite sum of reals is real. -/
theorem IsReal.sum {ι : Type*} (s : Finset ι) (f : ι → EReal) (h : ∀ i, IsReal (f i)) : IsReal (∑ i ∈ s, f i) := by
  choose g hg using h
  exact ⟨∑ i ∈ s, g i, by rw [coe_sum]; exact Finset.sum_congr rfl fun i _ => hg i⟩

/-- Of finite absolute value means real. -/
theorem isReal_of_ne {x : EReal} (h1 : x ≠ ⊤) (h2 : x ≠ ⊥) : IsReal x := ⟨x.toReal, (EReal.coe_toReal h1 h2).symm⟩

/-- A real factor of the left operands of a sum of products of reals comes out of the sum. -/
theorem scale_out {n : ℕ} (f g : Fin n → EReal) (c : EReal) (hf : ∀ i, IsReal (f i)) (hg : ∀ i, IsReal (g i)) (hc : IsReal c) :
    ∑ i, (f i * c) * g i = (∑ i, f i * g i) * c := by
  choose a ha using hf
  choose b hb using hg
  obtain ⟨r, rfl⟩ := hc
  have e1 : ∑ i, (f i * (r : EReal)) * g i = ((∑ i, a i * r * b i : ℝ) : EReal) := by
    rw [coe_sum]; exact Finset.sum_congr rfl fun i _ => by rw [ha, hb]; push_cast; rfl
  have e2 : ∑ i, f i * g i = ((∑ i, a i * b i : ℝ) : EReal) := by
    rw [coe_sum]; exact Finset.sum_congr rfl fun i _ => by rw [ha, hb]; push_cast; rfl
  rw [e1, e2, ← EReal.coe_mul, Finset.sum_mul]
  congr 1; exact Finset.sum_congr rfl fun i _ => by ring

/-! ## The softmax of a row -/

/-- The pattern of minus infinity. -/
theorem ofBits_negInf : Ideal.ofBits .f32 0xFF800000#32 = ⊥ := by simp [Ideal.ofBits, Ideal.ieee]

/-- The greatest entry of a row. -/
def rowMax {n : ℕ} (s : Fin n → EReal) : EReal := Finset.fold max (Ideal.ofBits .f32 0xFF800000#32) s Finset.univ

/-- The softmax of a row, as both programs compute it. -/
def softmax {n : ℕ} (s : Fin n → EReal) (j : Fin n) : EReal :=
  Ideal.div (Ideal.exp (s j - rowMax s)) (∑ x, Ideal.exp (s x - rowMax s))

/-- The row with the entries outside `m` at minus infinity. -/
def masked {n : ℕ} (m : Fin n → Prop) [DecidablePred m] (s : Fin n → EReal) (j : Fin n) : EReal := if m j then s j else ⊥

/-- A row's maximum is its supremum. -/
theorem rowMax_eq_sup {n : ℕ} (s : Fin n → EReal) : rowMax s = Finset.univ.sup s := by
  unfold rowMax; rw [ofBits_negInf]; rfl

/-- An element is at most its row's maximum. -/
theorem le_rowMax {n : ℕ} (s : Fin n → EReal) (j : Fin n) : s j ≤ rowMax s := by
  rw [rowMax_eq_sup]; exact Finset.le_sup (Finset.mem_univ j)

/-- The maximum of a row that has an element is taken. -/
theorem exists_rowMax {n : ℕ} (s : Fin n → EReal) (j : Fin n) : ∃ k, rowMax s = s k := by
  rw [rowMax_eq_sup]
  obtain ⟨k, _, hk⟩ := Finset.exists_mem_eq_sup Finset.univ ⟨j, Finset.mem_univ j⟩ s
  exact ⟨k, hk⟩

/-- The exponential of −∞ is 0. -/
theorem exp_bot : Ideal.exp ⊥ = 0 := rfl
/-- The exponential of a real is the real exponential. -/
theorem exp_coe (r : ℝ) : Ideal.exp (r : EReal) = ((Real.exp r : ℝ) : EReal) := rfl

/-- Dividing a real by a nonzero real. -/
theorem div_coe (a b : ℝ) (hb : b ≠ 0) : Ideal.div (a : EReal) (b : EReal) = ((a / b : ℝ) : EReal) := by
  unfold Ideal.div
  rw [if_neg (by exact_mod_cast hb), ← EReal.coe_inv, ← EReal.coe_mul, div_eq_mul_inv]

section masked
variable {n : ℕ} (m : Fin n → Prop) [DecidablePred m] (s : Fin n → EReal) (hs : ∀ j, m j → IsReal (s j)) (j₀ : Fin n) (h₀ : m j₀)
include hs h₀

/-- The maximum of a row with an unmasked entry is real. -/
theorem rowMax_masked_real : IsReal (rowMax (masked m s)) := by
  obtain ⟨k, hk⟩ := exists_rowMax (masked m s) j₀
  have h := le_rowMax (masked m s) j₀
  rw [hk] at h ⊢
  unfold masked at h ⊢
  rw [if_pos h₀] at h
  split
  · next hm => exact hs k hm
  · next hm =>
    rw [if_neg hm] at h
    obtain ⟨r, hr⟩ := hs j₀ h₀
    rw [hr] at h
    exact absurd (le_bot_iff.mp h) (EReal.coe_ne_bot r)

/-- The exponentials of a masked row and their sum are real: `0` at the masked entries, the sum positive. -/
theorem exp_masked_real : ∃ (e : Fin n → ℝ) (l : ℝ), (∀ j, Ideal.exp (masked m s j - rowMax (masked m s)) = (e j : EReal)) ∧
    (∀ j, 0 ≤ e j) ∧ (∀ j, ¬ m j → e j = 0) ∧ (∑ x, Ideal.exp (masked m s x - rowMax (masked m s)) = (l : EReal)) ∧ 0 < l := by
  obtain ⟨M, hM⟩ := rowMax_masked_real m s hs j₀ h₀
  have key : ∀ j, ∃ e : ℝ, Ideal.exp (masked m s j - rowMax (masked m s)) = (e : EReal) ∧ 0 ≤ e ∧ (¬ m j → e = 0) ∧ (m j → 0 < e) := by
    intro j
    rw [hM]
    unfold masked
    by_cases hm : m j
    · obtain ⟨r, hr⟩ := hs j hm
      rw [if_pos hm, hr, ← EReal.coe_sub, exp_coe]
      exact ⟨_, rfl, (Real.exp_pos _).le, fun h => absurd hm h, fun _ => Real.exp_pos _⟩
    · rw [if_neg hm, EReal.bot_sub, exp_bot]
      exact ⟨0, rfl, le_rfl, fun _ => rfl, fun h => absurd h hm⟩
  choose e h1 h2 h3 h4 using key
  refine ⟨e, ∑ x, e x, h1, h2, h3, ?_, ?_⟩
  · rw [coe_sum]; exact Finset.sum_congr rfl fun x _ => h1 x
  · exact Finset.sum_pos' (fun x _ => h2 x) ⟨j₀, Finset.mem_univ _, h4 j₀ h₀⟩

/-- The softmax weights of a masked row are nonnegative reals, `0` at the masked entries. -/
theorem softmax_masked_real : ∃ p : Fin n → ℝ, (∀ j, softmax (masked m s) j = (p j : EReal)) ∧ (∀ j, 0 ≤ p j) ∧ ∀ j, ¬ m j → p j = 0 := by
  obtain ⟨e, l, h1, h2, h3, h4, h5⟩ := exp_masked_real m s hs j₀ h₀
  refine ⟨fun j => e j / l, fun j => ?_, fun j => div_nonneg (h2 j) h5.le, fun j hj => by simp [h3 j hj]⟩
  unfold softmax
  rw [h1, h4, div_coe _ _ h5.ne']

/-- A masked entry has weight `0`. -/
theorem softmax_masked_zero (j : Fin n) (hj : ¬ m j) : softmax (masked m s) j = 0 := by
  obtain ⟨p, h1, _, h3⟩ := softmax_masked_real m s hs j₀ h₀
  rw [h1, h3 j hj]; rfl

/-- A masked softmax is not negative. -/
theorem softmax_masked_nonneg (j : Fin n) : 0 ≤ softmax (masked m s) j := by
  obtain ⟨p, h1, h2, _⟩ := softmax_masked_real m s hs j₀ h₀
  rw [h1]; exact_mod_cast h2 j

/-- A masked softmax of real scores is real. -/
theorem softmax_masked_isReal (j : Fin n) : IsReal (softmax (masked m s) j) := by
  obtain ⟨p, h1, _⟩ := softmax_masked_real m s hs j₀ h₀
  exact ⟨p j, h1 j⟩

end masked

/-! ## Dropping entries at minus infinity -/

section emb
variable {n N : ℕ} (e : Fin n → Fin N) (he : Function.Injective e) (s : Fin N → EReal) (hs : ∀ x, x ∉ Set.range e → s x = ⊥)
include he hs

omit he in
/-- The maximum is over the entries that are not minus infinity. -/
theorem rowMax_emb : rowMax s = rowMax (fun j => s (e j)) := by
  rw [rowMax_eq_sup, rowMax_eq_sup]
  refine le_antisymm (Finset.sup_le fun x _ => ?_) (Finset.sup_le fun j _ => Finset.le_sup (f := s) (Finset.mem_univ (e j)))
  by_cases hx : x ∈ Set.range e
  · obtain ⟨j, rfl⟩ := hx
    exact Finset.le_sup (f := fun j => s (e j)) (Finset.mem_univ j)
  · rw [hs x hx]; exact bot_le

/-- So are the softmax weights. -/
theorem softmax_emb (j : Fin n) : softmax s (e j) = softmax (fun j => s (e j)) j := by
  unfold softmax
  rw [← rowMax_emb e s hs]
  congr 1
  symm
  refine Fintype.sum_of_injective e he _ _ (fun x hx => ?_) fun _ => rfl
  rw [hs x hx, EReal.bot_sub, exp_bot]

end emb

/-- The attention of a masked row over `N` entries is that over the `n` entries of a window that holds all unmasked ones. -/
theorem attend_emb {n N : ℕ} (e : Fin n → Fin N) (he : Function.Injective e) (m : Fin N → Prop) [DecidablePred m]
    (s v : Fin N → EReal) (hs : ∀ j, m j → IsReal (s j)) (j₀ : Fin N) (h₀ : m j₀) (hm : ∀ x, x ∉ Set.range e → ¬ m x) :
    ∑ x, softmax (masked m s) x * v x = ∑ j, softmax (masked (fun j => m (e j)) fun j => s (e j)) j * v (e j) := by
  symm
  refine Fintype.sum_of_injective e he _ _ (fun x hx => ?_) fun j => ?_
  · rw [softmax_masked_zero m s hs j₀ h₀ x (hm x hx), zero_mul]
  · rw [softmax_emb e he (masked m s) (fun x hx => by unfold masked; rw [if_neg (hm x hx)])]
    rfl

end SparseAttn
-- ==== Proof.Value.Rank.lean ====
module

public import Idealize.ShloMosaic.Lib.Pointwise
public import Idealize.ShloMosaic.Lib.SortFacts
public import Idealize.ShloMosaic.Lib.SortPrefix
public import Idealize.ShloMosaic.Lib.WordCmp
public import Idealize.ShloMosaic.Lib.IdealHost
public import proofs.«01_k».proof.Proof.Value.Real

/-!
# The four most important blocks

The blocks are ordered by importance, equal ones by index; the rank of a block is the number of blocks before it. A stable
descending sort puts the block of rank `k` at position `k`; taking the first maximum `k + 1` times, each time striking out the
one taken, ends at the block of rank `k`.
-/

@[expose] public section

noncomputable section

namespace SparseAttn

open Idealize.ShloMosaic

/-- Block `a` comes before block `b`: more important, or as important and of smaller index. -/
def Before {n : ℕ} (f : Fin n → EReal) (a b : Fin n) : Prop := f b < f a ∨ (f a = f b ∧ a < b)

instance {n : ℕ} (f : Fin n → EReal) (a b : Fin n) : Decidable (Before f a b) := Classical.propDecidable _

/-- How many blocks come before block `b`. -/
def rank {n : ℕ} (f : Fin n → EReal) (b : Fin n) : ℕ := (Finset.univ.filter fun a => Before f a b).card

variable {n : ℕ} (f : Fin n → EReal)

/-- No block comes before itself. -/
theorem before_irrefl (a : Fin n) : ¬ Before f a a := by
  rintro (h | ⟨_, h⟩)
  · exact lt_irrefl _ h
  · exact lt_irrefl _ h

/-- Coming before is transitive. -/
theorem before_trans {a b c : Fin n} (h1 : Before f a b) (h2 : Before f b c) : Before f a c := by
  rcases h1 with h1 | ⟨e1, h1⟩ <;> rcases h2 with h2 | ⟨e2, h2⟩
  · exact .inl (h2.trans h1)
  · exact .inl (e2 ▸ h1)
  · exact .inl (e1 ▸ h2)
  · exact .inr ⟨e1.trans e2, h1.trans h2⟩

/-- Of two blocks one comes before the other. -/
theorem before_total {a b : Fin n} (h : a ≠ b) : Before f a b ∨ Before f b a := by
  rcases lt_trichotomy (f a) (f b) with h1 | h1 | h1
  · exact .inr (.inl h1)
  · rcases lt_or_gt_of_ne h with h2 | h2
    · exact .inl (.inr ⟨h1, h2⟩)
    · exact .inr (.inr ⟨h1.symm, h2⟩)
  · exact .inl (.inl h1)

/-- A block that comes before another has the lower rank. -/
theorem rank_lt_of_before {a b : Fin n} (h : Before f a b) : rank f a < rank f b := by
  refine Finset.card_lt_card ⟨fun x hx => ?_, fun hsub => ?_⟩
  · exact Finset.mem_filter.mpr ⟨Finset.mem_univ _, before_trans f (Finset.mem_filter.mp hx).2 h⟩
  · exact before_irrefl f a (Finset.mem_filter.mp (hsub (Finset.mem_filter.mpr ⟨Finset.mem_univ a, h⟩))).2

/-- A rank is below the number of blocks. -/
theorem rank_lt (b : Fin n) : rank f b < n := by
  have h : (Finset.univ.filter fun a => Before f a b).card < (Finset.univ : Finset (Fin n)).card :=
    Finset.card_lt_card ⟨Finset.subset_univ _, fun hs =>
      before_irrefl f b (Finset.mem_filter.mp (hs (Finset.mem_univ b))).2⟩
  rw [Finset.card_univ, Fintype.card_fin] at h
  exact h

/-- Different blocks have different ranks. -/
theorem rank_injective : Function.Injective (rank f) := by
  intro a b h
  by_contra hne
  rcases before_total f hne with h1 | h1
  · exact absurd (rank_lt_of_before f h1) (by omega)
  · exact absurd (rank_lt_of_before f h1) (by omega)

/-- Every rank below `n` is taken. -/
theorem exists_rank (k : ℕ) (hk : k < n) : ∃ b, rank f b = k := by
  have hi : Function.Injective (fun b : Fin n => (⟨rank f b, rank_lt f b⟩ : Fin n)) :=
    fun a b h => rank_injective f (congrArg Fin.val h)
  obtain ⟨b, hb⟩ := (Finite.injective_iff_surjective.mp hi) ⟨k, hk⟩
  exact ⟨b, congrArg Fin.val hb⟩

/-! ## The stable sort -/

/-- The relation under which the sort works: strictly more important. -/
def above (a b : Fin n) : Bool := decide (f b < f a)

/-- Sorting an ascending list of blocks by importance alone, stably, is sorting it by importance and then index. -/
theorem stableSort_above (l : List (Fin n)) (hl : l.Pairwise (· < ·)) :
    stableSort (above f) l = stableSort (fun a b => decide (Before f a b)) l := by
  induction l with
  | nil => rfl
  | cons a l ih =>
    rw [List.pairwise_cons] at hl
    unfold stableSort
    rw [ih hl.2]
    refine insertBefore_congr _ _ a _ fun b hb => ?_
    have hb' : b ∈ l := (perm_stableSort _ l).mem_iff.mp hb
    have hab := hl.1 b hb'
    refine decide_eq_decide.mpr ⟨?_, ?_⟩
    · exact fun h => .inl h
    · rintro (h | ⟨_, h⟩)
      · exact h
      · exact absurd h (not_lt.mpr hab.le)

/-- Sorting by importance alone, stably, and sorting by importance and then index give the same order. -/
theorem sortedFrom_above : sortedFrom (above f) = sortedFrom (fun a b => decide (Before f a b)) := by
  funext k
  unfold sortedFrom
  have e : sortPositions n (above f) = sortPositions n (fun a b => decide (Before f a b)) :=
    stableSort_above f _ (List.pairwise_lt_finRange n)
  rw [List.get_of_eq e]
  rfl

/-- Coming before is a strict total order. -/
theorem strictTotalBefore : StrictTotalBefore (fun a b : Fin n => decide (Before f a b)) where
  irrefl a := decide_eq_false (before_irrefl f a)
  trans a b c h1 h2 := decide_eq_true (before_trans f (of_decide_eq_true h1) (of_decide_eq_true h2))
  total a b h := (before_total f h).imp (fun h => decide_eq_true h) (fun h => decide_eq_true h)

/-- The stable descending sort puts the block of rank `k` at position `k`. -/
theorem rank_sortedFrom (k : Fin n) : rank f (sortedFrom (above f) k) = k.val := by
  rw [sortedFrom_above]
  set σ := sortedFrom (fun a b : Fin n => decide (Before f a b)) with hσ
  have hinj : Function.Injective σ := sortedFrom_injective _
  have hst := strictTotalBefore f
  have hno : ∀ i j, i < j → Before f (σ i) (σ j) := by
    intro i j hij
    have h := sortedFrom_noInversion (fun a b : Fin n => decide (Before f a b)) _ (fun a b h => hst.asymm a b h) (fun _ _ h => h)
      hst.negTrans i j hij
    rcases before_total f (fun e => hij.ne (hinj e)) with h1 | h1
    · exact h1
    · exact absurd h1 (of_decide_eq_false h)
  have hcount : (Finset.univ.filter fun a => Before f a (σ k)) = (Finset.Iio k).map ⟨σ, hinj⟩ := by
    ext a
    simp only [Finset.mem_filter, Finset.mem_univ, true_and, Finset.mem_map, Finset.mem_Iio, Function.Embedding.coeFn_mk]
    constructor
    · intro ha
      obtain ⟨i, rfl⟩ := sortedFrom_surjective (fun a b : Fin n => decide (Before f a b)) a
      refine ⟨i, ?_, rfl⟩
      by_contra hik
      rcases (not_lt.mp hik).eq_or_lt with h | h
      · subst h; exact before_irrefl f _ ha
      · exact before_irrefl f _ (before_trans f ha (hno k i h))
    · rintro ⟨i, hi, rfl⟩
      exact hno i k hi
  unfold rank
  rw [hcount, Finset.card_map, Fin.card_Iio]

/-! ## The first maximum, four times -/

/-- The index of the first greatest entry of a row, as the kernel computes it. -/
def pick (w : Fin 256 → EReal) : BitVec 32 :=
  Finset.fold IntOp.minsi 2147483647#32 (fun x => if w x = rowMax w then BitVec.ofNat 32 x.val else 256#32) Finset.univ

/-- The row with its first greatest entry struck out. -/
def strike (w : Fin 256 → EReal) (x : Fin 256) : EReal :=
  Scalar.select (IntOp.cmpi .eq (BitVec.ofNat 32 x.val) (pick w)) (Ideal.ofBits .f32 0xC0000000#32) (w x)

/-- The lesser of two small naturals, as words. -/
theorem minsi_ofNat (a b : ℕ) (ha : a < 2 ^ 31) (hb : b < 2 ^ 31) :
    IntOp.minsi (BitVec.ofNat 32 a) (BitVec.ofNat 32 b) = BitVec.ofNat 32 (min a b) := by
  have h : (BitVec.ofNat 32 a).slt (BitVec.ofNat 32 b) = decide (a < b) := by
    rw [BitVec.slt, WordCmp.toInt_ofNat_of_lt (w := 32) ha, WordCmp.toInt_ofNat_of_lt (w := 32) hb, decide_eq_decide]
    omega
  unfold IntOp.minsi
  rw [h]
  by_cases hab : a < b
  · simp only [hab, decide_true, if_true, min_eq_left hab.le]
  · simp only [hab, decide_false, Bool.false_eq_true, if_false, min_eq_right (not_lt.mp hab)]

/-- A signed minimum of small index words is the index word of the minimum. -/
theorem fold_minsi {ι : Type} (s : Finset ι) (g : ι → ℕ) (hg : ∀ i, g i < 2 ^ 31) :
    Finset.fold IntOp.minsi 2147483647#32 (fun x => BitVec.ofNat 32 (g x)) s = BitVec.ofNat 32 (Finset.fold min 2147483647 g s) ∧
      Finset.fold min 2147483647 g s < 2 ^ 31 := by
  classical
  induction s using Finset.induction_on with
  | empty => exact ⟨rfl, by simp⟩
  | insert a s ha ih =>
    rw [Finset.fold_insert ha, Finset.fold_insert ha, ih.1, minsi_ofNat _ _ (hg a) ih.2]
    exact ⟨rfl, lt_of_le_of_lt (min_le_left _ _) (hg a)⟩

/-- `pick` finds the first greatest entry. -/
theorem pick_spec (w : Fin 256 → EReal) :
    ∃ p : Fin 256, pick w = BitVec.ofNat 32 p.val ∧ (∀ x, w x ≤ w p) ∧ ∀ x, w x = w p → p ≤ x := by
  classical
  obtain ⟨k, hk⟩ := exists_rowMax w 0
  have hne : (Finset.univ.filter fun x => w x = rowMax w).Nonempty := ⟨k, by simp [hk]⟩
  set p := (Finset.univ.filter fun x => w x = rowMax w).min' hne with hp
  have hpm : w p = rowMax w := (Finset.mem_filter.mp (Finset.min'_mem _ hne)).2
  have hmin : ∀ x, w x = w p → p ≤ x := fun x hx =>
    Finset.min'_le (Finset.univ.filter fun x => w x = rowMax w) x (Finset.mem_filter.mpr ⟨Finset.mem_univ _, hx.trans hpm⟩)
  refine ⟨p, ?_, fun x => hpm ▸ le_rowMax w x, hmin⟩
  unfold pick
  rw [show (fun x : Fin 256 => if w x = rowMax w then BitVec.ofNat 32 x.val else 256#32) =
    fun x => BitVec.ofNat 32 (if w x = rowMax w then x.val else 256) from funext fun x => by split <;> rfl]
  rw [(fold_minsi Finset.univ _ (fun x => by split <;> omega)).1]
  congr 1
  refine le_antisymm ?_ ?_
  · rw [Finset.fold_min_le]
    exact .inr ⟨p, Finset.mem_univ _, by rw [if_pos hpm]⟩
  · rw [Finset.le_fold_min]
    refine ⟨by have := p.isLt; omega, fun x _ => ?_⟩
    split
    · next h => exact hmin x (h.trans hpm.symm)
    · have := p.isLt; omega

/-- The word of −2. -/
theorem ofBits_negTwo : Ideal.ofBits .f32 0xC0000000#32 = ((-2 : ℝ) : EReal) := by
  simp [Ideal.ofBits, Ideal.ieee, -EReal.coe_mul]
  try norm_num

/-- The word of −1. -/
theorem ofBits_negOne : Ideal.ofBits .f32 0xBF800000#32 = ((-1 : ℝ) : EReal) := by
  simp [Ideal.ofBits, Ideal.ieee, -EReal.coe_mul]
  try norm_num

/-- The row after `k` strikes: odd lane `2s + 1` holds the importance of block `s` unless its rank is below `k`. -/
structure Struck (f : Fin 128 → EReal) (k : ℕ) (w : Fin 256 → EReal) : Prop where
  even : ∀ x : Fin 256, x.val % 2 = 0 → w x = ((-1 : ℝ) : EReal)
  odd : ∀ b : Fin 128, w ⟨2 * b.val + 1, by have := b.isLt; omega⟩ = if rank f b < k then ((-2 : ℝ) : EReal) else f b

/-- The first greatest entry after `k` strikes is the block of rank `k`, and striking it makes `k + 1`. -/
theorem Struck.step {f : Fin 128 → EReal} (hf : ∀ b, 0 ≤ f b) {k : ℕ} (hk : k < 128) {w : Fin 256 → EReal} (h : Struck f k w) :
    ∃ b : Fin 128, rank f b = k ∧ pick w = BitVec.ofNat 32 (2 * b.val + 1) ∧ Struck f (k + 1) (strike w) := by
  obtain ⟨b, hb⟩ := exists_rank f k hk
  obtain ⟨p, hp, hmax, hmin⟩ := pick_spec w
  have hwb : w ⟨2 * b.val + 1, by have := b.isLt; omega⟩ = f b := by rw [h.odd, if_neg (by omega)]
  have hneg1 : ((-1 : ℝ) : EReal) < 0 := by exact_mod_cast (by norm_num : (-1 : ℝ) < 0)
  have hneg2 : ((-2 : ℝ) : EReal) < 0 := by exact_mod_cast (by norm_num : (-2 : ℝ) < 0)
  have hwp : 0 ≤ w p := (hf b).trans (hwb ▸ hmax _)
  have hpodd : p.val % 2 = 1 := by
    by_contra hne
    rw [h.even p (by omega)] at hwp
    exact absurd hwp (not_le.mpr hneg1)
  have hp256 := p.isLt
  obtain ⟨s, hs⟩ : ∃ s : Fin 128, p.val = 2 * s.val + 1 := ⟨⟨p.val / 2, by omega⟩, by simp only; omega⟩
  have hps : p = ⟨2 * s.val + 1, by have := s.isLt; omega⟩ := Fin.ext hs
  have hsk : ¬ rank f s < k := by
    intro hlt
    rw [hps, h.odd, if_pos hlt] at hwp
    exact absurd hwp (not_le.mpr hneg2)
  have hws : w p = f s := by rw [hps, h.odd, if_neg hsk]
  have hsb : s = b := by
    by_contra hne
    rcases before_total f hne with h1 | h1
    · exact hsk (hb ▸ rank_lt_of_before f h1)
    · rcases h1 with h1 | ⟨h1, h2⟩
      · have := hmax ⟨2 * b.val + 1, by have := b.isLt; omega⟩
        rw [hwb, hws] at this
        exact absurd this (not_le.mpr h1)
      · have := hmin ⟨2 * b.val + 1, by have := b.isLt; omega⟩ (by rw [hwb, hws, h1])
        have h3 : p.val ≤ 2 * b.val + 1 := this
        have h4 : b.val < s.val := h2
        omega
  subst hsb
  have hpick : pick w = BitVec.ofNat 32 (2 * s.val + 1) := by rw [hp, hs]
  refine ⟨s, hb, hpick, ⟨fun x hx => ?_, fun c => ?_⟩⟩
  · have hx256 := x.isLt
    have hs128 := s.isLt
    unfold strike
    rw [hpick, WordCmp.cmpi_eq_ofNat (w := 32) (by omega) (by omega), WordCmp.select_decide, if_neg (by omega), h.even x hx]
  · have hc := c.isLt
    have hs128 := s.isLt
    unfold strike
    rw [hpick, WordCmp.cmpi_eq_ofNat (w := 32) (by simp only; omega) (by omega), WordCmp.select_decide, ofBits_negTwo]
    by_cases hcs : c = s
    · subst hcs
      rw [if_pos rfl, if_pos (by omega)]
    · rw [if_neg (fun e => hcs (Fin.ext (by simp only at e; omega))), h.odd]
      have : rank f c ≠ k := fun e => hcs (rank_injective f (e.trans hb.symm))
      by_cases hck : rank f c < k
      · rw [if_pos hck, if_pos (by omega)]
      · rw [if_neg hck, if_neg (by omega)]

end SparseAttn
-- ==== Proof.Value.Tile.lean ====
module

public import proofs.«01_k».proof.Proof.Frame.KernelIdeal.Region2
public import proofs.«01_k».proof.Proof.Value.Rank
public import Idealize.ShloMosaic.Lib.Tactic.CleanTypes
public import Idealize.ShloMosaic.Lib.Pipeline.ValueKit

/-!
# An attention tile, read element by element

What the body of an attention call writes for one query row and one feature, as the body computes it: masks are bits of index
words and the four selected blocks are words. Every name takes the number `B` of keys before the tile's own.
-/

@[expose] public section

set_option maxRecDepth 16384

noncomputable section

namespace SparseAttn

open Idealize.ShloMosaic

/-- The position of query row `r` of the tile. -/
abbrev tWord (B r : ℕ) : BitVec 32 := IntOp.addi (BitVec.ofNat 32 B) (BitVec.ofNat 32 r)

/-- Compressed block `c` is visible to row `r`. -/
def cMaskWord (B r c : ℕ) : BitVec 1 :=
  IntOp.ori (IntOp.cmpi .eq (BitVec.ofNat 32 c) 0#32)
    (IntOp.cmpi .sle (IntOp.subi (IntOp.addi (IntOp.muli (IntOp.subi (BitVec.ofNat 32 c) 1#32) 8#32) 16#32) 1#32) (tWord B r))

/-- The block of a position: floor division by 16, spelt out on words. -/
def blockWord (t : BitVec 32) : BitVec 32 :=
  Scalar.select
    (IntOp.andi
      (IntOp.cmpi .ne
        (IntOp.subi (BitVec.setWidth 32 (IntOp.cmpi .sgt t 0#32)) (BitVec.setWidth 32 (IntOp.cmpi .slt t 0#32)))
        (Scalar.subi (Scalar.extui (Scalar.cmpi .sgt 16#32 0#32)) (Scalar.extui (Scalar.cmpi .slt 16#32 0#32))))
      (IntOp.cmpi .ne (IntOp.remsi .vector t 16#32) 0#32))
    (IntOp.subi (IntOp.divsi .vector t 16#32) 1#32)
    (IntOp.divsi .vector t 16#32)

/-- Block word `b` is one of the four selected. -/
def hitWord (s : Fin 4 → BitVec 32) (b : BitVec 32) : BitVec 1 :=
  IntOp.ori (IntOp.ori (IntOp.ori (IntOp.cmpi .eq b (s 0)) (IntOp.cmpi .eq b (s 1))) (IntOp.cmpi .eq b (s 2))) (IntOp.cmpi .eq b (s 3))

/-- Key `j` of the tile's own chunk is visible to row `r`. -/
def chunkWord (B r j : ℕ) (s : Fin 4 → BitVec 32) : BitVec 1 :=
  IntOp.ori
    (IntOp.andi (IntOp.cmpi .sle (BitVec.ofNat 32 j) (BitVec.ofNat 32 r)) (IntOp.cmpi .eq (blockWord (tWord B j)) (blockWord (tWord B r))))
    (IntOp.andi (hitWord s (blockWord (tWord B j))) (IntOp.cmpi .slt (blockWord (tWord B j)) (blockWord (tWord B r))))

/-- A key before the chunk is visible: the selected blocks' indicators, spread over keys by the expander, sum to more than 0. -/
def bodyWord {n : ℕ} (s : Fin 4 → BitVec 32) (col : Fin n → EReal) : BitVec 1 :=
  BitVec.ofBool (decide (0 < ∑ x : Fin n, (FloatOps.sitofp (F := Ideal) .f32 (BitVec.setWidth 32 (hitWord s (BitVec.ofNat 32 x.val))) : EReal) * col x))

/-- Key `w0 + x` lies in the window of row `r`. -/
def winWord (B w0 r x : ℕ) : BitVec 1 :=
  IntOp.andi (IntOp.cmpi .sle (IntOp.addi (BitVec.ofNat 32 w0) (BitVec.ofNat 32 x)) (tWord B r))
    (IntOp.cmpi .slt (IntOp.subi (tWord B r) (IntOp.addi (BitVec.ofNat 32 w0) (BitVec.ofNat 32 x))) 64#32)

/-- The weights of a masked row whose masked exponentials are set to 0. -/
def windowed {n : ℕ} (m : Fin n → BitVec 1) (s : Fin n → EReal) (j : Fin n) : EReal :=
  Ideal.div (Scalar.select (m j) (Ideal.exp (Scalar.select (m j) (s j) ⊥ - rowMax fun j => Scalar.select (m j) (s j) ⊥)) 0)
    (∑ j, Scalar.select (m j) (Ideal.exp (Scalar.select (m j) (s j) ⊥ - rowMax fun j => Scalar.select (m j) (s j) ⊥)) 0)

/-- The row from which the four blocks are taken: at odd lanes the importance of a block, at even lanes −1. -/
def selRow (p : Fin 256 → EReal) (x : Fin 256) : EReal :=
  if x.val = 255 then p 255 else if x.val % 2 = 1 then p x + (if h : x.val < 255 then p ⟨x.val + 1, by omega⟩ else p 0) else ((-1 : ℝ) : EReal)

attribute [local irreducible] pick strike

/-- The four selected blocks, as words. -/
def selWord (w : Fin 256 → EReal) (k : Fin 4) : BitVec 32 :=
  IntOp.shrui .vector (pick (strike^[k.val] w)) 1#32

/-- The first selected block: the pick of the importances. -/
theorem selWord_zero (w : Fin 256 → EReal) : selWord w 0 = IntOp.shrui .vector (pick (w)) 1#32 := by
  unfold selWord
  congr 1
/-- The second: the pick once the first is struck out. -/
theorem selWord_one (w : Fin 256 → EReal) : selWord w 1 = IntOp.shrui .vector (pick (strike w)) 1#32 := by
  unfold selWord
  congr 1
/-- The third: the pick once two are struck out. -/
theorem selWord_two (w : Fin 256 → EReal) : selWord w 2 = IntOp.shrui .vector (pick (strike (strike w))) 1#32 := by
  unfold selWord
  congr 1
/-- The fourth: the pick once three are struck out. -/
theorem selWord_three (w : Fin 256 → EReal) : selWord w 3 = IntOp.shrui .vector (pick (strike (strike (strike w)))) 1#32 := by
  unfold selWord
  congr 1

/-- The mask word of the kernel is −∞. -/
theorem named_mask : (Named.named (F := Ideal) (φ := .f32) Cert.KernelIdeal.κ "mask" 0xF149F2CA#32 : EReal) = ⊥ := rfl

/-- `blockWord` is division by 16, at every position. -/
theorem blockWord_fin : ∀ n : Fin 2048, blockWord (BitVec.ofNat 32 n.val) = BitVec.ofNat 32 (n.val / 16) := by decide +kernel

/-- `blockWord` is division by 16 on positions. -/
theorem blockWord_ofNat (n : ℕ) (h : n < 2048) : blockWord (BitVec.ofNat 32 n) = BitVec.ofNat 32 (n / 16) := blockWord_fin ⟨n, h⟩

/-- The body's word for "this lane is odd". -/
def oddWord (x : ℕ) : BitVec 1 :=
  IntOp.cmpi .eq
    (Scalar.select
      (IntOp.andi
        (IntOp.xori
          (IntOp.cmpi .slt (IntOp.remsi .vector (BitVec.ofNat 32 x) (Scalar.select (Scalar.cmpi .eq 2#32 0#32) 1#32 2#32)) 0#32)
          (Scalar.cmpi .slt (Scalar.select (Scalar.cmpi .eq 2#32 0#32) 1#32 2#32) 0#32))
        (IntOp.cmpi .ne (IntOp.remsi .vector (BitVec.ofNat 32 x) (Scalar.select (Scalar.cmpi .eq 2#32 0#32) 1#32 2#32)) 0#32))
      (IntOp.addi (IntOp.remsi .vector (BitVec.ofNat 32 x) (Scalar.select (Scalar.cmpi .eq 2#32 0#32) 1#32 2#32))
        (Scalar.select (Scalar.cmpi .eq 2#32 0#32) 1#32 2#32))
      (IntOp.remsi .vector (BitVec.ofNat 32 x) (Scalar.select (Scalar.cmpi .eq 2#32 0#32) 1#32 2#32)))
    1#32

/-- `oddWord` says that a lane is odd, at every lane. -/
theorem oddWord_fin : ∀ x : Fin 256, oddWord x.val = BitVec.ofBool (decide (x.val % 2 = 1)) := by decide +kernel

/-- The word for "this lane is the last". -/
theorem lastWord_fin : ∀ x : Fin 256, IntOp.cmpi .eq (BitVec.ofNat 32 x.val) 255#32 = BitVec.ofBool (decide (x.val = 255)) := by decide +kernel

/-- The bitwise or of two bits. -/
theorem ori_ofBool (p q : Bool) : IntOp.ori (BitVec.ofBool p) (BitVec.ofBool q) = BitVec.ofBool (p || q) := by cases p <;> cases q <;> rfl
/-- The bitwise and of two bits. -/
theorem andi_ofBool (p q : Bool) : IntOp.andi (BitVec.ofBool p) (BitVec.ofBool q) = BitVec.ofBool (p && q) := by cases p <;> cases q <;> rfl

/-- `cMaskWord` says: block 0 (the memory), or a block that ends at or before the position. -/
theorem cMaskWord_eq (B r c : ℕ) (h : B + r < 2048) (hc : c < 256) :
    cMaskWord B r c = BitVec.ofBool (decide (c = 0 ∨ 8 * (c - 1) + 15 ≤ B + r)) := by
  unfold cMaskWord tWord
  rw [WordCmp.addi_ofNat]
  rcases Nat.eq_zero_or_pos c with rfl | hpos
  · have : IntOp.cmpi .eq (BitVec.ofNat 32 0) 0#32 = 1#1 := rfl
    have h1 : ∀ y : BitVec 1, IntOp.ori 1#1 y = 1#1 := by decide
    rw [this, h1]
    simp
  · obtain ⟨c, rfl⟩ : ∃ d, c = d + 1 := ⟨c - 1, by omega⟩
    rw [show IntOp.subi (BitVec.ofNat 32 (c + 1)) 1#32 = BitVec.ofNat 32 c by
      unfold IntOp.subi; rw [show (1#32) = BitVec.ofNat 32 1 from rfl]; apply BitVec.eq_of_toNat_eq; simp; omega]
    rw [show IntOp.subi (IntOp.addi (IntOp.muli (BitVec.ofNat 32 c) 8#32) 16#32) 1#32 = BitVec.ofNat 32 (8 * c + 15) by
      apply BitVec.eq_of_toNat_eq; simp [IntOp.subi, IntOp.addi, IntOp.muli]; omega]
    rw [WordCmp.cmpi_eq_ofNat (w := 32) (by omega) (by omega), WordCmp.cmpi_sle_ofNat (w := 32) (by omega) (by omega)]
    by_cases h2 : 8 * c + 15 ≤ B + r <;> simp [h2, IntOp.ori]

/-- `winWord` says: at or before the position, and fewer than 64 before it. -/
theorem winWord_eq (B w0 r x : ℕ) (h : B + r < 2048) (hx : w0 + x < 2048) :
    winWord B w0 r x = BitVec.ofBool (decide (w0 + x ≤ B + r ∧ B + r - (w0 + x) < 64)) := by
  unfold winWord tWord
  rw [WordCmp.addi_ofNat, WordCmp.addi_ofNat, WordCmp.cmpi_sle_ofNat (w := 32) (by omega) (by omega)]
  by_cases h1 : w0 + x ≤ B + r
  · rw [show IntOp.subi (BitVec.ofNat 32 (B + r)) (BitVec.ofNat 32 (w0 + x)) = BitVec.ofNat 32 (B + r - (w0 + x)) by
      apply BitVec.eq_of_toNat_eq; simp [IntOp.subi]; omega]
    rw [WordCmp.cmpi_slt_ofNat (w := 32) (by omega) (by omega)]
    by_cases h2 : B + r - (w0 + x) < 64 <;> simp [h1, h2, IntOp.andi]
  · simp [h1, IntOp.andi]

/-- `chunkWord` says: not after the row and in its block, or in an earlier block that is hit. -/
theorem chunkWord_eq (B r j : ℕ) (s : Fin 4 → BitVec 32) (P : ℕ → Prop) [DecidablePred P]
    (hs : ∀ b, b < 128 → hitWord s (BitVec.ofNat 32 b) = BitVec.ofBool (decide (P b))) (hr : r < 256) (hj : j < 256)
    (h : B + r < 2048) (h2 : B + j < 2048) :
    chunkWord B r j s = BitVec.ofBool (decide ((j ≤ r ∧ (B + j) / 16 = (B + r) / 16) ∨ (P ((B + j) / 16) ∧ (B + j) / 16 < (B + r) / 16))) := by
  unfold chunkWord tWord
  rw [WordCmp.addi_ofNat, WordCmp.addi_ofNat, blockWord_ofNat _ h, blockWord_ofNat _ h2, hs _ (by omega),
    WordCmp.cmpi_sle_ofNat (w := 32) (by omega) (by omega), WordCmp.cmpi_slt_ofNat (w := 32) (by omega) (by omega),
    WordCmp.cmpi_eq_ofNat (w := 32) (by omega) (by omega)]
  by_cases h1 : j ≤ r <;> by_cases h2 : (B + j) / 16 = (B + r) / 16 <;> by_cases h3 : P ((B + j) / 16) <;>
    by_cases h4 : (B + j) / 16 < (B + r) / 16 <;> simp [h1, h2, h3, h4, IntOp.andi, IntOp.ori]

/-- `hitWord` of four block numbers. -/
theorem hitWord_eq (b : Fin 4 → Fin 128) (s : Fin 4 → BitVec 32) (hs : ∀ k, s k = BitVec.ofNat 32 (b k).val) (n : ℕ) (hn : n < 128) :
    hitWord s (BitVec.ofNat 32 n) = BitVec.ofBool (decide (∃ k, (b k).val = n)) := by
  have hb : ∀ k, (b k).val < 128 := fun k => (b k).isLt
  unfold hitWord
  rw [hs, hs, hs, hs]
  have h0 := hb 0
  have h1 := hb 1
  have h2 := hb 2
  have h3 := hb 3
  rw [WordCmp.cmpi_eq_ofNat (w := 32) (by omega) (by omega), WordCmp.cmpi_eq_ofNat (w := 32) (by omega) (by omega),
    WordCmp.cmpi_eq_ofNat (w := 32) (by omega) (by omega), WordCmp.cmpi_eq_ofNat (w := 32) (by omega) (by omega)]
  have e : (∃ k, (b k).val = n) ↔ (n = (b 0).val ∨ n = (b 1).val) ∨ n = (b 2).val ∨ n = (b 3).val := by
    constructor
    · rintro ⟨k, hk⟩
      fin_cases k <;> simp_all
    · rintro ((h | h) | h | h)
      exacts [⟨0, h.symm⟩, ⟨1, h.symm⟩, ⟨2, h.symm⟩, ⟨3, h.symm⟩]
  rw [ori_ofBool, ori_ofBool, ori_ofBool]
  congr 1
  rw [Bool.eq_iff_iff]
  simp only [Bool.or_eq_true, decide_eq_true_eq, e, or_assoc]

/-! ## The selection -/

/-- The importance of block `b`: the probability of its first compressed block, and that of its second where there is one. -/
def impOf (p : Fin 256 → EReal) (b : Fin 128) : EReal :=
  p ⟨2 * b.val + 1, by have := b.isLt; omega⟩ + (if h : b.val < 127 then p ⟨2 * b.val + 2, by omega⟩ else 0)

/-- At the start no block is struck out of the row of importances. -/
theorem selRow_struck (p : Fin 256 → EReal) : Struck (impOf p) 0 (selRow p) where
  even x hx := by
    unfold selRow
    rw [if_neg (by omega), if_neg (by omega)]
  odd b := by
    have hb := b.isLt
    unfold selRow impOf
    rw [if_neg (Nat.not_lt_zero _)]
    by_cases h : b.val < 127
    · rw [if_neg (by simp only; omega), if_pos (by simp only; omega), dif_pos h, dif_pos (by simp only; omega)]
    · rw [if_pos (by simp only; omega), dif_neg h, add_zero]
      congr 1
      exact Fin.ext (by simp only; show 255 = _; omega)

/-- The four selected words are the blocks of rank 0 to 3. -/
theorem selWord_spec (p : Fin 256 → EReal) (hp : ∀ x, 0 ≤ p x) :
    ∃ b : Fin 4 → Fin 128, (∀ k, rank (impOf p) (b k) = k.val) ∧ ∀ k, selWord (selRow p) k = BitVec.ofNat 32 (b k).val := by
  have hf : ∀ b, 0 ≤ impOf p b := fun b => by
    unfold impOf
    split
    · exact add_nonneg (hp _) (hp _)
    · exact add_nonneg (hp _) le_rfl
  have hst : ∀ k, k ≤ 127 → Struck (impOf p) k (strike^[k] (selRow p)) := by
    intro k
    induction k with
    | zero => exact fun _ => selRow_struck p
    | succ k ih =>
      intro hk
      obtain ⟨_, _, _, h⟩ := (ih (by omega)).step hf (by omega)
      rw [Function.iterate_succ_apply']
      exact h
  have hall : ∀ k : Fin 4, ∃ b : Fin 128, rank (impOf p) b = k.val ∧ selWord (selRow p) k = BitVec.ofNat 32 b.val := by
    intro k
    have hk := k.isLt
    obtain ⟨b, hb, hpick, _⟩ := (hst k.val (by omega)).step hf (by omega)
    refine ⟨b, hb, ?_⟩
    unfold selWord
    rw [hpick]
    exact (by decide +kernel : ∀ b : Fin 128, IntOp.shrui .vector (BitVec.ofNat 32 (2 * b.val + 1)) 1#32 = BitVec.ofNat 32 b.val) b
  choose b hb using hall
  exact ⟨b, fun k => (hb k).1, fun k => (hb k).2⟩

/-- A block is hit exactly when its rank is below 4. -/
theorem hit_iff (p : Fin 256 → EReal) (hp : ∀ x, 0 ≤ p x) (n : Fin 128) :
    hitWord (selWord (selRow p)) (BitVec.ofNat 32 n.val) = BitVec.ofBool (decide (rank (impOf p) n < 4)) := by
  obtain ⟨b, hb, hs⟩ := selWord_spec p hp
  rw [hitWord_eq b _ hs n.val n.isLt]
  congr 1
  rw [decide_eq_decide]
  constructor
  · rintro ⟨k, hk⟩
    rw [← Fin.ext hk, hb]
    exact k.isLt
  · intro h
    exact ⟨⟨rank (impOf p) n, h⟩, congrArg Fin.val (rank_injective (impOf p) ((hb _).trans rfl))⟩

end SparseAttn

namespace Cert.KernelIdeal.Gen

open Idealize.ShloMosaic SparseAttn

/-- The lane numbers of a row. -/
abbrev lanes : IVec S256x256 32 := iota .tc S256x256 32 [1] iota_S256x256_d1_w32

/-- The body's maximal lane is the pick. -/
theorem pay10_at (w : FVec Ideal S256x256 .f32) (r : Fin 256) : k2_pay10 lanes w (ix2 r 0) = pick (fun x => w (ix2 r x)) := by
  unfold k2_pay10
  pointwise
  unfold pick rowMax
  rfl

/-- The body's row with its maximal lane at −2 is the struck row. -/
theorem pay12_at (w : FVec Ideal S256x256 .f32) (r x : Fin 256) : (k2_pay12 lanes w (ix2 r x) : EReal) = strike (fun x => w (ix2 r x)) x := by
  have h := pay10_at w r
  unfold k2_pay12 strike
  rw [← h]
  generalize k2_pay10 lanes w = P
  pointwise

/-- The body's selected block is half the picked lane. -/
theorem pay11_at (w : FVec Ideal S256x256 .f32) (r : Fin 256) : k2_pay11 lanes w (ix2 r 0) = IntOp.shrui .vector (pick (fun x => w (ix2 r x))) 1#32 := by
  have h := pay10_at w r
  unfold k2_pay11
  rw [← h]
  generalize k2_pay10 lanes w = P
  pointwise

/-- The body's row of importances. -/
theorem pay6_at (cp : FVec Ideal S256x256 .f32) (r x : Fin 256) : (k2_pay6 cp (ix2 r x) : EReal) = selRow (fun x => cp (ix2 r x)) x := by
  have hodd := oddWord_fin x
  unfold oddWord at hodd
  unfold k2_pay6
  pointwise
  rw [hodd, lastWord_fin, WordCmp.select_decide, WordCmp.select_decide, ofBits_negOne]
  unfold selRow
  refine if_congr Iff.rfl rfl (if_congr Iff.rfl ?_ rfl)
  congr 1
  split
  · congr 2; exact Fin.ext (Nat.add_comm _ _)
  · congr 2; exact Fin.ext (by have := x.isLt; simp only; show _ = 0; omega)

/-- The row after the first block is struck out, by the shared names. -/
theorem pay9_eq (cp : FVec Ideal S256x256 .f32) : k2_pay9 cp = k2_pay12 lanes (k2_pay6 cp) := by
  unfold k2_pay9 k2_pay12 k2_pay7 k2_pay10
  generalize k2_pay6 cp = w
  rfl
/-- The first selected block, by the shared names. -/
theorem pay8_eq (cp : FVec Ideal S256x256 .f32) : k2_pay8 cp = k2_pay11 lanes (k2_pay6 cp) := by
  unfold k2_pay8 k2_pay11 k2_pay7 k2_pay10
  generalize k2_pay6 cp = w
  rfl
/-- The third selected block, by the shared names. -/
theorem pay14_eq (w : FVec Ideal S256x256 .f32) : k2_pay14 lanes w = k2_pay11 lanes (k2_pay12 lanes w) := by
  unfold k2_pay14 k2_pay11 k2_pay13
  generalize k2_pay12 lanes w = w
  unfold k2_pay10
  rfl
/-- The fourth selected block, by the shared names. -/
theorem pay15_eq (w : FVec Ideal S256x256 .f32) : k2_pay15 lanes w = k2_pay11 lanes (k2_pay12 lanes (k2_pay12 lanes w)) := by
  unfold k2_pay15 k2_pay11 k2_pay13
  rw [show k2_pay12 lanes (k2_pay12 lanes w) = select (cmpi .eq lanes (broadcastTo S256x256 (k2_pay10 lanes (k2_pay12 lanes w)) broadcasts_S256x1_S256x256))
    (broadcast S256x256 (Scalar.ofBits .f32 0xC0000000#32)) (k2_pay12 lanes w) by unfold k2_pay12; rfl]
  generalize k2_pay12 lanes w = w
  unfold k2_pay10
  rfl

/-- The four selections of a row, from the row's probabilities. -/
theorem sel_at (cp : FVec Ideal S256x256 .f32) (r : Fin 256) :
    (k2_pay8 cp (ix2 r 0) = selWord (selRow fun x => cp (ix2 r x)) 0 ∧ k2_pay11 lanes (k2_pay9 cp) (ix2 r 0) = selWord (selRow fun x => cp (ix2 r x)) 1) ∧
    (k2_pay14 lanes (k2_pay9 cp) (ix2 r 0) = selWord (selRow fun x => cp (ix2 r x)) 2 ∧ k2_pay15 lanes (k2_pay9 cp) (ix2 r 0) = selWord (selRow fun x => cp (ix2 r x)) 3) := by
  have e6 : (fun x => (k2_pay6 cp (ix2 r x) : EReal)) = selRow (fun x => cp (ix2 r x)) := funext (pay6_at cp r)
  rw [pay8_eq, pay14_eq, pay15_eq, pay9_eq]
  generalize k2_pay6 cp = w at e6 ⊢
  have e1 := (funext (pay12_at w r)).trans (congrArg strike e6)
  generalize k2_pay12 lanes w = w1 at e1 ⊢
  have e2 := (funext (pay12_at w1 r)).trans (congrArg strike e1)
  generalize k2_pay12 lanes w1 = w2 at e2 ⊢
  have e3 := (funext (pay12_at w2 r)).trans (congrArg strike e2)
  generalize k2_pay12 lanes w2 = w3 at e3 ⊢
  exact ⟨⟨(pay11_at w r).trans (by rw [e6, selWord_zero]), (pay11_at w1 r).trans (by rw [e1, selWord_one])⟩,
    (pay11_at w2 r).trans (by rw [e2, selWord_two]), (pay11_at w3 r).trans (by rw [e3, selWord_three])⟩

end Cert.KernelIdeal.Gen
-- ==== Proof.Value.Attn.lean ====
module

public import proofs.«01_k».proof.Proof.Value.Tile

/-!
# Sparse attention of one query

The three branches of one query position, as plain mathematics, and the proof that a tile of the kernel computes them: its mask
bits are these masks, and keys that it does not look at have weight 0.
-/

@[expose] public section

noncomputable section

namespace SparseAttn

open Idealize.ShloMosaic
open scoped Classical

/-- Compressed block `c` is visible at position `i`: it is the memory, or it ends at or before `i`. -/
def cmask (i c : ℕ) : Prop := c = 0 ∨ 8 * (c - 1) + 15 ≤ i

/-- Block `b` is one of the four most important. -/
def selected (imp : Fin 128 → EReal) (b : ℕ) : Prop := ∃ h : b < 128, rank imp ⟨b, h⟩ < 4

/-- Key `j` is visible to the selected branch at position `i`. -/
def fmask (imp : Fin 128 → EReal) (i j : ℕ) : Prop := j ≤ i ∧ (j / 16 = i / 16 ∨ selected imp (j / 16))

/-- Key `j` is in the sliding window of position `i`. -/
def wmask (i j : ℕ) : Prop := j ≤ i ∧ i - j < 64

/-- The compressed branch's probabilities. -/
def cprob (sc : Fin 256 → EReal) (i : ℕ) : Fin 256 → EReal := softmax (masked (fun c : Fin 256 => cmask i c.val) sc)

/-- The gated sum of the three branches, from the scores and one feature of the values. -/
def attnOut {N : ℕ} (sc cv : Fin 256 → EReal) (s v : Fin N → EReal) (g : Fin 3 → EReal) (i : ℕ) : EReal :=
  g 0 * (∑ c : Fin 256, cprob sc i c * cv c) +
    g 1 * (∑ j : Fin N, softmax (masked (fun j : Fin N => fmask (impOf (cprob sc i)) i j.val) s) j * v j) +
    g 2 * (∑ j : Fin N, softmax (masked (fun j : Fin N => wmask i j.val) s) j * v j)

/-- A compressed weight is not negative. -/
theorem cprob_nonneg (sc : Fin 256 → EReal) (hsc : ∀ c, IsReal (sc c)) (i : ℕ) (c : Fin 256) : 0 ≤ cprob sc i c :=
  softmax_masked_nonneg _ _ (fun c _ => hsc c) 0 (.inl rfl) c

/-- The position's own key is always visible. -/
theorem fmask_self (imp : Fin 128 → EReal) (i : ℕ) : fmask imp i i := ⟨le_rfl, .inl rfl⟩
/-- A position lies in its own window. -/
theorem wmask_self (i : ℕ) : wmask i i := ⟨le_rfl, by omega⟩

/-- Keys past the position do not matter: the same sum over the first `N` keys only. -/
theorem attnOut_restrict {N M : ℕ} (hNM : N ≤ M) (sc cv : Fin 256 → EReal) (s v : Fin M → EReal) (hs : ∀ j, IsReal (s j)) (g : Fin 3 → EReal)
    (i : ℕ) (hi : i < N) :
    attnOut sc cv (fun j : Fin N => s (Fin.castLE hNM j)) (fun j : Fin N => v (Fin.castLE hNM j)) g i = attnOut sc cv s v g i := by
  unfold attnOut
  have hinj : Function.Injective (Fin.castLE hNM) := Fin.castLE_injective hNM
  rw [attend_emb (Fin.castLE hNM) hinj (fun j : Fin M => fmask (impOf (cprob sc i)) i j.val) s v (fun j _ => hs j) ⟨i, lt_of_lt_of_le hi hNM⟩ (fmask_self _ i)
      (fun x hx h => hx ⟨⟨x.val, lt_of_le_of_lt h.1 hi⟩, Fin.ext rfl⟩),
    attend_emb (Fin.castLE hNM) hinj (fun j : Fin M => wmask i j.val) s v (fun j _ => hs j) ⟨i, lt_of_lt_of_le hi hNM⟩ (wmask_self i)
      (fun x hx h => hx ⟨⟨x.val, lt_of_le_of_lt h.1 hi⟩, Fin.ext rfl⟩)]
  rfl

/-- Setting the masked exponentials to 0 changes nothing: they are 0. -/
theorem windowed_eq {n : ℕ} (m : Fin n → Prop) (b : Fin n → BitVec 1) (hb : ∀ j, b j = BitVec.ofBool (decide (m j))) (s : Fin n → EReal) :
    windowed b s = softmax (masked m s) := by
  have hrow : (fun j => Scalar.select (b j) (s j) ⊥) = masked m s := by
    funext j
    rw [hb, WordCmp.select_decide]
    rfl
  have hexp : ∀ j, Scalar.select (b j) (Ideal.exp (Scalar.select (b j) (s j) ⊥ - rowMax fun j => Scalar.select (b j) (s j) ⊥)) 0 =
      Ideal.exp (masked m s j - rowMax (masked m s)) := by
    intro j
    rw [hrow, show Scalar.select (b j) (s j) ⊥ = masked m s j from congrFun hrow j, hb, WordCmp.select_decide]
    unfold masked
    split
    · rfl
    · rw [EReal.bot_sub, exp_bot]
  funext j
  unfold windowed softmax
  simp only [hexp]

/-- Selecting −∞ by a mask's bits is masking. -/
theorem softmax_select_eq {n : ℕ} (m : Fin n → Prop) (b : Fin n → BitVec 1) (hb : ∀ j, b j = BitVec.ofBool (decide (m j))) (s : Fin n → EReal) :
    (fun j => Scalar.select (b j) (s j) ⊥) = masked m s := by
  funext j
  rw [hb, WordCmp.select_decide]
  rfl

/-- Spreading the selected blocks over keys: the bit of a key is the bit of its block. -/
theorem bodyWord_eq {n : ℕ} (w : Fin 4 → BitVec 32) (col : Fin n → EReal) (b : Fin n) (hcol : ∀ x, col x = if b = x then 1 else 0) (P : Prop)
    (hw : hitWord w (BitVec.ofNat 32 b.val) = BitVec.ofBool (decide P)) : bodyWord w col = BitVec.ofBool (decide P) := by
  unfold bodyWord
  rw [Finset.sum_eq_single b (fun x _ hx => by rw [hcol, if_neg (fun e => hx e.symm), mul_zero]) (fun h => absurd (Finset.mem_univ b) h),
    hcol, if_pos rfl, mul_one, hw]
  congr 1
  rw [decide_eq_decide]
  by_cases hP : P
  · simp [hP, FloatOps.sitofp]
  · simp [hP, FloatOps.sitofp]

/-- A tile of `256` query rows after `B` keys, `n` blocks: what the body computes is `attnOut` at the row's position. -/
theorem tile_eq (B N w0 L n : ℕ) (hN : N = B + 256) (hB : B = 16 * n) (hM : N ≤ 2048) (hL : w0 + L = N) (hw0 : w0 = 0 ∨ w0 + 256 = B)
    (h256 : 256 ∣ B) (r : Fin 256) (sc cv : Fin 256 → EReal) (s v : Fin N → EReal) (g : Fin 3 → EReal) (col : Fin n → Fin B → EReal)
    (hsc : ∀ c, IsReal (sc c)) (hs : ∀ j, IsReal (s j)) (hcol : ∀ x j, col x j = if j.val / 16 = x.val then 1 else 0)
    (P : Fin 256 → EReal) (hP : P = softmax fun c : Fin 256 => Scalar.select (cMaskWord B r c) (sc c) ⊥)
    (row : Fin N → EReal)
    (hrow : ∀ x : Fin N, row x = if h : x.val < B then Scalar.select (bodyWord (selWord (selRow P)) (fun y => col y ⟨x.val, h⟩)) (s x) ⊥
      else Scalar.select (chunkWord B r (x.val - B) (selWord (selRow P))) (s x) ⊥) :
    g 0 * (∑ c : Fin 256, P c * cv c) + g 1 * (∑ x : Fin N, softmax row x * v x) +
      g 2 * (∑ x : Fin L, windowed (fun x : Fin L => winWord B w0 r x) (fun x => s ⟨w0 + x.val, by have := x.isLt; omega⟩) x *
        v ⟨w0 + x.val, by have := x.isLt; omega⟩) = attnOut sc cv s v g (B + r) := by
  have hr := r.isLt
  have hPc : P = cprob sc (B + r) := by
    rw [hP, softmax_select_eq (fun c : Fin 256 => cmask (B + r) c.val) _ (fun c => (cMaskWord_eq B r c (by omega) c.isLt).trans (congrArg BitVec.ofBool (decide_eq_decide.mpr Iff.rfl))) sc]
    rfl
  have hP0 : ∀ x, 0 ≤ P x := hPc ▸ cprob_nonneg sc hsc (B + r)
  have hhit : ∀ b, b < 128 → hitWord (selWord (selRow P)) (BitVec.ofNat 32 b) = BitVec.ofBool (decide (selected (impOf P) b)) := by
    intro b hb
    rw [hit_iff P hP0 ⟨b, hb⟩]
    congr 1
    rw [decide_eq_decide]
    exact ⟨fun h => ⟨hb, h⟩, fun ⟨_, h⟩ => h⟩
  have hrowm : row = masked (fun j : Fin N => fmask (impOf P) (B + r) j.val) s := by
    funext x
    have hx := x.isLt
    rw [hrow]
    by_cases h : x.val < B
    · rw [dif_pos h, bodyWord_eq _ _ ⟨x.val / 16, by omega⟩ (fun y => by rw [hcol]; simp only [Fin.ext_iff]) _ (hhit (x.val / 16) (by omega)),
        WordCmp.select_decide]
      unfold masked
      refine if_congr ?_ rfl rfl
      unfold fmask
      constructor
      · exact fun h => ⟨by omega, .inr h⟩
      · rintro ⟨_, h | h⟩
        · omega
        · exact h
    · rw [dif_neg h, chunkWord_eq B r (x.val - B) _ (selected (impOf P)) hhit hr (by omega) (by omega) (by omega), WordCmp.select_decide]
      rw [show B + (x.val - B) = x.val by omega]
      unfold masked
      refine if_congr ?_ rfl rfl
      unfold fmask
      constructor
      · rintro (⟨h1, h2⟩ | ⟨h1, h2⟩)
        · exact ⟨by omega, .inl h2⟩
        · exact ⟨by omega, .inr h1⟩
      · rintro ⟨h1, h2 | h2⟩
        · exact .inl ⟨by omega, h2⟩
        · by_cases h3 : x.val / 16 = (B + r) / 16
          · exact .inl ⟨by omega, h3⟩
          · exact .inr ⟨h2, by omega⟩
  have hwin : (∑ x : Fin L, windowed (fun x : Fin L => winWord B w0 r x) (fun x => s ⟨w0 + x.val, by have := x.isLt; omega⟩) x *
      v ⟨w0 + x.val, by have := x.isLt; omega⟩) = ∑ j : Fin N, softmax (masked (fun j : Fin N => wmask (B + r) j.val) s) j * v j := by
    rw [windowed_eq (fun x : Fin L => wmask (B + r) (w0 + x.val)) _ (fun x => (winWord_eq B w0 r x (by omega) (by have := x.isLt; omega)).trans (congrArg BitVec.ofBool (decide_eq_decide.mpr Iff.rfl)))]
    refine (attend_emb (fun x : Fin L => (⟨w0 + x.val, by have := x.isLt; omega⟩ : Fin N)) (fun a b hab => Fin.ext (by have := congrArg Fin.val hab; simp only at this; omega))
      (fun j : Fin N => wmask (B + r) j.val) s v (fun j _ => hs j) ⟨B + r, by omega⟩ (wmask_self _) ?_).symm
    · rintro x hx' ⟨h1, h2⟩
      have hx := x.isLt
      exact hx' ⟨⟨x.val - w0, by omega⟩, Fin.ext (by simp only; omega)⟩
  rw [hwin, hrowm, hPc]
  rfl

end SparseAttn
-- ==== Proof.Value.Head.lean ====
module

public import proofs.«01_k».proof.Proof.Value.Attn
public import proofs.«01_k».proof.Proof.Frame.Region
public import Idealize.ShloMosaic.Lib.Pipeline.ValueKit

/-!
# One element of a head's output, from the whole arrays

What the attention of one head leaves at row `i` and column `e`, as a function of the arrays of queries, keys, values,
compressed keys and values, and gates; and the element of a tile read as that.
-/

@[expose] public section

set_option maxRecDepth 16384

noncomputable section

namespace SparseAttn

open Idealize.ShloMosaic Idealize.ShloMosaic.TcCoe Idealize.ShloMosaic.Tactic
open Idealize.SL.Sem
open Idealize.ShloMosaic.Pipeline (Dat Cfg Window)

section Blocks
variable {nD : Nat} {τ : Topo} {sig : RefSig} {Λ₀ : Labels} {F : FTy → Type} [FloatOps F]
variable {cfg : Cfg sig Λ₀} {c : Dev nD}

/-- A window none of whose blocks is cut holds, at each index, what its block of the array holds there. -/
theorem blockAt_read (w : Fin cfg.W) (hsize : ∀ t a, (cfg.win w).xsize (cfg.grid.coords t) a = (cfg.win w).size a)
    (A : Buf (Elt F) ((cfg.win w).arr.view.loc (c.tc : Thread nD τ))) (t : Fin cfg.N) (j : (cfg.win w).block.Idx) :
    blockAt cfg c w A t j = ((cfg.win w).blk t).view.read (Elt F) A (fun a => ⟨j a, lt_of_lt_of_eq (j a).isLt (hsize t a).symm⟩) := by
  have hm : (cfg.win w).moved (cfg.grid.coords t) j = true :=
    ((cfg.win w).moved_iff _ j).mpr fun a => by rw [hsize t a]; exact (j a).isLt
  unfold blockAt Pipeline.Window.fill; rw [dif_pos hm]

end Blocks

/-- An array of three axes from its elements. -/
theorem exists_array3 {a b c : ℕ} {α : Type*} (f : Fin a → Fin b → Fin c → α) :
    ∃ G : (Shape.mk 3 ![a, b, c]).Idx → α, ∀ x y z, G (ix3 x y z) = f x y z :=
  ⟨fun y => f (y 0) (y 1) (y 2), fun _ _ _ => rfl⟩

/-- An array of two axes from its elements. -/
theorem exists_array2 {a b : ℕ} {α : Type*} (f : Fin a → Fin b → α) :
    ∃ G : (Shape.mk 2 ![a, b]).Idx → α, ∀ x y, G (ix2 x y) = f x y :=
  ⟨fun y => f (y 0) (y 1), fun _ _ => rfl⟩

/-- An array of four axes from its elements. -/
theorem exists_array4 {a b c d : ℕ} {α : Type*} (f : Fin a → Fin b → Fin c → Fin d → α) :
    ∃ G : (Shape.mk 4 ![a, b, c, d]).Idx → α, ∀ x y z w, G (ix4 x y z w) = f x y z w :=
  ⟨fun y => f (y 0) (y 1) (y 2) (y 3), fun _ _ _ _ => rfl⟩

/-- Head `h`'s output at row `i`, column `e`: from queries, keys and values by head, row and column, compressed keys and
    values by head, block and column, and gates by branch, head and row. -/
def headOut (q k v : Fin 12 → Fin 2048 → Fin 64 → EReal) (ck cv : Fin 12 → Fin 256 → Fin 64 → EReal)
    (g : Fin 3 → Fin 12 → Fin 2048 → EReal) (h : Fin 12) (i : Fin 2048) (e : Fin 64) : EReal :=
  attnOut (fun c => ∑ d : Fin 64, q h i d * ck h c d) (fun c => cv h c e) (fun j : Fin 2048 => ∑ d : Fin 64, q h i d * k h j d)
    (fun j => v h j e) (fun a => g a h i) i.val

/-- A tile's element, computed over the first `W` columns alone, is the head's, when the scores are real numbers. -/
theorem headOut_of {q k v : Fin 12 → Fin 2048 → Fin 64 → EReal} {ck cv : Fin 12 → Fin 256 → Fin 64 → EReal}
    {g : Fin 3 → Fin 12 → Fin 2048 → EReal} {h : Fin 12} {i : Fin 2048} {e : Fin 64} {W : ℕ} (hW : W ≤ 2048) (hi : i.val < W)
    (hs : ∀ j : Fin 2048, IsReal (∑ d : Fin 64, q h i d * k h j d)) :
    attnOut (fun c => ∑ d : Fin 64, q h i d * ck h c d) (fun c => cv h c e)
      (fun j : Fin W => ∑ d : Fin 64, q h i d * k h (Fin.castLE hW j) d) (fun j => v h (Fin.castLE hW j) e) (fun a => g a h i) i.val
      = headOut q k v ck cv g h i e :=
  attnOut_restrict hW _ _ (fun j => ∑ d : Fin 64, q h i d * k h j d) (fun j => v h j e) hs _ _ hi

end SparseAttn
-- ==== Proof.Value.Spec.lean ====
module

public import proofs.«01_k».proof.Proof.Value.Head

/-!
# The function that both programs compute

Each element of the result as a function of the thirteen arguments' elements: the normalised rows, the three projections by
head, the gates, the compressed keys and values, the attention of each head, and the output projection.
-/

@[expose] public section

set_option maxRecDepth 16384

noncomputable section

namespace SparseAttn

open Idealize.ShloMosaic

/-- The arguments, by coordinates. -/
structure Args where
  x : Fin 2048 → Fin 768 → EReal
  g : Fin 768 → EReal
  wq : Fin 768 → Fin 768 → EReal
  wk : Fin 768 → Fin 768 → EReal
  wv : Fin 768 → Fin 768 → EReal
  kpe : Fin 12 → Fin 16 → Fin 64 → EReal
  vpe : Fin 12 → Fin 16 → Fin 64 → EReal
  wck : Fin 12 → Fin 1024 → Fin 64 → EReal
  wcv : Fin 12 → Fin 1024 → Fin 64 → EReal
  mem : Fin 2 → Fin 12 → Fin 64 → EReal
  wc : Fin 768 → Fin 36 → EReal
  bc : Fin 36 → EReal
  wo : Fin 768 → Fin 768 → EReal

/-- A row divided by its root mean square, times the gain. -/
def normRow (x g : Fin 768 → EReal) (d : Fin 768) : EReal :=
  x d * Ideal.rsqrt (Ideal.div (∑ k, x k * x k) (Ideal.ofBits .f32 1145044992#32) + Ideal.ofBits .f32 897988541#32) * g d

/-- Column `e` of head `h` among the 768 columns of a projection. -/
def headCol (h : Fin 12) (e : Fin 64) : Fin 768 := ⟨h.val * 64 + e.val, by omega⟩

/-- Branch `a`'s gate of head `h` among the 36 columns of the gates' projection. -/
def gateCol (a : Fin 3) (h : Fin 12) : Fin 36 := ⟨a.val * 12 + h.val, by omega⟩

/-- A normalised row projected to head `h`. -/
def projRow (x g : Fin 768 → EReal) (w : Fin 768 → Fin 768 → EReal) (h : Fin 12) (e : Fin 64) : EReal :=
  ∑ d, normRow x g d * w d (headCol h e)

/-- The scale of the queries, 1/8. -/
def scale : EReal := Ideal.ofBits .f32 1040187392#32

/-- The gate of branch `a`, head `h`. -/
def gateRow (x g : Fin 768 → EReal) (wc : Fin 768 → Fin 36 → EReal) (bc : Fin 36 → EReal) (a : Fin 3) (h : Fin 12) : EReal :=
  Ideal.logistic (∑ d, normRow x g d * wc d (gateCol a h) + bc (gateCol a h))

/-- Compressed row `c` of head `h`: the memory row, then each window of sixteen rows, eight apart, with the position
    embedding added, flattened and multiplied by the compression matrix. -/
def comp (k : Fin 12 → Fin 2048 → Fin 64 → EReal) (pe : Fin 12 → Fin 16 → Fin 64 → EReal) (w : Fin 12 → Fin 1024 → Fin 64 → EReal)
    (m : Fin 12 → Fin 64 → EReal) (h : Fin 12) (c : Fin 256) (e : Fin 64) : EReal :=
  if c.val = 0 then m h e
  else ∑ f : Fin 1024, (k h ⟨8 * (c.val - 1) + f.val / 64, by omega⟩ ⟨f.val % 64, by omega⟩ + pe h ⟨f.val / 64, by omega⟩ ⟨f.val % 64, by omega⟩) * w h f e

namespace Args
variable (A : Args)

/-- The keys. -/
def k (h : Fin 12) (i : Fin 2048) (e : Fin 64) : EReal := projRow (A.x i) A.g A.wk h e
/-- The values. -/
def v (h : Fin 12) (i : Fin 2048) (e : Fin 64) : EReal := projRow (A.x i) A.g A.wv h e
/-- The queries before they are scaled. -/
def q0 (h : Fin 12) (i : Fin 2048) (e : Fin 64) : EReal := projRow (A.x i) A.g A.wq h e
/-- The scaled queries. -/
def q (h : Fin 12) (i : Fin 2048) (e : Fin 64) : EReal := A.q0 h i e * scale
/-- The gates. -/
def gate (a : Fin 3) (h : Fin 12) (i : Fin 2048) : EReal := gateRow (A.x i) A.g A.wc A.bc a h
/-- The compressed keys. -/
def ck : Fin 12 → Fin 256 → Fin 64 → EReal := comp A.k A.kpe A.wck (A.mem 0)
/-- The compressed values. -/
def cv : Fin 12 → Fin 256 → Fin 64 → EReal := comp A.v A.vpe A.wcv (A.mem 1)
/-- The heads' outputs. -/
def heads : Fin 12 → Fin 2048 → Fin 64 → EReal := headOut A.q A.k A.v A.ck A.cv A.gate

/-- The result at row `i`, column `n`. -/
def result (i : Fin 2048) (n : Fin 768) : EReal :=
  ∑ f : Fin 768, A.heads ⟨f.val / 64, by omega⟩ i ⟨f.val % 64, by omega⟩ * A.wo f n

end Args

/-- The arguments that reach a score are real numbers. -/
structure Args.Finite (A : Args) : Prop where
  x : ∀ i d, IsReal (A.x i d)
  g : ∀ d, IsReal (A.g d)
  wq : ∀ i d, IsReal (A.wq i d)
  wk : ∀ i d, IsReal (A.wk i d)
  kpe : ∀ h i d, IsReal (A.kpe h i d)
  wck : ∀ h i d, IsReal (A.wck h i d)
  mem : ∀ a h d, IsReal (A.mem a h d)

/-- The divisor of the mean, 768. -/
theorem ofBits_768 : Ideal.ofBits .f32 1145044992#32 = ((768 : ℝ) : EReal) := by
  simp [Ideal.ofBits, Ideal.ieee, -EReal.coe_mul]; try norm_num

/-- The constant added to the mean is a positive real number. -/
theorem ofBits_eps : ∃ r : ℝ, 0 < r ∧ Ideal.ofBits .f32 897988541#32 = (r : EReal) := by
  refine ⟨_, ?_, by simp [Ideal.ofBits, Ideal.ieee, -EReal.coe_mul]; rfl⟩
  norm_num

/-- The scale is a real number. -/
theorem scale_isReal : IsReal scale :=
  ⟨1 / 8, by unfold scale; simp [Ideal.ofBits, Ideal.ieee, -EReal.coe_mul]; try norm_num⟩

/-- A real row's normalised row is real. -/
theorem normRow_isReal {x g : Fin 768 → EReal} (hx : ∀ d, IsReal (x d)) (hg : ∀ d, IsReal (g d)) (d : Fin 768) : IsReal (normRow x g d) := by
  refine IsReal.mul (IsReal.mul (hx d) ?_) (hg d)
  choose y hy using hx
  obtain ⟨ε, hε, he⟩ := ofBits_eps
  have hs : (∑ k, x k * x k) = ((∑ k, y k * y k : ℝ) : EReal) := by
    rw [coe_sum]; exact Finset.sum_congr rfl fun k _ => by rw [hy k, EReal.coe_mul]
  have h0 : 0 ≤ ∑ k, y k * y k := Finset.sum_nonneg fun k _ => mul_self_nonneg _
  rw [hs, ofBits_768, he, div_coe _ _ (by norm_num : (768 : ℝ) ≠ 0), ← EReal.coe_add]
  have hp : 0 < (∑ k, y k * y k) / 768 + ε := by positivity
  exact ⟨(Real.sqrt ((∑ k, y k * y k) / 768 + ε))⁻¹, by
    generalize (∑ k, y k * y k) / 768 + ε = z at hp ⊢
    show (if z < 0 then (⊥ : EReal) else if z = 0 then ⊤ else (((Real.sqrt z)⁻¹ : ℝ) : EReal)) = _
    rw [if_neg (not_lt.mpr hp.le), if_neg hp.ne']⟩

/-- A real row's projection by a real matrix is real. -/
theorem projRow_isReal {x g : Fin 768 → EReal} {w : Fin 768 → Fin 768 → EReal} (hx : ∀ d, IsReal (x d)) (hg : ∀ d, IsReal (g d))
    (hw : ∀ i d, IsReal (w i d)) (h : Fin 12) (e : Fin 64) : IsReal (projRow x g w h e) :=
  IsReal.sum _ _ fun d => IsReal.mul (normRow_isReal hx hg d) (hw _ _)

namespace Args.Finite
variable {A : Args} (H : A.Finite)
include H

/-- Finite arguments give real unscaled queries. -/
theorem q0_isReal (h : Fin 12) (i : Fin 2048) (e : Fin 64) : IsReal (A.q0 h i e) := projRow_isReal (H.x i) H.g H.wq h e
/-- Finite arguments give real queries. -/
theorem q_isReal (h : Fin 12) (i : Fin 2048) (e : Fin 64) : IsReal (A.q h i e) := IsReal.mul (H.q0_isReal h i e) scale_isReal
/-- Finite arguments give real keys. -/
theorem k_isReal (h : Fin 12) (i : Fin 2048) (e : Fin 64) : IsReal (A.k h i e) := projRow_isReal (H.x i) H.g H.wk h e
/-- Finite arguments give real compressed keys. -/
theorem ck_isReal (h : Fin 12) (c : Fin 256) (e : Fin 64) : IsReal (A.ck h c e) := by
  unfold Args.ck comp
  split
  · exact H.mem 0 h e
  · exact IsReal.sum _ _ fun f => IsReal.mul (IsReal.add (H.k_isReal _ _ _) (H.kpe _ _ _)) (H.wck _ _ _)

end Args.Finite

end SparseAttn
-- ==== Proof.Value.Arr0.lean ====
module

public import proofs.«01_k».proof.Proof.Frame.KernelIdeal.Run
public import proofs.«01_k».proof.Proof.Value.Spec
public import Idealize.ShloMosaic.Lib.Pointwise
public import Idealize.ShloMosaic.Lib.Tactic.CleanTypes

/-!
# The arrays the projection call leaves
-/

@[expose] public section

set_option maxRecDepth 16384

noncomputable section

namespace Cert.KernelIdeal.Gen

open Idealize.ShloMosaic Idealize.ShloMosaic.TcCoe Idealize.ShloMosaic.Tactic
open SparseAttn

variable (V : (c : Dev nD) → (b : Ref sig .tc) → Buf (Elt Ideal) ((c : Thread nD τ).loc b))

/-- The block that each window of call 0 holds at each point. -/
theorem widx0 : ∀ t : Fin cfg0.N, win0_0.index t = ![t.val, 0] ∧ win0_1.index t = ![0, 0] ∧ win0_2.index t = ![0, 0] ∧ win0_3.index t = ![0, 0]
    ∧ win0_4.index t = ![0, 0] ∧ win0_5.index t = ![0, 0] ∧ win0_6.index t = ![0, 0] ∧ win0_7.index t = ![0, t.val, 0] ∧ win0_8.index t = ![0, t.val, 0]
    ∧ win0_9.index t = ![0, t.val, 0] ∧ win0_10.index t = ![0, t.val, 0] ∧ win0_11.index t = ![0, t.val, 0] ∧ win0_12.index t = ![0, 0, t.val, 0] := by
  decide +kernel

section Element
variable (x0 : Vec Ideal S256x768 .f32) (x1 : Vec Ideal S1x768 .f32) (x2 x3 x4 : Vec Ideal S768x768 .bf16) (x5 : Vec Ideal S768x36 .bf16)
  (x6 : Vec Ideal S1x36 .f32)

/-- An element of the scaled queries of a tile. -/
theorem out0_7_at (h : Fin 12) (r : Fin 256) (e : Fin 64) :
    (out0_7 x0 x1 x2 x3 x4 x5 x6 (ix3 h r e) : EReal) = projRow (fun d => x0 (ix2 r d)) (fun d => x1 (ix2 0 d)) (fun d n => x2 (ix2 d n)) h e * scale := by
  unfold out0_7
  frame_out
  unfold val0_7
  unfold_payloads
  pointwise
  rfl

/-- An element of the keys of a tile. -/
theorem out0_8_at (h : Fin 12) (r : Fin 256) (e : Fin 64) :
    (out0_8 x0 x1 x2 x3 x4 x5 x6 (ix3 h r e) : EReal) = projRow (fun d => x0 (ix2 r d)) (fun d => x1 (ix2 0 d)) (fun d n => x3 (ix2 d n)) h e := by
  unfold out0_8
  frame_out
  unfold val0_8
  unfold_payloads
  pointwise
  rfl

/-- An element of the values of a tile. -/
theorem out0_9_at (h : Fin 12) (r : Fin 256) (e : Fin 64) :
    (out0_9 x0 x1 x2 x3 x4 x5 x6 (ix3 h r e) : EReal) = projRow (fun d => x0 (ix2 r d)) (fun d => x1 (ix2 0 d)) (fun d n => x4 (ix2 d n)) h e := by
  unfold out0_9
  frame_out
  unfold val0_9
  unfold_payloads
  pointwise
  rfl

/-- An element of the keys, kept whole of a tile. -/
theorem out0_10_at (h : Fin 12) (r : Fin 256) (e : Fin 64) :
    (out0_10 x0 x1 x2 x3 x4 x5 x6 (ix3 h r e) : EReal) = projRow (fun d => x0 (ix2 r d)) (fun d => x1 (ix2 0 d)) (fun d n => x3 (ix2 d n)) h e := by
  unfold out0_10
  frame_out
  unfold val0_10
  unfold_payloads
  pointwise
  rfl

/-- An element of the values, kept whole of a tile. -/
theorem out0_11_at (h : Fin 12) (r : Fin 256) (e : Fin 64) :
    (out0_11 x0 x1 x2 x3 x4 x5 x6 (ix3 h r e) : EReal) = projRow (fun d => x0 (ix2 r d)) (fun d => x1 (ix2 0 d)) (fun d n => x4 (ix2 d n)) h e := by
  unfold out0_11
  frame_out
  unfold val0_11
  unfold_payloads
  pointwise
  rfl

/-- An element of the gates of a tile. -/
theorem out0_12_at (a : Fin 3) (h : Fin 12) (r : Fin 256) :
    (out0_12 x0 x1 x2 x3 x4 x5 x6 (ix4 a h r 0) : EReal) =
      gateRow (fun d => x0 (ix2 r d)) (fun d => x1 (ix2 0 d)) (fun d n => x5 (ix2 d n)) (fun n => x6 (ix2 0 n)) a h := by
  unfold out0_12
  frame_out
  unfold val0_12
  unfold_payloads
  pointwise
  rfl

end Element

section Arrays
variable (c : Dev nD) (A : Args)
  (hx : ∀ i d, ((V c main_v0 : Vec Ideal S2048x768 .f32) (ix2 i d) : EReal) = A.x i d)
  (hgn : ∀ d, ((V c main_v1 : Vec Ideal S1x768 .f32) (ix2 0 d) : EReal) = A.g d)

include hx in
/-- An element of input window 0 of call 0, as an element of the array. -/
theorem in0_0_at (t : Fin cfg0.N) (r : Fin 256) (d : Fin 768) : ((in0 V c 0 t : Vec Ideal S256x768 .f32) (ix2 r d) : EReal) = A.x ⟨t.val * 256 + r.val, by have : t.val < 8 := t.isLt; omega⟩ d := by
  obtain ⟨e0, -⟩ := widx0 t
  refine ((blockAt_read (cfg := cfg0) (c := c) 0 (fun _ _ => rfl) _ t _).trans ?_).trans (hx ⟨t.val * 256 + r.val, by have : t.val < 8 := t.isLt; omega⟩ d)
  blk_ext [e0]

include hgn in
/-- An element of input window 1 of call 0, as an element of the array. -/
theorem in0_1_at (t : Fin cfg0.N) (d : Fin 768) : ((in0 V c 1 t : Vec Ideal S1x768 .f32) (ix2 0 d) : EReal) = A.g d := by
  obtain ⟨-, e1, -⟩ := widx0 t
  refine ((blockAt_read (cfg := cfg0) (c := c) 1 (fun _ _ => rfl) _ t _).trans ?_).trans (hgn d)
  blk_ext [e1]

/-- An element of input window 2 of call 0, as an element of the array. -/
theorem in0_2_at (t : Fin cfg0.N) (d n : Fin 768) : ((in0 V c 2 t : Vec Ideal S768x768 .bf16) (ix2 d n) : EReal) = (V c main_v3 : Vec Ideal S768x768 .bf16) (ix2 d n) := by
  obtain ⟨-, -, e, -⟩ := widx0 t
  refine (blockAt_read (cfg := cfg0) (c := c) 2 (fun _ _ => rfl) _ t _).trans ?_
  blk_ext [e]

/-- An element of input window 3 of call 0, as an element of the array. -/
theorem in0_3_at (t : Fin cfg0.N) (d n : Fin 768) : ((in0 V c 3 t : Vec Ideal S768x768 .bf16) (ix2 d n) : EReal) = (V c main_v4 : Vec Ideal S768x768 .bf16) (ix2 d n) := by
  obtain ⟨-, -, -, e, -⟩ := widx0 t
  refine (blockAt_read (cfg := cfg0) (c := c) 3 (fun _ _ => rfl) _ t _).trans ?_
  blk_ext [e]

/-- An element of input window 4 of call 0, as an element of the array. -/
theorem in0_4_at (t : Fin cfg0.N) (d n : Fin 768) : ((in0 V c 4 t : Vec Ideal S768x768 .bf16) (ix2 d n) : EReal) = (V c main_v5 : Vec Ideal S768x768 .bf16) (ix2 d n) := by
  obtain ⟨-, -, -, -, e, -⟩ := widx0 t
  refine (blockAt_read (cfg := cfg0) (c := c) 4 (fun _ _ => rfl) _ t _).trans ?_
  blk_ext [e]

/-- An element of input window 5 of call 0, as an element of the array. -/
theorem in0_5_at (t : Fin cfg0.N) (d : Fin 768) (n : Fin 36) : ((in0 V c 5 t : Vec Ideal S768x36 .bf16) (ix2 d n) : EReal) = (V c main_v6 : Vec Ideal S768x36 .bf16) (ix2 d n) := by
  obtain ⟨-, -, -, -, -, e, -⟩ := widx0 t
  refine (blockAt_read (cfg := cfg0) (c := c) 5 (fun _ _ => rfl) _ t _).trans ?_
  blk_ext [e]

/-- An element of input window 6 of call 0, as an element of the array. -/
theorem in0_6_at (t : Fin cfg0.N) (n : Fin 36) : ((in0 V c 6 t : Vec Ideal S1x36 .f32) (ix2 0 n) : EReal) = (V c main_v2 : Vec Ideal S1x36 .f32) (ix2 0 n) := by
  obtain ⟨-, -, -, -, -, -, e, -⟩ := widx0 t
  refine (blockAt_read (cfg := cfg0) (c := c) 6 (fun _ _ => rfl) _ t _).trans ?_
  blk_ext [e]

include hx hgn in
/-- The array of the scaled queries. -/
theorem arr0_7 (hw : ∀ d n, ((V c main_v3 : Vec Ideal S768x768 .bf16) (ix2 d n) : EReal) = A.wq d n) (h : Fin 12) (i : Fin 2048) (e : Fin 64) :
    (((dat0 V c).arrAt 7 cfg0.N : Vec Ideal S12x2048x64 .bf16) (ix3 h i e) : EReal) = A.q h i e := by
  obtain ⟨G, hG⟩ := exists_array3 A.q
  have key : (dat0 V c).arrAt 7 cfg0.N = (G : Vec Ideal S12x2048x64 .bf16) := by
    refine (dat0 V c).arrAt_eq_of_covers 7 _ (by decide +kernel) fun t hf y => ?_
    obtain ⟨-, -, -, -, -, -, -, eo, -⟩ := widx0 t
    blk_simp
    rw [after0_7]
    obtain ⟨h, hh⟩ : ∃ h : Fin 12, h = y 0 := ⟨_, rfl⟩
    obtain ⟨r, hr⟩ : ∃ r : Fin 256, r = y 1 := ⟨_, rfl⟩
    obtain ⟨e, he⟩ : ∃ e : Fin 64, e = y 2 := ⟨_, rfl⟩
    have hy : y = (ix3 h r e : S12x256x64.Idx) := by
      funext a; fin_cases a
      · exact hh.symm
      · exact hr.symm
      · exact he.symm
    subst hy
    have hemb : ((cfg0.win 7).blk t).view.emb (ix3 h r e : S12x256x64.Idx) = (ix3 h ⟨t.val * 256 + r.val, by have : t.val < 8 := t.isLt; omega⟩ e : S12x2048x64.Idx) := by blk_ext [eo]
    rw [hemb]
    refine ((out0_7_at _ _ _ _ _ _ _ h r e).trans ?_).trans (hG h _ e).symm
    simp only [in0_0_at V c A hx, in0_1_at V c A hgn, in0_2_at, hw]
    rfl
  rw [key]
  exact hG h i e

include hx hgn in
/-- The array of the keys. -/
theorem arr0_8 (hw : ∀ d n, ((V c main_v4 : Vec Ideal S768x768 .bf16) (ix2 d n) : EReal) = A.wk d n) (h : Fin 12) (i : Fin 2048) (e : Fin 64) :
    (((dat0 V c).arrAt 8 cfg0.N : Vec Ideal S12x2048x64 .bf16) (ix3 h i e) : EReal) = A.k h i e := by
  obtain ⟨G, hG⟩ := exists_array3 A.k
  have key : (dat0 V c).arrAt 8 cfg0.N = (G : Vec Ideal S12x2048x64 .bf16) := by
    refine (dat0 V c).arrAt_eq_of_covers 8 _ (by decide +kernel) fun t hf y => ?_
    obtain ⟨-, -, -, -, -, -, -, -, eo, -⟩ := widx0 t
    blk_simp
    rw [after0_8]
    obtain ⟨h, hh⟩ : ∃ h : Fin 12, h = y 0 := ⟨_, rfl⟩
    obtain ⟨r, hr⟩ : ∃ r : Fin 256, r = y 1 := ⟨_, rfl⟩
    obtain ⟨e, he⟩ : ∃ e : Fin 64, e = y 2 := ⟨_, rfl⟩
    have hy : y = (ix3 h r e : S12x256x64.Idx) := by
      funext a; fin_cases a
      · exact hh.symm
      · exact hr.symm
      · exact he.symm
    subst hy
    have hemb : ((cfg0.win 8).blk t).view.emb (ix3 h r e : S12x256x64.Idx) = (ix3 h ⟨t.val * 256 + r.val, by have : t.val < 8 := t.isLt; omega⟩ e : S12x2048x64.Idx) := by blk_ext [eo]
    rw [hemb]
    refine ((out0_8_at _ _ _ _ _ _ _ h r e).trans ?_).trans (hG h _ e).symm
    simp only [in0_0_at V c A hx, in0_1_at V c A hgn, in0_3_at, hw]
    rfl
  rw [key]
  exact hG h i e

include hx hgn in
/-- The array of the values. -/
theorem arr0_9 (hw : ∀ d n, ((V c main_v5 : Vec Ideal S768x768 .bf16) (ix2 d n) : EReal) = A.wv d n) (h : Fin 12) (i : Fin 2048) (e : Fin 64) :
    (((dat0 V c).arrAt 9 cfg0.N : Vec Ideal S12x2048x64 .bf16) (ix3 h i e) : EReal) = A.v h i e := by
  obtain ⟨G, hG⟩ := exists_array3 A.v
  have key : (dat0 V c).arrAt 9 cfg0.N = (G : Vec Ideal S12x2048x64 .bf16) := by
    refine (dat0 V c).arrAt_eq_of_covers 9 _ (by decide +kernel) fun t hf y => ?_
    obtain ⟨-, -, -, -, -, -, -, -, -, eo, -⟩ := widx0 t
    blk_simp
    rw [after0_9]
    obtain ⟨h, hh⟩ : ∃ h : Fin 12, h = y 0 := ⟨_, rfl⟩
    obtain ⟨r, hr⟩ : ∃ r : Fin 256, r = y 1 := ⟨_, rfl⟩
    obtain ⟨e, he⟩ : ∃ e : Fin 64, e = y 2 := ⟨_, rfl⟩
    have hy : y = (ix3 h r e : S12x256x64.Idx) := by
      funext a; fin_cases a
      · exact hh.symm
      · exact hr.symm
      · exact he.symm
    subst hy
    have hemb : ((cfg0.win 9).blk t).view.emb (ix3 h r e : S12x256x64.Idx) = (ix3 h ⟨t.val * 256 + r.val, by have : t.val < 8 := t.isLt; omega⟩ e : S12x2048x64.Idx) := by blk_ext [eo]
    rw [hemb]
    refine ((out0_9_at _ _ _ _ _ _ _ h r e).trans ?_).trans (hG h _ e).symm
    simp only [in0_0_at V c A hx, in0_1_at V c A hgn, in0_4_at, hw]
    rfl
  rw [key]
  exact hG h i e

include hx hgn in
/-- The array of the keys, kept whole. -/
theorem arr0_10 (hw : ∀ d n, ((V c main_v4 : Vec Ideal S768x768 .bf16) (ix2 d n) : EReal) = A.wk d n) (h : Fin 12) (i : Fin 2048) (e : Fin 64) :
    (((dat0 V c).arrAt 10 cfg0.N : Vec Ideal S12x2048x64 .f32) (ix3 h i e) : EReal) = A.k h i e := by
  obtain ⟨G, hG⟩ := exists_array3 A.k
  have key : (dat0 V c).arrAt 10 cfg0.N = (G : Vec Ideal S12x2048x64 .f32) := by
    refine (dat0 V c).arrAt_eq_of_covers 10 _ (by decide +kernel) fun t hf y => ?_
    obtain ⟨-, -, -, -, -, -, -, -, -, -, eo, -⟩ := widx0 t
    blk_simp
    rw [after0_10]
    obtain ⟨h, hh⟩ : ∃ h : Fin 12, h = y 0 := ⟨_, rfl⟩
    obtain ⟨r, hr⟩ : ∃ r : Fin 256, r = y 1 := ⟨_, rfl⟩
    obtain ⟨e, he⟩ : ∃ e : Fin 64, e = y 2 := ⟨_, rfl⟩
    have hy : y = (ix3 h r e : S12x256x64.Idx) := by
      funext a; fin_cases a
      · exact hh.symm
      · exact hr.symm
      · exact he.symm
    subst hy
    have hemb : ((cfg0.win 10).blk t).view.emb (ix3 h r e : S12x256x64.Idx) = (ix3 h ⟨t.val * 256 + r.val, by have : t.val < 8 := t.isLt; omega⟩ e : S12x2048x64.Idx) := by blk_ext [eo]
    rw [hemb]
    refine ((out0_10_at _ _ _ _ _ _ _ h r e).trans ?_).trans (hG h _ e).symm
    simp only [in0_0_at V c A hx, in0_1_at V c A hgn, in0_3_at, hw]
    rfl
  rw [key]
  exact hG h i e

include hx hgn in
/-- The array of the values, kept whole. -/
theorem arr0_11 (hw : ∀ d n, ((V c main_v5 : Vec Ideal S768x768 .bf16) (ix2 d n) : EReal) = A.wv d n) (h : Fin 12) (i : Fin 2048) (e : Fin 64) :
    (((dat0 V c).arrAt 11 cfg0.N : Vec Ideal S12x2048x64 .f32) (ix3 h i e) : EReal) = A.v h i e := by
  obtain ⟨G, hG⟩ := exists_array3 A.v
  have key : (dat0 V c).arrAt 11 cfg0.N = (G : Vec Ideal S12x2048x64 .f32) := by
    refine (dat0 V c).arrAt_eq_of_covers 11 _ (by decide +kernel) fun t hf y => ?_
    obtain ⟨-, -, -, -, -, -, -, -, -, -, -, eo, -⟩ := widx0 t
    blk_simp
    rw [after0_11]
    obtain ⟨h, hh⟩ : ∃ h : Fin 12, h = y 0 := ⟨_, rfl⟩
    obtain ⟨r, hr⟩ : ∃ r : Fin 256, r = y 1 := ⟨_, rfl⟩
    obtain ⟨e, he⟩ : ∃ e : Fin 64, e = y 2 := ⟨_, rfl⟩
    have hy : y = (ix3 h r e : S12x256x64.Idx) := by
      funext a; fin_cases a
      · exact hh.symm
      · exact hr.symm
      · exact he.symm
    subst hy
    have hemb : ((cfg0.win 11).blk t).view.emb (ix3 h r e : S12x256x64.Idx) = (ix3 h ⟨t.val * 256 + r.val, by have : t.val < 8 := t.isLt; omega⟩ e : S12x2048x64.Idx) := by blk_ext [eo]
    rw [hemb]
    refine ((out0_11_at _ _ _ _ _ _ _ h r e).trans ?_).trans (hG h _ e).symm
    simp only [in0_0_at V c A hx, in0_1_at V c A hgn, in0_4_at, hw]
    rfl
  rw [key]
  exact hG h i e

include hx hgn in
/-- The array of the gates. -/
theorem arr0_12 (hw : ∀ d n, ((V c main_v6 : Vec Ideal S768x36 .bf16) (ix2 d n) : EReal) = A.wc d n)
    (hb : ∀ n, ((V c main_v2 : Vec Ideal S1x36 .f32) (ix2 0 n) : EReal) = A.bc n) (a : Fin 3) (h : Fin 12) (i : Fin 2048) :
    (((dat0 V c).arrAt 12 cfg0.N : Vec Ideal S3x12x2048x1 .f32) (ix4 a h i 0) : EReal) = A.gate a h i := by
  obtain ⟨G, hG⟩ := exists_array4 fun (a : Fin 3) (h : Fin 12) (i : Fin 2048) (_ : Fin 1) => A.gate a h i
  have key : (dat0 V c).arrAt 12 cfg0.N = (G : Vec Ideal S3x12x2048x1 .f32) := by
    refine (dat0 V c).arrAt_eq_of_covers 12 _ (by decide +kernel) fun t hf y => ?_
    obtain ⟨-, -, -, -, -, -, -, -, -, -, -, -, eo⟩ := widx0 t
    blk_simp
    rw [after0_12]
    obtain ⟨a, ha⟩ : ∃ a : Fin 3, a = y 0 := ⟨_, rfl⟩
    obtain ⟨h, hh⟩ : ∃ h : Fin 12, h = y 1 := ⟨_, rfl⟩
    obtain ⟨r, hr⟩ : ∃ r : Fin 256, r = y 2 := ⟨_, rfl⟩
    have hy : y = (ix4 a h r 0 : S3x12x256x1.Idx) := by
      funext a; fin_cases a
      · exact ha.symm
      · exact hh.symm
      · exact hr.symm
      · exact Subsingleton.elim (α := Fin 1) _ _
    subst hy
    have hemb : ((cfg0.win 12).blk t).view.emb (ix4 a h r 0 : S3x12x256x1.Idx) = (ix4 a h ⟨t.val * 256 + r.val, by have : t.val < 8 := t.isLt; omega⟩ 0 : S3x12x2048x1.Idx) := by blk_ext [eo]
    rw [hemb]
    refine ((out0_12_at _ _ _ _ _ _ _ a h r).trans ?_).trans (hG a h _ 0).symm
    simp only [in0_0_at V c A hx, in0_1_at V c A hgn, in0_5_at, in0_6_at, hw, hb]
    rfl
  rw [key]
  exact hG a h i 0

end Arrays

end Cert.KernelIdeal.Gen
-- ==== Proof.Value.Arr1.lean ====
module

public import proofs.«01_k».proof.Proof.Frame.KernelIdeal.Run
public import proofs.«01_k».proof.Proof.Value.Spec
public import Idealize.ShloMosaic.Lib.Pointwise
public import Idealize.ShloMosaic.Lib.Tactic.CleanTypes

/-!
# The arrays the compression call leaves
-/

@[expose] public section

set_option maxRecDepth 16384

noncomputable section

namespace Cert.KernelIdeal.Gen

open Idealize.ShloMosaic Idealize.ShloMosaic.TcCoe Idealize.ShloMosaic.Tactic
open SparseAttn

variable (V : (c : Dev nD) → (b : Ref sig .tc) → Buf (Elt Ideal) ((c : Thread nD τ).loc b))

/-- A sum over the 1024 flattened positions, its two halves apart. -/
theorem sum_halves (f : Fin 1024 → EReal) :
    ∑ x : Fin 512, f ⟨x.val, by omega⟩ + ∑ x : Fin 512, f ⟨512 + x.val, by omega⟩ = ∑ x : Fin 1024, f x :=
  (Fin.sum_univ_add (a := 512) (b := 512) f).symm

/-- Row `c < 255` of the compressed keys before the memory row is put in front. -/
theorem pay1_3_at (x0 : Vec Ideal S1x256x512 .f32) (x2 : Vec Ideal S1x1x1024 .f32) (x4 : Vec Ideal S1x1024x64 .bf16)
    (k : Fin 2048 → Fin 64 → EReal) (pe : Fin 16 → Fin 64 → EReal)
    (h0 : ∀ (c : Fin 256) (f : Fin 512), (x0 (ix3 0 c f) : EReal) = k ⟨8 * c.val + f.val / 64, by omega⟩ ⟨f.val % 64, by omega⟩)
    (h2 : ∀ f : Fin 1024, (x2 (ix3 0 0 f) : EReal) = pe ⟨f.val / 64, by omega⟩ ⟨f.val % 64, by omega⟩) (c : Fin 256) (hc : c.val < 255) (e : Fin 64) :
    (k1_pay3 x0 x2 x4 (ix2 c e) : EReal) =
      ∑ f : Fin 1024, (k ⟨8 * c.val + f.val / 64, by omega⟩ ⟨f.val % 64, by omega⟩ + pe ⟨f.val / 64, by omega⟩ ⟨f.val % 64, by omega⟩) * x4 (ix3 0 f e) := by
  unfold_payloads
  pointwise
  simp only [dif_pos hc, h0, h2]
  rw [← sum_halves]
  congr 1
  refine Finset.sum_congr rfl fun x _ => ?_
  congr 3 <;> refine Fin.ext ?_ <;> simp only <;> omega

/-- Row `c < 255` of the compressed values before the memory row is put in front. -/
theorem pay1_4_at (x0 : Vec Ideal S1x256x512 .f32) (x2 : Vec Ideal S1x1x1024 .f32) (x4 : Vec Ideal S1x1024x64 .bf16)
    (k : Fin 2048 → Fin 64 → EReal) (pe : Fin 16 → Fin 64 → EReal)
    (h0 : ∀ (c : Fin 256) (f : Fin 512), (x0 (ix3 0 c f) : EReal) = k ⟨8 * c.val + f.val / 64, by omega⟩ ⟨f.val % 64, by omega⟩)
    (h2 : ∀ f : Fin 1024, (x2 (ix3 0 0 f) : EReal) = pe ⟨f.val / 64, by omega⟩ ⟨f.val % 64, by omega⟩) (c : Fin 256) (hc : c.val < 255) (e : Fin 64) :
    (k1_pay4 x0 x2 x4 (ix2 c e) : EReal) =
      ∑ f : Fin 1024, (k ⟨8 * c.val + f.val / 64, by omega⟩ ⟨f.val % 64, by omega⟩ + pe ⟨f.val / 64, by omega⟩ ⟨f.val % 64, by omega⟩) * x4 (ix3 0 f e) :=
  pay1_3_at x0 x2 x4 k pe h0 h2 c hc e

section Arrays
variable (c : Dev nD)

/-- The block that each window of call 1 holds at each point. -/
theorem widx1 : ∀ t : Fin cfg1.N, win1_0.index t = ![t.val, 0, 0] ∧ win1_1.index t = ![t.val, 0, 0] ∧ win1_2.index t = ![t.val, 0, 0] ∧ win1_3.index t = ![t.val, 0, 0]
    ∧ win1_4.index t = ![t.val, 0, 0] ∧ win1_5.index t = ![t.val, 0, 0] ∧ win1_6.index t = ![0, t.val, 0, 0] ∧ win1_7.index t = ![t.val, 0, 0]
    ∧ win1_8.index t = ![t.val, 0, 0] := by
  decide +kernel

/-- The memory rows' block. -/
theorem in1_6_at (t : Fin cfg1.N) (a : Fin 2) (e : Fin 64) : ((in1 V c 6 t : Vec Ideal S2x1x1x64 .f32) (ix4 a 0 0 e) : EReal) = (V c main_arg9 : Vec Ideal S2x12x1x64 .f32) (ix4 a t 0 e) := by
  obtain ⟨-, -, -, -, -, -, e6, -⟩ := widx1 t
  refine (blockAt_read (cfg := cfg1) (c := c) 6 (fun _ _ => rfl) _ t _).trans ?_
  blk_ext [e6]

/-- A row of the compressed keys' block. -/
theorem out1_7_at (x0 x1 : Vec Ideal S1x256x512 .f32) (x2 x3 : Vec Ideal S1x1x1024 .f32) (x4 x5 : Vec Ideal S1x1024x64 .bf16) (x6 : Vec Ideal S2x1x1x64 .f32)
    (j : Fin 256) (e : Fin 64) :
    (out1_7 x0 x1 x2 x3 x4 x5 x6 (ix3 0 j e : S1x256x64.Idx) : EReal)
        = if h : j.val < 1 then x6 (ix4 0 0 0 e) else k1_pay3 x0 x2 x4 (ix2 (⟨j.val - 1, by omega⟩ : Fin 256) e) := by
  unfold out1_7
  frame_out
  unfold val1_7
  unfold k1_pay1
  have l0 : View.ld x0 r1_0 = x0 := View.ld_unit_lit _ x0 (by decide)
  have l2 : View.ld x2 r1_1 = x2 := View.ld_unit_lit _ x2 (by decide)
  have l4 : View.ld x4 r1_2 = x4 := View.ld_unit_lit _ x4 (by decide)
  rw [l0, l2, l4]
  generalize k1_pay3 (F := Ideal) x0 x2 x4 = X
  pointwise

/-- A row of the compressed values' block. -/
theorem out1_8_at (x0 x1 : Vec Ideal S1x256x512 .f32) (x2 x3 : Vec Ideal S1x1x1024 .f32) (x4 x5 : Vec Ideal S1x1024x64 .bf16) (x6 : Vec Ideal S2x1x1x64 .f32)
    (j : Fin 256) (e : Fin 64) :
    (out1_8 x0 x1 x2 x3 x4 x5 x6 (ix3 0 j e : S1x256x64.Idx) : EReal)
        = if h : j.val < 1 then x6 (ix4 1 0 0 e) else k1_pay4 x1 x3 x5 (ix2 (⟨j.val - 1, by omega⟩ : Fin 256) e) := by
  unfold out1_8
  frame_out
  unfold val1_8
  unfold k1_pay2
  have l0 : View.ld x1 r1_0 = x1 := View.ld_unit_lit _ x1 (by decide)
  have l2 : View.ld x3 r1_1 = x3 := View.ld_unit_lit _ x3 (by decide)
  have l4 : View.ld x5 r1_2 = x5 := View.ld_unit_lit _ x5 (by decide)
  rw [l0, l2, l4]
  generalize k1_pay4 (F := Ideal) x1 x3 x5 = X
  pointwise

set_option maxHeartbeats 1000000 in
/-- The array of the compressed keys. -/
theorem arr1_7 (k : Fin 12 → Fin 2048 → Fin 64 → EReal) (pe : Fin 12 → Fin 16 → Fin 64 → EReal) (w : Fin 12 → Fin 1024 → Fin 64 → EReal) (m : Fin 12 → Fin 64 → EReal)
    (hk : ∀ (h : Fin 12) (j : Fin 256) (f : Fin 512), ((V c main_v8 : Vec Ideal S12x256x512 .f32) (ix3 h j f) : EReal) = k h ⟨8 * j.val + f.val / 64, by omega⟩ ⟨f.val % 64, by omega⟩)
    (hpe : ∀ (h : Fin 12) (f : Fin 1024), ((V c main_v10 : Vec Ideal S12x1x1024 .f32) (ix3 h 0 f) : EReal) = pe h ⟨f.val / 64, by omega⟩ ⟨f.val % 64, by omega⟩)
    (hw : ∀ (h : Fin 12) (f : Fin 1024) (e : Fin 64), ((V c main_v12 : Vec Ideal S12x1024x64 .bf16) (ix3 h f e) : EReal) = w h f e)
    (hm : ∀ (h : Fin 12) (e : Fin 64), ((V c main_arg9 : Vec Ideal S2x12x1x64 .f32) (ix4 0 h 0 e) : EReal) = m h e) (h : Fin 12) (j : Fin 256) (e : Fin 64) :
    (((dat1 V c).arrAt 7 cfg1.N : Vec Ideal S12x256x64 .f32) (ix3 h j e) : EReal) = comp k pe w m h j e := by
  obtain ⟨G, hG⟩ := exists_array3 (comp k pe w m)
  have key : (dat1 V c).arrAt 7 cfg1.N = (G : Vec Ideal S12x256x64 .f32) := by
    refine (dat1 V c).arrAt_eq_of_covers 7 _ (by decide +kernel) fun t hf y => ?_
    obtain ⟨e0, e1, e2, e3, e4, e5, e6, e7, e8⟩ := widx1 t
    blk_simp
    rw [after1_7]
    obtain ⟨j, hj⟩ : ∃ j : Fin 256, j = y 1 := ⟨_, rfl⟩
    obtain ⟨e, he⟩ : ∃ e : Fin 64, e = y 2 := ⟨_, rfl⟩
    have hy : y = (ix3 0 j e : S1x256x64.Idx) := by
      funext a; fin_cases a
      · exact Subsingleton.elim (α := Fin 1) _ _
      · exact hj.symm
      · exact he.symm
    subst hy
    have hemb : ((cfg1.win 7).blk t).view.emb (ix3 0 j e : S1x256x64.Idx) = (ix3 t j e : S12x256x64.Idx) := by blk_ext [e7]
    rw [hemb]
    refine Eq.trans ?_ (hG t j e).symm
    have h0 : ∀ (j : Fin 256) (f : Fin 512), ((in1 V c 0 t : Vec Ideal S1x256x512 .f32) (ix3 0 j f) : EReal) = k t ⟨8 * j.val + f.val / 64, by omega⟩ ⟨f.val % 64, by omega⟩ := fun j f => by
      refine ((blockAt_read (cfg := cfg1) (c := c) 0 (fun _ _ => rfl) _ t _).trans ?_).trans (hk t j f)
      blk_ext [e0]
    have h2 : ∀ f : Fin 1024, ((in1 V c 2 t : Vec Ideal S1x1x1024 .f32) (ix3 0 0 f) : EReal) = pe t ⟨f.val / 64, by omega⟩ ⟨f.val % 64, by omega⟩ := fun f => by
      refine ((blockAt_read (cfg := cfg1) (c := c) 2 (fun _ _ => rfl) _ t _).trans ?_).trans (hpe t f)
      blk_ext [e2]
    have h4 : ∀ (f : Fin 1024) (e : Fin 64), ((in1 V c 4 t : Vec Ideal S1x1024x64 .bf16) (ix3 0 f e) : EReal) = w t f e := fun f e => by
      refine ((blockAt_read (cfg := cfg1) (c := c) 4 (fun _ _ => rfl) _ t _).trans ?_).trans (hw t f e)
      blk_ext [e4]
    have h6 : ((in1 V c 6 t : Vec Ideal S2x1x1x64 .f32) (ix4 0 0 0 e) : EReal) = m t e := (in1_6_at V c t 0 e).trans (hm t e)
    have hp := pay1_3_at (in1 V c 0 t) (in1 V c 2 t) (in1 V c 4 t) (k t) (pe t) h0 h2
    refine (out1_7_at _ _ _ _ _ _ _ j e).trans ?_
    unfold comp
    by_cases hj0 : j.val = 0
    · rw [dif_pos (by omega), if_pos hj0]; exact h6
    · rw [dif_neg (by omega), if_neg hj0, hp _ (by show j.val - 1 < 255; omega)]
      simp only [h4]
  rw [key]
  exact hG h j e

set_option maxHeartbeats 1000000 in
/-- The array of the compressed values. -/
theorem arr1_8 (k : Fin 12 → Fin 2048 → Fin 64 → EReal) (pe : Fin 12 → Fin 16 → Fin 64 → EReal) (w : Fin 12 → Fin 1024 → Fin 64 → EReal) (m : Fin 12 → Fin 64 → EReal)
    (hk : ∀ (h : Fin 12) (j : Fin 256) (f : Fin 512), ((V c main_v9 : Vec Ideal S12x256x512 .f32) (ix3 h j f) : EReal) = k h ⟨8 * j.val + f.val / 64, by omega⟩ ⟨f.val % 64, by omega⟩)
    (hpe : ∀ (h : Fin 12) (f : Fin 1024), ((V c main_v11 : Vec Ideal S12x1x1024 .f32) (ix3 h 0 f) : EReal) = pe h ⟨f.val / 64, by omega⟩ ⟨f.val % 64, by omega⟩)
    (hw : ∀ (h : Fin 12) (f : Fin 1024) (e : Fin 64), ((V c main_v13 : Vec Ideal S12x1024x64 .bf16) (ix3 h f e) : EReal) = w h f e)
    (hm : ∀ (h : Fin 12) (e : Fin 64), ((V c main_arg9 : Vec Ideal S2x12x1x64 .f32) (ix4 1 h 0 e) : EReal) = m h e) (h : Fin 12) (j : Fin 256) (e : Fin 64) :
    (((dat1 V c).arrAt 8 cfg1.N : Vec Ideal S12x256x64 .f32) (ix3 h j e) : EReal) = comp k pe w m h j e := by
  obtain ⟨G, hG⟩ := exists_array3 (comp k pe w m)
  have key : (dat1 V c).arrAt 8 cfg1.N = (G : Vec Ideal S12x256x64 .f32) := by
    refine (dat1 V c).arrAt_eq_of_covers 8 _ (by decide +kernel) fun t hf y => ?_
    obtain ⟨e0, e1, e2, e3, e4, e5, e6, e7, e8⟩ := widx1 t
    blk_simp
    rw [after1_8]
    obtain ⟨j, hj⟩ : ∃ j : Fin 256, j = y 1 := ⟨_, rfl⟩
    obtain ⟨e, he⟩ : ∃ e : Fin 64, e = y 2 := ⟨_, rfl⟩
    have hy : y = (ix3 0 j e : S1x256x64.Idx) := by
      funext a; fin_cases a
      · exact Subsingleton.elim (α := Fin 1) _ _
      · exact hj.symm
      · exact he.symm
    subst hy
    have hemb : ((cfg1.win 8).blk t).view.emb (ix3 0 j e : S1x256x64.Idx) = (ix3 t j e : S12x256x64.Idx) := by blk_ext [e8]
    rw [hemb]
    refine Eq.trans ?_ (hG t j e).symm
    have h0 : ∀ (j : Fin 256) (f : Fin 512), ((in1 V c 1 t : Vec Ideal S1x256x512 .f32) (ix3 0 j f) : EReal) = k t ⟨8 * j.val + f.val / 64, by omega⟩ ⟨f.val % 64, by omega⟩ := fun j f => by
      refine ((blockAt_read (cfg := cfg1) (c := c) 1 (fun _ _ => rfl) _ t _).trans ?_).trans (hk t j f)
      blk_ext [e1]
    have h2 : ∀ f : Fin 1024, ((in1 V c 3 t : Vec Ideal S1x1x1024 .f32) (ix3 0 0 f) : EReal) = pe t ⟨f.val / 64, by omega⟩ ⟨f.val % 64, by omega⟩ := fun f => by
      refine ((blockAt_read (cfg := cfg1) (c := c) 3 (fun _ _ => rfl) _ t _).trans ?_).trans (hpe t f)
      blk_ext [e3]
    have h4 : ∀ (f : Fin 1024) (e : Fin 64), ((in1 V c 5 t : Vec Ideal S1x1024x64 .bf16) (ix3 0 f e) : EReal) = w t f e := fun f e => by
      refine ((blockAt_read (cfg := cfg1) (c := c) 5 (fun _ _ => rfl) _ t _).trans ?_).trans (hw t f e)
      blk_ext [e5]
    have h6 : ((in1 V c 6 t : Vec Ideal S2x1x1x64 .f32) (ix4 1 0 0 e) : EReal) = m t e := (in1_6_at V c t 1 e).trans (hm t e)
    have hp := pay1_4_at (in1 V c 1 t) (in1 V c 3 t) (in1 V c 5 t) (k t) (pe t) h0 h2
    refine (out1_8_at _ _ _ _ _ _ _ j e).trans ?_
    unfold comp
    by_cases hj0 : j.val = 0
    · rw [dif_pos (by omega), if_pos hj0]; exact h6
    · rw [dif_neg (by omega), if_neg hj0, hp _ (by show j.val - 1 < 255; omega)]
      simp only [h4]
  rw [key]
  exact hG h j e

end Arrays

end Cert.KernelIdeal.Gen
-- ==== Proof.Value.Tile2.lean ====
module

public import proofs.«01_k».proof.Proof.Frame.KernelIdeal.Region2
public import proofs.«01_k».proof.Proof.Value.Attn

/-!
# Attention call 2

The rows 0 to 255 of each head, which have no keys before their own chunk: each payload of the body at an index, and with them
what the body writes.
-/

@[expose] public section

set_option maxRecDepth 16384

noncomputable section

namespace Cert.KernelIdeal.Gen

open Idealize.ShloMosaic SparseAttn

/-- The compressed branch's weights. -/
theorem comp2_at (x0 : Vec Ideal S1x256x64 .bf16) (x3 : Vec Ideal S1x256x64 .f32) (r c : Fin 256) :
    (k2_pay4 x0 x3 (ix2 r c) : EReal) =
      softmax (fun c : Fin 256 => Scalar.select (cMaskWord 0 r c) (∑ d : Fin 64, (x0 (ix3 0 r d) : EReal) * x3 (ix3 0 c d)) ⊥) c := by
  unfold k2_pay4 k2_pay2 k2_pay3
  pointwise
  simp only [named_mask]
  rfl

/-- The compressed branch's output. -/
theorem cout2_at (x0 : Vec Ideal S1x256x64 .bf16) (x3 x4 : Vec Ideal S1x256x64 .f32) (r : Fin 256) (e : Fin 64) :
    (k2_pay5 x0 x3 x4 (ix2 r e) : EReal) = ∑ c : Fin 256, (k2_pay4 x0 x3 (ix2 r c) : EReal) * x4 (ix3 0 c e) := by
  unfold k2_pay5
  generalize k2_pay4 x0 x3 = cp
  pointwise

/-- The scores. -/
theorem score2_at (x0 x1 : Vec Ideal S1x256x64 .bf16) (r j : Fin 256) :
    (k2_pay21 (k2_pay2 x0) x1 (ix2 r j) : EReal) = ∑ d : Fin 64, (x0 (ix3 0 r d) : EReal) * x1 (ix3 0 j d) := by
  unfold k2_pay21 k2_pay2
  pointwise

/-- The selected branch. -/
theorem fine2_at (s0 s1 s2 s3 : IVec S256x1 32) (v : FVec Ideal S256x64 .bf16) (s : FVec Ideal S256x256 .f32) (w : Fin 4 → BitVec 32) (r : Fin 256) (e : Fin 64)
    (hs : (s0 (ix2 r 0) = w 0 ∧ s1 (ix2 r 0) = w 1) ∧ s2 (ix2 r 0) = w 2 ∧ s3 (ix2 r 0) = w 3) :
    (k2_pay25 s0 s1 s2 s3 (k2_pay19 k2_pay3 16#32 (k2_pay16 k2_pay3) (k2_pay17 k2_pay3) k2_pay18) v s
      (iota .tc S256x256 32 [0] iota_S256x256_d0_w32) lanes k2_pay22 16#32 k2_pay23 k2_pay24 (ix2 r e) : EReal) =
      ∑ x : Fin 256, softmax (fun x : Fin 256 => Scalar.select (chunkWord 0 r x w) (s (ix2 r x) : EReal) ⊥) x * v (ix2 x e) := by
  unfold_payloads
  pointwise
  rw [hs.1.1, hs.1.2, hs.2.1, hs.2.2]
  simp only [named_mask]
  rfl

/-- The gated sum, whose last branch is the sliding window. -/
theorem comb2_at (co : FVec Ideal S256x64 .f32) (v : FVec Ideal S256x64 .bf16) (s : FVec Ideal S256x256 .f32) (fo : FVec Ideal S256x64 .f32)
    (x5 : Vec Ideal S3x1x256x1 .f32) (r : Fin 256) (e : Fin 64) :
    (k2_pay1 co v s fo (k2_pay26 k2_pay3) k2_pay27 (View.ld x5 r2_1) (View.ld x5 r2_2) (View.ld x5 r2_3) (ix3 0 r e) : EReal) =
      x5 (ix4 0 0 r 0) * co (ix2 r e) + x5 (ix4 1 0 r 0) * fo (ix2 r e) + x5 (ix4 2 0 r 0) *
        ∑ x : Fin 256, windowed (fun x : Fin 256 => winWord 0 0 r x) (fun x => (s (ix2 r ⟨0 + x.val, by have := x.isLt; omega⟩) : EReal)) x *
          v (ix2 ⟨0 + x.val, by have := x.isLt; omega⟩ e) := by
  unfold k2_pay1 k2_pay26 k2_pay27 k2_pay3
  pointwise
  simp only [named_mask, Nat.zero_add]
  rfl

/-- What the body of call 2 writes at row `r` and feature `e`. -/
theorem out2_at (x0 x1 x2 : Vec Ideal S1x256x64 .bf16) (x3 x4 : Vec Ideal S1x256x64 .f32) (x5 : Vec Ideal S3x1x256x1 .f32) (r : Fin 256) (e : Fin 64)
    (hsc : ∀ c : Fin 256, IsReal (∑ d : Fin 64, (x0 (ix3 0 r d) : EReal) * x3 (ix3 0 c d)))
    (hs : ∀ j : Fin 256, IsReal (∑ d : Fin 64, (x0 (ix3 0 r d) : EReal) * x1 (ix3 0 j d))) :
    (out2_6 x0 x1 x2 x3 x4 x5 (ix3 0 r e) : EReal) =
      attnOut (fun c : Fin 256 => ∑ d : Fin 64, (x0 (ix3 0 r d) : EReal) * x3 (ix3 0 c d)) (fun c => x4 (ix3 0 c e))
        (fun j : Fin 256 => ∑ d : Fin 64, (x0 (ix3 0 r d) : EReal) * x1 (ix3 0 j d)) (fun j => x2 (ix3 0 j e)) (fun a => x5 (ix4 a 0 r 0)) (0 + r.val) := by
  unfold out2_6
  frame_out
  unfold val2_6
  clean_types
  have l0 : ∀ {e : EltTy} (X : Vec Ideal S1x256x64 e), View.ld X r2_0 = X := fun X => View.ld_unit_lit _ X (by decide)
  rw [l0 x0, l0 x3, l0 x4, l0 x1, l0 x2]
  have hcp := comp2_at x0 x3 r
  have hco := cout2_at x0 x3 x4 r e
  generalize k2_pay5 x0 x3 x4 = co at hco ⊢
  generalize k2_pay4 x0 x3 = cp at hcp hco ⊢
  have hsel := sel_at cp r
  have hsj := score2_at x0 x1 r
  generalize k2_pay21 (k2_pay2 x0) x1 = s at hsj ⊢
  have hfi := fine2_at _ _ _ _ (k2_pay20 x2) s _ r e hsel
  have hv : ∀ j, (k2_pay20 x2 (ix2 j e) : EReal) = x2 (ix3 0 j e) := fun j => by unfold k2_pay20; pointwise
  refine (comb2_at co (k2_pay20 x2) s _ x5 r e).trans ?_
  rw [hco, hfi]
  simp only [hv, hsj]
  refine tile_eq 0 256 0 256 0 rfl rfl (by omega) rfl (by omega) (by decide) r _ _ _ _ (fun a => x5 (ix4 a 0 r 0)) (fun x _ => x.elim0) hsc hs
    (fun x _ => x.elim0) (fun c => cp (ix2 r c)) (funext hcp) _ fun x => ?_
  rw [dif_neg (Nat.not_lt_zero _)]
  rfl

end Cert.KernelIdeal.Gen
-- ==== Proof.Value.Arr2.lean ====
module

public import proofs.«01_k».proof.Proof.Value.Tile2
public import proofs.«01_k».proof.Proof.Value.Head
public import proofs.«01_k».proof.Proof.Frame.KernelIdeal.Run

/-!
# The array attention call 2 leaves
-/

@[expose] public section

set_option maxRecDepth 16384

noncomputable section

namespace Cert.KernelIdeal.Gen

open Idealize.ShloMosaic Idealize.ShloMosaic.TcCoe Idealize.ShloMosaic.Tactic
open SparseAttn

variable (V : (c : Dev nD) → (b : Ref sig .tc) → Buf (Elt Ideal) ((c : Thread nD τ).loc b))

/-- The block that each window of call 2 holds at each point. -/
theorem widx2 : ∀ t : Fin cfg2.N, win2_0.index t = ![t.val, 0, 0] ∧ win2_1.index t = ![t.val, 0, 0] ∧ win2_2.index t = ![t.val, 0, 0]
    ∧ win2_3.index t = ![t.val, 0, 0] ∧ win2_4.index t = ![t.val, 0, 0] ∧ win2_5.index t = ![0, t.val, 0, 0]
    ∧ win2_6.index t = ![t.val, 0, 0] := by decide +kernel

set_option maxHeartbeats 2000000 in
/-- Call 2's output array: rows 0 to 0 + 255 of each head's output. -/
theorem arr2 (c : Dev nD) (q k v : Fin 12 → Fin 2048 → Fin 64 → EReal) (ck cv : Fin 12 → Fin 256 → Fin 64 → EReal)
    (g : Fin 3 → Fin 12 → Fin 2048 → EReal)
    (hq : ∀ h i d, ((V c main_v7_0 : Vec Ideal S12x2048x64 .bf16) (ix3 h i d) : EReal) = q h i d)
    (hk : ∀ h i d, ((V c main_v7_1 : Vec Ideal S12x2048x64 .bf16) (ix3 h i d) : EReal) = k h i d)
    (hv : ∀ h i d, ((V c main_v7_2 : Vec Ideal S12x2048x64 .bf16) (ix3 h i d) : EReal) = v h i d)
    (hck : ∀ h j d, ((V c main_v14_0 : Vec Ideal S12x256x64 .f32) (ix3 h j d) : EReal) = ck h j d)
    (hcv : ∀ h j d, ((V c main_v14_1 : Vec Ideal S12x256x64 .f32) (ix3 h j d) : EReal) = cv h j d)
    (hg : ∀ a h i, ((V c main_v7_5 : Vec Ideal S3x12x2048x1 .f32) (ix4 a h i 0) : EReal) = g a h i)
    (rq : ∀ h i d, IsReal (q h i d)) (rk : ∀ h i d, IsReal (k h i d)) (rck : ∀ h j d, IsReal (ck h j d))
    (h : Fin 12) (r : Fin 256) (e : Fin 64) :
    ((dat2 V c).arrAt 6 cfg2.N : Vec Ideal S12x256x64 .f32) (ix3 h r e) = headOut q k v ck cv g h ⟨0 + r.val, by omega⟩ e := by
  obtain ⟨G, hG⟩ := exists_array3 fun (h : Fin 12) (r : Fin 256) (e : Fin 64) => headOut q k v ck cv g h ⟨0 + r.val, by omega⟩ e
  have key : (dat2 V c).arrAt 6 cfg2.N = (G : Vec Ideal S12x256x64 .f32) := by
    refine (dat2 V c).arrAt_eq_of_covers 6 _ (by decide +kernel) fun t hf y => ?_
    obtain ⟨e0, e1, e2, e3, e4, e5, eo⟩ := widx2 t
    blk_simp
    rw [after2_6]
    obtain ⟨r, hr⟩ : ∃ r : Fin 256, r = y 1 := ⟨_, rfl⟩
    obtain ⟨e, he⟩ : ∃ e : Fin 64, e = y 2 := ⟨_, rfl⟩
    have hy : y = (ix3 0 r e : S1x256x64.Idx) := by
      funext a; fin_cases a
      · exact Subsingleton.elim (α := Fin 1) _ _
      · exact hr.symm
      · exact he.symm
    have h0 : ∀ d : Fin 64, ((in2 V c 0 t : Vec Ideal S1x256x64 .bf16) (ix3 0 r d) : EReal) = q t ⟨0 + r.val, by omega⟩ d := fun d => by
      refine ((blockAt_read (cfg := cfg2) (c := c) 0 (fun _ _ => rfl) _ t _).trans ?_).trans (hq t ⟨0 + r.val, by omega⟩ d)
      blk_ext [e0]
    have h1 : ∀ (j : Fin 256) (d : Fin 64), ((in2 V c 1 t : Vec Ideal S1x256x64 .bf16) (ix3 0 j d) : EReal) = k t ⟨j.val, by omega⟩ d := fun j d => by
      refine ((blockAt_read (cfg := cfg2) (c := c) 1 (fun _ _ => rfl) _ t _).trans ?_).trans (hk t ⟨j.val, by omega⟩ d)
      blk_ext [e1]
    have h2 : ∀ (j : Fin 256) (d : Fin 64), ((in2 V c 2 t : Vec Ideal S1x256x64 .bf16) (ix3 0 j d) : EReal) = v t ⟨j.val, by omega⟩ d := fun j d => by
      refine ((blockAt_read (cfg := cfg2) (c := c) 2 (fun _ _ => rfl) _ t _).trans ?_).trans (hv t ⟨j.val, by omega⟩ d)
      blk_ext [e2]
    have h3 : ∀ (j : Fin 256) (d : Fin 64), ((in2 V c 3 t : Vec Ideal S1x256x64 .f32) (ix3 0 j d) : EReal) = ck t j d := fun j d => by
      refine ((blockAt_read (cfg := cfg2) (c := c) 3 (fun _ _ => rfl) _ t _).trans ?_).trans (hck t j d)
      blk_ext [e3]
    have h4 : ∀ (j : Fin 256) (d : Fin 64), ((in2 V c 4 t : Vec Ideal S1x256x64 .f32) (ix3 0 j d) : EReal) = cv t j d := fun j d => by
      refine ((blockAt_read (cfg := cfg2) (c := c) 4 (fun _ _ => rfl) _ t _).trans ?_).trans (hcv t j d)
      blk_ext [e4]
    have h5 : ∀ a : Fin 3, ((in2 V c 5 t : Vec Ideal S3x1x256x1 .f32) (ix4 a 0 r 0) : EReal) = g a t ⟨0 + r.val, by omega⟩ := fun a => by
      refine ((blockAt_read (cfg := cfg2) (c := c) 5 (fun _ _ => rfl) _ t _).trans ?_).trans (hg a t ⟨0 + r.val, by omega⟩)
      blk_ext [e5]
    have hl : out2_6 (in2 V c 0 t) (in2 V c 1 t) (in2 V c 2 t) (in2 V c 3 t) (in2 V c 4 t) (in2 V c 5 t) (ix3 0 r e : S1x256x64.Idx)
        = headOut q k v ck cv g t ⟨0 + r.val, by omega⟩ e := by
      refine (out2_at (in2 V c 0 t) (in2 V c 1 t) (in2 V c 2 t) (in2 V c 3 t) (in2 V c 4 t) (in2 V c 5 t) r e ?_ ?_).trans ?_
      · exact fun j => IsReal.sum _ _ fun d => IsReal.mul (by rw [h0 d]; exact rq _ _ _) (by rw [h3 j d]; exact rck _ _ _)
      · exact fun j => IsReal.sum _ _ fun d => IsReal.mul (by rw [h0 d]; exact rq _ _ _) (by rw [h1 j d]; exact rk _ _ _)
      · simp only [h0, h1, h2, h3, h4, h5]
        exact headOut_of (i := ⟨0 + r.val, by omega⟩) (by omega : 256 ≤ 2048) (by show 0 + r.val < 256; omega)
          fun j => IsReal.sum _ _ fun d => IsReal.mul (rq _ _ _) (rk _ _ _)
    subst hy
    have hemb : ((cfg2.win 6).blk t).view.emb (ix3 0 r e : S1x256x64.Idx) = (ix3 t r e : S12x256x64.Idx) := by blk_ext [eo]
    rw [hemb]
    exact hl.trans (hG t r e).symm
  rw [key]
  exact hG h r e

end Cert.KernelIdeal.Gen
-- ==== Proof.Value.Tile3.lean ====
module

public import proofs.«01_k».proof.Proof.Frame.KernelIdeal.Region3
public import proofs.«01_k».proof.Proof.Value.Attn

/-!
# Attention call 3

The rows 256 to 256 + 255 of each head: each payload of the body at an index, and with them what the body writes.
-/

@[expose] public section

set_option maxRecDepth 16384

noncomputable section

namespace Cert.KernelIdeal.Gen

open Idealize.ShloMosaic SparseAttn

/-- The compressed branch's weights. -/
theorem comp3_at (x0 : Vec Ideal S1x256x64 .bf16) (x3 : Vec Ideal S1x256x64 .f32) (r c : Fin 256) :
    (k3_pay4 x0 x3 (ix2 r c) : EReal) =
      softmax (fun c : Fin 256 => Scalar.select (cMaskWord 256 r c) (∑ d : Fin 64, (x0 (ix3 0 r d) : EReal) * x3 (ix3 0 c d)) ⊥) c := by
  unfold k3_pay4 k3_pay2 k3_pay3
  pointwise
  simp only [named_mask]
  rfl

/-- The compressed branch's output. -/
theorem cout3_at (x0 : Vec Ideal S1x256x64 .bf16) (x3 x4 : Vec Ideal S1x256x64 .f32) (r : Fin 256) (e : Fin 64) :
    (k3_pay5 x0 x3 x4 (ix2 r e) : EReal) = ∑ c : Fin 256, (k3_pay4 x0 x3 (ix2 r c) : EReal) * x4 (ix3 0 c e) := by
  unfold k3_pay5
  generalize k3_pay4 x0 x3 = cp
  pointwise

/-- The scores. -/
theorem score3_at (x0 : Vec Ideal S1x256x64 .bf16) (x1 : Vec Ideal S1x512x64 .bf16) (r : Fin 256) (j : Fin 512) :
    (k3_pay21 (k3_pay2 x0) x1 (ix2 r j) : EReal) = ∑ d : Fin 64, (x0 (ix3 0 r d) : EReal) * x1 (ix3 0 j d) := by
  unfold k3_pay21 k3_pay2
  pointwise

/-- The masked scores of the tile's own keys. -/
theorem chunk3_at (s0 s1 s2 s3 : IVec S256x1 32) (s : FVec Ideal S256x512 .f32) (w : Fin 4 → BitVec 32) (r j : Fin 256)
    (hs : (s0 (ix2 r 0) = w 0 ∧ s1 (ix2 r 0) = w 1) ∧ s2 (ix2 r 0) = w 2 ∧ s3 (ix2 r 0) = w 3) :
    (k3_pay25 s0 s1 s2 s3 (k3_pay19 k3_pay3 16#32 (k3_pay16 k3_pay3) (k3_pay17 k3_pay3) k3_pay18) s
      (iota .tc S256x256 32 [0] iota_S256x256_d0_w32) lanes k3_pay22 16#32 k3_pay23 k3_pay24 (ix2 r j) : EReal) =
      Scalar.select (chunkWord 256 r j w) (s (ix2 r ⟨256 + j.val, by have := j.isLt; omega⟩)) ⊥ := by
  unfold_payloads
  pointwise
  rw [hs.1.1, hs.1.2, hs.2.1, hs.2.2, named_mask]
  rfl

/-- The mask bits of the keys before the tile. -/
theorem body3_at (s0 s1 s2 s3 : IVec S256x1 32) (x6 : Vec Ideal S16x256 .bf16) (w : Fin 4 → BitVec 32) (r : Fin 256) (j : Fin 256)
    (hs : (s0 (ix2 r 0) = w 0 ∧ s1 (ix2 r 0) = w 1) ∧ s2 (ix2 r 0) = w 2 ∧ s3 (ix2 r 0) = w 3) :
    k3_pay26 (F := Ideal) s0 s1 s2 s3 x6 (ix2 r j) = bodyWord w (fun x : Fin 16 => (x6 (ix2 x j) : EReal)) := by
  unfold_payloads
  pointwise
  rw [hs.1.1, hs.1.2, hs.2.1, hs.2.2]
  rfl

/-- The selected branch, from its masked scores. -/
theorem fine3_at (v : FVec Ideal S512x64 .bf16) (ch : FVec Ideal S256x256 .f32) (a : FVec Ideal S256x256 .f32) (mm : IVec S256x256 1) (r : Fin 256) (e : Fin 64) :
    (k3_pay29 v ch mm a k3_pay28 (ix2 r e) : EReal) =
      ∑ x : Fin 512, softmax (fun x : Fin 512 => if h : x.val < 256 then Scalar.select (mm (ix2 r ⟨x.val, h⟩)) (a (ix2 r ⟨x.val, h⟩) : EReal) ⊥
        else (ch (ix2 r ⟨x.val - 256, by have := x.isLt; omega⟩) : EReal)) x * v (ix2 x e) := by
  have hrow : ∀ x : Fin 512, (concatenate S256x512 1 [⟨S256x256, select mm a (k3_pay28 (F := Ideal))⟩, ⟨S256x256, ch⟩] concatenates_S256x256_S256x256_S256x512_d1 (ix2 r x) : EReal) =
      if h : x.val < 256 then Scalar.select (mm (ix2 r ⟨x.val, h⟩)) (a (ix2 r ⟨x.val, h⟩) : EReal) ⊥ else (ch (ix2 r ⟨x.val - 256, by have := x.isLt; omega⟩) : EReal) := by
    intro x
    unfold k3_pay28
    pointwise
    rfl
  unfold k3_pay29
  generalize concatenate _ _ _ _ = fs at hrow ⊢
  pointwise
  simp only [hrow]
  rfl

/-- The sliding-window branch. -/
theorem win3_at (v : FVec Ideal S512x64 .bf16) (s : FVec Ideal S256x512 .f32) (r : Fin 256) (e : Fin 64) :
    (k3_pay30 k3_pay3 v s (ix2 r e) : EReal) =
      ∑ x : Fin 512, windowed (fun x : Fin 512 => winWord 256 0 r x) (fun x => (s (ix2 r ⟨0 + x.val, by have := x.isLt; omega⟩) : EReal)) x * v (ix2 ⟨0 + x.val, by have := x.isLt; omega⟩ e) := by
  unfold k3_pay30 k3_pay3
  pointwise
  simp only [named_mask, Nat.zero_add]
  rfl

/-- What the body of call 3 writes at row `r` and feature `e`. -/
theorem out3_at (x0 : Vec Ideal S1x256x64 .bf16) (x1 x2 : Vec Ideal S1x512x64 .bf16) (x3 x4 : Vec Ideal S1x256x64 .f32) (x5 : Vec Ideal S3x1x256x1 .f32)
    (x6 : Vec Ideal S16x256 .bf16) (r : Fin 256) (e : Fin 64)
    (hsc : ∀ c : Fin 256, IsReal (∑ d : Fin 64, (x0 (ix3 0 r d) : EReal) * x3 (ix3 0 c d)))
    (hs : ∀ j : Fin 512, IsReal (∑ d : Fin 64, (x0 (ix3 0 r d) : EReal) * x1 (ix3 0 j d)))
    (h6 : ∀ (x : Fin 16) (j : Fin 256), (x6 (ix2 x j) : EReal) = if j.val / 16 = x.val then 1 else 0) :
    (out3_7 x0 x1 x2 x3 x4 x5 x6 (ix3 0 r e) : EReal) =
      attnOut (fun c : Fin 256 => ∑ d : Fin 64, (x0 (ix3 0 r d) : EReal) * x3 (ix3 0 c d)) (fun c => x4 (ix3 0 c e))
        (fun j : Fin 512 => ∑ d : Fin 64, (x0 (ix3 0 r d) : EReal) * x1 (ix3 0 j d)) (fun j => x2 (ix3 0 j e)) (fun a => x5 (ix4 a 0 r 0)) (256 + r.val) := by
  unfold out3_7
  frame_out
  unfold val3_7
  clean_types
  have l0 : ∀ {e : EltTy} (X : Vec Ideal S1x256x64 e), View.ld X r3_0 = X := fun X => View.ld_unit_lit _ X (by decide)
  have l1 : ∀ (X : Vec Ideal S1x512x64 .bf16), View.ld X r3_1 = X := fun X => View.ld_unit_lit _ X (by decide)
  rw [l0 x0, l0 x3, l0 x4, l1 x1, l1 x2, show View.ld x6 r3_2 = x6 from View.ld_unit_lit _ x6 (by decide)]
  have hcp := comp3_at x0 x3 r
  have hco := cout3_at x0 x3 x4 r e
  generalize k3_pay5 x0 x3 x4 = co at hco ⊢
  generalize k3_pay4 x0 x3 = cp at hcp hco ⊢
  have hsel : (k3_pay8 cp (ix2 r 0) = selWord (selRow fun x => cp (ix2 r x)) 0 ∧ k3_pay11 lanes (k3_pay9 cp) (ix2 r 0) = selWord (selRow fun x => cp (ix2 r x)) 1) ∧
    (k3_pay14 lanes (k3_pay9 cp) (ix2 r 0) = selWord (selRow fun x => cp (ix2 r x)) 2 ∧ k3_pay15 lanes (k3_pay9 cp) (ix2 r 0) = selWord (selRow fun x => cp (ix2 r x)) 3) := sel_at cp r
  generalize k3_pay8 cp = s0 at hsel ⊢
  generalize k3_pay9 cp = w1 at hsel ⊢
  generalize k3_pay11 lanes w1 = s1 at hsel ⊢
  generalize k3_pay14 lanes w1 = s2 at hsel ⊢
  generalize k3_pay15 lanes w1 = s3 at hsel ⊢
  have hsj := score3_at x0 x1 r
  generalize k3_pay21 (k3_pay2 x0) x1 = s at hsj ⊢
  have hch := fun j => chunk3_at s0 s1 s2 s3 s _ r j hsel
  have hbo := fun j => body3_at s0 s1 s2 s3 x6 _ r j hsel
  generalize k3_pay25 s0 s1 s2 s3 _ s _ _ _ _ _ _ = ch at hch ⊢
  generalize k3_pay26 s0 s1 s2 s3 x6 = mm at hbo ⊢
  have hfi := fine3_at (k3_pay20 x2) ch (k3_pay27 s) mm r e
  have hwi := win3_at (k3_pay20 x2) s r e
  generalize k3_pay29 _ ch mm _ _ = fo at hfi ⊢
  generalize k3_pay30 _ _ s = wo at hwi ⊢
  unfold k3_pay1 k3_pay31
  pointwise
  rw [hco, hfi, hwi]
  have hv : ∀ j, (k3_pay20 x2 (ix2 j e) : EReal) = x2 (ix3 0 j e) := fun j => by unfold k3_pay20; pointwise
  simp only [hv]
  have h27 : ∀ j : Fin 256, (k3_pay27 s (ix2 r j) : EReal) = s (ix2 r ⟨j.val, by have := j.isLt; omega⟩) := fun j => by unfold k3_pay27; pointwise
  simp only [hbo, hch, h27, hsj]
  refine tile_eq 256 512 0 512 16 rfl rfl (by omega) rfl (by omega) (by decide) r _ _ _ _ (fun a => x5 (ix4 a 0 r 0)) (fun x j => x6 (ix2 x j)) hsc hs
    h6 (fun c => cp (ix2 r c)) (funext hcp) _ fun x => ?_
  split
  · rfl
  · next h =>
    have hx : 256 + (x.val - 256) = x.val := by omega
    simp only [hx]

end Cert.KernelIdeal.Gen
-- ==== Proof.Value.Arr3.lean ====
module

public import proofs.«01_k».proof.Proof.Value.Tile3
public import proofs.«01_k».proof.Proof.Value.Head
public import proofs.«01_k».proof.Proof.Frame.KernelIdeal.Run

/-!
# The array attention call 3 leaves
-/

@[expose] public section

set_option maxRecDepth 16384

noncomputable section

namespace Cert.KernelIdeal.Gen

open Idealize.ShloMosaic Idealize.ShloMosaic.TcCoe Idealize.ShloMosaic.Tactic
open SparseAttn

variable (V : (c : Dev nD) → (b : Ref sig .tc) → Buf (Elt Ideal) ((c : Thread nD τ).loc b))

/-- The block that each window of call 3 holds at each point. -/
theorem widx3 : ∀ t : Fin cfg3.N, win3_0.index t = ![t.val, 1, 0] ∧ win3_1.index t = ![t.val, 0, 0] ∧ win3_2.index t = ![t.val, 0, 0]
    ∧ win3_3.index t = ![t.val, 0, 0] ∧ win3_4.index t = ![t.val, 0, 0] ∧ win3_5.index t = ![0, t.val, 1, 0]
    ∧ win3_6.index t = ![0, 0]
    ∧ win3_7.index t = ![t.val, 0, 0] := by decide +kernel

set_option maxHeartbeats 2000000 in
/-- Call 3's output array: rows 256 to 256 + 255 of each head's output. -/
theorem arr3 (c : Dev nD) (q k v : Fin 12 → Fin 2048 → Fin 64 → EReal) (ck cv : Fin 12 → Fin 256 → Fin 64 → EReal)
    (g : Fin 3 → Fin 12 → Fin 2048 → EReal)
    (hq : ∀ h i d, ((V c main_v7_0 : Vec Ideal S12x2048x64 .bf16) (ix3 h i d) : EReal) = q h i d)
    (hk : ∀ h i d, ((V c main_v7_1 : Vec Ideal S12x2048x64 .bf16) (ix3 h i d) : EReal) = k h i d)
    (hv : ∀ h i d, ((V c main_v7_2 : Vec Ideal S12x2048x64 .bf16) (ix3 h i d) : EReal) = v h i d)
    (hck : ∀ h j d, ((V c main_v14_0 : Vec Ideal S12x256x64 .f32) (ix3 h j d) : EReal) = ck h j d)
    (hcv : ∀ h j d, ((V c main_v14_1 : Vec Ideal S12x256x64 .f32) (ix3 h j d) : EReal) = cv h j d)
    (hg : ∀ a h i, ((V c main_v7_5 : Vec Ideal S3x12x2048x1 .f32) (ix4 a h i 0) : EReal) = g a h i)
    (h23 : ∀ (x : Fin 128) (j : Fin 2048), ((V c main_v23 : Vec Ideal S128x2048 .bf16) (ix2 x j) : EReal) = (if j.val / 16 = x.val then 1 else 0 : EReal))
    (rq : ∀ h i d, IsReal (q h i d)) (rk : ∀ h i d, IsReal (k h i d)) (rck : ∀ h j d, IsReal (ck h j d))
    (h : Fin 12) (r : Fin 256) (e : Fin 64) :
    ((dat3 V c).arrAt 7 cfg3.N : Vec Ideal S12x256x64 .f32) (ix3 h r e) = headOut q k v ck cv g h ⟨256 + r.val, by omega⟩ e := by
  obtain ⟨G, hG⟩ := exists_array3 fun (h : Fin 12) (r : Fin 256) (e : Fin 64) => headOut q k v ck cv g h ⟨256 + r.val, by omega⟩ e
  have key : (dat3 V c).arrAt 7 cfg3.N = (G : Vec Ideal S12x256x64 .f32) := by
    refine (dat3 V c).arrAt_eq_of_covers 7 _ (by decide +kernel) fun t hf y => ?_
    obtain ⟨e0, e1, e2, e3, e4, e5, e6, eo⟩ := widx3 t
    blk_simp
    rw [after3_7]
    obtain ⟨r, hr⟩ : ∃ r : Fin 256, r = y 1 := ⟨_, rfl⟩
    obtain ⟨e, he⟩ : ∃ e : Fin 64, e = y 2 := ⟨_, rfl⟩
    have hy : y = (ix3 0 r e : S1x256x64.Idx) := by
      funext a; fin_cases a
      · exact Subsingleton.elim (α := Fin 1) _ _
      · exact hr.symm
      · exact he.symm
    have h0 : ∀ d : Fin 64, ((in3 V c 0 t : Vec Ideal S1x256x64 .bf16) (ix3 0 r d) : EReal) = q t ⟨256 + r.val, by omega⟩ d := fun d => by
      refine ((blockAt_read (cfg := cfg3) (c := c) 0 (fun _ _ => rfl) _ t _).trans ?_).trans (hq t ⟨256 + r.val, by omega⟩ d)
      blk_ext [e0]
    have h1 : ∀ (j : Fin 512) (d : Fin 64), ((in3 V c 1 t : Vec Ideal S1x512x64 .bf16) (ix3 0 j d) : EReal) = k t ⟨j.val, by omega⟩ d := fun j d => by
      refine ((blockAt_read (cfg := cfg3) (c := c) 1 (by decide +kernel) _ t _).trans ?_).trans (hk t ⟨j.val, by omega⟩ d)
      blk_ext [e1]
    have h2 : ∀ (j : Fin 512) (d : Fin 64), ((in3 V c 2 t : Vec Ideal S1x512x64 .bf16) (ix3 0 j d) : EReal) = v t ⟨j.val, by omega⟩ d := fun j d => by
      refine ((blockAt_read (cfg := cfg3) (c := c) 2 (by decide +kernel) _ t _).trans ?_).trans (hv t ⟨j.val, by omega⟩ d)
      blk_ext [e2]
    have h3 : ∀ (j : Fin 256) (d : Fin 64), ((in3 V c 3 t : Vec Ideal S1x256x64 .f32) (ix3 0 j d) : EReal) = ck t j d := fun j d => by
      refine ((blockAt_read (cfg := cfg3) (c := c) 3 (fun _ _ => rfl) _ t _).trans ?_).trans (hck t j d)
      blk_ext [e3]
    have h4 : ∀ (j : Fin 256) (d : Fin 64), ((in3 V c 4 t : Vec Ideal S1x256x64 .f32) (ix3 0 j d) : EReal) = cv t j d := fun j d => by
      refine ((blockAt_read (cfg := cfg3) (c := c) 4 (fun _ _ => rfl) _ t _).trans ?_).trans (hcv t j d)
      blk_ext [e4]
    have h5 : ∀ a : Fin 3, ((in3 V c 5 t : Vec Ideal S3x1x256x1 .f32) (ix4 a 0 r 0) : EReal) = g a t ⟨256 + r.val, by omega⟩ := fun a => by
      refine ((blockAt_read (cfg := cfg3) (c := c) 5 (fun _ _ => rfl) _ t _).trans ?_).trans (hg a t ⟨256 + r.val, by omega⟩)
      blk_ext [e5]
    have h6 : ∀ (x : Fin 16) (j : Fin 256), ((in3 V c 6 t : Vec Ideal S16x256 .bf16) (ix2 x j) : EReal) = (if j.val / 16 = x.val then 1 else 0 : EReal) := fun x j => by
      refine ((blockAt_read (cfg := cfg3) (c := c) 6 (by decide +kernel) _ t _).trans ?_).trans (h23 ⟨x.val, by omega⟩ ⟨j.val, by omega⟩)
      blk_ext [e6]
    have hl : out3_7 (in3 V c 0 t) (in3 V c 1 t) (in3 V c 2 t) (in3 V c 3 t) (in3 V c 4 t) (in3 V c 5 t) (in3 V c 6 t) (ix3 0 r e : S1x256x64.Idx)
        = headOut q k v ck cv g t ⟨256 + r.val, by omega⟩ e := by
      refine (out3_at (in3 V c 0 t) (in3 V c 1 t) (in3 V c 2 t) (in3 V c 3 t) (in3 V c 4 t) (in3 V c 5 t) (in3 V c 6 t) r e ?_ ?_ h6).trans ?_
      · exact fun j => IsReal.sum _ _ fun d => IsReal.mul (by rw [h0 d]; exact rq _ _ _) (by rw [h3 j d]; exact rck _ _ _)
      · exact fun j => IsReal.sum _ _ fun d => IsReal.mul (by rw [h0 d]; exact rq _ _ _) (by rw [h1 j d]; exact rk _ _ _)
      · simp only [h0, h1, h2, h3, h4, h5]
        exact headOut_of (i := ⟨256 + r.val, by omega⟩) (by omega : 512 ≤ 2048) (by show 256 + r.val < 512; omega)
          fun j => IsReal.sum _ _ fun d => IsReal.mul (rq _ _ _) (rk _ _ _)
    subst hy
    have hemb : ((cfg3.win 7).blk t).view.emb (ix3 0 r e : S1x256x64.Idx) = (ix3 t r e : S12x256x64.Idx) := by blk_ext [eo]
    rw [hemb]
    exact hl.trans (hG t r e).symm
  rw [key]
  exact hG h r e

end Cert.KernelIdeal.Gen
-- ==== Proof.Value.Tile4.lean ====
module

public import proofs.«01_k».proof.Proof.Frame.KernelIdeal.Region4
public import proofs.«01_k».proof.Proof.Value.Attn

/-!
# Attention call 4

The rows 512 to 512 + 255 of each head: each payload of the body at an index, and with them what the body writes.
-/

@[expose] public section

set_option maxRecDepth 16384

noncomputable section

namespace Cert.KernelIdeal.Gen

open Idealize.ShloMosaic SparseAttn

/-- The compressed branch's weights. -/
theorem comp4_at (x0 : Vec Ideal S1x256x64 .bf16) (x3 : Vec Ideal S1x256x64 .f32) (r c : Fin 256) :
    (k4_pay4 x0 x3 (ix2 r c) : EReal) =
      softmax (fun c : Fin 256 => Scalar.select (cMaskWord 512 r c) (∑ d : Fin 64, (x0 (ix3 0 r d) : EReal) * x3 (ix3 0 c d)) ⊥) c := by
  unfold k4_pay4 k4_pay2 k4_pay3
  pointwise
  simp only [named_mask]
  rfl

/-- The compressed branch's output. -/
theorem cout4_at (x0 : Vec Ideal S1x256x64 .bf16) (x3 x4 : Vec Ideal S1x256x64 .f32) (r : Fin 256) (e : Fin 64) :
    (k4_pay5 x0 x3 x4 (ix2 r e) : EReal) = ∑ c : Fin 256, (k4_pay4 x0 x3 (ix2 r c) : EReal) * x4 (ix3 0 c e) := by
  unfold k4_pay5
  generalize k4_pay4 x0 x3 = cp
  pointwise

/-- The scores. -/
theorem score4_at (x0 : Vec Ideal S1x256x64 .bf16) (x1 : Vec Ideal S1x768x64 .bf16) (r : Fin 256) (j : Fin 768) :
    (k4_pay21 (k4_pay2 x0) x1 (ix2 r j) : EReal) = ∑ d : Fin 64, (x0 (ix3 0 r d) : EReal) * x1 (ix3 0 j d) := by
  unfold k4_pay21 k4_pay2
  pointwise

/-- The masked scores of the tile's own keys. -/
theorem chunk4_at (s0 s1 s2 s3 : IVec S256x1 32) (s : FVec Ideal S256x768 .f32) (w : Fin 4 → BitVec 32) (r j : Fin 256)
    (hs : (s0 (ix2 r 0) = w 0 ∧ s1 (ix2 r 0) = w 1) ∧ s2 (ix2 r 0) = w 2 ∧ s3 (ix2 r 0) = w 3) :
    (k4_pay25 s0 s1 s2 s3 (k4_pay19 k4_pay3 16#32 (k4_pay16 k4_pay3) (k4_pay17 k4_pay3) k4_pay18) s
      (iota .tc S256x256 32 [0] iota_S256x256_d0_w32) lanes k4_pay22 16#32 k4_pay23 k4_pay24 (ix2 r j) : EReal) =
      Scalar.select (chunkWord 512 r j w) (s (ix2 r ⟨512 + j.val, by have := j.isLt; omega⟩)) ⊥ := by
  unfold_payloads
  pointwise
  rw [hs.1.1, hs.1.2, hs.2.1, hs.2.2, named_mask]
  rfl

/-- The mask bits of the keys before the tile. -/
theorem body4_at (s0 s1 s2 s3 : IVec S256x1 32) (x6 : Vec Ideal S32x512 .bf16) (w : Fin 4 → BitVec 32) (r : Fin 256) (j : Fin 512)
    (hs : (s0 (ix2 r 0) = w 0 ∧ s1 (ix2 r 0) = w 1) ∧ s2 (ix2 r 0) = w 2 ∧ s3 (ix2 r 0) = w 3) :
    k4_pay26 (F := Ideal) s0 s1 s2 s3 x6 (ix2 r j) = bodyWord w (fun x : Fin 32 => (x6 (ix2 x j) : EReal)) := by
  unfold_payloads
  pointwise
  rw [hs.1.1, hs.1.2, hs.2.1, hs.2.2]
  rfl

/-- The selected branch, from its masked scores. -/
theorem fine4_at (v : FVec Ideal S768x64 .bf16) (ch : FVec Ideal S256x256 .f32) (a : FVec Ideal S256x512 .f32) (mm : IVec S256x512 1) (r : Fin 256) (e : Fin 64) :
    (k4_pay29 v ch mm a k4_pay28 (ix2 r e) : EReal) =
      ∑ x : Fin 768, softmax (fun x : Fin 768 => if h : x.val < 512 then Scalar.select (mm (ix2 r ⟨x.val, h⟩)) (a (ix2 r ⟨x.val, h⟩) : EReal) ⊥
        else (ch (ix2 r ⟨x.val - 512, by have := x.isLt; omega⟩) : EReal)) x * v (ix2 x e) := by
  have hrow : ∀ x : Fin 768, (concatenate S256x768 1 [⟨S256x512, select mm a (k4_pay28 (F := Ideal))⟩, ⟨S256x256, ch⟩] concatenates_S256x512_S256x256_S256x768_d1 (ix2 r x) : EReal) =
      if h : x.val < 512 then Scalar.select (mm (ix2 r ⟨x.val, h⟩)) (a (ix2 r ⟨x.val, h⟩) : EReal) ⊥ else (ch (ix2 r ⟨x.val - 512, by have := x.isLt; omega⟩) : EReal) := by
    intro x
    unfold k4_pay28
    pointwise
    rfl
  unfold k4_pay29
  generalize concatenate _ _ _ _ = fs at hrow ⊢
  pointwise
  simp only [hrow]
  rfl

/-- The sliding-window branch. -/
theorem win4_at (v : FVec Ideal S768x64 .bf16) (s : FVec Ideal S256x768 .f32) (r : Fin 256) (e : Fin 64) :
    (k4_pay30 k4_pay3 v s (ix2 r e) : EReal) =
      ∑ x : Fin 512, windowed (fun x : Fin 512 => winWord 512 256 r x) (fun x => (s (ix2 r ⟨256 + x.val, by have := x.isLt; omega⟩) : EReal)) x * v (ix2 ⟨256 + x.val, by have := x.isLt; omega⟩ e) := by
  unfold k4_pay30 k4_pay3
  pointwise
  simp only [named_mask, Nat.zero_add]
  rfl

/-- What the body of call 4 writes at row `r` and feature `e`. -/
theorem out4_at (x0 : Vec Ideal S1x256x64 .bf16) (x1 x2 : Vec Ideal S1x768x64 .bf16) (x3 x4 : Vec Ideal S1x256x64 .f32) (x5 : Vec Ideal S3x1x256x1 .f32)
    (x6 : Vec Ideal S32x512 .bf16) (r : Fin 256) (e : Fin 64)
    (hsc : ∀ c : Fin 256, IsReal (∑ d : Fin 64, (x0 (ix3 0 r d) : EReal) * x3 (ix3 0 c d)))
    (hs : ∀ j : Fin 768, IsReal (∑ d : Fin 64, (x0 (ix3 0 r d) : EReal) * x1 (ix3 0 j d)))
    (h6 : ∀ (x : Fin 32) (j : Fin 512), (x6 (ix2 x j) : EReal) = if j.val / 16 = x.val then 1 else 0) :
    (out4_7 x0 x1 x2 x3 x4 x5 x6 (ix3 0 r e) : EReal) =
      attnOut (fun c : Fin 256 => ∑ d : Fin 64, (x0 (ix3 0 r d) : EReal) * x3 (ix3 0 c d)) (fun c => x4 (ix3 0 c e))
        (fun j : Fin 768 => ∑ d : Fin 64, (x0 (ix3 0 r d) : EReal) * x1 (ix3 0 j d)) (fun j => x2 (ix3 0 j e)) (fun a => x5 (ix4 a 0 r 0)) (512 + r.val) := by
  unfold out4_7
  frame_out
  unfold val4_7
  clean_types
  have l0 : ∀ {e : EltTy} (X : Vec Ideal S1x256x64 e), View.ld X r4_0 = X := fun X => View.ld_unit_lit _ X (by decide)
  have l1 : ∀ (X : Vec Ideal S1x768x64 .bf16), View.ld X r4_1 = X := fun X => View.ld_unit_lit _ X (by decide)
  rw [l0 x0, l0 x3, l0 x4, l1 x1, l1 x2, show View.ld x6 r4_2 = x6 from View.ld_unit_lit _ x6 (by decide)]
  have hcp := comp4_at x0 x3 r
  have hco := cout4_at x0 x3 x4 r e
  generalize k4_pay5 x0 x3 x4 = co at hco ⊢
  generalize k4_pay4 x0 x3 = cp at hcp hco ⊢
  have hsel : (k4_pay8 cp (ix2 r 0) = selWord (selRow fun x => cp (ix2 r x)) 0 ∧ k4_pay11 lanes (k4_pay9 cp) (ix2 r 0) = selWord (selRow fun x => cp (ix2 r x)) 1) ∧
    (k4_pay14 lanes (k4_pay9 cp) (ix2 r 0) = selWord (selRow fun x => cp (ix2 r x)) 2 ∧ k4_pay15 lanes (k4_pay9 cp) (ix2 r 0) = selWord (selRow fun x => cp (ix2 r x)) 3) := sel_at cp r
  generalize k4_pay8 cp = s0 at hsel ⊢
  generalize k4_pay9 cp = w1 at hsel ⊢
  generalize k4_pay11 lanes w1 = s1 at hsel ⊢
  generalize k4_pay14 lanes w1 = s2 at hsel ⊢
  generalize k4_pay15 lanes w1 = s3 at hsel ⊢
  have hsj := score4_at x0 x1 r
  generalize k4_pay21 (k4_pay2 x0) x1 = s at hsj ⊢
  have hch := fun j => chunk4_at s0 s1 s2 s3 s _ r j hsel
  have hbo := fun j => body4_at s0 s1 s2 s3 x6 _ r j hsel
  generalize k4_pay25 s0 s1 s2 s3 _ s _ _ _ _ _ _ = ch at hch ⊢
  generalize k4_pay26 s0 s1 s2 s3 x6 = mm at hbo ⊢
  have hfi := fine4_at (k4_pay20 x2) ch (k4_pay27 s) mm r e
  have hwi := win4_at (k4_pay20 x2) s r e
  generalize k4_pay29 _ ch mm _ _ = fo at hfi ⊢
  generalize k4_pay30 _ _ s = wo at hwi ⊢
  unfold k4_pay1 k4_pay31
  pointwise
  rw [hco, hfi, hwi]
  have hv : ∀ j, (k4_pay20 x2 (ix2 j e) : EReal) = x2 (ix3 0 j e) := fun j => by unfold k4_pay20; pointwise
  simp only [hv]
  have h27 : ∀ j : Fin 512, (k4_pay27 s (ix2 r j) : EReal) = s (ix2 r ⟨j.val, by have := j.isLt; omega⟩) := fun j => by unfold k4_pay27; pointwise
  simp only [hbo, hch, h27, hsj]
  refine tile_eq 512 768 256 512 32 rfl rfl (by omega) rfl (by omega) (by decide) r _ _ _ _ (fun a => x5 (ix4 a 0 r 0)) (fun x j => x6 (ix2 x j)) hsc hs
    h6 (fun c => cp (ix2 r c)) (funext hcp) _ fun x => ?_
  split
  · rfl
  · next h =>
    have hx : 512 + (x.val - 512) = x.val := by omega
    simp only [hx]

end Cert.KernelIdeal.Gen
-- ==== Proof.Value.Arr4.lean ====
module

public import proofs.«01_k».proof.Proof.Value.Tile4
public import proofs.«01_k».proof.Proof.Value.Head
public import proofs.«01_k».proof.Proof.Frame.KernelIdeal.Run

/-!
# The array attention call 4 leaves
-/

@[expose] public section

set_option maxRecDepth 16384

noncomputable section

namespace Cert.KernelIdeal.Gen

open Idealize.ShloMosaic Idealize.ShloMosaic.TcCoe Idealize.ShloMosaic.Tactic
open SparseAttn

variable (V : (c : Dev nD) → (b : Ref sig .tc) → Buf (Elt Ideal) ((c : Thread nD τ).loc b))

/-- The block that each window of call 4 holds at each point. -/
theorem widx4 : ∀ t : Fin cfg4.N, win4_0.index t = ![t.val, 2, 0] ∧ win4_1.index t = ![t.val, 0, 0] ∧ win4_2.index t = ![t.val, 0, 0]
    ∧ win4_3.index t = ![t.val, 0, 0] ∧ win4_4.index t = ![t.val, 0, 0] ∧ win4_5.index t = ![0, t.val, 2, 0]
    ∧ win4_6.index t = ![0, 0]
    ∧ win4_7.index t = ![t.val, 0, 0] := by decide +kernel

set_option maxHeartbeats 2000000 in
/-- Call 4's output array: rows 512 to 512 + 255 of each head's output. -/
theorem arr4 (c : Dev nD) (q k v : Fin 12 → Fin 2048 → Fin 64 → EReal) (ck cv : Fin 12 → Fin 256 → Fin 64 → EReal)
    (g : Fin 3 → Fin 12 → Fin 2048 → EReal)
    (hq : ∀ h i d, ((V c main_v7_0 : Vec Ideal S12x2048x64 .bf16) (ix3 h i d) : EReal) = q h i d)
    (hk : ∀ h i d, ((V c main_v7_1 : Vec Ideal S12x2048x64 .bf16) (ix3 h i d) : EReal) = k h i d)
    (hv : ∀ h i d, ((V c main_v7_2 : Vec Ideal S12x2048x64 .bf16) (ix3 h i d) : EReal) = v h i d)
    (hck : ∀ h j d, ((V c main_v14_0 : Vec Ideal S12x256x64 .f32) (ix3 h j d) : EReal) = ck h j d)
    (hcv : ∀ h j d, ((V c main_v14_1 : Vec Ideal S12x256x64 .f32) (ix3 h j d) : EReal) = cv h j d)
    (hg : ∀ a h i, ((V c main_v7_5 : Vec Ideal S3x12x2048x1 .f32) (ix4 a h i 0) : EReal) = g a h i)
    (h23 : ∀ (x : Fin 128) (j : Fin 2048), ((V c main_v23 : Vec Ideal S128x2048 .bf16) (ix2 x j) : EReal) = (if j.val / 16 = x.val then 1 else 0 : EReal))
    (rq : ∀ h i d, IsReal (q h i d)) (rk : ∀ h i d, IsReal (k h i d)) (rck : ∀ h j d, IsReal (ck h j d))
    (h : Fin 12) (r : Fin 256) (e : Fin 64) :
    ((dat4 V c).arrAt 7 cfg4.N : Vec Ideal S12x256x64 .f32) (ix3 h r e) = headOut q k v ck cv g h ⟨512 + r.val, by omega⟩ e := by
  obtain ⟨G, hG⟩ := exists_array3 fun (h : Fin 12) (r : Fin 256) (e : Fin 64) => headOut q k v ck cv g h ⟨512 + r.val, by omega⟩ e
  have key : (dat4 V c).arrAt 7 cfg4.N = (G : Vec Ideal S12x256x64 .f32) := by
    refine (dat4 V c).arrAt_eq_of_covers 7 _ (by decide +kernel) fun t hf y => ?_
    obtain ⟨e0, e1, e2, e3, e4, e5, e6, eo⟩ := widx4 t
    blk_simp
    rw [after4_7]
    obtain ⟨r, hr⟩ : ∃ r : Fin 256, r = y 1 := ⟨_, rfl⟩
    obtain ⟨e, he⟩ : ∃ e : Fin 64, e = y 2 := ⟨_, rfl⟩
    have hy : y = (ix3 0 r e : S1x256x64.Idx) := by
      funext a; fin_cases a
      · exact Subsingleton.elim (α := Fin 1) _ _
      · exact hr.symm
      · exact he.symm
    have h0 : ∀ d : Fin 64, ((in4 V c 0 t : Vec Ideal S1x256x64 .bf16) (ix3 0 r d) : EReal) = q t ⟨512 + r.val, by omega⟩ d := fun d => by
      refine ((blockAt_read (cfg := cfg4) (c := c) 0 (fun _ _ => rfl) _ t _).trans ?_).trans (hq t ⟨512 + r.val, by omega⟩ d)
      blk_ext [e0]
    have h1 : ∀ (j : Fin 768) (d : Fin 64), ((in4 V c 1 t : Vec Ideal S1x768x64 .bf16) (ix3 0 j d) : EReal) = k t ⟨j.val, by omega⟩ d := fun j d => by
      refine ((blockAt_read (cfg := cfg4) (c := c) 1 (by decide +kernel) _ t _).trans ?_).trans (hk t ⟨j.val, by omega⟩ d)
      blk_ext [e1]
    have h2 : ∀ (j : Fin 768) (d : Fin 64), ((in4 V c 2 t : Vec Ideal S1x768x64 .bf16) (ix3 0 j d) : EReal) = v t ⟨j.val, by omega⟩ d := fun j d => by
      refine ((blockAt_read (cfg := cfg4) (c := c) 2 (by decide +kernel) _ t _).trans ?_).trans (hv t ⟨j.val, by omega⟩ d)
      blk_ext [e2]
    have h3 : ∀ (j : Fin 256) (d : Fin 64), ((in4 V c 3 t : Vec Ideal S1x256x64 .f32) (ix3 0 j d) : EReal) = ck t j d := fun j d => by
      refine ((blockAt_read (cfg := cfg4) (c := c) 3 (fun _ _ => rfl) _ t _).trans ?_).trans (hck t j d)
      blk_ext [e3]
    have h4 : ∀ (j : Fin 256) (d : Fin 64), ((in4 V c 4 t : Vec Ideal S1x256x64 .f32) (ix3 0 j d) : EReal) = cv t j d := fun j d => by
      refine ((blockAt_read (cfg := cfg4) (c := c) 4 (fun _ _ => rfl) _ t _).trans ?_).trans (hcv t j d)
      blk_ext [e4]
    have h5 : ∀ a : Fin 3, ((in4 V c 5 t : Vec Ideal S3x1x256x1 .f32) (ix4 a 0 r 0) : EReal) = g a t ⟨512 + r.val, by omega⟩ := fun a => by
      refine ((blockAt_read (cfg := cfg4) (c := c) 5 (fun _ _ => rfl) _ t _).trans ?_).trans (hg a t ⟨512 + r.val, by omega⟩)
      blk_ext [e5]
    have h6 : ∀ (x : Fin 32) (j : Fin 512), ((in4 V c 6 t : Vec Ideal S32x512 .bf16) (ix2 x j) : EReal) = (if j.val / 16 = x.val then 1 else 0 : EReal) := fun x j => by
      refine ((blockAt_read (cfg := cfg4) (c := c) 6 (by decide +kernel) _ t _).trans ?_).trans (h23 ⟨x.val, by omega⟩ ⟨j.val, by omega⟩)
      blk_ext [e6]
    have hl : out4_7 (in4 V c 0 t) (in4 V c 1 t) (in4 V c 2 t) (in4 V c 3 t) (in4 V c 4 t) (in4 V c 5 t) (in4 V c 6 t) (ix3 0 r e : S1x256x64.Idx)
        = headOut q k v ck cv g t ⟨512 + r.val, by omega⟩ e := by
      refine (out4_at (in4 V c 0 t) (in4 V c 1 t) (in4 V c 2 t) (in4 V c 3 t) (in4 V c 4 t) (in4 V c 5 t) (in4 V c 6 t) r e ?_ ?_ h6).trans ?_
      · exact fun j => IsReal.sum _ _ fun d => IsReal.mul (by rw [h0 d]; exact rq _ _ _) (by rw [h3 j d]; exact rck _ _ _)
      · exact fun j => IsReal.sum _ _ fun d => IsReal.mul (by rw [h0 d]; exact rq _ _ _) (by rw [h1 j d]; exact rk _ _ _)
      · simp only [h0, h1, h2, h3, h4, h5]
        exact headOut_of (i := ⟨512 + r.val, by omega⟩) (by omega : 768 ≤ 2048) (by show 512 + r.val < 768; omega)
          fun j => IsReal.sum _ _ fun d => IsReal.mul (rq _ _ _) (rk _ _ _)
    subst hy
    have hemb : ((cfg4.win 7).blk t).view.emb (ix3 0 r e : S1x256x64.Idx) = (ix3 t r e : S12x256x64.Idx) := by blk_ext [eo]
    rw [hemb]
    exact hl.trans (hG t r e).symm
  rw [key]
  exact hG h r e

end Cert.KernelIdeal.Gen
-- ==== Proof.Value.Tile5.lean ====
module

public import proofs.«01_k».proof.Proof.Frame.KernelIdeal.Region5
public import proofs.«01_k».proof.Proof.Value.Attn

/-!
# Attention call 5

The rows 768 to 768 + 255 of each head: each payload of the body at an index, and with them what the body writes.
-/

@[expose] public section

set_option maxRecDepth 16384

noncomputable section

namespace Cert.KernelIdeal.Gen

open Idealize.ShloMosaic SparseAttn

/-- The compressed branch's weights. -/
theorem comp5_at (x0 : Vec Ideal S1x256x64 .bf16) (x3 : Vec Ideal S1x256x64 .f32) (r c : Fin 256) :
    (k5_pay4 x0 x3 (ix2 r c) : EReal) =
      softmax (fun c : Fin 256 => Scalar.select (cMaskWord 768 r c) (∑ d : Fin 64, (x0 (ix3 0 r d) : EReal) * x3 (ix3 0 c d)) ⊥) c := by
  unfold k5_pay4 k5_pay2 k5_pay3
  pointwise
  simp only [named_mask]
  rfl

/-- The compressed branch's output. -/
theorem cout5_at (x0 : Vec Ideal S1x256x64 .bf16) (x3 x4 : Vec Ideal S1x256x64 .f32) (r : Fin 256) (e : Fin 64) :
    (k5_pay5 x0 x3 x4 (ix2 r e) : EReal) = ∑ c : Fin 256, (k5_pay4 x0 x3 (ix2 r c) : EReal) * x4 (ix3 0 c e) := by
  unfold k5_pay5
  generalize k5_pay4 x0 x3 = cp
  pointwise

/-- The scores. -/
theorem score5_at (x0 : Vec Ideal S1x256x64 .bf16) (x1 : Vec Ideal S1x1024x64 .bf16) (r : Fin 256) (j : Fin 1024) :
    (k5_pay21 (k5_pay2 x0) x1 (ix2 r j) : EReal) = ∑ d : Fin 64, (x0 (ix3 0 r d) : EReal) * x1 (ix3 0 j d) := by
  unfold k5_pay21 k5_pay2
  pointwise

/-- The masked scores of the tile's own keys. -/
theorem chunk5_at (s0 s1 s2 s3 : IVec S256x1 32) (s : FVec Ideal S256x1024 .f32) (w : Fin 4 → BitVec 32) (r j : Fin 256)
    (hs : (s0 (ix2 r 0) = w 0 ∧ s1 (ix2 r 0) = w 1) ∧ s2 (ix2 r 0) = w 2 ∧ s3 (ix2 r 0) = w 3) :
    (k5_pay25 s0 s1 s2 s3 (k5_pay19 k5_pay3 16#32 (k5_pay16 k5_pay3) (k5_pay17 k5_pay3) k5_pay18) s
      (iota .tc S256x256 32 [0] iota_S256x256_d0_w32) lanes k5_pay22 16#32 k5_pay23 k5_pay24 (ix2 r j) : EReal) =
      Scalar.select (chunkWord 768 r j w) (s (ix2 r ⟨768 + j.val, by have := j.isLt; omega⟩)) ⊥ := by
  unfold_payloads
  pointwise
  rw [hs.1.1, hs.1.2, hs.2.1, hs.2.2, named_mask]
  rfl

/-- The mask bits of the keys before the tile. -/
theorem body5_at (s0 s1 s2 s3 : IVec S256x1 32) (x6 : Vec Ideal S48x768 .bf16) (w : Fin 4 → BitVec 32) (r : Fin 256) (j : Fin 768)
    (hs : (s0 (ix2 r 0) = w 0 ∧ s1 (ix2 r 0) = w 1) ∧ s2 (ix2 r 0) = w 2 ∧ s3 (ix2 r 0) = w 3) :
    k5_pay26 (F := Ideal) s0 s1 s2 s3 x6 (ix2 r j) = bodyWord w (fun x : Fin 48 => (x6 (ix2 x j) : EReal)) := by
  unfold_payloads
  pointwise
  rw [hs.1.1, hs.1.2, hs.2.1, hs.2.2]
  rfl

/-- The selected branch, from its masked scores. -/
theorem fine5_at (v : FVec Ideal S1024x64 .bf16) (ch : FVec Ideal S256x256 .f32) (a : FVec Ideal S256x768 .f32) (mm : IVec S256x768 1) (r : Fin 256) (e : Fin 64) :
    (k5_pay29 v ch mm a k5_pay28 (ix2 r e) : EReal) =
      ∑ x : Fin 1024, softmax (fun x : Fin 1024 => if h : x.val < 768 then Scalar.select (mm (ix2 r ⟨x.val, h⟩)) (a (ix2 r ⟨x.val, h⟩) : EReal) ⊥
        else (ch (ix2 r ⟨x.val - 768, by have := x.isLt; omega⟩) : EReal)) x * v (ix2 x e) := by
  have hrow : ∀ x : Fin 1024, (concatenate S256x1024 1 [⟨S256x768, select mm a (k5_pay28 (F := Ideal))⟩, ⟨S256x256, ch⟩] concatenates_S256x768_S256x256_S256x1024_d1 (ix2 r x) : EReal) =
      if h : x.val < 768 then Scalar.select (mm (ix2 r ⟨x.val, h⟩)) (a (ix2 r ⟨x.val, h⟩) : EReal) ⊥ else (ch (ix2 r ⟨x.val - 768, by have := x.isLt; omega⟩) : EReal) := by
    intro x
    unfold k5_pay28
    pointwise
    rfl
  unfold k5_pay29
  generalize concatenate _ _ _ _ = fs at hrow ⊢
  pointwise
  simp only [hrow]
  rfl

/-- The sliding-window branch. -/
theorem win5_at (v : FVec Ideal S1024x64 .bf16) (s : FVec Ideal S256x1024 .f32) (r : Fin 256) (e : Fin 64) :
    (k5_pay30 k5_pay3 v s (ix2 r e) : EReal) =
      ∑ x : Fin 512, windowed (fun x : Fin 512 => winWord 768 512 r x) (fun x => (s (ix2 r ⟨512 + x.val, by have := x.isLt; omega⟩) : EReal)) x * v (ix2 ⟨512 + x.val, by have := x.isLt; omega⟩ e) := by
  unfold k5_pay30 k5_pay3
  pointwise
  simp only [named_mask, Nat.zero_add]
  rfl

/-- What the body of call 5 writes at row `r` and feature `e`. -/
theorem out5_at (x0 : Vec Ideal S1x256x64 .bf16) (x1 x2 : Vec Ideal S1x1024x64 .bf16) (x3 x4 : Vec Ideal S1x256x64 .f32) (x5 : Vec Ideal S3x1x256x1 .f32)
    (x6 : Vec Ideal S48x768 .bf16) (r : Fin 256) (e : Fin 64)
    (hsc : ∀ c : Fin 256, IsReal (∑ d : Fin 64, (x0 (ix3 0 r d) : EReal) * x3 (ix3 0 c d)))
    (hs : ∀ j : Fin 1024, IsReal (∑ d : Fin 64, (x0 (ix3 0 r d) : EReal) * x1 (ix3 0 j d)))
    (h6 : ∀ (x : Fin 48) (j : Fin 768), (x6 (ix2 x j) : EReal) = if j.val / 16 = x.val then 1 else 0) :
    (out5_7 x0 x1 x2 x3 x4 x5 x6 (ix3 0 r e) : EReal) =
      attnOut (fun c : Fin 256 => ∑ d : Fin 64, (x0 (ix3 0 r d) : EReal) * x3 (ix3 0 c d)) (fun c => x4 (ix3 0 c e))
        (fun j : Fin 1024 => ∑ d : Fin 64, (x0 (ix3 0 r d) : EReal) * x1 (ix3 0 j d)) (fun j => x2 (ix3 0 j e)) (fun a => x5 (ix4 a 0 r 0)) (768 + r.val) := by
  unfold out5_7
  frame_out
  unfold val5_7
  clean_types
  have l0 : ∀ {e : EltTy} (X : Vec Ideal S1x256x64 e), View.ld X r5_0 = X := fun X => View.ld_unit_lit _ X (by decide)
  have l1 : ∀ (X : Vec Ideal S1x1024x64 .bf16), View.ld X r5_1 = X := fun X => View.ld_unit_lit _ X (by decide)
  rw [l0 x0, l0 x3, l0 x4, l1 x1, l1 x2, show View.ld x6 r5_2 = x6 from View.ld_unit_lit _ x6 (by decide)]
  have hcp := comp5_at x0 x3 r
  have hco := cout5_at x0 x3 x4 r e
  generalize k5_pay5 x0 x3 x4 = co at hco ⊢
  generalize k5_pay4 x0 x3 = cp at hcp hco ⊢
  have hsel : (k5_pay8 cp (ix2 r 0) = selWord (selRow fun x => cp (ix2 r x)) 0 ∧ k5_pay11 lanes (k5_pay9 cp) (ix2 r 0) = selWord (selRow fun x => cp (ix2 r x)) 1) ∧
    (k5_pay14 lanes (k5_pay9 cp) (ix2 r 0) = selWord (selRow fun x => cp (ix2 r x)) 2 ∧ k5_pay15 lanes (k5_pay9 cp) (ix2 r 0) = selWord (selRow fun x => cp (ix2 r x)) 3) := sel_at cp r
  generalize k5_pay8 cp = s0 at hsel ⊢
  generalize k5_pay9 cp = w1 at hsel ⊢
  generalize k5_pay11 lanes w1 = s1 at hsel ⊢
  generalize k5_pay14 lanes w1 = s2 at hsel ⊢
  generalize k5_pay15 lanes w1 = s3 at hsel ⊢
  have hsj := score5_at x0 x1 r
  generalize k5_pay21 (k5_pay2 x0) x1 = s at hsj ⊢
  have hch := fun j => chunk5_at s0 s1 s2 s3 s _ r j hsel
  have hbo := fun j => body5_at s0 s1 s2 s3 x6 _ r j hsel
  generalize k5_pay25 s0 s1 s2 s3 _ s _ _ _ _ _ _ = ch at hch ⊢
  generalize k5_pay26 s0 s1 s2 s3 x6 = mm at hbo ⊢
  have hfi := fine5_at (k5_pay20 x2) ch (k5_pay27 s) mm r e
  have hwi := win5_at (k5_pay20 x2) s r e
  generalize k5_pay29 _ ch mm _ _ = fo at hfi ⊢
  generalize k5_pay30 _ _ s = wo at hwi ⊢
  unfold k5_pay1 k5_pay31
  pointwise
  rw [hco, hfi, hwi]
  have hv : ∀ j, (k5_pay20 x2 (ix2 j e) : EReal) = x2 (ix3 0 j e) := fun j => by unfold k5_pay20; pointwise
  simp only [hv]
  have h27 : ∀ j : Fin 768, (k5_pay27 s (ix2 r j) : EReal) = s (ix2 r ⟨j.val, by have := j.isLt; omega⟩) := fun j => by unfold k5_pay27; pointwise
  simp only [hbo, hch, h27, hsj]
  refine tile_eq 768 1024 512 512 48 rfl rfl (by omega) rfl (by omega) (by decide) r _ _ _ _ (fun a => x5 (ix4 a 0 r 0)) (fun x j => x6 (ix2 x j)) hsc hs
    h6 (fun c => cp (ix2 r c)) (funext hcp) _ fun x => ?_
  split
  · rfl
  · next h =>
    have hx : 768 + (x.val - 768) = x.val := by omega
    simp only [hx]

end Cert.KernelIdeal.Gen
-- ==== Proof.Value.Arr5.lean ====
module

public import proofs.«01_k».proof.Proof.Value.Tile5
public import proofs.«01_k».proof.Proof.Value.Head
public import proofs.«01_k».proof.Proof.Frame.KernelIdeal.Run

/-!
# The array attention call 5 leaves
-/

@[expose] public section

set_option maxRecDepth 16384

noncomputable section

namespace Cert.KernelIdeal.Gen

open Idealize.ShloMosaic Idealize.ShloMosaic.TcCoe Idealize.ShloMosaic.Tactic
open SparseAttn

variable (V : (c : Dev nD) → (b : Ref sig .tc) → Buf (Elt Ideal) ((c : Thread nD τ).loc b))

/-- The block that each window of call 5 holds at each point. -/
theorem widx5 : ∀ t : Fin cfg5.N, win5_0.index t = ![t.val, 3, 0] ∧ win5_1.index t = ![t.val, 0, 0] ∧ win5_2.index t = ![t.val, 0, 0]
    ∧ win5_3.index t = ![t.val, 0, 0] ∧ win5_4.index t = ![t.val, 0, 0] ∧ win5_5.index t = ![0, t.val, 3, 0]
    ∧ win5_6.index t = ![0, 0]
    ∧ win5_7.index t = ![t.val, 0, 0] := by decide +kernel

set_option maxHeartbeats 2000000 in
/-- Call 5's output array: rows 768 to 768 + 255 of each head's output. -/
theorem arr5 (c : Dev nD) (q k v : Fin 12 → Fin 2048 → Fin 64 → EReal) (ck cv : Fin 12 → Fin 256 → Fin 64 → EReal)
    (g : Fin 3 → Fin 12 → Fin 2048 → EReal)
    (hq : ∀ h i d, ((V c main_v7_0 : Vec Ideal S12x2048x64 .bf16) (ix3 h i d) : EReal) = q h i d)
    (hk : ∀ h i d, ((V c main_v7_1 : Vec Ideal S12x2048x64 .bf16) (ix3 h i d) : EReal) = k h i d)
    (hv : ∀ h i d, ((V c main_v7_2 : Vec Ideal S12x2048x64 .bf16) (ix3 h i d) : EReal) = v h i d)
    (hck : ∀ h j d, ((V c main_v14_0 : Vec Ideal S12x256x64 .f32) (ix3 h j d) : EReal) = ck h j d)
    (hcv : ∀ h j d, ((V c main_v14_1 : Vec Ideal S12x256x64 .f32) (ix3 h j d) : EReal) = cv h j d)
    (hg : ∀ a h i, ((V c main_v7_5 : Vec Ideal S3x12x2048x1 .f32) (ix4 a h i 0) : EReal) = g a h i)
    (h23 : ∀ (x : Fin 128) (j : Fin 2048), ((V c main_v23 : Vec Ideal S128x2048 .bf16) (ix2 x j) : EReal) = (if j.val / 16 = x.val then 1 else 0 : EReal))
    (rq : ∀ h i d, IsReal (q h i d)) (rk : ∀ h i d, IsReal (k h i d)) (rck : ∀ h j d, IsReal (ck h j d))
    (h : Fin 12) (r : Fin 256) (e : Fin 64) :
    ((dat5 V c).arrAt 7 cfg5.N : Vec Ideal S12x256x64 .f32) (ix3 h r e) = headOut q k v ck cv g h ⟨768 + r.val, by omega⟩ e := by
  obtain ⟨G, hG⟩ := exists_array3 fun (h : Fin 12) (r : Fin 256) (e : Fin 64) => headOut q k v ck cv g h ⟨768 + r.val, by omega⟩ e
  have key : (dat5 V c).arrAt 7 cfg5.N = (G : Vec Ideal S12x256x64 .f32) := by
    refine (dat5 V c).arrAt_eq_of_covers 7 _ (by decide +kernel) fun t hf y => ?_
    obtain ⟨e0, e1, e2, e3, e4, e5, e6, eo⟩ := widx5 t
    blk_simp
    rw [after5_7]
    obtain ⟨r, hr⟩ : ∃ r : Fin 256, r = y 1 := ⟨_, rfl⟩
    obtain ⟨e, he⟩ : ∃ e : Fin 64, e = y 2 := ⟨_, rfl⟩
    have hy : y = (ix3 0 r e : S1x256x64.Idx) := by
      funext a; fin_cases a
      · exact Subsingleton.elim (α := Fin 1) _ _
      · exact hr.symm
      · exact he.symm
    have h0 : ∀ d : Fin 64, ((in5 V c 0 t : Vec Ideal S1x256x64 .bf16) (ix3 0 r d) : EReal) = q t ⟨768 + r.val, by omega⟩ d := fun d => by
      refine ((blockAt_read (cfg := cfg5) (c := c) 0 (fun _ _ => rfl) _ t _).trans ?_).trans (hq t ⟨768 + r.val, by omega⟩ d)
      blk_ext [e0]
    have h1 : ∀ (j : Fin 1024) (d : Fin 64), ((in5 V c 1 t : Vec Ideal S1x1024x64 .bf16) (ix3 0 j d) : EReal) = k t ⟨j.val, by omega⟩ d := fun j d => by
      refine ((blockAt_read (cfg := cfg5) (c := c) 1 (by decide +kernel) _ t _).trans ?_).trans (hk t ⟨j.val, by omega⟩ d)
      blk_ext [e1]
    have h2 : ∀ (j : Fin 1024) (d : Fin 64), ((in5 V c 2 t : Vec Ideal S1x1024x64 .bf16) (ix3 0 j d) : EReal) = v t ⟨j.val, by omega⟩ d := fun j d => by
      refine ((blockAt_read (cfg := cfg5) (c := c) 2 (by decide +kernel) _ t _).trans ?_).trans (hv t ⟨j.val, by omega⟩ d)
      blk_ext [e2]
    have h3 : ∀ (j : Fin 256) (d : Fin 64), ((in5 V c 3 t : Vec Ideal S1x256x64 .f32) (ix3 0 j d) : EReal) = ck t j d := fun j d => by
      refine ((blockAt_read (cfg := cfg5) (c := c) 3 (fun _ _ => rfl) _ t _).trans ?_).trans (hck t j d)
      blk_ext [e3]
    have h4 : ∀ (j : Fin 256) (d : Fin 64), ((in5 V c 4 t : Vec Ideal S1x256x64 .f32) (ix3 0 j d) : EReal) = cv t j d := fun j d => by
      refine ((blockAt_read (cfg := cfg5) (c := c) 4 (fun _ _ => rfl) _ t _).trans ?_).trans (hcv t j d)
      blk_ext [e4]
    have h5 : ∀ a : Fin 3, ((in5 V c 5 t : Vec Ideal S3x1x256x1 .f32) (ix4 a 0 r 0) : EReal) = g a t ⟨768 + r.val, by omega⟩ := fun a => by
      refine ((blockAt_read (cfg := cfg5) (c := c) 5 (fun _ _ => rfl) _ t _).trans ?_).trans (hg a t ⟨768 + r.val, by omega⟩)
      blk_ext [e5]
    have h6 : ∀ (x : Fin 48) (j : Fin 768), ((in5 V c 6 t : Vec Ideal S48x768 .bf16) (ix2 x j) : EReal) = (if j.val / 16 = x.val then 1 else 0 : EReal) := fun x j => by
      refine ((blockAt_read (cfg := cfg5) (c := c) 6 (by decide +kernel) _ t _).trans ?_).trans (h23 ⟨x.val, by omega⟩ ⟨j.val, by omega⟩)
      blk_ext [e6]
    have hl : out5_7 (in5 V c 0 t) (in5 V c 1 t) (in5 V c 2 t) (in5 V c 3 t) (in5 V c 4 t) (in5 V c 5 t) (in5 V c 6 t) (ix3 0 r e : S1x256x64.Idx)
        = headOut q k v ck cv g t ⟨768 + r.val, by omega⟩ e := by
      refine (out5_at (in5 V c 0 t) (in5 V c 1 t) (in5 V c 2 t) (in5 V c 3 t) (in5 V c 4 t) (in5 V c 5 t) (in5 V c 6 t) r e ?_ ?_ h6).trans ?_
      · exact fun j => IsReal.sum _ _ fun d => IsReal.mul (by rw [h0 d]; exact rq _ _ _) (by rw [h3 j d]; exact rck _ _ _)
      · exact fun j => IsReal.sum _ _ fun d => IsReal.mul (by rw [h0 d]; exact rq _ _ _) (by rw [h1 j d]; exact rk _ _ _)
      · simp only [h0, h1, h2, h3, h4, h5]
        exact headOut_of (i := ⟨768 + r.val, by omega⟩) (by omega : 1024 ≤ 2048) (by show 768 + r.val < 1024; omega)
          fun j => IsReal.sum _ _ fun d => IsReal.mul (rq _ _ _) (rk _ _ _)
    subst hy
    have hemb : ((cfg5.win 7).blk t).view.emb (ix3 0 r e : S1x256x64.Idx) = (ix3 t r e : S12x256x64.Idx) := by blk_ext [eo]
    rw [hemb]
    exact hl.trans (hG t r e).symm
  rw [key]
  exact hG h r e

end Cert.KernelIdeal.Gen
-- ==== Proof.Value.Tile6.lean ====
module

public import proofs.«01_k».proof.Proof.Frame.KernelIdeal.Region6
public import proofs.«01_k».proof.Proof.Value.Attn

/-!
# Attention call 6

The rows 1024 to 1024 + 255 of each head: each payload of the body at an index, and with them what the body writes.
-/

@[expose] public section

set_option maxRecDepth 16384

noncomputable section

namespace Cert.KernelIdeal.Gen

open Idealize.ShloMosaic SparseAttn

/-- The compressed branch's weights. -/
theorem comp6_at (x0 : Vec Ideal S1x256x64 .bf16) (x3 : Vec Ideal S1x256x64 .f32) (r c : Fin 256) :
    (k6_pay4 x0 x3 (ix2 r c) : EReal) =
      softmax (fun c : Fin 256 => Scalar.select (cMaskWord 1024 r c) (∑ d : Fin 64, (x0 (ix3 0 r d) : EReal) * x3 (ix3 0 c d)) ⊥) c := by
  unfold k6_pay4 k6_pay2 k6_pay3
  pointwise
  simp only [named_mask]
  rfl

/-- The compressed branch's output. -/
theorem cout6_at (x0 : Vec Ideal S1x256x64 .bf16) (x3 x4 : Vec Ideal S1x256x64 .f32) (r : Fin 256) (e : Fin 64) :
    (k6_pay5 x0 x3 x4 (ix2 r e) : EReal) = ∑ c : Fin 256, (k6_pay4 x0 x3 (ix2 r c) : EReal) * x4 (ix3 0 c e) := by
  unfold k6_pay5
  generalize k6_pay4 x0 x3 = cp
  pointwise

/-- The scores. -/
theorem score6_at (x0 : Vec Ideal S1x256x64 .bf16) (x1 : Vec Ideal S1x1280x64 .bf16) (r : Fin 256) (j : Fin 1280) :
    (k6_pay21 (k6_pay2 x0) x1 (ix2 r j) : EReal) = ∑ d : Fin 64, (x0 (ix3 0 r d) : EReal) * x1 (ix3 0 j d) := by
  unfold k6_pay21 k6_pay2
  pointwise

/-- The masked scores of the tile's own keys. -/
theorem chunk6_at (s0 s1 s2 s3 : IVec S256x1 32) (s : FVec Ideal S256x1280 .f32) (w : Fin 4 → BitVec 32) (r j : Fin 256)
    (hs : (s0 (ix2 r 0) = w 0 ∧ s1 (ix2 r 0) = w 1) ∧ s2 (ix2 r 0) = w 2 ∧ s3 (ix2 r 0) = w 3) :
    (k6_pay25 s0 s1 s2 s3 (k6_pay19 k6_pay3 16#32 (k6_pay16 k6_pay3) (k6_pay17 k6_pay3) k6_pay18) s
      (iota .tc S256x256 32 [0] iota_S256x256_d0_w32) lanes k6_pay22 16#32 k6_pay23 k6_pay24 (ix2 r j) : EReal) =
      Scalar.select (chunkWord 1024 r j w) (s (ix2 r ⟨1024 + j.val, by have := j.isLt; omega⟩)) ⊥ := by
  unfold_payloads
  pointwise
  rw [hs.1.1, hs.1.2, hs.2.1, hs.2.2, named_mask]
  rfl

/-- The mask bits of the keys before the tile. -/
theorem body6_at (s0 s1 s2 s3 : IVec S256x1 32) (x6 : Vec Ideal S64x1024 .bf16) (w : Fin 4 → BitVec 32) (r : Fin 256) (j : Fin 1024)
    (hs : (s0 (ix2 r 0) = w 0 ∧ s1 (ix2 r 0) = w 1) ∧ s2 (ix2 r 0) = w 2 ∧ s3 (ix2 r 0) = w 3) :
    k6_pay26 (F := Ideal) s0 s1 s2 s3 x6 (ix2 r j) = bodyWord w (fun x : Fin 64 => (x6 (ix2 x j) : EReal)) := by
  unfold_payloads
  pointwise
  rw [hs.1.1, hs.1.2, hs.2.1, hs.2.2]
  rfl

/-- The selected branch, from its masked scores. -/
theorem fine6_at (v : FVec Ideal S1280x64 .bf16) (ch : FVec Ideal S256x256 .f32) (a : FVec Ideal S256x1024 .f32) (mm : IVec S256x1024 1) (r : Fin 256) (e : Fin 64) :
    (k6_pay29 v ch mm a k6_pay28 (ix2 r e) : EReal) =
      ∑ x : Fin 1280, softmax (fun x : Fin 1280 => if h : x.val < 1024 then Scalar.select (mm (ix2 r ⟨x.val, h⟩)) (a (ix2 r ⟨x.val, h⟩) : EReal) ⊥
        else (ch (ix2 r ⟨x.val - 1024, by have := x.isLt; omega⟩) : EReal)) x * v (ix2 x e) := by
  have hrow : ∀ x : Fin 1280, (concatenate S256x1280 1 [⟨S256x1024, select mm a (k6_pay28 (F := Ideal))⟩, ⟨S256x256, ch⟩] concatenates_S256x1024_S256x256_S256x1280_d1 (ix2 r x) : EReal) =
      if h : x.val < 1024 then Scalar.select (mm (ix2 r ⟨x.val, h⟩)) (a (ix2 r ⟨x.val, h⟩) : EReal) ⊥ else (ch (ix2 r ⟨x.val - 1024, by have := x.isLt; omega⟩) : EReal) := by
    intro x
    unfold k6_pay28
    pointwise
    rfl
  unfold k6_pay29
  generalize concatenate _ _ _ _ = fs at hrow ⊢
  pointwise
  simp only [hrow]
  rfl

/-- The sliding-window branch. -/
theorem win6_at (v : FVec Ideal S1280x64 .bf16) (s : FVec Ideal S256x1280 .f32) (r : Fin 256) (e : Fin 64) :
    (k6_pay30 k6_pay3 v s (ix2 r e) : EReal) =
      ∑ x : Fin 512, windowed (fun x : Fin 512 => winWord 1024 768 r x) (fun x => (s (ix2 r ⟨768 + x.val, by have := x.isLt; omega⟩) : EReal)) x * v (ix2 ⟨768 + x.val, by have := x.isLt; omega⟩ e) := by
  unfold k6_pay30 k6_pay3
  pointwise
  simp only [named_mask, Nat.zero_add]
  rfl

/-- What the body of call 6 writes at row `r` and feature `e`. -/
theorem out6_at (x0 : Vec Ideal S1x256x64 .bf16) (x1 x2 : Vec Ideal S1x1280x64 .bf16) (x3 x4 : Vec Ideal S1x256x64 .f32) (x5 : Vec Ideal S3x1x256x1 .f32)
    (x6 : Vec Ideal S64x1024 .bf16) (r : Fin 256) (e : Fin 64)
    (hsc : ∀ c : Fin 256, IsReal (∑ d : Fin 64, (x0 (ix3 0 r d) : EReal) * x3 (ix3 0 c d)))
    (hs : ∀ j : Fin 1280, IsReal (∑ d : Fin 64, (x0 (ix3 0 r d) : EReal) * x1 (ix3 0 j d)))
    (h6 : ∀ (x : Fin 64) (j : Fin 1024), (x6 (ix2 x j) : EReal) = if j.val / 16 = x.val then 1 else 0) :
    (out6_7 x0 x1 x2 x3 x4 x5 x6 (ix3 0 r e) : EReal) =
      attnOut (fun c : Fin 256 => ∑ d : Fin 64, (x0 (ix3 0 r d) : EReal) * x3 (ix3 0 c d)) (fun c => x4 (ix3 0 c e))
        (fun j : Fin 1280 => ∑ d : Fin 64, (x0 (ix3 0 r d) : EReal) * x1 (ix3 0 j d)) (fun j => x2 (ix3 0 j e)) (fun a => x5 (ix4 a 0 r 0)) (1024 + r.val) := by
  unfold out6_7
  frame_out
  unfold val6_7
  clean_types
  have l0 : ∀ {e : EltTy} (X : Vec Ideal S1x256x64 e), View.ld X r6_0 = X := fun X => View.ld_unit_lit _ X (by decide)
  have l1 : ∀ (X : Vec Ideal S1x1280x64 .bf16), View.ld X r6_1 = X := fun X => View.ld_unit_lit _ X (by decide)
  rw [l0 x0, l0 x3, l0 x4, l1 x1, l1 x2, show View.ld x6 r6_2 = x6 from View.ld_unit_lit _ x6 (by decide)]
  have hcp := comp6_at x0 x3 r
  have hco := cout6_at x0 x3 x4 r e
  generalize k6_pay5 x0 x3 x4 = co at hco ⊢
  generalize k6_pay4 x0 x3 = cp at hcp hco ⊢
  have hsel : (k6_pay8 cp (ix2 r 0) = selWord (selRow fun x => cp (ix2 r x)) 0 ∧ k6_pay11 lanes (k6_pay9 cp) (ix2 r 0) = selWord (selRow fun x => cp (ix2 r x)) 1) ∧
    (k6_pay14 lanes (k6_pay9 cp) (ix2 r 0) = selWord (selRow fun x => cp (ix2 r x)) 2 ∧ k6_pay15 lanes (k6_pay9 cp) (ix2 r 0) = selWord (selRow fun x => cp (ix2 r x)) 3) := sel_at cp r
  generalize k6_pay8 cp = s0 at hsel ⊢
  generalize k6_pay9 cp = w1 at hsel ⊢
  generalize k6_pay11 lanes w1 = s1 at hsel ⊢
  generalize k6_pay14 lanes w1 = s2 at hsel ⊢
  generalize k6_pay15 lanes w1 = s3 at hsel ⊢
  have hsj := score6_at x0 x1 r
  generalize k6_pay21 (k6_pay2 x0) x1 = s at hsj ⊢
  have hch := fun j => chunk6_at s0 s1 s2 s3 s _ r j hsel
  have hbo := fun j => body6_at s0 s1 s2 s3 x6 _ r j hsel
  generalize k6_pay25 s0 s1 s2 s3 _ s _ _ _ _ _ _ = ch at hch ⊢
  generalize k6_pay26 s0 s1 s2 s3 x6 = mm at hbo ⊢
  have hfi := fine6_at (k6_pay20 x2) ch (k6_pay27 s) mm r e
  have hwi := win6_at (k6_pay20 x2) s r e
  generalize k6_pay29 _ ch mm _ _ = fo at hfi ⊢
  generalize k6_pay30 _ _ s = wo at hwi ⊢
  unfold k6_pay1 k6_pay31
  pointwise
  rw [hco, hfi, hwi]
  have hv : ∀ j, (k6_pay20 x2 (ix2 j e) : EReal) = x2 (ix3 0 j e) := fun j => by unfold k6_pay20; pointwise
  simp only [hv]
  have h27 : ∀ j : Fin 1024, (k6_pay27 s (ix2 r j) : EReal) = s (ix2 r ⟨j.val, by have := j.isLt; omega⟩) := fun j => by unfold k6_pay27; pointwise
  simp only [hbo, hch, h27, hsj]
  refine tile_eq 1024 1280 768 512 64 rfl rfl (by omega) rfl (by omega) (by decide) r _ _ _ _ (fun a => x5 (ix4 a 0 r 0)) (fun x j => x6 (ix2 x j)) hsc hs
    h6 (fun c => cp (ix2 r c)) (funext hcp) _ fun x => ?_
  split
  · rfl
  · next h =>
    have hx : 1024 + (x.val - 1024) = x.val := by omega
    simp only [hx]

end Cert.KernelIdeal.Gen
-- ==== Proof.Value.Arr6.lean ====
module

public import proofs.«01_k».proof.Proof.Value.Tile6
public import proofs.«01_k».proof.Proof.Value.Head
public import proofs.«01_k».proof.Proof.Frame.KernelIdeal.Run

/-!
# The array attention call 6 leaves
-/

@[expose] public section

set_option maxRecDepth 16384

noncomputable section

namespace Cert.KernelIdeal.Gen

open Idealize.ShloMosaic Idealize.ShloMosaic.TcCoe Idealize.ShloMosaic.Tactic
open SparseAttn

variable (V : (c : Dev nD) → (b : Ref sig .tc) → Buf (Elt Ideal) ((c : Thread nD τ).loc b))

/-- The block that each window of call 6 holds at each point. -/
theorem widx6 : ∀ t : Fin cfg6.N, win6_0.index t = ![t.val, 4, 0] ∧ win6_1.index t = ![t.val, 0, 0] ∧ win6_2.index t = ![t.val, 0, 0]
    ∧ win6_3.index t = ![t.val, 0, 0] ∧ win6_4.index t = ![t.val, 0, 0] ∧ win6_5.index t = ![0, t.val, 4, 0]
    ∧ win6_6.index t = ![0, 0]
    ∧ win6_7.index t = ![t.val, 0, 0] := by decide +kernel

set_option maxHeartbeats 2000000 in
/-- Call 6's output array: rows 1024 to 1024 + 255 of each head's output. -/
theorem arr6 (c : Dev nD) (q k v : Fin 12 → Fin 2048 → Fin 64 → EReal) (ck cv : Fin 12 → Fin 256 → Fin 64 → EReal)
    (g : Fin 3 → Fin 12 → Fin 2048 → EReal)
    (hq : ∀ h i d, ((V c main_v7_0 : Vec Ideal S12x2048x64 .bf16) (ix3 h i d) : EReal) = q h i d)
    (hk : ∀ h i d, ((V c main_v7_1 : Vec Ideal S12x2048x64 .bf16) (ix3 h i d) : EReal) = k h i d)
    (hv : ∀ h i d, ((V c main_v7_2 : Vec Ideal S12x2048x64 .bf16) (ix3 h i d) : EReal) = v h i d)
    (hck : ∀ h j d, ((V c main_v14_0 : Vec Ideal S12x256x64 .f32) (ix3 h j d) : EReal) = ck h j d)
    (hcv : ∀ h j d, ((V c main_v14_1 : Vec Ideal S12x256x64 .f32) (ix3 h j d) : EReal) = cv h j d)
    (hg : ∀ a h i, ((V c main_v7_5 : Vec Ideal S3x12x2048x1 .f32) (ix4 a h i 0) : EReal) = g a h i)
    (h23 : ∀ (x : Fin 128) (j : Fin 2048), ((V c main_v23 : Vec Ideal S128x2048 .bf16) (ix2 x j) : EReal) = (if j.val / 16 = x.val then 1 else 0 : EReal))
    (rq : ∀ h i d, IsReal (q h i d)) (rk : ∀ h i d, IsReal (k h i d)) (rck : ∀ h j d, IsReal (ck h j d))
    (h : Fin 12) (r : Fin 256) (e : Fin 64) :
    ((dat6 V c).arrAt 7 cfg6.N : Vec Ideal S12x256x64 .f32) (ix3 h r e) = headOut q k v ck cv g h ⟨1024 + r.val, by omega⟩ e := by
  obtain ⟨G, hG⟩ := exists_array3 fun (h : Fin 12) (r : Fin 256) (e : Fin 64) => headOut q k v ck cv g h ⟨1024 + r.val, by omega⟩ e
  have key : (dat6 V c).arrAt 7 cfg6.N = (G : Vec Ideal S12x256x64 .f32) := by
    refine (dat6 V c).arrAt_eq_of_covers 7 _ (by decide +kernel) fun t hf y => ?_
    obtain ⟨e0, e1, e2, e3, e4, e5, e6, eo⟩ := widx6 t
    blk_simp
    rw [after6_7]
    obtain ⟨r, hr⟩ : ∃ r : Fin 256, r = y 1 := ⟨_, rfl⟩
    obtain ⟨e, he⟩ : ∃ e : Fin 64, e = y 2 := ⟨_, rfl⟩
    have hy : y = (ix3 0 r e : S1x256x64.Idx) := by
      funext a; fin_cases a
      · exact Subsingleton.elim (α := Fin 1) _ _
      · exact hr.symm
      · exact he.symm
    have h0 : ∀ d : Fin 64, ((in6 V c 0 t : Vec Ideal S1x256x64 .bf16) (ix3 0 r d) : EReal) = q t ⟨1024 + r.val, by omega⟩ d := fun d => by
      refine ((blockAt_read (cfg := cfg6) (c := c) 0 (fun _ _ => rfl) _ t _).trans ?_).trans (hq t ⟨1024 + r.val, by omega⟩ d)
      blk_ext [e0]
    have h1 : ∀ (j : Fin 1280) (d : Fin 64), ((in6 V c 1 t : Vec Ideal S1x1280x64 .bf16) (ix3 0 j d) : EReal) = k t ⟨j.val, by omega⟩ d := fun j d => by
      refine ((blockAt_read (cfg := cfg6) (c := c) 1 (by decide +kernel) _ t _).trans ?_).trans (hk t ⟨j.val, by omega⟩ d)
      blk_ext [e1]
    have h2 : ∀ (j : Fin 1280) (d : Fin 64), ((in6 V c 2 t : Vec Ideal S1x1280x64 .bf16) (ix3 0 j d) : EReal) = v t ⟨j.val, by omega⟩ d := fun j d => by
      refine ((blockAt_read (cfg := cfg6) (c := c) 2 (by decide +kernel) _ t _).trans ?_).trans (hv t ⟨j.val, by omega⟩ d)
      blk_ext [e2]
    have h3 : ∀ (j : Fin 256) (d : Fin 64), ((in6 V c 3 t : Vec Ideal S1x256x64 .f32) (ix3 0 j d) : EReal) = ck t j d := fun j d => by
      refine ((blockAt_read (cfg := cfg6) (c := c) 3 (fun _ _ => rfl) _ t _).trans ?_).trans (hck t j d)
      blk_ext [e3]
    have h4 : ∀ (j : Fin 256) (d : Fin 64), ((in6 V c 4 t : Vec Ideal S1x256x64 .f32) (ix3 0 j d) : EReal) = cv t j d := fun j d => by
      refine ((blockAt_read (cfg := cfg6) (c := c) 4 (fun _ _ => rfl) _ t _).trans ?_).trans (hcv t j d)
      blk_ext [e4]
    have h5 : ∀ a : Fin 3, ((in6 V c 5 t : Vec Ideal S3x1x256x1 .f32) (ix4 a 0 r 0) : EReal) = g a t ⟨1024 + r.val, by omega⟩ := fun a => by
      refine ((blockAt_read (cfg := cfg6) (c := c) 5 (fun _ _ => rfl) _ t _).trans ?_).trans (hg a t ⟨1024 + r.val, by omega⟩)
      blk_ext [e5]
    have h6 : ∀ (x : Fin 64) (j : Fin 1024), ((in6 V c 6 t : Vec Ideal S64x1024 .bf16) (ix2 x j) : EReal) = (if j.val / 16 = x.val then 1 else 0 : EReal) := fun x j => by
      refine ((blockAt_read (cfg := cfg6) (c := c) 6 (by decide +kernel) _ t _).trans ?_).trans (h23 ⟨x.val, by omega⟩ ⟨j.val, by omega⟩)
      blk_ext [e6]
    have hl : out6_7 (in6 V c 0 t) (in6 V c 1 t) (in6 V c 2 t) (in6 V c 3 t) (in6 V c 4 t) (in6 V c 5 t) (in6 V c 6 t) (ix3 0 r e : S1x256x64.Idx)
        = headOut q k v ck cv g t ⟨1024 + r.val, by omega⟩ e := by
      refine (out6_at (in6 V c 0 t) (in6 V c 1 t) (in6 V c 2 t) (in6 V c 3 t) (in6 V c 4 t) (in6 V c 5 t) (in6 V c 6 t) r e ?_ ?_ h6).trans ?_
      · exact fun j => IsReal.sum _ _ fun d => IsReal.mul (by rw [h0 d]; exact rq _ _ _) (by rw [h3 j d]; exact rck _ _ _)
      · exact fun j => IsReal.sum _ _ fun d => IsReal.mul (by rw [h0 d]; exact rq _ _ _) (by rw [h1 j d]; exact rk _ _ _)
      · simp only [h0, h1, h2, h3, h4, h5]
        exact headOut_of (i := ⟨1024 + r.val, by omega⟩) (by omega : 1280 ≤ 2048) (by show 1024 + r.val < 1280; omega)
          fun j => IsReal.sum _ _ fun d => IsReal.mul (rq _ _ _) (rk _ _ _)
    subst hy
    have hemb : ((cfg6.win 7).blk t).view.emb (ix3 0 r e : S1x256x64.Idx) = (ix3 t r e : S12x256x64.Idx) := by blk_ext [eo]
    rw [hemb]
    exact hl.trans (hG t r e).symm
  rw [key]
  exact hG h r e

end Cert.KernelIdeal.Gen
-- ==== Proof.Value.Tile7.lean ====
module

public import proofs.«01_k».proof.Proof.Frame.KernelIdeal.Region7
public import proofs.«01_k».proof.Proof.Value.Attn

/-!
# Attention call 7

The rows 1280 to 1280 + 255 of each head: each payload of the body at an index, and with them what the body writes.
-/

@[expose] public section

set_option maxRecDepth 16384

noncomputable section

namespace Cert.KernelIdeal.Gen

open Idealize.ShloMosaic SparseAttn

/-- The compressed branch's weights. -/
theorem comp7_at (x0 : Vec Ideal S1x256x64 .bf16) (x3 : Vec Ideal S1x256x64 .f32) (r c : Fin 256) :
    (k7_pay4 x0 x3 (ix2 r c) : EReal) =
      softmax (fun c : Fin 256 => Scalar.select (cMaskWord 1280 r c) (∑ d : Fin 64, (x0 (ix3 0 r d) : EReal) * x3 (ix3 0 c d)) ⊥) c := by
  unfold k7_pay4 k7_pay2 k7_pay3
  pointwise
  simp only [named_mask]
  rfl

/-- The compressed branch's output. -/
theorem cout7_at (x0 : Vec Ideal S1x256x64 .bf16) (x3 x4 : Vec Ideal S1x256x64 .f32) (r : Fin 256) (e : Fin 64) :
    (k7_pay5 x0 x3 x4 (ix2 r e) : EReal) = ∑ c : Fin 256, (k7_pay4 x0 x3 (ix2 r c) : EReal) * x4 (ix3 0 c e) := by
  unfold k7_pay5
  generalize k7_pay4 x0 x3 = cp
  pointwise

/-- The scores. -/
theorem score7_at (x0 : Vec Ideal S1x256x64 .bf16) (x1 : Vec Ideal S1x1536x64 .bf16) (r : Fin 256) (j : Fin 1536) :
    (k7_pay21 (k7_pay2 x0) x1 (ix2 r j) : EReal) = ∑ d : Fin 64, (x0 (ix3 0 r d) : EReal) * x1 (ix3 0 j d) := by
  unfold k7_pay21 k7_pay2
  pointwise

/-- The masked scores of the tile's own keys. -/
theorem chunk7_at (s0 s1 s2 s3 : IVec S256x1 32) (s : FVec Ideal S256x1536 .f32) (w : Fin 4 → BitVec 32) (r j : Fin 256)
    (hs : (s0 (ix2 r 0) = w 0 ∧ s1 (ix2 r 0) = w 1) ∧ s2 (ix2 r 0) = w 2 ∧ s3 (ix2 r 0) = w 3) :
    (k7_pay25 s0 s1 s2 s3 (k7_pay19 k7_pay3 16#32 (k7_pay16 k7_pay3) (k7_pay17 k7_pay3) k7_pay18) s
      (iota .tc S256x256 32 [0] iota_S256x256_d0_w32) lanes k7_pay22 16#32 k7_pay23 k7_pay24 (ix2 r j) : EReal) =
      Scalar.select (chunkWord 1280 r j w) (s (ix2 r ⟨1280 + j.val, by have := j.isLt; omega⟩)) ⊥ := by
  unfold_payloads
  pointwise
  rw [hs.1.1, hs.1.2, hs.2.1, hs.2.2, named_mask]
  rfl

/-- The mask bits of the keys before the tile. -/
theorem body7_at (s0 s1 s2 s3 : IVec S256x1 32) (x6 : Vec Ideal S80x1280 .bf16) (w : Fin 4 → BitVec 32) (r : Fin 256) (j : Fin 1280)
    (hs : (s0 (ix2 r 0) = w 0 ∧ s1 (ix2 r 0) = w 1) ∧ s2 (ix2 r 0) = w 2 ∧ s3 (ix2 r 0) = w 3) :
    k7_pay26 (F := Ideal) s0 s1 s2 s3 x6 (ix2 r j) = bodyWord w (fun x : Fin 80 => (x6 (ix2 x j) : EReal)) := by
  unfold_payloads
  pointwise
  rw [hs.1.1, hs.1.2, hs.2.1, hs.2.2]
  rfl

/-- The selected branch, from its masked scores. -/
theorem fine7_at (v : FVec Ideal S1536x64 .bf16) (ch : FVec Ideal S256x256 .f32) (a : FVec Ideal S256x1280 .f32) (mm : IVec S256x1280 1) (r : Fin 256) (e : Fin 64) :
    (k7_pay29 v ch mm a k7_pay28 (ix2 r e) : EReal) =
      ∑ x : Fin 1536, softmax (fun x : Fin 1536 => if h : x.val < 1280 then Scalar.select (mm (ix2 r ⟨x.val, h⟩)) (a (ix2 r ⟨x.val, h⟩) : EReal) ⊥
        else (ch (ix2 r ⟨x.val - 1280, by have := x.isLt; omega⟩) : EReal)) x * v (ix2 x e) := by
  have hrow : ∀ x : Fin 1536, (concatenate S256x1536 1 [⟨S256x1280, select mm a (k7_pay28 (F := Ideal))⟩, ⟨S256x256, ch⟩] concatenates_S256x1280_S256x256_S256x1536_d1 (ix2 r x) : EReal) =
      if h : x.val < 1280 then Scalar.select (mm (ix2 r ⟨x.val, h⟩)) (a (ix2 r ⟨x.val, h⟩) : EReal) ⊥ else (ch (ix2 r ⟨x.val - 1280, by have := x.isLt; omega⟩) : EReal) := by
    intro x
    unfold k7_pay28
    pointwise
    rfl
  unfold k7_pay29
  generalize concatenate _ _ _ _ = fs at hrow ⊢
  pointwise
  simp only [hrow]
  rfl

/-- The sliding-window branch. -/
theorem win7_at (v : FVec Ideal S1536x64 .bf16) (s : FVec Ideal S256x1536 .f32) (r : Fin 256) (e : Fin 64) :
    (k7_pay30 k7_pay3 v s (ix2 r e) : EReal) =
      ∑ x : Fin 512, windowed (fun x : Fin 512 => winWord 1280 1024 r x) (fun x => (s (ix2 r ⟨1024 + x.val, by have := x.isLt; omega⟩) : EReal)) x * v (ix2 ⟨1024 + x.val, by have := x.isLt; omega⟩ e) := by
  unfold k7_pay30 k7_pay3
  pointwise
  simp only [named_mask, Nat.zero_add]
  rfl

/-- What the body of call 7 writes at row `r` and feature `e`. -/
theorem out7_at (x0 : Vec Ideal S1x256x64 .bf16) (x1 x2 : Vec Ideal S1x1536x64 .bf16) (x3 x4 : Vec Ideal S1x256x64 .f32) (x5 : Vec Ideal S3x1x256x1 .f32)
    (x6 : Vec Ideal S80x1280 .bf16) (r : Fin 256) (e : Fin 64)
    (hsc : ∀ c : Fin 256, IsReal (∑ d : Fin 64, (x0 (ix3 0 r d) : EReal) * x3 (ix3 0 c d)))
    (hs : ∀ j : Fin 1536, IsReal (∑ d : Fin 64, (x0 (ix3 0 r d) : EReal) * x1 (ix3 0 j d)))
    (h6 : ∀ (x : Fin 80) (j : Fin 1280), (x6 (ix2 x j) : EReal) = if j.val / 16 = x.val then 1 else 0) :
    (out7_7 x0 x1 x2 x3 x4 x5 x6 (ix3 0 r e) : EReal) =
      attnOut (fun c : Fin 256 => ∑ d : Fin 64, (x0 (ix3 0 r d) : EReal) * x3 (ix3 0 c d)) (fun c => x4 (ix3 0 c e))
        (fun j : Fin 1536 => ∑ d : Fin 64, (x0 (ix3 0 r d) : EReal) * x1 (ix3 0 j d)) (fun j => x2 (ix3 0 j e)) (fun a => x5 (ix4 a 0 r 0)) (1280 + r.val) := by
  unfold out7_7
  frame_out
  unfold val7_7
  clean_types
  have l0 : ∀ {e : EltTy} (X : Vec Ideal S1x256x64 e), View.ld X r7_0 = X := fun X => View.ld_unit_lit _ X (by decide)
  have l1 : ∀ (X : Vec Ideal S1x1536x64 .bf16), View.ld X r7_1 = X := fun X => View.ld_unit_lit _ X (by decide)
  rw [l0 x0, l0 x3, l0 x4, l1 x1, l1 x2, show View.ld x6 r7_2 = x6 from View.ld_unit_lit _ x6 (by decide)]
  have hcp := comp7_at x0 x3 r
  have hco := cout7_at x0 x3 x4 r e
  generalize k7_pay5 x0 x3 x4 = co at hco ⊢
  generalize k7_pay4 x0 x3 = cp at hcp hco ⊢
  have hsel : (k7_pay8 cp (ix2 r 0) = selWord (selRow fun x => cp (ix2 r x)) 0 ∧ k7_pay11 lanes (k7_pay9 cp) (ix2 r 0) = selWord (selRow fun x => cp (ix2 r x)) 1) ∧
    (k7_pay14 lanes (k7_pay9 cp) (ix2 r 0) = selWord (selRow fun x => cp (ix2 r x)) 2 ∧ k7_pay15 lanes (k7_pay9 cp) (ix2 r 0) = selWord (selRow fun x => cp (ix2 r x)) 3) := sel_at cp r
  generalize k7_pay8 cp = s0 at hsel ⊢
  generalize k7_pay9 cp = w1 at hsel ⊢
  generalize k7_pay11 lanes w1 = s1 at hsel ⊢
  generalize k7_pay14 lanes w1 = s2 at hsel ⊢
  generalize k7_pay15 lanes w1 = s3 at hsel ⊢
  have hsj := score7_at x0 x1 r
  generalize k7_pay21 (k7_pay2 x0) x1 = s at hsj ⊢
  have hch := fun j => chunk7_at s0 s1 s2 s3 s _ r j hsel
  have hbo := fun j => body7_at s0 s1 s2 s3 x6 _ r j hsel
  generalize k7_pay25 s0 s1 s2 s3 _ s _ _ _ _ _ _ = ch at hch ⊢
  generalize k7_pay26 s0 s1 s2 s3 x6 = mm at hbo ⊢
  have hfi := fine7_at (k7_pay20 x2) ch (k7_pay27 s) mm r e
  have hwi := win7_at (k7_pay20 x2) s r e
  generalize k7_pay29 _ ch mm _ _ = fo at hfi ⊢
  generalize k7_pay30 _ _ s = wo at hwi ⊢
  unfold k7_pay1 k7_pay31
  pointwise
  rw [hco, hfi, hwi]
  have hv : ∀ j, (k7_pay20 x2 (ix2 j e) : EReal) = x2 (ix3 0 j e) := fun j => by unfold k7_pay20; pointwise
  simp only [hv]
  have h27 : ∀ j : Fin 1280, (k7_pay27 s (ix2 r j) : EReal) = s (ix2 r ⟨j.val, by have := j.isLt; omega⟩) := fun j => by unfold k7_pay27; pointwise
  simp only [hbo, hch, h27, hsj]
  refine tile_eq 1280 1536 1024 512 80 rfl rfl (by omega) rfl (by omega) (by decide) r _ _ _ _ (fun a => x5 (ix4 a 0 r 0)) (fun x j => x6 (ix2 x j)) hsc hs
    h6 (fun c => cp (ix2 r c)) (funext hcp) _ fun x => ?_
  split
  · rfl
  · next h =>
    have hx : 1280 + (x.val - 1280) = x.val := by omega
    simp only [hx]

end Cert.KernelIdeal.Gen
-- ==== Proof.Value.Arr7.lean ====
module

public import proofs.«01_k».proof.Proof.Value.Tile7
public import proofs.«01_k».proof.Proof.Value.Head
public import proofs.«01_k».proof.Proof.Frame.KernelIdeal.Run

/-!
# The array attention call 7 leaves
-/

@[expose] public section

set_option maxRecDepth 16384

noncomputable section

namespace Cert.KernelIdeal.Gen

open Idealize.ShloMosaic Idealize.ShloMosaic.TcCoe Idealize.ShloMosaic.Tactic
open SparseAttn

variable (V : (c : Dev nD) → (b : Ref sig .tc) → Buf (Elt Ideal) ((c : Thread nD τ).loc b))

/-- The block that each window of call 7 holds at each point. -/
theorem widx7 : ∀ t : Fin cfg7.N, win7_0.index t = ![t.val, 5, 0] ∧ win7_1.index t = ![t.val, 0, 0] ∧ win7_2.index t = ![t.val, 0, 0]
    ∧ win7_3.index t = ![t.val, 0, 0] ∧ win7_4.index t = ![t.val, 0, 0] ∧ win7_5.index t = ![0, t.val, 5, 0]
    ∧ win7_6.index t = ![0, 0]
    ∧ win7_7.index t = ![t.val, 0, 0] := by decide +kernel

set_option maxHeartbeats 2000000 in
/-- Call 7's output array: rows 1280 to 1280 + 255 of each head's output. -/
theorem arr7 (c : Dev nD) (q k v : Fin 12 → Fin 2048 → Fin 64 → EReal) (ck cv : Fin 12 → Fin 256 → Fin 64 → EReal)
    (g : Fin 3 → Fin 12 → Fin 2048 → EReal)
    (hq : ∀ h i d, ((V c main_v7_0 : Vec Ideal S12x2048x64 .bf16) (ix3 h i d) : EReal) = q h i d)
    (hk : ∀ h i d, ((V c main_v7_1 : Vec Ideal S12x2048x64 .bf16) (ix3 h i d) : EReal) = k h i d)
    (hv : ∀ h i d, ((V c main_v7_2 : Vec Ideal S12x2048x64 .bf16) (ix3 h i d) : EReal) = v h i d)
    (hck : ∀ h j d, ((V c main_v14_0 : Vec Ideal S12x256x64 .f32) (ix3 h j d) : EReal) = ck h j d)
    (hcv : ∀ h j d, ((V c main_v14_1 : Vec Ideal S12x256x64 .f32) (ix3 h j d) : EReal) = cv h j d)
    (hg : ∀ a h i, ((V c main_v7_5 : Vec Ideal S3x12x2048x1 .f32) (ix4 a h i 0) : EReal) = g a h i)
    (h23 : ∀ (x : Fin 128) (j : Fin 2048), ((V c main_v23 : Vec Ideal S128x2048 .bf16) (ix2 x j) : EReal) = (if j.val / 16 = x.val then 1 else 0 : EReal))
    (rq : ∀ h i d, IsReal (q h i d)) (rk : ∀ h i d, IsReal (k h i d)) (rck : ∀ h j d, IsReal (ck h j d))
    (h : Fin 12) (r : Fin 256) (e : Fin 64) :
    ((dat7 V c).arrAt 7 cfg7.N : Vec Ideal S12x256x64 .f32) (ix3 h r e) = headOut q k v ck cv g h ⟨1280 + r.val, by omega⟩ e := by
  obtain ⟨G, hG⟩ := exists_array3 fun (h : Fin 12) (r : Fin 256) (e : Fin 64) => headOut q k v ck cv g h ⟨1280 + r.val, by omega⟩ e
  have key : (dat7 V c).arrAt 7 cfg7.N = (G : Vec Ideal S12x256x64 .f32) := by
    refine (dat7 V c).arrAt_eq_of_covers 7 _ (by decide +kernel) fun t hf y => ?_
    obtain ⟨e0, e1, e2, e3, e4, e5, e6, eo⟩ := widx7 t
    blk_simp
    rw [after7_7]
    obtain ⟨r, hr⟩ : ∃ r : Fin 256, r = y 1 := ⟨_, rfl⟩
    obtain ⟨e, he⟩ : ∃ e : Fin 64, e = y 2 := ⟨_, rfl⟩
    have hy : y = (ix3 0 r e : S1x256x64.Idx) := by
      funext a; fin_cases a
      · exact Subsingleton.elim (α := Fin 1) _ _
      · exact hr.symm
      · exact he.symm
    have h0 : ∀ d : Fin 64, ((in7 V c 0 t : Vec Ideal S1x256x64 .bf16) (ix3 0 r d) : EReal) = q t ⟨1280 + r.val, by omega⟩ d := fun d => by
      refine ((blockAt_read (cfg := cfg7) (c := c) 0 (fun _ _ => rfl) _ t _).trans ?_).trans (hq t ⟨1280 + r.val, by omega⟩ d)
      blk_ext [e0]
    have h1 : ∀ (j : Fin 1536) (d : Fin 64), ((in7 V c 1 t : Vec Ideal S1x1536x64 .bf16) (ix3 0 j d) : EReal) = k t ⟨j.val, by omega⟩ d := fun j d => by
      refine ((blockAt_read (cfg := cfg7) (c := c) 1 (by decide +kernel) _ t _).trans ?_).trans (hk t ⟨j.val, by omega⟩ d)
      blk_ext [e1]
    have h2 : ∀ (j : Fin 1536) (d : Fin 64), ((in7 V c 2 t : Vec Ideal S1x1536x64 .bf16) (ix3 0 j d) : EReal) = v t ⟨j.val, by omega⟩ d := fun j d => by
      refine ((blockAt_read (cfg := cfg7) (c := c) 2 (by decide +kernel) _ t _).trans ?_).trans (hv t ⟨j.val, by omega⟩ d)
      blk_ext [e2]
    have h3 : ∀ (j : Fin 256) (d : Fin 64), ((in7 V c 3 t : Vec Ideal S1x256x64 .f32) (ix3 0 j d) : EReal) = ck t j d := fun j d => by
      refine ((blockAt_read (cfg := cfg7) (c := c) 3 (fun _ _ => rfl) _ t _).trans ?_).trans (hck t j d)
      blk_ext [e3]
    have h4 : ∀ (j : Fin 256) (d : Fin 64), ((in7 V c 4 t : Vec Ideal S1x256x64 .f32) (ix3 0 j d) : EReal) = cv t j d := fun j d => by
      refine ((blockAt_read (cfg := cfg7) (c := c) 4 (fun _ _ => rfl) _ t _).trans ?_).trans (hcv t j d)
      blk_ext [e4]
    have h5 : ∀ a : Fin 3, ((in7 V c 5 t : Vec Ideal S3x1x256x1 .f32) (ix4 a 0 r 0) : EReal) = g a t ⟨1280 + r.val, by omega⟩ := fun a => by
      refine ((blockAt_read (cfg := cfg7) (c := c) 5 (fun _ _ => rfl) _ t _).trans ?_).trans (hg a t ⟨1280 + r.val, by omega⟩)
      blk_ext [e5]
    have h6 : ∀ (x : Fin 80) (j : Fin 1280), ((in7 V c 6 t : Vec Ideal S80x1280 .bf16) (ix2 x j) : EReal) = (if j.val / 16 = x.val then 1 else 0 : EReal) := fun x j => by
      refine ((blockAt_read (cfg := cfg7) (c := c) 6 (by decide +kernel) _ t _).trans ?_).trans (h23 ⟨x.val, by omega⟩ ⟨j.val, by omega⟩)
      blk_ext [e6]
    have hl : out7_7 (in7 V c 0 t) (in7 V c 1 t) (in7 V c 2 t) (in7 V c 3 t) (in7 V c 4 t) (in7 V c 5 t) (in7 V c 6 t) (ix3 0 r e : S1x256x64.Idx)
        = headOut q k v ck cv g t ⟨1280 + r.val, by omega⟩ e := by
      refine (out7_at (in7 V c 0 t) (in7 V c 1 t) (in7 V c 2 t) (in7 V c 3 t) (in7 V c 4 t) (in7 V c 5 t) (in7 V c 6 t) r e ?_ ?_ h6).trans ?_
      · exact fun j => IsReal.sum _ _ fun d => IsReal.mul (by rw [h0 d]; exact rq _ _ _) (by rw [h3 j d]; exact rck _ _ _)
      · exact fun j => IsReal.sum _ _ fun d => IsReal.mul (by rw [h0 d]; exact rq _ _ _) (by rw [h1 j d]; exact rk _ _ _)
      · simp only [h0, h1, h2, h3, h4, h5]
        exact headOut_of (i := ⟨1280 + r.val, by omega⟩) (by omega : 1536 ≤ 2048) (by show 1280 + r.val < 1536; omega)
          fun j => IsReal.sum _ _ fun d => IsReal.mul (rq _ _ _) (rk _ _ _)
    subst hy
    have hemb : ((cfg7.win 7).blk t).view.emb (ix3 0 r e : S1x256x64.Idx) = (ix3 t r e : S12x256x64.Idx) := by blk_ext [eo]
    rw [hemb]
    exact hl.trans (hG t r e).symm
  rw [key]
  exact hG h r e

end Cert.KernelIdeal.Gen
-- ==== Proof.Value.Tile8.lean ====
module

public import proofs.«01_k».proof.Proof.Frame.KernelIdeal.Region8
public import proofs.«01_k».proof.Proof.Value.Attn

/-!
# Attention call 8

The rows 1536 to 1536 + 255 of each head: each payload of the body at an index, and with them what the body writes.
-/

@[expose] public section

set_option maxRecDepth 16384

noncomputable section

namespace Cert.KernelIdeal.Gen

open Idealize.ShloMosaic SparseAttn

/-- The compressed branch's weights. -/
theorem comp8_at (x0 : Vec Ideal S1x256x64 .bf16) (x3 : Vec Ideal S1x256x64 .f32) (r c : Fin 256) :
    (k8_pay4 x0 x3 (ix2 r c) : EReal) =
      softmax (fun c : Fin 256 => Scalar.select (cMaskWord 1536 r c) (∑ d : Fin 64, (x0 (ix3 0 r d) : EReal) * x3 (ix3 0 c d)) ⊥) c := by
  unfold k8_pay4 k8_pay2 k8_pay3
  pointwise
  simp only [named_mask]
  rfl

/-- The compressed branch's output. -/
theorem cout8_at (x0 : Vec Ideal S1x256x64 .bf16) (x3 x4 : Vec Ideal S1x256x64 .f32) (r : Fin 256) (e : Fin 64) :
    (k8_pay5 x0 x3 x4 (ix2 r e) : EReal) = ∑ c : Fin 256, (k8_pay4 x0 x3 (ix2 r c) : EReal) * x4 (ix3 0 c e) := by
  unfold k8_pay5
  generalize k8_pay4 x0 x3 = cp
  pointwise

/-- The scores. -/
theorem score8_at (x0 : Vec Ideal S1x256x64 .bf16) (x1 : Vec Ideal S1x1792x64 .bf16) (r : Fin 256) (j : Fin 1792) :
    (k8_pay21 (k8_pay2 x0) x1 (ix2 r j) : EReal) = ∑ d : Fin 64, (x0 (ix3 0 r d) : EReal) * x1 (ix3 0 j d) := by
  unfold k8_pay21 k8_pay2
  pointwise

/-- The masked scores of the tile's own keys. -/
theorem chunk8_at (s0 s1 s2 s3 : IVec S256x1 32) (s : FVec Ideal S256x1792 .f32) (w : Fin 4 → BitVec 32) (r j : Fin 256)
    (hs : (s0 (ix2 r 0) = w 0 ∧ s1 (ix2 r 0) = w 1) ∧ s2 (ix2 r 0) = w 2 ∧ s3 (ix2 r 0) = w 3) :
    (k8_pay25 s0 s1 s2 s3 (k8_pay19 k8_pay3 16#32 (k8_pay16 k8_pay3) (k8_pay17 k8_pay3) k8_pay18) s
      (iota .tc S256x256 32 [0] iota_S256x256_d0_w32) lanes k8_pay22 16#32 k8_pay23 k8_pay24 (ix2 r j) : EReal) =
      Scalar.select (chunkWord 1536 r j w) (s (ix2 r ⟨1536 + j.val, by have := j.isLt; omega⟩)) ⊥ := by
  unfold_payloads
  pointwise
  rw [hs.1.1, hs.1.2, hs.2.1, hs.2.2, named_mask]
  rfl

/-- The mask bits of the keys before the tile. -/
theorem body8_at (s0 s1 s2 s3 : IVec S256x1 32) (x6 : Vec Ideal S96x1536 .bf16) (w : Fin 4 → BitVec 32) (r : Fin 256) (j : Fin 1536)
    (hs : (s0 (ix2 r 0) = w 0 ∧ s1 (ix2 r 0) = w 1) ∧ s2 (ix2 r 0) = w 2 ∧ s3 (ix2 r 0) = w 3) :
    k8_pay26 (F := Ideal) s0 s1 s2 s3 x6 (ix2 r j) = bodyWord w (fun x : Fin 96 => (x6 (ix2 x j) : EReal)) := by
  unfold_payloads
  pointwise
  rw [hs.1.1, hs.1.2, hs.2.1, hs.2.2]
  rfl

/-- The selected branch, from its masked scores. -/
theorem fine8_at (v : FVec Ideal S1792x64 .bf16) (ch : FVec Ideal S256x256 .f32) (a : FVec Ideal S256x1536 .f32) (mm : IVec S256x1536 1) (r : Fin 256) (e : Fin 64) :
    (k8_pay29 v ch mm a k8_pay28 (ix2 r e) : EReal) =
      ∑ x : Fin 1792, softmax (fun x : Fin 1792 => if h : x.val < 1536 then Scalar.select (mm (ix2 r ⟨x.val, h⟩)) (a (ix2 r ⟨x.val, h⟩) : EReal) ⊥
        else (ch (ix2 r ⟨x.val - 1536, by have := x.isLt; omega⟩) : EReal)) x * v (ix2 x e) := by
  have hrow : ∀ x : Fin 1792, (concatenate S256x1792 1 [⟨S256x1536, select mm a (k8_pay28 (F := Ideal))⟩, ⟨S256x256, ch⟩] concatenates_S256x1536_S256x256_S256x1792_d1 (ix2 r x) : EReal) =
      if h : x.val < 1536 then Scalar.select (mm (ix2 r ⟨x.val, h⟩)) (a (ix2 r ⟨x.val, h⟩) : EReal) ⊥ else (ch (ix2 r ⟨x.val - 1536, by have := x.isLt; omega⟩) : EReal) := by
    intro x
    unfold k8_pay28
    pointwise
    rfl
  unfold k8_pay29
  generalize concatenate _ _ _ _ = fs at hrow ⊢
  pointwise
  simp only [hrow]
  rfl

/-- The sliding-window branch. -/
theorem win8_at (v : FVec Ideal S1792x64 .bf16) (s : FVec Ideal S256x1792 .f32) (r : Fin 256) (e : Fin 64) :
    (k8_pay30 k8_pay3 v s (ix2 r e) : EReal) =
      ∑ x : Fin 512, windowed (fun x : Fin 512 => winWord 1536 1280 r x) (fun x => (s (ix2 r ⟨1280 + x.val, by have := x.isLt; omega⟩) : EReal)) x * v (ix2 ⟨1280 + x.val, by have := x.isLt; omega⟩ e) := by
  unfold k8_pay30 k8_pay3
  pointwise
  simp only [named_mask, Nat.zero_add]
  rfl

/-- What the body of call 8 writes at row `r` and feature `e`. -/
theorem out8_at (x0 : Vec Ideal S1x256x64 .bf16) (x1 x2 : Vec Ideal S1x1792x64 .bf16) (x3 x4 : Vec Ideal S1x256x64 .f32) (x5 : Vec Ideal S3x1x256x1 .f32)
    (x6 : Vec Ideal S96x1536 .bf16) (r : Fin 256) (e : Fin 64)
    (hsc : ∀ c : Fin 256, IsReal (∑ d : Fin 64, (x0 (ix3 0 r d) : EReal) * x3 (ix3 0 c d)))
    (hs : ∀ j : Fin 1792, IsReal (∑ d : Fin 64, (x0 (ix3 0 r d) : EReal) * x1 (ix3 0 j d)))
    (h6 : ∀ (x : Fin 96) (j : Fin 1536), (x6 (ix2 x j) : EReal) = if j.val / 16 = x.val then 1 else 0) :
    (out8_7 x0 x1 x2 x3 x4 x5 x6 (ix3 0 r e) : EReal) =
      attnOut (fun c : Fin 256 => ∑ d : Fin 64, (x0 (ix3 0 r d) : EReal) * x3 (ix3 0 c d)) (fun c => x4 (ix3 0 c e))
        (fun j : Fin 1792 => ∑ d : Fin 64, (x0 (ix3 0 r d) : EReal) * x1 (ix3 0 j d)) (fun j => x2 (ix3 0 j e)) (fun a => x5 (ix4 a 0 r 0)) (1536 + r.val) := by
  unfold out8_7
  frame_out
  unfold val8_7
  clean_types
  have l0 : ∀ {e : EltTy} (X : Vec Ideal S1x256x64 e), View.ld X r8_0 = X := fun X => View.ld_unit_lit _ X (by decide)
  have l1 : ∀ (X : Vec Ideal S1x1792x64 .bf16), View.ld X r8_1 = X := fun X => View.ld_unit_lit _ X (by decide)
  rw [l0 x0, l0 x3, l0 x4, l1 x1, l1 x2, show View.ld x6 r8_2 = x6 from View.ld_unit_lit _ x6 (by decide)]
  have hcp := comp8_at x0 x3 r
  have hco := cout8_at x0 x3 x4 r e
  generalize k8_pay5 x0 x3 x4 = co at hco ⊢
  generalize k8_pay4 x0 x3 = cp at hcp hco ⊢
  have hsel : (k8_pay8 cp (ix2 r 0) = selWord (selRow fun x => cp (ix2 r x)) 0 ∧ k8_pay11 lanes (k8_pay9 cp) (ix2 r 0) = selWord (selRow fun x => cp (ix2 r x)) 1) ∧
    (k8_pay14 lanes (k8_pay9 cp) (ix2 r 0) = selWord (selRow fun x => cp (ix2 r x)) 2 ∧ k8_pay15 lanes (k8_pay9 cp) (ix2 r 0) = selWord (selRow fun x => cp (ix2 r x)) 3) := sel_at cp r
  generalize k8_pay8 cp = s0 at hsel ⊢
  generalize k8_pay9 cp = w1 at hsel ⊢
  generalize k8_pay11 lanes w1 = s1 at hsel ⊢
  generalize k8_pay14 lanes w1 = s2 at hsel ⊢
  generalize k8_pay15 lanes w1 = s3 at hsel ⊢
  have hsj := score8_at x0 x1 r
  generalize k8_pay21 (k8_pay2 x0) x1 = s at hsj ⊢
  have hch := fun j => chunk8_at s0 s1 s2 s3 s _ r j hsel
  have hbo := fun j => body8_at s0 s1 s2 s3 x6 _ r j hsel
  generalize k8_pay25 s0 s1 s2 s3 _ s _ _ _ _ _ _ = ch at hch ⊢
  generalize k8_pay26 s0 s1 s2 s3 x6 = mm at hbo ⊢
  have hfi := fine8_at (k8_pay20 x2) ch (k8_pay27 s) mm r e
  have hwi := win8_at (k8_pay20 x2) s r e
  generalize k8_pay29 _ ch mm _ _ = fo at hfi ⊢
  generalize k8_pay30 _ _ s = wo at hwi ⊢
  unfold k8_pay1 k8_pay31
  pointwise
  rw [hco, hfi, hwi]
  have hv : ∀ j, (k8_pay20 x2 (ix2 j e) : EReal) = x2 (ix3 0 j e) := fun j => by unfold k8_pay20; pointwise
  simp only [hv]
  have h27 : ∀ j : Fin 1536, (k8_pay27 s (ix2 r j) : EReal) = s (ix2 r ⟨j.val, by have := j.isLt; omega⟩) := fun j => by unfold k8_pay27; pointwise
  simp only [hbo, hch, h27, hsj]
  refine tile_eq 1536 1792 1280 512 96 rfl rfl (by omega) rfl (by omega) (by decide) r _ _ _ _ (fun a => x5 (ix4 a 0 r 0)) (fun x j => x6 (ix2 x j)) hsc hs
    h6 (fun c => cp (ix2 r c)) (funext hcp) _ fun x => ?_
  split
  · rfl
  · next h =>
    have hx : 1536 + (x.val - 1536) = x.val := by omega
    simp only [hx]

end Cert.KernelIdeal.Gen
-- ==== Proof.Value.Arr8.lean ====
module

public import proofs.«01_k».proof.Proof.Value.Tile8
public import proofs.«01_k».proof.Proof.Value.Head
public import proofs.«01_k».proof.Proof.Frame.KernelIdeal.Run

/-!
# The array attention call 8 leaves
-/

@[expose] public section

set_option maxRecDepth 16384

noncomputable section

namespace Cert.KernelIdeal.Gen

open Idealize.ShloMosaic Idealize.ShloMosaic.TcCoe Idealize.ShloMosaic.Tactic
open SparseAttn

variable (V : (c : Dev nD) → (b : Ref sig .tc) → Buf (Elt Ideal) ((c : Thread nD τ).loc b))

/-- The block that each window of call 8 holds at each point. -/
theorem widx8 : ∀ t : Fin cfg8.N, win8_0.index t = ![t.val, 6, 0] ∧ win8_1.index t = ![t.val, 0, 0] ∧ win8_2.index t = ![t.val, 0, 0]
    ∧ win8_3.index t = ![t.val, 0, 0] ∧ win8_4.index t = ![t.val, 0, 0] ∧ win8_5.index t = ![0, t.val, 6, 0]
    ∧ win8_6.index t = ![0, 0]
    ∧ win8_7.index t = ![t.val, 0, 0] := by decide +kernel

set_option maxHeartbeats 2000000 in
/-- Call 8's output array: rows 1536 to 1536 + 255 of each head's output. -/
theorem arr8 (c : Dev nD) (q k v : Fin 12 → Fin 2048 → Fin 64 → EReal) (ck cv : Fin 12 → Fin 256 → Fin 64 → EReal)
    (g : Fin 3 → Fin 12 → Fin 2048 → EReal)
    (hq : ∀ h i d, ((V c main_v7_0 : Vec Ideal S12x2048x64 .bf16) (ix3 h i d) : EReal) = q h i d)
    (hk : ∀ h i d, ((V c main_v7_1 : Vec Ideal S12x2048x64 .bf16) (ix3 h i d) : EReal) = k h i d)
    (hv : ∀ h i d, ((V c main_v7_2 : Vec Ideal S12x2048x64 .bf16) (ix3 h i d) : EReal) = v h i d)
    (hck : ∀ h j d, ((V c main_v14_0 : Vec Ideal S12x256x64 .f32) (ix3 h j d) : EReal) = ck h j d)
    (hcv : ∀ h j d, ((V c main_v14_1 : Vec Ideal S12x256x64 .f32) (ix3 h j d) : EReal) = cv h j d)
    (hg : ∀ a h i, ((V c main_v7_5 : Vec Ideal S3x12x2048x1 .f32) (ix4 a h i 0) : EReal) = g a h i)
    (h23 : ∀ (x : Fin 128) (j : Fin 2048), ((V c main_v23 : Vec Ideal S128x2048 .bf16) (ix2 x j) : EReal) = (if j.val / 16 = x.val then 1 else 0 : EReal))
    (rq : ∀ h i d, IsReal (q h i d)) (rk : ∀ h i d, IsReal (k h i d)) (rck : ∀ h j d, IsReal (ck h j d))
    (h : Fin 12) (r : Fin 256) (e : Fin 64) :
    ((dat8 V c).arrAt 7 cfg8.N : Vec Ideal S12x256x64 .f32) (ix3 h r e) = headOut q k v ck cv g h ⟨1536 + r.val, by omega⟩ e := by
  obtain ⟨G, hG⟩ := exists_array3 fun (h : Fin 12) (r : Fin 256) (e : Fin 64) => headOut q k v ck cv g h ⟨1536 + r.val, by omega⟩ e
  have key : (dat8 V c).arrAt 7 cfg8.N = (G : Vec Ideal S12x256x64 .f32) := by
    refine (dat8 V c).arrAt_eq_of_covers 7 _ (by decide +kernel) fun t hf y => ?_
    obtain ⟨e0, e1, e2, e3, e4, e5, e6, eo⟩ := widx8 t
    blk_simp
    rw [after8_7]
    obtain ⟨r, hr⟩ : ∃ r : Fin 256, r = y 1 := ⟨_, rfl⟩
    obtain ⟨e, he⟩ : ∃ e : Fin 64, e = y 2 := ⟨_, rfl⟩
    have hy : y = (ix3 0 r e : S1x256x64.Idx) := by
      funext a; fin_cases a
      · exact Subsingleton.elim (α := Fin 1) _ _
      · exact hr.symm
      · exact he.symm
    have h0 : ∀ d : Fin 64, ((in8 V c 0 t : Vec Ideal S1x256x64 .bf16) (ix3 0 r d) : EReal) = q t ⟨1536 + r.val, by omega⟩ d := fun d => by
      refine ((blockAt_read (cfg := cfg8) (c := c) 0 (fun _ _ => rfl) _ t _).trans ?_).trans (hq t ⟨1536 + r.val, by omega⟩ d)
      blk_ext [e0]
    have h1 : ∀ (j : Fin 1792) (d : Fin 64), ((in8 V c 1 t : Vec Ideal S1x1792x64 .bf16) (ix3 0 j d) : EReal) = k t ⟨j.val, by omega⟩ d := fun j d => by
      refine ((blockAt_read (cfg := cfg8) (c := c) 1 (by decide +kernel) _ t _).trans ?_).trans (hk t ⟨j.val, by omega⟩ d)
      blk_ext [e1]
    have h2 : ∀ (j : Fin 1792) (d : Fin 64), ((in8 V c 2 t : Vec Ideal S1x1792x64 .bf16) (ix3 0 j d) : EReal) = v t ⟨j.val, by omega⟩ d := fun j d => by
      refine ((blockAt_read (cfg := cfg8) (c := c) 2 (by decide +kernel) _ t _).trans ?_).trans (hv t ⟨j.val, by omega⟩ d)
      blk_ext [e2]
    have h3 : ∀ (j : Fin 256) (d : Fin 64), ((in8 V c 3 t : Vec Ideal S1x256x64 .f32) (ix3 0 j d) : EReal) = ck t j d := fun j d => by
      refine ((blockAt_read (cfg := cfg8) (c := c) 3 (fun _ _ => rfl) _ t _).trans ?_).trans (hck t j d)
      blk_ext [e3]
    have h4 : ∀ (j : Fin 256) (d : Fin 64), ((in8 V c 4 t : Vec Ideal S1x256x64 .f32) (ix3 0 j d) : EReal) = cv t j d := fun j d => by
      refine ((blockAt_read (cfg := cfg8) (c := c) 4 (fun _ _ => rfl) _ t _).trans ?_).trans (hcv t j d)
      blk_ext [e4]
    have h5 : ∀ a : Fin 3, ((in8 V c 5 t : Vec Ideal S3x1x256x1 .f32) (ix4 a 0 r 0) : EReal) = g a t ⟨1536 + r.val, by omega⟩ := fun a => by
      refine ((blockAt_read (cfg := cfg8) (c := c) 5 (fun _ _ => rfl) _ t _).trans ?_).trans (hg a t ⟨1536 + r.val, by omega⟩)
      blk_ext [e5]
    have h6 : ∀ (x : Fin 96) (j : Fin 1536), ((in8 V c 6 t : Vec Ideal S96x1536 .bf16) (ix2 x j) : EReal) = (if j.val / 16 = x.val then 1 else 0 : EReal) := fun x j => by
      refine ((blockAt_read (cfg := cfg8) (c := c) 6 (by decide +kernel) _ t _).trans ?_).trans (h23 ⟨x.val, by omega⟩ ⟨j.val, by omega⟩)
      blk_ext [e6]
    have hl : out8_7 (in8 V c 0 t) (in8 V c 1 t) (in8 V c 2 t) (in8 V c 3 t) (in8 V c 4 t) (in8 V c 5 t) (in8 V c 6 t) (ix3 0 r e : S1x256x64.Idx)
        = headOut q k v ck cv g t ⟨1536 + r.val, by omega⟩ e := by
      refine (out8_at (in8 V c 0 t) (in8 V c 1 t) (in8 V c 2 t) (in8 V c 3 t) (in8 V c 4 t) (in8 V c 5 t) (in8 V c 6 t) r e ?_ ?_ h6).trans ?_
      · exact fun j => IsReal.sum _ _ fun d => IsReal.mul (by rw [h0 d]; exact rq _ _ _) (by rw [h3 j d]; exact rck _ _ _)
      · exact fun j => IsReal.sum _ _ fun d => IsReal.mul (by rw [h0 d]; exact rq _ _ _) (by rw [h1 j d]; exact rk _ _ _)
      · simp only [h0, h1, h2, h3, h4, h5]
        exact headOut_of (i := ⟨1536 + r.val, by omega⟩) (by omega : 1792 ≤ 2048) (by show 1536 + r.val < 1792; omega)
          fun j => IsReal.sum _ _ fun d => IsReal.mul (rq _ _ _) (rk _ _ _)
    subst hy
    have hemb : ((cfg8.win 7).blk t).view.emb (ix3 0 r e : S1x256x64.Idx) = (ix3 t r e : S12x256x64.Idx) := by blk_ext [eo]
    rw [hemb]
    exact hl.trans (hG t r e).symm
  rw [key]
  exact hG h r e

end Cert.KernelIdeal.Gen
-- ==== Proof.Value.Tile9.lean ====
module

public import proofs.«01_k».proof.Proof.Frame.KernelIdeal.Region9
public import proofs.«01_k».proof.Proof.Value.Attn

/-!
# Attention call 9

The rows 1792 to 1792 + 255 of each head: each payload of the body at an index, and with them what the body writes.
-/

@[expose] public section

set_option maxRecDepth 16384

noncomputable section

namespace Cert.KernelIdeal.Gen

open Idealize.ShloMosaic SparseAttn

/-- The compressed branch's weights. -/
theorem comp9_at (x0 : Vec Ideal S1x256x64 .bf16) (x3 : Vec Ideal S1x256x64 .f32) (r c : Fin 256) :
    (k9_pay4 x0 x3 (ix2 r c) : EReal) =
      softmax (fun c : Fin 256 => Scalar.select (cMaskWord 1792 r c) (∑ d : Fin 64, (x0 (ix3 0 r d) : EReal) * x3 (ix3 0 c d)) ⊥) c := by
  unfold k9_pay4 k9_pay2 k9_pay3
  pointwise
  simp only [named_mask]
  rfl

/-- The compressed branch's output. -/
theorem cout9_at (x0 : Vec Ideal S1x256x64 .bf16) (x3 x4 : Vec Ideal S1x256x64 .f32) (r : Fin 256) (e : Fin 64) :
    (k9_pay5 x0 x3 x4 (ix2 r e) : EReal) = ∑ c : Fin 256, (k9_pay4 x0 x3 (ix2 r c) : EReal) * x4 (ix3 0 c e) := by
  unfold k9_pay5
  generalize k9_pay4 x0 x3 = cp
  pointwise

/-- The scores. -/
theorem score9_at (x0 : Vec Ideal S1x256x64 .bf16) (x1 : Vec Ideal S1x2048x64 .bf16) (r : Fin 256) (j : Fin 2048) :
    (k9_pay21 (k9_pay2 x0) x1 (ix2 r j) : EReal) = ∑ d : Fin 64, (x0 (ix3 0 r d) : EReal) * x1 (ix3 0 j d) := by
  unfold k9_pay21 k9_pay2
  pointwise

/-- The masked scores of the tile's own keys. -/
theorem chunk9_at (s0 s1 s2 s3 : IVec S256x1 32) (s : FVec Ideal S256x2048 .f32) (w : Fin 4 → BitVec 32) (r j : Fin 256)
    (hs : (s0 (ix2 r 0) = w 0 ∧ s1 (ix2 r 0) = w 1) ∧ s2 (ix2 r 0) = w 2 ∧ s3 (ix2 r 0) = w 3) :
    (k9_pay25 s0 s1 s2 s3 (k9_pay19 k9_pay3 16#32 (k9_pay16 k9_pay3) (k9_pay17 k9_pay3) k9_pay18) s
      (iota .tc S256x256 32 [0] iota_S256x256_d0_w32) lanes k9_pay22 16#32 k9_pay23 k9_pay24 (ix2 r j) : EReal) =
      Scalar.select (chunkWord 1792 r j w) (s (ix2 r ⟨1792 + j.val, by have := j.isLt; omega⟩)) ⊥ := by
  unfold_payloads
  pointwise
  rw [hs.1.1, hs.1.2, hs.2.1, hs.2.2, named_mask]
  rfl

/-- The mask bits of the keys before the tile. -/
theorem body9_at (s0 s1 s2 s3 : IVec S256x1 32) (x6 : Vec Ideal S112x1792 .bf16) (w : Fin 4 → BitVec 32) (r : Fin 256) (j : Fin 1792)
    (hs : (s0 (ix2 r 0) = w 0 ∧ s1 (ix2 r 0) = w 1) ∧ s2 (ix2 r 0) = w 2 ∧ s3 (ix2 r 0) = w 3) :
    k9_pay26 (F := Ideal) s0 s1 s2 s3 x6 (ix2 r j) = bodyWord w (fun x : Fin 112 => (x6 (ix2 x j) : EReal)) := by
  unfold_payloads
  pointwise
  rw [hs.1.1, hs.1.2, hs.2.1, hs.2.2]
  rfl

/-- The selected branch, from its masked scores. -/
theorem fine9_at (v : FVec Ideal S2048x64 .bf16) (ch : FVec Ideal S256x256 .f32) (a : FVec Ideal S256x1792 .f32) (mm : IVec S256x1792 1) (r : Fin 256) (e : Fin 64) :
    (k9_pay29 v ch mm a k9_pay28 (ix2 r e) : EReal) =
      ∑ x : Fin 2048, softmax (fun x : Fin 2048 => if h : x.val < 1792 then Scalar.select (mm (ix2 r ⟨x.val, h⟩)) (a (ix2 r ⟨x.val, h⟩) : EReal) ⊥
        else (ch (ix2 r ⟨x.val - 1792, by have := x.isLt; omega⟩) : EReal)) x * v (ix2 x e) := by
  have hrow : ∀ x : Fin 2048, (concatenate S256x2048 1 [⟨S256x1792, select mm a (k9_pay28 (F := Ideal))⟩, ⟨S256x256, ch⟩] concatenates_S256x1792_S256x256_S256x2048_d1 (ix2 r x) : EReal) =
      if h : x.val < 1792 then Scalar.select (mm (ix2 r ⟨x.val, h⟩)) (a (ix2 r ⟨x.val, h⟩) : EReal) ⊥ else (ch (ix2 r ⟨x.val - 1792, by have := x.isLt; omega⟩) : EReal) := by
    intro x
    unfold k9_pay28
    pointwise
    rfl
  unfold k9_pay29
  generalize concatenate _ _ _ _ = fs at hrow ⊢
  pointwise
  simp only [hrow]
  rfl

/-- The sliding-window branch. -/
theorem win9_at (v : FVec Ideal S2048x64 .bf16) (s : FVec Ideal S256x2048 .f32) (r : Fin 256) (e : Fin 64) :
    (k9_pay30 k9_pay3 v s (ix2 r e) : EReal) =
      ∑ x : Fin 512, windowed (fun x : Fin 512 => winWord 1792 1536 r x) (fun x => (s (ix2 r ⟨1536 + x.val, by have := x.isLt; omega⟩) : EReal)) x * v (ix2 ⟨1536 + x.val, by have := x.isLt; omega⟩ e) := by
  unfold k9_pay30 k9_pay3
  pointwise
  simp only [named_mask, Nat.zero_add]
  rfl

/-- What the body of call 9 writes at row `r` and feature `e`. -/
theorem out9_at (x0 : Vec Ideal S1x256x64 .bf16) (x1 x2 : Vec Ideal S1x2048x64 .bf16) (x3 x4 : Vec Ideal S1x256x64 .f32) (x5 : Vec Ideal S3x1x256x1 .f32)
    (x6 : Vec Ideal S112x1792 .bf16) (r : Fin 256) (e : Fin 64)
    (hsc : ∀ c : Fin 256, IsReal (∑ d : Fin 64, (x0 (ix3 0 r d) : EReal) * x3 (ix3 0 c d)))
    (hs : ∀ j : Fin 2048, IsReal (∑ d : Fin 64, (x0 (ix3 0 r d) : EReal) * x1 (ix3 0 j d)))
    (h6 : ∀ (x : Fin 112) (j : Fin 1792), (x6 (ix2 x j) : EReal) = if j.val / 16 = x.val then 1 else 0) :
    (out9_7 x0 x1 x2 x3 x4 x5 x6 (ix3 0 r e) : EReal) =
      attnOut (fun c : Fin 256 => ∑ d : Fin 64, (x0 (ix3 0 r d) : EReal) * x3 (ix3 0 c d)) (fun c => x4 (ix3 0 c e))
        (fun j : Fin 2048 => ∑ d : Fin 64, (x0 (ix3 0 r d) : EReal) * x1 (ix3 0 j d)) (fun j => x2 (ix3 0 j e)) (fun a => x5 (ix4 a 0 r 0)) (1792 + r.val) := by
  unfold out9_7
  frame_out
  unfold val9_7
  clean_types
  have l0 : ∀ {e : EltTy} (X : Vec Ideal S1x256x64 e), View.ld X r9_0 = X := fun X => View.ld_unit_lit _ X (by decide)
  have l1 : ∀ (X : Vec Ideal S1x2048x64 .bf16), View.ld X r9_1 = X := fun X => View.ld_unit_lit _ X (by decide)
  rw [l0 x0, l0 x3, l0 x4, l1 x1, l1 x2, show View.ld x6 r9_2 = x6 from View.ld_unit_lit _ x6 (by decide)]
  have hcp := comp9_at x0 x3 r
  have hco := cout9_at x0 x3 x4 r e
  generalize k9_pay5 x0 x3 x4 = co at hco ⊢
  generalize k9_pay4 x0 x3 = cp at hcp hco ⊢
  have hsel : (k9_pay8 cp (ix2 r 0) = selWord (selRow fun x => cp (ix2 r x)) 0 ∧ k9_pay11 lanes (k9_pay9 cp) (ix2 r 0) = selWord (selRow fun x => cp (ix2 r x)) 1) ∧
    (k9_pay14 lanes (k9_pay9 cp) (ix2 r 0) = selWord (selRow fun x => cp (ix2 r x)) 2 ∧ k9_pay15 lanes (k9_pay9 cp) (ix2 r 0) = selWord (selRow fun x => cp (ix2 r x)) 3) := sel_at cp r
  generalize k9_pay8 cp = s0 at hsel ⊢
  generalize k9_pay9 cp = w1 at hsel ⊢
  generalize k9_pay11 lanes w1 = s1 at hsel ⊢
  generalize k9_pay14 lanes w1 = s2 at hsel ⊢
  generalize k9_pay15 lanes w1 = s3 at hsel ⊢
  have hsj := score9_at x0 x1 r
  generalize k9_pay21 (k9_pay2 x0) x1 = s at hsj ⊢
  have hch := fun j => chunk9_at s0 s1 s2 s3 s _ r j hsel
  have hbo := fun j => body9_at s0 s1 s2 s3 x6 _ r j hsel
  generalize k9_pay25 s0 s1 s2 s3 _ s _ _ _ _ _ _ = ch at hch ⊢
  generalize k9_pay26 s0 s1 s2 s3 x6 = mm at hbo ⊢
  have hfi := fine9_at (k9_pay20 x2) ch (k9_pay27 s) mm r e
  have hwi := win9_at (k9_pay20 x2) s r e
  generalize k9_pay29 _ ch mm _ _ = fo at hfi ⊢
  generalize k9_pay30 _ _ s = wo at hwi ⊢
  unfold k9_pay1 k9_pay31
  pointwise
  rw [hco, hfi, hwi]
  have hv : ∀ j, (k9_pay20 x2 (ix2 j e) : EReal) = x2 (ix3 0 j e) := fun j => by unfold k9_pay20; pointwise
  simp only [hv]
  have h27 : ∀ j : Fin 1792, (k9_pay27 s (ix2 r j) : EReal) = s (ix2 r ⟨j.val, by have := j.isLt; omega⟩) := fun j => by unfold k9_pay27; pointwise
  simp only [hbo, hch, h27, hsj]
  refine tile_eq 1792 2048 1536 512 112 rfl rfl (by omega) rfl (by omega) (by decide) r _ _ _ _ (fun a => x5 (ix4 a 0 r 0)) (fun x j => x6 (ix2 x j)) hsc hs
    h6 (fun c => cp (ix2 r c)) (funext hcp) _ fun x => ?_
  split
  · rfl
  · next h =>
    have hx : 1792 + (x.val - 1792) = x.val := by omega
    simp only [hx]

end Cert.KernelIdeal.Gen
-- ==== Proof.Value.Arr9.lean ====
module

public import proofs.«01_k».proof.Proof.Value.Tile9
public import proofs.«01_k».proof.Proof.Value.Head
public import proofs.«01_k».proof.Proof.Frame.KernelIdeal.Run

/-!
# The array attention call 9 leaves
-/

@[expose] public section

set_option maxRecDepth 16384

noncomputable section

namespace Cert.KernelIdeal.Gen

open Idealize.ShloMosaic Idealize.ShloMosaic.TcCoe Idealize.ShloMosaic.Tactic
open SparseAttn

variable (V : (c : Dev nD) → (b : Ref sig .tc) → Buf (Elt Ideal) ((c : Thread nD τ).loc b))

/-- The block that each window of call 9 holds at each point. -/
theorem widx9 : ∀ t : Fin cfg9.N, win9_0.index t = ![t.val, 7, 0] ∧ win9_1.index t = ![t.val, 0, 0] ∧ win9_2.index t = ![t.val, 0, 0]
    ∧ win9_3.index t = ![t.val, 0, 0] ∧ win9_4.index t = ![t.val, 0, 0] ∧ win9_5.index t = ![0, t.val, 7, 0]
    ∧ win9_6.index t = ![0, 0]
    ∧ win9_7.index t = ![t.val, 0, 0] := by decide +kernel

set_option maxHeartbeats 2000000 in
/-- Call 9's output array: rows 1792 to 1792 + 255 of each head's output. -/
theorem arr9 (c : Dev nD) (q k v : Fin 12 → Fin 2048 → Fin 64 → EReal) (ck cv : Fin 12 → Fin 256 → Fin 64 → EReal)
    (g : Fin 3 → Fin 12 → Fin 2048 → EReal)
    (hq : ∀ h i d, ((V c main_v7_0 : Vec Ideal S12x2048x64 .bf16) (ix3 h i d) : EReal) = q h i d)
    (hk : ∀ h i d, ((V c main_v7_1 : Vec Ideal S12x2048x64 .bf16) (ix3 h i d) : EReal) = k h i d)
    (hv : ∀ h i d, ((V c main_v7_2 : Vec Ideal S12x2048x64 .bf16) (ix3 h i d) : EReal) = v h i d)
    (hck : ∀ h j d, ((V c main_v14_0 : Vec Ideal S12x256x64 .f32) (ix3 h j d) : EReal) = ck h j d)
    (hcv : ∀ h j d, ((V c main_v14_1 : Vec Ideal S12x256x64 .f32) (ix3 h j d) : EReal) = cv h j d)
    (hg : ∀ a h i, ((V c main_v7_5 : Vec Ideal S3x12x2048x1 .f32) (ix4 a h i 0) : EReal) = g a h i)
    (h23 : ∀ (x : Fin 128) (j : Fin 2048), ((V c main_v23 : Vec Ideal S128x2048 .bf16) (ix2 x j) : EReal) = (if j.val / 16 = x.val then 1 else 0 : EReal))
    (rq : ∀ h i d, IsReal (q h i d)) (rk : ∀ h i d, IsReal (k h i d)) (rck : ∀ h j d, IsReal (ck h j d))
    (h : Fin 12) (r : Fin 256) (e : Fin 64) :
    ((dat9 V c).arrAt 7 cfg9.N : Vec Ideal S12x256x64 .f32) (ix3 h r e) = headOut q k v ck cv g h ⟨1792 + r.val, by omega⟩ e := by
  obtain ⟨G, hG⟩ := exists_array3 fun (h : Fin 12) (r : Fin 256) (e : Fin 64) => headOut q k v ck cv g h ⟨1792 + r.val, by omega⟩ e
  have key : (dat9 V c).arrAt 7 cfg9.N = (G : Vec Ideal S12x256x64 .f32) := by
    refine (dat9 V c).arrAt_eq_of_covers 7 _ (by decide +kernel) fun t hf y => ?_
    obtain ⟨e0, e1, e2, e3, e4, e5, e6, eo⟩ := widx9 t
    blk_simp
    rw [after9_7]
    obtain ⟨r, hr⟩ : ∃ r : Fin 256, r = y 1 := ⟨_, rfl⟩
    obtain ⟨e, he⟩ : ∃ e : Fin 64, e = y 2 := ⟨_, rfl⟩
    have hy : y = (ix3 0 r e : S1x256x64.Idx) := by
      funext a; fin_cases a
      · exact Subsingleton.elim (α := Fin 1) _ _
      · exact hr.symm
      · exact he.symm
    have h0 : ∀ d : Fin 64, ((in9 V c 0 t : Vec Ideal S1x256x64 .bf16) (ix3 0 r d) : EReal) = q t ⟨1792 + r.val, by omega⟩ d := fun d => by
      refine ((blockAt_read (cfg := cfg9) (c := c) 0 (fun _ _ => rfl) _ t _).trans ?_).trans (hq t ⟨1792 + r.val, by omega⟩ d)
      blk_ext [e0]
    have h1 : ∀ (j : Fin 2048) (d : Fin 64), ((in9 V c 1 t : Vec Ideal S1x2048x64 .bf16) (ix3 0 j d) : EReal) = k t ⟨j.val, by omega⟩ d := fun j d => by
      refine ((blockAt_read (cfg := cfg9) (c := c) 1 (by decide +kernel) _ t _).trans ?_).trans (hk t ⟨j.val, by omega⟩ d)
      blk_ext [e1]
    have h2 : ∀ (j : Fin 2048) (d : Fin 64), ((in9 V c 2 t : Vec Ideal S1x2048x64 .bf16) (ix3 0 j d) : EReal) = v t ⟨j.val, by omega⟩ d := fun j d => by
      refine ((blockAt_read (cfg := cfg9) (c := c) 2 (by decide +kernel) _ t _).trans ?_).trans (hv t ⟨j.val, by omega⟩ d)
      blk_ext [e2]
    have h3 : ∀ (j : Fin 256) (d : Fin 64), ((in9 V c 3 t : Vec Ideal S1x256x64 .f32) (ix3 0 j d) : EReal) = ck t j d := fun j d => by
      refine ((blockAt_read (cfg := cfg9) (c := c) 3 (fun _ _ => rfl) _ t _).trans ?_).trans (hck t j d)
      blk_ext [e3]
    have h4 : ∀ (j : Fin 256) (d : Fin 64), ((in9 V c 4 t : Vec Ideal S1x256x64 .f32) (ix3 0 j d) : EReal) = cv t j d := fun j d => by
      refine ((blockAt_read (cfg := cfg9) (c := c) 4 (fun _ _ => rfl) _ t _).trans ?_).trans (hcv t j d)
      blk_ext [e4]
    have h5 : ∀ a : Fin 3, ((in9 V c 5 t : Vec Ideal S3x1x256x1 .f32) (ix4 a 0 r 0) : EReal) = g a t ⟨1792 + r.val, by omega⟩ := fun a => by
      refine ((blockAt_read (cfg := cfg9) (c := c) 5 (fun _ _ => rfl) _ t _).trans ?_).trans (hg a t ⟨1792 + r.val, by omega⟩)
      blk_ext [e5]
    have h6 : ∀ (x : Fin 112) (j : Fin 1792), ((in9 V c 6 t : Vec Ideal S112x1792 .bf16) (ix2 x j) : EReal) = (if j.val / 16 = x.val then 1 else 0 : EReal) := fun x j => by
      refine ((blockAt_read (cfg := cfg9) (c := c) 6 (by decide +kernel) _ t _).trans ?_).trans (h23 ⟨x.val, by omega⟩ ⟨j.val, by omega⟩)
      blk_ext [e6]
    have hl : out9_7 (in9 V c 0 t) (in9 V c 1 t) (in9 V c 2 t) (in9 V c 3 t) (in9 V c 4 t) (in9 V c 5 t) (in9 V c 6 t) (ix3 0 r e : S1x256x64.Idx)
        = headOut q k v ck cv g t ⟨1792 + r.val, by omega⟩ e := by
      refine (out9_at (in9 V c 0 t) (in9 V c 1 t) (in9 V c 2 t) (in9 V c 3 t) (in9 V c 4 t) (in9 V c 5 t) (in9 V c 6 t) r e ?_ ?_ h6).trans ?_
      · exact fun j => IsReal.sum _ _ fun d => IsReal.mul (by rw [h0 d]; exact rq _ _ _) (by rw [h3 j d]; exact rck _ _ _)
      · exact fun j => IsReal.sum _ _ fun d => IsReal.mul (by rw [h0 d]; exact rq _ _ _) (by rw [h1 j d]; exact rk _ _ _)
      · simp only [h0, h1, h2, h3, h4, h5]
        exact headOut_of (i := ⟨1792 + r.val, by omega⟩) (by omega : 2048 ≤ 2048) (by show 1792 + r.val < 2048; omega)
          fun j => IsReal.sum _ _ fun d => IsReal.mul (rq _ _ _) (rk _ _ _)
    subst hy
    have hemb : ((cfg9.win 7).blk t).view.emb (ix3 0 r e : S1x256x64.Idx) = (ix3 t r e : S12x256x64.Idx) := by blk_ext [eo]
    rw [hemb]
    exact hl.trans (hG t r e).symm
  rw [key]
  exact hG h r e

end Cert.KernelIdeal.Gen
-- ==== Proof.Value.Arr10.lean ====
module

public import proofs.«01_k».proof.Proof.Frame.KernelIdeal.Run
public import proofs.«01_k».proof.Proof.Value.Spec
public import Idealize.ShloMosaic.Lib.Pointwise
public import Idealize.ShloMosaic.Lib.Tactic.CleanTypes

/-!
# The array the output projection leaves
-/

@[expose] public section

set_option maxRecDepth 16384

noncomputable section

namespace Cert.KernelIdeal.Gen

open Idealize.ShloMosaic Idealize.ShloMosaic.TcCoe Idealize.ShloMosaic.Tactic
open SparseAttn

variable (V : (c : Dev nD) → (b : Ref sig .tc) → Buf (Elt Ideal) ((c : Thread nD τ).loc b))

/-- The block that each window of call 10 holds at each point. -/
theorem widx10 : ∀ t : Fin cfg10.N, win10_0.index t = ![0, t.val, 0] ∧ win10_1.index t = ![0, 0] ∧ win10_2.index t = ![t.val, 0] := by
  decide +kernel

/-- An element of a tile of the result: the heads' outputs side by side, times the output matrix. -/
theorem out10_2_at (x0 : Vec Ideal S12x256x64 .f32) (x1 : Vec Ideal S768x768 .bf16) (r : Fin 256) (n : Fin 768) :
    (out10_2 x0 x1 (ix2 r n) : EReal) =
      ∑ f : Fin 768, (x0 (ix3 (⟨f.val / 64, by omega⟩ : Fin 12) r (⟨f.val % 64, by omega⟩ : Fin 64)) : EReal) * x1 (ix2 f n) := by
  unfold out10_2
  frame_out
  unfold val10_2
  unfold_payloads
  pointwise

/-- The result's array. -/
theorem arr10_2 (c : Dev nD) (o : Fin 12 → Fin 2048 → Fin 64 → EReal) (wo : Fin 768 → Fin 768 → EReal)
    (ho : ∀ h i e, ((V c main_v32 : Vec Ideal S12x2048x64 .f32) (ix3 h i e) : EReal) = o h i e)
    (hw : ∀ f n, ((V c main_v33 : Vec Ideal S768x768 .bf16) (ix2 f n) : EReal) = wo f n) (i : Fin 2048) (n : Fin 768) :
    (((dat10 V c).arrAt 2 cfg10.N : Vec Ideal S2048x768 .f32) (ix2 i n) : EReal) =
      ∑ f : Fin 768, o ⟨f.val / 64, by omega⟩ i ⟨f.val % 64, by omega⟩ * wo f n := by
  obtain ⟨G, hG⟩ := exists_array2 fun (i : Fin 2048) (n : Fin 768) => ∑ f : Fin 768, o ⟨f.val / 64, by omega⟩ i ⟨f.val % 64, by omega⟩ * wo f n
  have key : (dat10 V c).arrAt 2 cfg10.N = (G : Vec Ideal S2048x768 .f32) := by
    refine (dat10 V c).arrAt_eq_of_covers 2 _ (by decide +kernel) fun t hf y => ?_
    obtain ⟨e0, e1, e2⟩ := widx10 t
    blk_simp
    rw [after10_2]
    obtain ⟨r, hr⟩ : ∃ r : Fin 256, r = y 0 := ⟨_, rfl⟩
    obtain ⟨n, hn⟩ : ∃ n : Fin 768, n = y 1 := ⟨_, rfl⟩
    have hy : y = (ix2 r n : S256x768.Idx) := by
      funext a; fin_cases a
      · exact hr.symm
      · exact hn.symm
    subst hy
    have hemb : ((cfg10.win 2).blk t).view.emb (ix2 r n : S256x768.Idx) = (ix2 ⟨t.val * 256 + r.val, by have : t.val < 8 := t.isLt; omega⟩ n : S2048x768.Idx) := by blk_ext [e2]
    rw [hemb]
    have h0 : ∀ (h : Fin 12) (e : Fin 64), ((in10 V c 0 t : Vec Ideal S12x256x64 .f32) (ix3 h r e) : EReal) = o h ⟨t.val * 256 + r.val, by have : t.val < 8 := t.isLt; omega⟩ e := fun h e => by
      refine ((blockAt_read (cfg := cfg10) (c := c) 0 (fun _ _ => rfl) _ t _).trans ?_).trans (ho h ⟨t.val * 256 + r.val, by have : t.val < 8 := t.isLt; omega⟩ e)
      blk_ext [e0]
    have h1 : ∀ f : Fin 768, ((in10 V c 1 t : Vec Ideal S768x768 .bf16) (ix2 f n) : EReal) = wo f n := fun f => by
      refine ((blockAt_read (cfg := cfg10) (c := c) 1 (fun _ _ => rfl) _ t _).trans ?_).trans (hw f n)
      blk_ext [e1]
    refine ((out10_2_at _ _ r n).trans ?_).trans (hG _ n).symm
    simp only [h0, h1]
  rw [key]
  exact hG i n

end Cert.KernelIdeal.Gen
-- ==== Proof.Value.HostK.lean ====
module

public import proofs.«01_k».proof.Proof.Gen.KernelIdeal.Launch
public import Idealize.ShloMosaic.Lib.Pointwise
public import Idealize.ShloMosaic.Lib.WordCmp
public import Idealize.ShloMosaic.Lib.StableHlo.ReadAt

/-!
# What the kernel's host operations leave

Each operand that the host lays out for a call, an element of it at a time: reshapes, casts, the table of key blocks, the
heads' tiles side by side.
-/

@[expose] public section

set_option maxRecDepth 16384

noncomputable section

namespace Cert.KernelIdeal.Gen

open Idealize.ShloMosaic Idealize.ShloMosaic.TcCoe Idealize.ShloMosaic.Tactic

variable (W : Valuation τ sig (Elt Ideal))

/-- The rows of `x`. -/
theorem host0_v0 (i : Fin 2048) (d : Fin 768) :
    ((StableHlo.after hostOps0 W (Proc.devRef .tc main_v0) : Vec Ideal S2048x768 .f32) (ix2 i d) : EReal) = (W (Proc.devRef .tc main_arg0) : Vec Ideal S1x2048x768 .f32) (ix3 0 i d) := by
  after_reads_at

/-- The gain. -/
theorem host0_v1 (d : Fin 768) :
    ((StableHlo.after hostOps0 W (Proc.devRef .tc main_v1) : Vec Ideal S1x768 .f32) (ix2 0 d) : EReal) = (W (Proc.devRef .tc main_arg1) : Vec Ideal S768 .f32) (ix1 d) := by
  after_reads_at

/-- The gates' bias. -/
theorem host0_v2 (n : Fin 36) :
    ((StableHlo.after hostOps0 W (Proc.devRef .tc main_v2) : Vec Ideal S1x36 .f32) (ix2 0 n) : EReal) = (W (Proc.devRef .tc main_arg11) : Vec Ideal S36 .f32) (ix1 n) := by
  after_reads_at

/-- The query matrix. -/
theorem host0_v3 (d n : Fin 768) :
    ((StableHlo.after hostOps0 W (Proc.devRef .tc main_v3) : Vec Ideal S768x768 .bf16) (ix2 d n) : EReal) = (W (Proc.devRef .tc main_arg2) : Vec Ideal S768x768 .f32) (ix2 d n) := by
  after_reads_at

/-- The key matrix. -/
theorem host0_v4 (d n : Fin 768) :
    ((StableHlo.after hostOps0 W (Proc.devRef .tc main_v4) : Vec Ideal S768x768 .bf16) (ix2 d n) : EReal) = (W (Proc.devRef .tc main_arg3) : Vec Ideal S768x768 .f32) (ix2 d n) := by
  after_reads_at

/-- The value matrix. -/
theorem host0_v5 (d n : Fin 768) :
    ((StableHlo.after hostOps0 W (Proc.devRef .tc main_v5) : Vec Ideal S768x768 .bf16) (ix2 d n) : EReal) = (W (Proc.devRef .tc main_arg4) : Vec Ideal S768x768 .f32) (ix2 d n) := by
  after_reads_at

/-- The gates' matrix. -/
theorem host0_v6 (d : Fin 768) (n : Fin 36) :
    ((StableHlo.after hostOps0 W (Proc.devRef .tc main_v6) : Vec Ideal S768x36 .bf16) (ix2 d n) : EReal) = (W (Proc.devRef .tc main_arg10) : Vec Ideal S768x36 .f32) (ix2 d n) := by
  after_reads_at

/-- The keys, eight rows to a line. -/
theorem host1_v8 (h : Fin 12) (j : Fin 256) (f : Fin 512) :
    ((StableHlo.after hostOps1 W (Proc.devRef .tc main_v8) : Vec Ideal S12x256x512 .f32) (ix3 h j f) : EReal)
      = (W (Proc.devRef .tc main_v7_3) : Vec Ideal S12x2048x64 .f32) (ix3 h ⟨8 * j.val + f.val / 64, by omega⟩ ⟨f.val % 64, by omega⟩) := by
  after_reads_at
  congr 1
  funext a
  fin_cases a <;> refine Fin.ext ?_ <;> simp <;> omega

/-- The values, eight rows to a line. -/
theorem host1_v9 (h : Fin 12) (j : Fin 256) (f : Fin 512) :
    ((StableHlo.after hostOps1 W (Proc.devRef .tc main_v9) : Vec Ideal S12x256x512 .f32) (ix3 h j f) : EReal)
      = (W (Proc.devRef .tc main_v7_4) : Vec Ideal S12x2048x64 .f32) (ix3 h ⟨8 * j.val + f.val / 64, by omega⟩ ⟨f.val % 64, by omega⟩) := by
  after_reads_at
  congr 1
  funext a
  fin_cases a <;> refine Fin.ext ?_ <;> simp <;> omega

/-- The keys' position embedding, flattened. -/
theorem host1_v10 (h : Fin 12) (f : Fin 1024) :
    ((StableHlo.after hostOps1 W (Proc.devRef .tc main_v10) : Vec Ideal S12x1x1024 .f32) (ix3 h 0 f) : EReal)
      = (W (Proc.devRef .tc main_arg5) : Vec Ideal S12x16x64 .f32) (ix3 h ⟨f.val / 64, by omega⟩ ⟨f.val % 64, by omega⟩) := by
  after_reads_at

/-- The values' position embedding, flattened. -/
theorem host1_v11 (h : Fin 12) (f : Fin 1024) :
    ((StableHlo.after hostOps1 W (Proc.devRef .tc main_v11) : Vec Ideal S12x1x1024 .f32) (ix3 h 0 f) : EReal)
      = (W (Proc.devRef .tc main_arg6) : Vec Ideal S12x16x64 .f32) (ix3 h ⟨f.val / 64, by omega⟩ ⟨f.val % 64, by omega⟩) := by
  after_reads_at

/-- The keys' compression matrices. -/
theorem host1_v12 (h : Fin 12) (f : Fin 1024) (e : Fin 64) :
    ((StableHlo.after hostOps1 W (Proc.devRef .tc main_v12) : Vec Ideal S12x1024x64 .bf16) (ix3 h f e) : EReal) = (W (Proc.devRef .tc main_arg7) : Vec Ideal S12x1024x64 .f32) (ix3 h f e) := by
  after_reads_at

/-- The values' compression matrices. -/
theorem host1_v13 (h : Fin 12) (f : Fin 1024) (e : Fin 64) :
    ((StableHlo.after hostOps1 W (Proc.devRef .tc main_v13) : Vec Ideal S12x1024x64 .bf16) (ix3 h f e) : EReal) = (W (Proc.devRef .tc main_arg8) : Vec Ideal S12x1024x64 .f32) (ix3 h f e) := by
  after_reads_at

/-- The output matrix. -/
theorem host10_v33 (f n : Fin 768) :
    ((StableHlo.after hostOps10 W (Proc.devRef .tc main_v33) : Vec Ideal S768x768 .bf16) (ix2 f n) : EReal) = (W (Proc.devRef .tc main_arg12) : Vec Ideal S768x768 .f32) (ix2 f n) := by
  after_reads_at

/-- The result, with its leading axis of one. -/
theorem host11_v35 (i : Fin 2048) (n : Fin 768) :
    ((StableHlo.after hostOps11 W (Proc.devRef .tc main_v35) : Vec Ideal S1x2048x768 .f32) (ix3 0 i n) : EReal) = (W (Proc.devRef .tc main_v34) : Vec Ideal S2048x768 .f32) (ix2 i n) := by
  after_reads_at

/-- Eight tiles of 256 rows, one after another, are the array that each is a tile of. -/
theorem tiles_eq (o : Fin 12 → Fin 2048 → Fin 64 → EReal) (t0 t1 t2 t3 t4 t5 t6 t7 : Fin 12 → Fin 256 → Fin 64 → EReal)
    (h0 : ∀ h (r : Fin 256) e, t0 h r e = o h ⟨0 + r.val, by omega⟩ e)
    (h1 : ∀ h (r : Fin 256) e, t1 h r e = o h ⟨256 + r.val, by omega⟩ e)
    (h2 : ∀ h (r : Fin 256) e, t2 h r e = o h ⟨512 + r.val, by omega⟩ e)
    (h3 : ∀ h (r : Fin 256) e, t3 h r e = o h ⟨768 + r.val, by omega⟩ e)
    (h4 : ∀ h (r : Fin 256) e, t4 h r e = o h ⟨1024 + r.val, by omega⟩ e)
    (h5 : ∀ h (r : Fin 256) e, t5 h r e = o h ⟨1280 + r.val, by omega⟩ e)
    (h6 : ∀ h (r : Fin 256) e, t6 h r e = o h ⟨1536 + r.val, by omega⟩ e)
    (h7 : ∀ h (r : Fin 256) e, t7 h r e = o h ⟨1792 + r.val, by omega⟩ e)
    (h : Fin 12) (i : Fin 2048) (e : Fin 64) :
    (if _ : i.val < 256 then t0 h ⟨i.val, by omega⟩ e else (if _ : i.val - 256 < 256 then t1 h ⟨i.val - 256, by omega⟩ e else (if _ : i.val - 256 - 256 < 256 then t2 h ⟨i.val - 256 - 256, by omega⟩ e else (if _ : i.val - 256 - 256 - 256 < 256 then t3 h ⟨i.val - 256 - 256 - 256, by omega⟩ e else (if _ : i.val - 256 - 256 - 256 - 256 < 256 then t4 h ⟨i.val - 256 - 256 - 256 - 256, by omega⟩ e else (if _ : i.val - 256 - 256 - 256 - 256 - 256 < 256 then t5 h ⟨i.val - 256 - 256 - 256 - 256 - 256, by omega⟩ e else (if _ : i.val - 256 - 256 - 256 - 256 - 256 - 256 < 256 then t6 h ⟨i.val - 256 - 256 - 256 - 256 - 256 - 256, by omega⟩ e else (t7 h ⟨i.val - 256 - 256 - 256 - 256 - 256 - 256 - 256, by omega⟩ e)))))))) = o h i e := by
  split_ifs
  · rw [h0]; congr 1; refine Fin.ext ?_; simp only; omega
  · rw [h1]; congr 1; refine Fin.ext ?_; simp only; omega
  · rw [h2]; congr 1; refine Fin.ext ?_; simp only; omega
  · rw [h3]; congr 1; refine Fin.ext ?_; simp only; omega
  · rw [h4]; congr 1; refine Fin.ext ?_; simp only; omega
  · rw [h5]; congr 1; refine Fin.ext ?_; simp only; omega
  · rw [h6]; congr 1; refine Fin.ext ?_; simp only; omega
  · rw [h7]; congr 1; refine Fin.ext ?_; simp only; omega

/-- The heads' outputs: the eight tiles one after another. -/
theorem host10_v32 (o : Fin 12 → Fin 2048 → Fin 64 → EReal)
    (h0 : ∀ h (r : Fin 256) e, ((W (Proc.devRef .tc main_v24) : Vec Ideal S12x256x64 .f32) (ix3 h r e) : EReal) = o h ⟨0 + r.val, by omega⟩ e)
    (h1 : ∀ h (r : Fin 256) e, ((W (Proc.devRef .tc main_v25) : Vec Ideal S12x256x64 .f32) (ix3 h r e) : EReal) = o h ⟨256 + r.val, by omega⟩ e)
    (h2 : ∀ h (r : Fin 256) e, ((W (Proc.devRef .tc main_v26) : Vec Ideal S12x256x64 .f32) (ix3 h r e) : EReal) = o h ⟨512 + r.val, by omega⟩ e)
    (h3 : ∀ h (r : Fin 256) e, ((W (Proc.devRef .tc main_v27) : Vec Ideal S12x256x64 .f32) (ix3 h r e) : EReal) = o h ⟨768 + r.val, by omega⟩ e)
    (h4 : ∀ h (r : Fin 256) e, ((W (Proc.devRef .tc main_v28) : Vec Ideal S12x256x64 .f32) (ix3 h r e) : EReal) = o h ⟨1024 + r.val, by omega⟩ e)
    (h5 : ∀ h (r : Fin 256) e, ((W (Proc.devRef .tc main_v29) : Vec Ideal S12x256x64 .f32) (ix3 h r e) : EReal) = o h ⟨1280 + r.val, by omega⟩ e)
    (h6 : ∀ h (r : Fin 256) e, ((W (Proc.devRef .tc main_v30) : Vec Ideal S12x256x64 .f32) (ix3 h r e) : EReal) = o h ⟨1536 + r.val, by omega⟩ e)
    (h7 : ∀ h (r : Fin 256) e, ((W (Proc.devRef .tc main_v31) : Vec Ideal S12x256x64 .f32) (ix3 h r e) : EReal) = o h ⟨1792 + r.val, by omega⟩ e)
    (h : Fin 12) (i : Fin 2048) (e : Fin 64) :
    ((StableHlo.after hostOps10 W (Proc.devRef .tc main_v32) : Vec Ideal S12x2048x64 .f32) (ix3 h i e) : EReal) = o h i e := by
  after_reads_at
  exact tiles_eq o (fun h r e => (W (Proc.devRef .tc main_v24) : Vec Ideal S12x256x64 .f32) (ix3 h r e)) (fun h r e => (W (Proc.devRef .tc main_v25) : Vec Ideal S12x256x64 .f32) (ix3 h r e)) (fun h r e => (W (Proc.devRef .tc main_v26) : Vec Ideal S12x256x64 .f32) (ix3 h r e)) (fun h r e => (W (Proc.devRef .tc main_v27) : Vec Ideal S12x256x64 .f32) (ix3 h r e)) (fun h r e => (W (Proc.devRef .tc main_v28) : Vec Ideal S12x256x64 .f32) (ix3 h r e)) (fun h r e => (W (Proc.devRef .tc main_v29) : Vec Ideal S12x256x64 .f32) (ix3 h r e)) (fun h r e => (W (Proc.devRef .tc main_v30) : Vec Ideal S12x256x64 .f32) (ix3 h r e)) (fun h r e => (W (Proc.devRef .tc main_v31) : Vec Ideal S12x256x64 .f32) (ix3 h r e)) h0 h1 h2 h3 h4 h5 h6 h7 h i e

/-- The columns' numbers. -/
theorem host2_v16 (j : Fin 2048) :
    ((StableHlo.after hostOps2 W (Proc.devRef .tc main_v16) : IVec S1x2048 32) (ix2 0 j)) = BitVec.ofNat 32 j.val := by
  after_reads_at

/-- The block's length. -/
theorem host2_c : ((StableHlo.after hostOps2 W (Proc.devRef .tc main_c) : IVec S_ 32) ix0) = 16#32 := by
  after_reads_at

/-- The floor division's words. -/
theorem floor_word (j : Fin 2048) :
    Scalar.select
      (IntOp.andi
        (IntOp.cmpi CmpIPredicate.ne (if BitVec.ofNat 32 j.val = 0 then 0 else if BitVec.msb (BitVec.ofNat 32 j.val) = true then -1 else 1)
          (if 16#32 = 0 then (0 : BitVec 32) else if BitVec.msb 16#32 = true then -1 else 1))
        (IntOp.cmpi CmpIPredicate.ne (IntOp.remsi ArithUnit.host (BitVec.ofNat 32 j.val) 16#32) 0#32))
      (IntOp.subi (IntOp.divsi ArithUnit.host (BitVec.ofNat 32 j.val) 16#32) 1#32)
      (IntOp.divsi ArithUnit.host (BitVec.ofNat 32 j.val) 16#32) = BitVec.ofNat 32 (j.val / 16) := by
  revert j
  decide +kernel

/-- The columns' blocks. -/
theorem host2_1_v17 (h16 : ∀ j : Fin 2048, (W (Proc.devRef .tc main_v16) : IVec S1x2048 32) (ix2 0 j) = BitVec.ofNat 32 j.val)
    (hc : (W (Proc.devRef .tc main_c) : IVec S_ 32) ix0 = 16#32) (j : Fin 2048) :
    ((StableHlo.after hostOps2_1 W (Proc.devRef .tc main_v17) : IVec S1x2048 32) (ix2 0 j)) = BitVec.ofNat 32 (j.val / 16) := by
  after_reads_at
  have hc' : id (W (Proc.devRef .tc main_c) : IVec S_ 32) ix0 = 16#32 := hc
  rw [hc', h16]
  exact floor_word j

/-- The table of key blocks: one where the column is in the block, zero elsewhere. -/
theorem host2_2_v23 (h17 : ∀ j : Fin 2048, (W (Proc.devRef .tc main_v17) : IVec S1x2048 32) (ix2 0 j) = BitVec.ofNat 32 (j.val / 16)) (x : Fin 128) (j : Fin 2048) :
    ((StableHlo.after hostOps2_2 W (Proc.devRef .tc main_v23) : Vec Ideal S128x2048 .bf16) (ix2 x j) : EReal) = (if j.val / 16 = x.val then 1 else 0 : EReal) := by
  after_reads_at
  rw [h17, WordCmp.cmpi_eq_ofNat (w := 32) (by omega) (by omega)]
  by_cases h : j.val / 16 = x.val
  · rw [if_pos h, decide_eq_true h]
    show ((((BitVec.ofBool true).toNat : ℕ) : ℝ) : EReal) = 1
    simp
  · rw [if_neg h, decide_eq_false h]
    show ((((BitVec.ofBool false).toNat : ℕ) : ℝ) : EReal) = 0
    simp

end Cert.KernelIdeal.Gen
-- ==== Proof.Value.Kernel.lean ====
module

public import proofs.«01_k».proof.Proof.Value.Arr0
public import proofs.«01_k».proof.Proof.Value.Arr1
public import proofs.«01_k».proof.Proof.Value.Arr2
public import proofs.«01_k».proof.Proof.Value.Arr3
public import proofs.«01_k».proof.Proof.Value.Arr4
public import proofs.«01_k».proof.Proof.Value.Arr5
public import proofs.«01_k».proof.Proof.Value.Arr6
public import proofs.«01_k».proof.Proof.Value.Arr7
public import proofs.«01_k».proof.Proof.Value.Arr8
public import proofs.«01_k».proof.Proof.Value.Arr9
public import proofs.«01_k».proof.Proof.Value.Arr10
public import proofs.«01_k».proof.Proof.Value.HostK
public import proofs.«01_k».proof.Proof.Value.Spec

/-!
# What the kernel's program leaves in its result

The buffers' contents followed from the arguments through the eleven calls and the host operations between them.
-/

@[expose] public section

set_option maxRecDepth 16384

noncomputable section

namespace Cert.KernelIdeal.Run

open Idealize.ShloMosaic Idealize.ShloMosaic.TcCoe Idealize.ShloMosaic.Tactic
open Cert.KernelIdeal Cert.KernelIdeal.Gen SparseAttn

variable (m : (ℓ : Loc nD τ sig) → Buf (Elt Ideal) ℓ) (c : Dev nD)

/-- The arguments by coordinates, read off the buffers at launch. -/
def args : Args where
  x i d := (W0 m c (Proc.devRef .tc main_arg0) : Vec Ideal S1x2048x768 .f32) (ix3 0 i d)
  g d := (W0 m c (Proc.devRef .tc main_arg1) : Vec Ideal S768 .f32) (ix1 d)
  wq d n := (W0 m c (Proc.devRef .tc main_arg2) : Vec Ideal S768x768 .f32) (ix2 d n)
  wk d n := (W0 m c (Proc.devRef .tc main_arg3) : Vec Ideal S768x768 .f32) (ix2 d n)
  wv d n := (W0 m c (Proc.devRef .tc main_arg4) : Vec Ideal S768x768 .f32) (ix2 d n)
  kpe h i e := (W0 m c (Proc.devRef .tc main_arg5) : Vec Ideal S12x16x64 .f32) (ix3 h i e)
  vpe h i e := (W0 m c (Proc.devRef .tc main_arg6) : Vec Ideal S12x16x64 .f32) (ix3 h i e)
  wck h f e := (W0 m c (Proc.devRef .tc main_arg7) : Vec Ideal S12x1024x64 .f32) (ix3 h f e)
  wcv h f e := (W0 m c (Proc.devRef .tc main_arg8) : Vec Ideal S12x1024x64 .f32) (ix3 h f e)
  mem a h e := (W0 m c (Proc.devRef .tc main_arg9) : Vec Ideal S2x12x1x64 .f32) (ix4 a h 0 e)
  wc d n := (W0 m c (Proc.devRef .tc main_arg10) : Vec Ideal S768x36 .f32) (ix2 d n)
  bc n := (W0 m c (Proc.devRef .tc main_arg11) : Vec Ideal S36 .f32) (ix1 n)
  wo f n := (W0 m c (Proc.devRef .tc main_arg12) : Vec Ideal S768x768 .f32) (ix2 f n)

/-! ## The arguments, carried -/

/-- An argument after the first call. -/
theorem W2_arg (a : Ref sig .tc) (ha : a ∈ argRefs) : W2 m c (Proc.devRef .tc a) = W0 m c (Proc.devRef .tc a) :=
  (show W2 m c _ = W1 m c _ from exitOf_of (cfgs := cfgs) launch0 _ (W1 m) (A_eq0 (at' (W1 m))) c a (argIn0 a ha)).trans
    (show W1 m c _ = W0 m c _ from StableHlo.after_of_writes_sub hostOps0 _ hostOps0_writes (notin_hostOps0 a ha))

/-- An argument at the second call's entry. -/
theorem W3_arg (a : Ref sig .tc) (ha : a ∈ argRefs) : W3 m c (Proc.devRef .tc a) = W0 m c (Proc.devRef .tc a) :=
  (show W3 m c _ = W2 m c _ from StableHlo.after_of_writes_sub hostOps1 _ hostOps1_writes (notin_hostOps1 a ha)).trans (W2_arg m c a ha)

/-- An argument after the attention calls. -/
theorem W15_arg (a : Ref sig .tc) (ha : a ∈ argRefs) : W15 m c (Proc.devRef .tc a) = W0 m c (Proc.devRef .tc a) :=
  (show W15 m c _ = W14 m c _ from exitOf_of (cfgs := cfgs) launch9 _ (W14 m) (A_eq9 (at' (W14 m))) c a (argIn9 a ha)).trans <|
  (show W14 m c _ = W13 m c _ from exitOf_of (cfgs := cfgs) launch8 _ (W13 m) (A_eq8 (at' (W13 m))) c a (argIn8 a ha)).trans <|
  (show W13 m c _ = W12 m c _ from exitOf_of (cfgs := cfgs) launch7 _ (W12 m) (A_eq7 (at' (W12 m))) c a (argIn7 a ha)).trans <|
  (show W12 m c _ = W11 m c _ from exitOf_of (cfgs := cfgs) launch6 _ (W11 m) (A_eq6 (at' (W11 m))) c a (argIn6 a ha)).trans <|
  (show W11 m c _ = W10 m c _ from exitOf_of (cfgs := cfgs) launch5 _ (W10 m) (A_eq5 (at' (W10 m))) c a (argIn5 a ha)).trans <|
  (show W10 m c _ = W9 m c _ from exitOf_of (cfgs := cfgs) launch4 _ (W9 m) (A_eq4 (at' (W9 m))) c a (argIn4 a ha)).trans <|
  (show W9 m c _ = W8 m c _ from exitOf_of (cfgs := cfgs) launch3 _ (W8 m) (A_eq3 (at' (W8 m))) c a (argIn3 a ha)).trans <|
  (show W8 m c _ = W7 m c _ from exitOf_of (cfgs := cfgs) launch2 _ (W7 m) (A_eq2 (at' (W7 m))) c a (argIn2 a ha)).trans <|
  (show W7 m c _ = W6 m c _ from StableHlo.after_of_writes_sub hostOps2_2 _ hostOps2_2_writes (notin_hostOps2_2 a ha)).trans <|
  (show W6 m c _ = W5 m c _ from StableHlo.after_of_writes_sub hostOps2_1 _ hostOps2_1_writes (notin_hostOps2_1 a ha)).trans <|
  (show W5 m c _ = W4 m c _ from StableHlo.after_of_writes_sub hostOps2 _ hostOps2_writes (notin_hostOps2 a ha)).trans <|
  (show W4 m c _ = W3 m c _ from exitOf_of (cfgs := cfgs) launch1 _ (W3 m) (A_eq1 (at' (W3 m))) c a (argIn1 a ha)).trans (W3_arg m c a ha)

/-- The buffers of the projections and of the compressed rows. -/
abbrev projections : List (Ref sig .tc) := [main_v7_0, main_v7_1, main_v7_2, main_v7_5, main_v14_0, main_v14_1]
/-- The buffers that every attention call finds as the first one found them. -/
abbrev attnRefs : List (Ref sig .tc) := [main_v7_0, main_v7_1, main_v7_2, main_v7_5, main_v14_0, main_v14_1, main_v23]
/-- The results of the attention calls. -/
abbrev tiles : List (Ref sig .tc) := [main_v24, main_v25, main_v26, main_v27, main_v28, main_v29, main_v30, main_v31]

/-! ## The projections and the compressed rows -/

/-- The rows that the first call reads are the argument's. -/
theorem W1_x (i : Fin 2048) (d : Fin 768) : ((at' (W1 m) c main_v0 : Vec Ideal S2048x768 .f32) (ix2 i d) : EReal) = (args m c).x i d := host0_v0 _ i d
/-- The norm's weights that the first call reads are the argument's. -/
theorem W1_g (d : Fin 768) : ((at' (W1 m) c main_v1 : Vec Ideal S1x768 .f32) (ix2 0 d) : EReal) = (args m c).g d := host0_v1 _ d

/-- The first call leaves the queries. -/
theorem W2_v7_0 (h : Fin 12) (i : Fin 2048) (e : Fin 64) : ((W2 m c (Proc.devRef .tc main_v7_0) : Vec Ideal S12x2048x64 .bf16) (ix3 h i e) : EReal) = (args m c).q h i e :=
  (congrFun (exitOf_arr (cfgs := cfgs) launch0 (dat0 (at' (W1 m))) (W1 m) c (7 : Fin cfg0.W)) _).trans
    (arr0_7 (at' (W1 m)) c (args m c) (W1_x m c) (W1_g m c) (fun d n => host0_v3 _ d n) h i e)

/-- The first call leaves the keys. -/
theorem W2_v7_1 (h : Fin 12) (i : Fin 2048) (e : Fin 64) : ((W2 m c (Proc.devRef .tc main_v7_1) : Vec Ideal S12x2048x64 .bf16) (ix3 h i e) : EReal) = (args m c).k h i e :=
  (congrFun (exitOf_arr (cfgs := cfgs) launch0 (dat0 (at' (W1 m))) (W1 m) c (8 : Fin cfg0.W)) _).trans
    (arr0_8 (at' (W1 m)) c (args m c) (W1_x m c) (W1_g m c) (fun d n => host0_v4 _ d n) h i e)

/-- The first call leaves the values. -/
theorem W2_v7_2 (h : Fin 12) (i : Fin 2048) (e : Fin 64) : ((W2 m c (Proc.devRef .tc main_v7_2) : Vec Ideal S12x2048x64 .bf16) (ix3 h i e) : EReal) = (args m c).v h i e :=
  (congrFun (exitOf_arr (cfgs := cfgs) launch0 (dat0 (at' (W1 m))) (W1 m) c (9 : Fin cfg0.W)) _).trans
    (arr0_9 (at' (W1 m)) c (args m c) (W1_x m c) (W1_g m c) (fun d n => host0_v5 _ d n) h i e)

/-- The first call leaves the keys, for the compression. -/
theorem W2_v7_3 (h : Fin 12) (i : Fin 2048) (e : Fin 64) : ((W2 m c (Proc.devRef .tc main_v7_3) : Vec Ideal S12x2048x64 .f32) (ix3 h i e) : EReal) = (args m c).k h i e :=
  (congrFun (exitOf_arr (cfgs := cfgs) launch0 (dat0 (at' (W1 m))) (W1 m) c (10 : Fin cfg0.W)) _).trans
    (arr0_10 (at' (W1 m)) c (args m c) (W1_x m c) (W1_g m c) (fun d n => host0_v4 _ d n) h i e)

/-- The first call leaves the values, for the compression. -/
theorem W2_v7_4 (h : Fin 12) (i : Fin 2048) (e : Fin 64) : ((W2 m c (Proc.devRef .tc main_v7_4) : Vec Ideal S12x2048x64 .f32) (ix3 h i e) : EReal) = (args m c).v h i e :=
  (congrFun (exitOf_arr (cfgs := cfgs) launch0 (dat0 (at' (W1 m))) (W1 m) c (11 : Fin cfg0.W)) _).trans
    (arr0_11 (at' (W1 m)) c (args m c) (W1_x m c) (W1_g m c) (fun d n => host0_v5 _ d n) h i e)

/-- The first call leaves the gates. -/
theorem W2_v7_5 (a : Fin 3) (h : Fin 12) (i : Fin 2048) : ((W2 m c (Proc.devRef .tc main_v7_5) : Vec Ideal S3x12x2048x1 .f32) (ix4 a h i 0) : EReal) = (args m c).gate a h i :=
  (congrFun (exitOf_arr (cfgs := cfgs) launch0 (dat0 (at' (W1 m))) (W1 m) c (12 : Fin cfg0.W)) _).trans
    (arr0_12 (at' (W1 m)) c (args m c) (W1_x m c) (W1_g m c) (fun d n => host0_v6 _ d n) (fun n => host0_v2 _ n) a h i)

/-- The second call leaves the compressed keys. -/
theorem W4_v14_0 (h : Fin 12) (j : Fin 256) (e : Fin 64) : ((W4 m c (Proc.devRef .tc main_v14_0) : Vec Ideal S12x256x64 .f32) (ix3 h j e) : EReal) = (args m c).ck h j e :=
  (congrFun (exitOf_arr (cfgs := cfgs) launch1 (dat1 (at' (W3 m))) (W3 m) c (7 : Fin cfg1.W)) _).trans
    (arr1_7 (at' (W3 m)) c (args m c).k (args m c).kpe (args m c).wck ((args m c).mem 0)
      (fun h j f => (host1_v8 _ h j f).trans (W2_v7_3 m c h _ _))
      (fun h f => (host1_v10 _ h f).trans (congrFun (W2_arg m c main_arg5 (by decide +kernel)) _))
      (fun h f e => (host1_v12 _ h f e).trans (congrFun (W2_arg m c main_arg7 (by decide +kernel)) _))
      (fun h e => congrFun (W3_arg m c main_arg9 (by decide +kernel)) _) h j e)

/-- The second call leaves the compressed values. -/
theorem W4_v14_1 (h : Fin 12) (j : Fin 256) (e : Fin 64) : ((W4 m c (Proc.devRef .tc main_v14_1) : Vec Ideal S12x256x64 .f32) (ix3 h j e) : EReal) = (args m c).cv h j e :=
  (congrFun (exitOf_arr (cfgs := cfgs) launch1 (dat1 (at' (W3 m))) (W3 m) c (8 : Fin cfg1.W)) _).trans
    (arr1_8 (at' (W3 m)) c (args m c).v (args m c).vpe (args m c).wcv ((args m c).mem 1)
      (fun h j f => (host1_v9 _ h j f).trans (W2_v7_4 m c h _ _))
      (fun h f => (host1_v11 _ h f).trans (congrFun (W2_arg m c main_arg6 (by decide +kernel)) _))
      (fun h f e => (host1_v13 _ h f e).trans (congrFun (W2_arg m c main_arg8 (by decide +kernel)) _))
      (fun h e => congrFun (W3_arg m c main_arg9 (by decide +kernel)) _) h j e)

/-! ## The attention calls -/

/-- What every attention call is entered with. -/
structure Entry (A : Args) (W : Dev nD → Valuation τ sig (Elt Ideal)) : Prop where
  q : ∀ h i d, ((W c (Proc.devRef .tc main_v7_0) : Vec Ideal S12x2048x64 .bf16) (ix3 h i d) : EReal) = A.q h i d
  k : ∀ h i d, ((W c (Proc.devRef .tc main_v7_1) : Vec Ideal S12x2048x64 .bf16) (ix3 h i d) : EReal) = A.k h i d
  v : ∀ h i d, ((W c (Proc.devRef .tc main_v7_2) : Vec Ideal S12x2048x64 .bf16) (ix3 h i d) : EReal) = A.v h i d
  ck : ∀ h j d, ((W c (Proc.devRef .tc main_v14_0) : Vec Ideal S12x256x64 .f32) (ix3 h j d) : EReal) = A.ck h j d
  cv : ∀ h j d, ((W c (Proc.devRef .tc main_v14_1) : Vec Ideal S12x256x64 .f32) (ix3 h j d) : EReal) = A.cv h j d
  g : ∀ a h i, ((W c (Proc.devRef .tc main_v7_5) : Vec Ideal S3x12x2048x1 .f32) (ix4 a h i 0) : EReal) = A.gate a h i
  t : ∀ (x : Fin 128) (j : Fin 2048), ((W c (Proc.devRef .tc main_v23) : Vec Ideal S128x2048 .bf16) (ix2 x j) : EReal) = (if j.val / 16 = x.val then 1 else 0 : EReal)

/-- Where those buffers are the same, so is what a call is entered with. -/
theorem Entry.of_eq {A : Args} {W W' : Dev nD → Valuation τ sig (Elt Ideal)} (h : ∀ b ∈ attnRefs, W' c (Proc.devRef .tc b) = W c (Proc.devRef .tc b))
    (E : Entry c A W) : Entry c A W' where
  q x i d := (congrFun (h main_v7_0 (by decide +kernel)) _).trans (E.q x i d)
  k x i d := (congrFun (h main_v7_1 (by decide +kernel)) _).trans (E.k x i d)
  v x i d := (congrFun (h main_v7_2 (by decide +kernel)) _).trans (E.v x i d)
  ck x i d := (congrFun (h main_v14_0 (by decide +kernel)) _).trans (E.ck x i d)
  cv x i d := (congrFun (h main_v14_1 (by decide +kernel)) _).trans (E.cv x i d)
  g x i d := (congrFun (h main_v7_5 (by decide +kernel)) _).trans (E.g x i d)
  t x j := (congrFun (h main_v23 (by decide +kernel)) _).trans (E.t x j)

/-- The second call and the host operations before it keep the projections. -/
theorem keep_projections : ∀ b ∈ projections.take 4, W4 m c (Proc.devRef .tc b) = W2 m c (Proc.devRef .tc b) := fun b hb =>
  (show W4 m c _ = W3 m c _ from exitOf_of (cfgs := cfgs) launch1 _ (W3 m) (A_eq1 (at' (W3 m))) c b
    ((ListAll.forall_mem_of_all_decide (by decide +kernel) : ∀ b ∈ projections.take 4, ∀ w : Fin cfg1.W, Pipeline.arrRef spec1 w = b → (cfg1.win w).isOut = false) b hb)).trans
  (show W3 m c _ = W2 m c _ from StableHlo.after_of_writes_sub hostOps1 _ hostOps1_writes
    ((ListAll.forall_mem_of_all_decide (by decide +kernel) : ∀ b ∈ projections.take 4, b ∉ hostOps1_W) b hb))

/-- The host operations before the attention keep the projections and the compressed rows. -/
theorem keep_table : ∀ b ∈ projections, W7 m c (Proc.devRef .tc b) = W4 m c (Proc.devRef .tc b) := fun b hb =>
  (show W7 m c _ = W6 m c _ from StableHlo.after_of_writes_sub hostOps2_2 _ hostOps2_2_writes
    ((ListAll.forall_mem_of_all_decide (by decide +kernel) : ∀ b ∈ projections, b ∉ hostOps2_2_W) b hb)).trans <|
  (show W6 m c _ = W5 m c _ from StableHlo.after_of_writes_sub hostOps2_1 _ hostOps2_1_writes
    ((ListAll.forall_mem_of_all_decide (by decide +kernel) : ∀ b ∈ projections, b ∉ hostOps2_1_W) b hb)).trans <|
  (show W5 m c _ = W4 m c _ from StableHlo.after_of_writes_sub hostOps2 _ hostOps2_writes
    ((ListAll.forall_mem_of_all_decide (by decide +kernel) : ∀ b ∈ projections, b ∉ hostOps2_W) b hb))

/-- The first attention call's entry. -/
theorem entry7 : Entry c (args m c) (W7 m) where
  q h i d := (congrFun ((keep_table m c main_v7_0 (by decide +kernel)).trans (keep_projections m c main_v7_0 (by decide +kernel))) _).trans (W2_v7_0 m c h i d)
  k h i d := (congrFun ((keep_table m c main_v7_1 (by decide +kernel)).trans (keep_projections m c main_v7_1 (by decide +kernel))) _).trans (W2_v7_1 m c h i d)
  v h i d := (congrFun ((keep_table m c main_v7_2 (by decide +kernel)).trans (keep_projections m c main_v7_2 (by decide +kernel))) _).trans (W2_v7_2 m c h i d)
  ck h j d := (congrFun (keep_table m c main_v14_0 (by decide +kernel)) _).trans (W4_v14_0 m c h j d)
  cv h j d := (congrFun (keep_table m c main_v14_1 (by decide +kernel)) _).trans (W4_v14_1 m c h j d)
  g a h i := (congrFun ((keep_table m c main_v7_5 (by decide +kernel)).trans (keep_projections m c main_v7_5 (by decide +kernel))) _).trans (W2_v7_5 m c a h i)
  t x j := host2_2_v23 _ (fun j => host2_1_v17 _ (fun j => host2_v16 _ j) (host2_c _) j) x j

/-- Call 2 leaves every other buffer of the attention as entered. -/
theorem keep2 : ∀ b ∈ attnRefs ++ tiles.eraseIdx 0, W8 m c (Proc.devRef .tc b) = W7 m c (Proc.devRef .tc b) := fun b hb =>
  exitOf_of (cfgs := cfgs) launch2 _ (W7 m) (A_eq2 (at' (W7 m))) c b
    ((ListAll.forall_mem_of_all_decide (by decide +kernel) : ∀ b ∈ attnRefs ++ tiles.eraseIdx 0, ∀ w : Fin cfg2.W, Pipeline.arrRef spec2 w = b → (cfg2.win w).isOut = false) b hb)

/-- Call 2's tile. -/
theorem tile2 (H : (args m c).Finite) (h : Fin 12) (r : Fin 256) (e : Fin 64) :
    ((W8 m c (Proc.devRef .tc main_v24) : Vec Ideal S12x256x64 .f32) (ix3 h r e) : EReal) = (args m c).heads h ⟨0 + r.val, by omega⟩ e :=
  (congrFun (exitOf_arr (cfgs := cfgs) launch2 (dat2 (at' (W7 m))) (W7 m) c (6 : Fin cfg2.W)) _).trans
    (arr2 (at' (W7 m)) c _ _ _ _ _ _ (entry7 m c).q (entry7 m c).k (entry7 m c).v (entry7 m c).ck (entry7 m c).cv (entry7 m c).g
      H.q_isReal H.k_isReal H.ck_isReal h r e)

/-- The next call's entry. -/
theorem entry8 : Entry c (args m c) (W8 m) :=
  (entry7 m c).of_eq c fun b hb => keep2 m c b (List.mem_append_left _ hb)

/-- Call 3 leaves every other buffer of the attention as entered. -/
theorem keep3 : ∀ b ∈ attnRefs ++ tiles.eraseIdx 1, W9 m c (Proc.devRef .tc b) = W8 m c (Proc.devRef .tc b) := fun b hb =>
  exitOf_of (cfgs := cfgs) launch3 _ (W8 m) (A_eq3 (at' (W8 m))) c b
    ((ListAll.forall_mem_of_all_decide (by decide +kernel) : ∀ b ∈ attnRefs ++ tiles.eraseIdx 1, ∀ w : Fin cfg3.W, Pipeline.arrRef spec3 w = b → (cfg3.win w).isOut = false) b hb)

/-- Call 3's tile. -/
theorem tile3 (H : (args m c).Finite) (h : Fin 12) (r : Fin 256) (e : Fin 64) :
    ((W9 m c (Proc.devRef .tc main_v25) : Vec Ideal S12x256x64 .f32) (ix3 h r e) : EReal) = (args m c).heads h ⟨256 + r.val, by omega⟩ e :=
  (congrFun (exitOf_arr (cfgs := cfgs) launch3 (dat3 (at' (W8 m))) (W8 m) c (7 : Fin cfg3.W)) _).trans
    (arr3 (at' (W8 m)) c _ _ _ _ _ _ (entry8 m c).q (entry8 m c).k (entry8 m c).v (entry8 m c).ck (entry8 m c).cv (entry8 m c).g (entry8 m c).t
      H.q_isReal H.k_isReal H.ck_isReal h r e)

/-- The next call's entry. -/
theorem entry9 : Entry c (args m c) (W9 m) :=
  (entry8 m c).of_eq c fun b hb => keep3 m c b (List.mem_append_left _ hb)

/-- Call 4 leaves every other buffer of the attention as entered. -/
theorem keep4 : ∀ b ∈ attnRefs ++ tiles.eraseIdx 2, W10 m c (Proc.devRef .tc b) = W9 m c (Proc.devRef .tc b) := fun b hb =>
  exitOf_of (cfgs := cfgs) launch4 _ (W9 m) (A_eq4 (at' (W9 m))) c b
    ((ListAll.forall_mem_of_all_decide (by decide +kernel) : ∀ b ∈ attnRefs ++ tiles.eraseIdx 2, ∀ w : Fin cfg4.W, Pipeline.arrRef spec4 w = b → (cfg4.win w).isOut = false) b hb)

/-- Call 4's tile. -/
theorem tile4 (H : (args m c).Finite) (h : Fin 12) (r : Fin 256) (e : Fin 64) :
    ((W10 m c (Proc.devRef .tc main_v26) : Vec Ideal S12x256x64 .f32) (ix3 h r e) : EReal) = (args m c).heads h ⟨512 + r.val, by omega⟩ e :=
  (congrFun (exitOf_arr (cfgs := cfgs) launch4 (dat4 (at' (W9 m))) (W9 m) c (7 : Fin cfg4.W)) _).trans
    (arr4 (at' (W9 m)) c _ _ _ _ _ _ (entry9 m c).q (entry9 m c).k (entry9 m c).v (entry9 m c).ck (entry9 m c).cv (entry9 m c).g (entry9 m c).t
      H.q_isReal H.k_isReal H.ck_isReal h r e)

/-- The next call's entry. -/
theorem entry10 : Entry c (args m c) (W10 m) :=
  (entry9 m c).of_eq c fun b hb => keep4 m c b (List.mem_append_left _ hb)

/-- Call 5 leaves every other buffer of the attention as entered. -/
theorem keep5 : ∀ b ∈ attnRefs ++ tiles.eraseIdx 3, W11 m c (Proc.devRef .tc b) = W10 m c (Proc.devRef .tc b) := fun b hb =>
  exitOf_of (cfgs := cfgs) launch5 _ (W10 m) (A_eq5 (at' (W10 m))) c b
    ((ListAll.forall_mem_of_all_decide (by decide +kernel) : ∀ b ∈ attnRefs ++ tiles.eraseIdx 3, ∀ w : Fin cfg5.W, Pipeline.arrRef spec5 w = b → (cfg5.win w).isOut = false) b hb)

/-- Call 5's tile. -/
theorem tile5 (H : (args m c).Finite) (h : Fin 12) (r : Fin 256) (e : Fin 64) :
    ((W11 m c (Proc.devRef .tc main_v27) : Vec Ideal S12x256x64 .f32) (ix3 h r e) : EReal) = (args m c).heads h ⟨768 + r.val, by omega⟩ e :=
  (congrFun (exitOf_arr (cfgs := cfgs) launch5 (dat5 (at' (W10 m))) (W10 m) c (7 : Fin cfg5.W)) _).trans
    (arr5 (at' (W10 m)) c _ _ _ _ _ _ (entry10 m c).q (entry10 m c).k (entry10 m c).v (entry10 m c).ck (entry10 m c).cv (entry10 m c).g (entry10 m c).t
      H.q_isReal H.k_isReal H.ck_isReal h r e)

/-- The next call's entry. -/
theorem entry11 : Entry c (args m c) (W11 m) :=
  (entry10 m c).of_eq c fun b hb => keep5 m c b (List.mem_append_left _ hb)

/-- Call 6 leaves every other buffer of the attention as entered. -/
theorem keep6 : ∀ b ∈ attnRefs ++ tiles.eraseIdx 4, W12 m c (Proc.devRef .tc b) = W11 m c (Proc.devRef .tc b) := fun b hb =>
  exitOf_of (cfgs := cfgs) launch6 _ (W11 m) (A_eq6 (at' (W11 m))) c b
    ((ListAll.forall_mem_of_all_decide (by decide +kernel) : ∀ b ∈ attnRefs ++ tiles.eraseIdx 4, ∀ w : Fin cfg6.W, Pipeline.arrRef spec6 w = b → (cfg6.win w).isOut = false) b hb)

/-- Call 6's tile. -/
theorem tile6 (H : (args m c).Finite) (h : Fin 12) (r : Fin 256) (e : Fin 64) :
    ((W12 m c (Proc.devRef .tc main_v28) : Vec Ideal S12x256x64 .f32) (ix3 h r e) : EReal) = (args m c).heads h ⟨1024 + r.val, by omega⟩ e :=
  (congrFun (exitOf_arr (cfgs := cfgs) launch6 (dat6 (at' (W11 m))) (W11 m) c (7 : Fin cfg6.W)) _).trans
    (arr6 (at' (W11 m)) c _ _ _ _ _ _ (entry11 m c).q (entry11 m c).k (entry11 m c).v (entry11 m c).ck (entry11 m c).cv (entry11 m c).g (entry11 m c).t
      H.q_isReal H.k_isReal H.ck_isReal h r e)

/-- The next call's entry. -/
theorem entry12 : Entry c (args m c) (W12 m) :=
  (entry11 m c).of_eq c fun b hb => keep6 m c b (List.mem_append_left _ hb)

/-- Call 7 leaves every other buffer of the attention as entered. -/
theorem keep7 : ∀ b ∈ attnRefs ++ tiles.eraseIdx 5, W13 m c (Proc.devRef .tc b) = W12 m c (Proc.devRef .tc b) := fun b hb =>
  exitOf_of (cfgs := cfgs) launch7 _ (W12 m) (A_eq7 (at' (W12 m))) c b
    ((ListAll.forall_mem_of_all_decide (by decide +kernel) : ∀ b ∈ attnRefs ++ tiles.eraseIdx 5, ∀ w : Fin cfg7.W, Pipeline.arrRef spec7 w = b → (cfg7.win w).isOut = false) b hb)

/-- Call 7's tile. -/
theorem tile7 (H : (args m c).Finite) (h : Fin 12) (r : Fin 256) (e : Fin 64) :
    ((W13 m c (Proc.devRef .tc main_v29) : Vec Ideal S12x256x64 .f32) (ix3 h r e) : EReal) = (args m c).heads h ⟨1280 + r.val, by omega⟩ e :=
  (congrFun (exitOf_arr (cfgs := cfgs) launch7 (dat7 (at' (W12 m))) (W12 m) c (7 : Fin cfg7.W)) _).trans
    (arr7 (at' (W12 m)) c _ _ _ _ _ _ (entry12 m c).q (entry12 m c).k (entry12 m c).v (entry12 m c).ck (entry12 m c).cv (entry12 m c).g (entry12 m c).t
      H.q_isReal H.k_isReal H.ck_isReal h r e)

/-- The next call's entry. -/
theorem entry13 : Entry c (args m c) (W13 m) :=
  (entry12 m c).of_eq c fun b hb => keep7 m c b (List.mem_append_left _ hb)

/-- Call 8 leaves every other buffer of the attention as entered. -/
theorem keep8 : ∀ b ∈ attnRefs ++ tiles.eraseIdx 6, W14 m c (Proc.devRef .tc b) = W13 m c (Proc.devRef .tc b) := fun b hb =>
  exitOf_of (cfgs := cfgs) launch8 _ (W13 m) (A_eq8 (at' (W13 m))) c b
    ((ListAll.forall_mem_of_all_decide (by decide +kernel) : ∀ b ∈ attnRefs ++ tiles.eraseIdx 6, ∀ w : Fin cfg8.W, Pipeline.arrRef spec8 w = b → (cfg8.win w).isOut = false) b hb)

/-- Call 8's tile. -/
theorem tile8 (H : (args m c).Finite) (h : Fin 12) (r : Fin 256) (e : Fin 64) :
    ((W14 m c (Proc.devRef .tc main_v30) : Vec Ideal S12x256x64 .f32) (ix3 h r e) : EReal) = (args m c).heads h ⟨1536 + r.val, by omega⟩ e :=
  (congrFun (exitOf_arr (cfgs := cfgs) launch8 (dat8 (at' (W13 m))) (W13 m) c (7 : Fin cfg8.W)) _).trans
    (arr8 (at' (W13 m)) c _ _ _ _ _ _ (entry13 m c).q (entry13 m c).k (entry13 m c).v (entry13 m c).ck (entry13 m c).cv (entry13 m c).g (entry13 m c).t
      H.q_isReal H.k_isReal H.ck_isReal h r e)

/-- The next call's entry. -/
theorem entry14 : Entry c (args m c) (W14 m) :=
  (entry13 m c).of_eq c fun b hb => keep8 m c b (List.mem_append_left _ hb)

/-- Call 9 leaves every other buffer of the attention as entered. -/
theorem keep9 : ∀ b ∈ attnRefs ++ tiles.eraseIdx 7, W15 m c (Proc.devRef .tc b) = W14 m c (Proc.devRef .tc b) := fun b hb =>
  exitOf_of (cfgs := cfgs) launch9 _ (W14 m) (A_eq9 (at' (W14 m))) c b
    ((ListAll.forall_mem_of_all_decide (by decide +kernel) : ∀ b ∈ attnRefs ++ tiles.eraseIdx 7, ∀ w : Fin cfg9.W, Pipeline.arrRef spec9 w = b → (cfg9.win w).isOut = false) b hb)

/-- Call 9's tile. -/
theorem tile9 (H : (args m c).Finite) (h : Fin 12) (r : Fin 256) (e : Fin 64) :
    ((W15 m c (Proc.devRef .tc main_v31) : Vec Ideal S12x256x64 .f32) (ix3 h r e) : EReal) = (args m c).heads h ⟨1792 + r.val, by omega⟩ e :=
  (congrFun (exitOf_arr (cfgs := cfgs) launch9 (dat9 (at' (W14 m))) (W14 m) c (7 : Fin cfg9.W)) _).trans
    (arr9 (at' (W14 m)) c _ _ _ _ _ _ (entry14 m c).q (entry14 m c).k (entry14 m c).v (entry14 m c).ck (entry14 m c).cv (entry14 m c).g (entry14 m c).t
      H.q_isReal H.k_isReal H.ck_isReal h r e)

/-! ## The output projection and the result -/

/-- Before the output projection, `v24` holds its 256 rows of the heads. -/
theorem W15_v24 (H : (args m c).Finite) (h : Fin 12) (r : Fin 256) (e : Fin 64) :
    ((W15 m c (Proc.devRef .tc main_v24) : Vec Ideal S12x256x64 .f32) (ix3 h r e) : EReal) = (args m c).heads h ⟨0 + r.val, by omega⟩ e :=
  (congrFun (keep9 m c main_v24 (by decide +kernel)) _).trans <| (congrFun (keep8 m c main_v24 (by decide +kernel)) _).trans <| (congrFun (keep7 m c main_v24 (by decide +kernel)) _).trans <| (congrFun (keep6 m c main_v24 (by decide +kernel)) _).trans <| (congrFun (keep5 m c main_v24 (by decide +kernel)) _).trans <| (congrFun (keep4 m c main_v24 (by decide +kernel)) _).trans <| (congrFun (keep3 m c main_v24 (by decide +kernel)) _).trans <| tile2 m c H h r e

/-- Before the output projection, `v25` holds its 256 rows of the heads. -/
theorem W15_v25 (H : (args m c).Finite) (h : Fin 12) (r : Fin 256) (e : Fin 64) :
    ((W15 m c (Proc.devRef .tc main_v25) : Vec Ideal S12x256x64 .f32) (ix3 h r e) : EReal) = (args m c).heads h ⟨256 + r.val, by omega⟩ e :=
  (congrFun (keep9 m c main_v25 (by decide +kernel)) _).trans <| (congrFun (keep8 m c main_v25 (by decide +kernel)) _).trans <| (congrFun (keep7 m c main_v25 (by decide +kernel)) _).trans <| (congrFun (keep6 m c main_v25 (by decide +kernel)) _).trans <| (congrFun (keep5 m c main_v25 (by decide +kernel)) _).trans <| (congrFun (keep4 m c main_v25 (by decide +kernel)) _).trans <| tile3 m c H h r e

/-- Before the output projection, `v26` holds its 256 rows of the heads. -/
theorem W15_v26 (H : (args m c).Finite) (h : Fin 12) (r : Fin 256) (e : Fin 64) :
    ((W15 m c (Proc.devRef .tc main_v26) : Vec Ideal S12x256x64 .f32) (ix3 h r e) : EReal) = (args m c).heads h ⟨512 + r.val, by omega⟩ e :=
  (congrFun (keep9 m c main_v26 (by decide +kernel)) _).trans <| (congrFun (keep8 m c main_v26 (by decide +kernel)) _).trans <| (congrFun (keep7 m c main_v26 (by decide +kernel)) _).trans <| (congrFun (keep6 m c main_v26 (by decide +kernel)) _).trans <| (congrFun (keep5 m c main_v26 (by decide +kernel)) _).trans <| tile4 m c H h r e

/-- Before the output projection, `v27` holds its 256 rows of the heads. -/
theorem W15_v27 (H : (args m c).Finite) (h : Fin 12) (r : Fin 256) (e : Fin 64) :
    ((W15 m c (Proc.devRef .tc main_v27) : Vec Ideal S12x256x64 .f32) (ix3 h r e) : EReal) = (args m c).heads h ⟨768 + r.val, by omega⟩ e :=
  (congrFun (keep9 m c main_v27 (by decide +kernel)) _).trans <| (congrFun (keep8 m c main_v27 (by decide +kernel)) _).trans <| (congrFun (keep7 m c main_v27 (by decide +kernel)) _).trans <| (congrFun (keep6 m c main_v27 (by decide +kernel)) _).trans <| tile5 m c H h r e

/-- Before the output projection, `v28` holds its 256 rows of the heads. -/
theorem W15_v28 (H : (args m c).Finite) (h : Fin 12) (r : Fin 256) (e : Fin 64) :
    ((W15 m c (Proc.devRef .tc main_v28) : Vec Ideal S12x256x64 .f32) (ix3 h r e) : EReal) = (args m c).heads h ⟨1024 + r.val, by omega⟩ e :=
  (congrFun (keep9 m c main_v28 (by decide +kernel)) _).trans <| (congrFun (keep8 m c main_v28 (by decide +kernel)) _).trans <| (congrFun (keep7 m c main_v28 (by decide +kernel)) _).trans <| tile6 m c H h r e

/-- Before the output projection, `v29` holds its 256 rows of the heads. -/
theorem W15_v29 (H : (args m c).Finite) (h : Fin 12) (r : Fin 256) (e : Fin 64) :
    ((W15 m c (Proc.devRef .tc main_v29) : Vec Ideal S12x256x64 .f32) (ix3 h r e) : EReal) = (args m c).heads h ⟨1280 + r.val, by omega⟩ e :=
  (congrFun (keep9 m c main_v29 (by decide +kernel)) _).trans <| (congrFun (keep8 m c main_v29 (by decide +kernel)) _).trans <| tile7 m c H h r e

/-- Before the output projection, `v30` holds its 256 rows of the heads. -/
theorem W15_v30 (H : (args m c).Finite) (h : Fin 12) (r : Fin 256) (e : Fin 64) :
    ((W15 m c (Proc.devRef .tc main_v30) : Vec Ideal S12x256x64 .f32) (ix3 h r e) : EReal) = (args m c).heads h ⟨1536 + r.val, by omega⟩ e :=
  (congrFun (keep9 m c main_v30 (by decide +kernel)) _).trans <| tile8 m c H h r e

/-- Before the output projection, `v31` holds its 256 rows of the heads. -/
theorem W15_v31 (H : (args m c).Finite) (h : Fin 12) (r : Fin 256) (e : Fin 64) :
    ((W15 m c (Proc.devRef .tc main_v31) : Vec Ideal S12x256x64 .f32) (ix3 h r e) : EReal) = (args m c).heads h ⟨1792 + r.val, by omega⟩ e :=
  tile9 m c H h r e

/-- The last call leaves the result. -/
theorem W17_v34 (H : (args m c).Finite) (i : Fin 2048) (n : Fin 768) :
    ((W17 m c (Proc.devRef .tc main_v34) : Vec Ideal S2048x768 .f32) (ix2 i n) : EReal) = (args m c).result i n :=
  (congrFun (exitOf_arr (cfgs := cfgs) launch10 (dat10 (at' (W16 m))) (W16 m) c (2 : Fin cfg10.W)) _).trans
    (arr10_2 (at' (W16 m)) c (args m c).heads (args m c).wo
      (fun h i e => host10_v32 _ (args m c).heads (W15_v24 m c H) (W15_v25 m c H) (W15_v26 m c H) (W15_v27 m c H) (W15_v28 m c H) (W15_v29 m c H) (W15_v30 m c H) (W15_v31 m c H) h i e)
      (fun f n => (host10_v33 _ f n).trans (congrFun (W15_arg m c main_arg12 (by decide +kernel)) _)) i n)

/-- The kernel's result, an element at a time. -/
theorem result_at (H : (args m c).Finite) (i : Fin 2048) (n : Fin 768) :
    ((W18 m c (Proc.devRef .tc main_v35) : Vec Ideal S1x2048x768 .f32) (ix3 0 i n) : EReal) = (args m c).result i n :=
  (host11_v35 _ i n).trans (W17_v34 m c H i n)

end Cert.KernelIdeal.Run
-- ==== Proof.Value.Ref0.lean ====
module

public import Idealize.ShloMosaic.Lib.Pointwise
public import Idealize.ShloMosaic.Lib.WordCmp
public import Idealize.ShloMosaic.Lib.Tactic.CleanTypes
public import proofs.«01_k».proof.Proof.Gen.ReferenceIdeal.Run
public import proofs.«01_k».proof.Proof.Value.Spec

/-!
# The reference's projections

Its normalised rows, queries, keys, values and gates, an element at a time.
-/

@[expose] public section

set_option maxRecDepth 16384

noncomputable section

namespace Cert.ReferenceIdeal.Value

open Idealize.ShloMosaic Idealize.ShloMosaic.TcCoe Idealize.ShloMosaic.Tactic
open Cert.ReferenceIdeal Cert.ReferenceIdeal.Gen SparseAttn

variable (V : Valuation τ sig (Elt Ideal))

/-- The arguments by coordinates, read off the buffers. -/
def args : Args where
  x i d := (V (Proc.devRef .tc main_arg0) : Vec Ideal S1x2048x768 .f32) (ix3 0 i d)
  g d := (V (Proc.devRef .tc main_arg1) : Vec Ideal S768 .f32) (ix1 d)
  wq d n := (V (Proc.devRef .tc main_arg2) : Vec Ideal S768x768 .f32) (ix2 d n)
  wk d n := (V (Proc.devRef .tc main_arg3) : Vec Ideal S768x768 .f32) (ix2 d n)
  wv d n := (V (Proc.devRef .tc main_arg4) : Vec Ideal S768x768 .f32) (ix2 d n)
  kpe h i e := (V (Proc.devRef .tc main_arg5) : Vec Ideal S12x16x64 .f32) (ix3 h i e)
  vpe h i e := (V (Proc.devRef .tc main_arg6) : Vec Ideal S12x16x64 .f32) (ix3 h i e)
  wck h f e := (V (Proc.devRef .tc main_arg7) : Vec Ideal S12x1024x64 .f32) (ix3 h f e)
  wcv h f e := (V (Proc.devRef .tc main_arg8) : Vec Ideal S12x1024x64 .f32) (ix3 h f e)
  mem a h e := (V (Proc.devRef .tc main_arg9) : Vec Ideal S2x12x1x64 .f32) (ix4 a h 0 e)
  wc d n := (V (Proc.devRef .tc main_arg10) : Vec Ideal S768x36 .f32) (ix2 d n)
  bc n := (V (Proc.devRef .tc main_arg11) : Vec Ideal S36 .f32) (ix1 n)
  wo f n := (V (Proc.devRef .tc main_arg12) : Vec Ideal S768x768 .f32) (ix2 f n)

/-- The normalised rows. -/
theorem v12_at (i : Fin 2048) (d : Fin 768) :
    ((res_main_v12 V : Vec Ideal S1x2048x768 .f32) (ix3 0 i d) : EReal) = normRow ((args V).x i) (args V).g d := by
  unfold res_main_v12
  clean_types
  pointwise
  rfl

/-- The heads of a projection. -/
theorem v15_at (h : Fin 12) (i : Fin 2048) (e : Fin 64) :
    ((res_main_v15 V : Vec Ideal S1x12x2048x64 .f32) (ix4 0 h i e) : EReal) = (args V).q0 h i e := by
  unfold res_main_v15
  clean_types
  pointwise
  simp only [v12_at]
  rfl

/-- The heads of a projection. -/
theorem v18_at (h : Fin 12) (i : Fin 2048) (e : Fin 64) :
    ((res_main_v18 V : Vec Ideal S1x12x2048x64 .f32) (ix4 0 h i e) : EReal) = (args V).k h i e := by
  unfold res_main_v18
  clean_types
  pointwise
  simp only [v12_at]
  rfl

/-- The heads of a projection. -/
theorem v21_at (h : Fin 12) (i : Fin 2048) (e : Fin 64) :
    ((res_main_v21 V : Vec Ideal S1x12x2048x64 .f32) (ix4 0 h i e) : EReal) = (args V).v h i e := by
  unfold res_main_v21
  clean_types
  pointwise
  simp only [v12_at]
  rfl

/-- The gates. -/
theorem v180_at (a : Fin 3) (h : Fin 12) (i : Fin 2048) :
    ((res_main_v180 V : Vec Ideal S3x1x12x2048x1 .f32) (ix5 a 0 h i 0) : EReal) = (args V).gate a h i := by
  unfold res_main_v180
  clean_types
  pointwise
  simp only [v12_at, Ideal.ofBits_one_f32]
  rfl

end Cert.ReferenceIdeal.Value
-- ==== Proof.Value.Ref1.lean ====
module

public import proofs.«01_k».proof.Proof.Value.Ref0
public import proofs.«01_k».proof.Proof.Value.Tile

/-!
# The reference's gathers

The windows of rows it compresses, and the blocks' gates it spreads over the keys, an element at a time.
-/

@[expose] public section

set_option maxRecDepth 16384

noncomputable section

namespace Cert.ReferenceIdeal.Value

open Idealize.ShloMosaic Idealize.ShloMosaic.TcCoe Idealize.ShloMosaic.Tactic
open Cert.ReferenceIdeal Cert.ReferenceIdeal.Gen SparseAttn

variable (V : Valuation τ sig (Elt Ideal))

/-- The windows' gather reads, at window `a` and offset `b`, the row that the index array names. -/
theorem gather_rows (x : Vec Ideal S1x12x2048x64 .f32) (idx : IVec S255x16x1 32) (h : Fin 12) (a : Fin 255) (b : Fin 16) (e : Fin 64) (r : Fin 2048)
    (hr : idx (ix3 a b 0) = BitVec.ofNat 32 r.val) :
    Host.gather gather_S1x12x2048x64_S255x16x1_S1x12x255x16x64_014_2_n_n_2_2_112164 x idx (ix5 0 h a b e) = x (ix4 0 h r e) := by
  unfold Host.gather
  congr 1
  funext c
  apply Fin.ext
  have hs : ∀ j, gather_S1x12x2048x64_S255x16x1_S1x12x255x16x64_014_2_n_n_2_2_112164.siIdx (ix5 0 h a b e) j = ix3 a b 0 := by
    intro j
    funext c
    fin_cases c
    · rfl
    · rfl
    · exact Subsingleton.elim (α := Fin 1) _ _
  have hv : min (idx (ix3 a b 0)).toInt.toNat 2047 = r.val := by
    rw [hr, WordCmp.toInt_ofNat_of_lt (by have := r.isLt; omega)]
    have := r.isLt
    omega
  have key : ∀ c, gather_S1x12x2048x64_S255x16x1_S1x12x255x16x64_014_2_n_n_2_2_112164.start (ix5 0 h a b e) idx c +
      gather_S1x12x2048x64_S255x16x1_S1x12x255x16x64_014_2_n_n_2_2_112164.batchCoord (ix5 0 h a b e) c +
      gather_S1x12x2048x64_S255x16x1_S1x12x255x16x64_014_2_n_n_2_2_112164.offCoord (ix5 0 h a b e) c = (ix4 0 h r e c).val := by
    intro c
    fin_cases c
    · rfl
    · exact (Nat.zero_add _)
    · refine (show min (idx (gather_S1x12x2048x64_S255x16x1_S1x12x255x16x64_014_2_n_n_2_2_112164.siIdx (ix5 0 h a b e) _)).toInt.toNat 2047 + 0 + 0 = r.val from ?_)
      rw [hs, hv]; rfl
    · exact (Nat.zero_add _)
  exact key c

/-- The keys' gather reads, at key `j`, the block that the index array names. -/
theorem gather_blocks (x : Vec Ideal S1x12x2048x128 .f32) (idx : IVec S2048x1 32) (h : Fin 12) (i j : Fin 2048) (r : Fin 128)
    (hr : idx (ix2 j 0) = BitVec.ofNat 32 r.val) :
    Host.gather gather_S1x12x2048x128_S2048x1_S1x12x2048x2048_012_3_n_n_3_1_11220481 x idx (ix4 0 h i j) = x (ix4 0 h i r) := by
  unfold Host.gather
  congr 1
  funext c
  apply Fin.ext
  have hs : ∀ k, gather_S1x12x2048x128_S2048x1_S1x12x2048x2048_012_3_n_n_3_1_11220481.siIdx (ix4 0 h i j) k = ix2 j 0 := by
    intro k
    funext c
    fin_cases c
    · rfl
    · exact Subsingleton.elim (α := Fin 1) _ _
  have hv : min (idx (ix2 j 0)).toInt.toNat 127 = r.val := by
    rw [hr, WordCmp.toInt_ofNat_of_lt (by have := r.isLt; omega)]
    have := r.isLt
    omega
  have key : ∀ c, gather_S1x12x2048x128_S2048x1_S1x12x2048x2048_012_3_n_n_3_1_11220481.start (ix4 0 h i j) idx c +
      gather_S1x12x2048x128_S2048x1_S1x12x2048x2048_012_3_n_n_3_1_11220481.batchCoord (ix4 0 h i j) c +
      gather_S1x12x2048x128_S2048x1_S1x12x2048x2048_012_3_n_n_3_1_11220481.offCoord (ix4 0 h i j) c = (ix4 0 h i r c).val := by
    intro c
    fin_cases c
    · rfl
    · exact (Nat.zero_add _)
    · exact (Nat.zero_add _)
    · refine (show min (idx (gather_S1x12x2048x128_S2048x1_S1x12x2048x2048_012_3_n_n_3_1_11220481.siIdx (ix4 0 h i j) _)).toInt.toNat 127 + 0 + 0 = r.val from ?_)
      rw [hs, hv]; rfl
  exact key c

end Cert.ReferenceIdeal.Value
-- ==== Proof.Value.Ref2.lean ====
module

public import Idealize.ShloMosaic.Lib.Tactic.WordOmega
public import proofs.«01_k».proof.Proof.Value.Ref1
public import proofs.«01_k».proof.Proof.Value.Attn

/-!
# The reference's compressed branch

The compressed keys and values, the branch's scores, probabilities and the blocks' importance, an element at a time.
-/

@[expose] public section

set_option maxRecDepth 16384

noncomputable section

namespace Cert.ReferenceIdeal.Value

open Idealize.ShloMosaic Idealize.ShloMosaic.TcCoe Idealize.ShloMosaic.Tactic
open Cert.ReferenceIdeal Cert.ReferenceIdeal.Gen SparseAttn

variable (V : Valuation τ sig (Elt Ideal))

/-- The start of a window. -/
theorem v24_at (a : Fin 255) : (res_main_v24 V : IVec S255 32) (ix1 a) = BitVec.ofNat 32 (8 * a.val) := by
  unfold res_main_v24
  clean_types
  pointwise
  show BitVec.ofNat 32 a.val * BitVec.ofNat 32 8 = _
  rw [← BitVec.ofNat_mul, Nat.mul_comm]

/-- The row at an offset of a window. -/
theorem v30_at (a : Fin 255) (b : Fin 16) : (res_main_v30 V : IVec S255x16 32) (ix2 a b) = BitVec.ofNat 32 (8 * a.val + b.val) := by
  unfold res_main_v30
  clean_types
  pointwise
  rw [v24_at]
  word_omega

/-- The row number that a window's gather is given. -/
def rowIdx : IVec S255x16x1 32 :=
  broadcastInDim S255x16x1 ![0, 1] bcast_S255x16_S255x16x1_0_1 (select (cmpi .slt (res_main_v30 V) (broadcastInDim S255x16 ![] bcast_S_S255x16 (constantI S_ 32 0#32))) (addi (res_main_v30 V) (broadcastInDim S255x16 ![] bcast_S_S255x16 (constantI S_ 32 2048#32))) (res_main_v30 V))

/-- The reference's row index: block `a`'s row `b` is row `8 a + b`. -/
theorem rowIdx_at (a : Fin 255) (b : Fin 16) : rowIdx V (ix3 a b 0) = BitVec.ofNat 32 (8 * a.val + b.val) := by
  unfold rowIdx
  clean_types
  pointwise
  rw [v30_at]
  rw [show (0#32 : BitVec 32) = BitVec.ofNat 32 0 from rfl, WordCmp.cmpi_slt_ofNat (w := 32) (by omega) (by omega)]
  rw [decide_eq_false (by omega)]
  rfl

/-- The compressed rows, from the rows, the memory row, the compression matrices and the position embeddings. -/
def rows (x : FVec Ideal S1x12x2048x64 .f32) (mm : FVec Ideal S1x12x1x64 .f32) (w : FVec Ideal S12x1024x64 .f32) (pe : FVec Ideal S12x16x64 .f32) : Vec Ideal S1x12x256x64 .f32 :=
  concatenate S1x12x256x64 2 [⟨S1x12x1x64, (broadcastInDim S1x12x1x64 ![1, 2, 3] bcast_S12x1x64_S1x12x1x64_1_2_3 (shapeCast S12x1x64 mm shapeCasts_S1x12x1x64_S12x1x64))⟩, ⟨S1x12x255x64, (transpose S1x12x255x64 [2, 0, 3, 1] (Host.dotGeneral dot_S12x1024x64_S1x12x255x1024_S12x64x1x255_1_3_2_02_0_1 none w (shapeCast S1x12x255x1024 (addf (Host.gather gather_S1x12x2048x64_S255x16x1_S1x12x255x16x64_014_2_n_n_2_2_112164 x (rowIdx V)) (broadcastInDim S1x12x255x16x64 ![0, 1, 2, 3, 4] bcast_S1x12x1x16x64_S1x12x255x16x64_0_1_2_3_4 (broadcastInDim S1x12x1x16x64 ![1, 3, 4] bcast_S12x16x64_S1x12x1x16x64_1_3_4 pe))) shapeCasts_S1x12x255x16x64_S1x12x255x1024)) transposes_S12x64x1x255_S1x12x255x64_2_0_3_1)⟩] concatenates_S1x12x1x64_S1x12x255x64_S1x12x256x64_d2

/-- A compressed row's element. -/
theorem rows_at (x : FVec Ideal S1x12x2048x64 .f32) (mm : FVec Ideal S1x12x1x64 .f32) (w : FVec Ideal S12x1024x64 .f32) (pe : FVec Ideal S12x16x64 .f32)
    (k : Fin 12 → Fin 2048 → Fin 64 → EReal) (hk : ∀ h i e, (x (ix4 0 h i e) : EReal) = k h i e) (h : Fin 12) (c : Fin 256) (e : Fin 64) :
    (rows V x mm w pe (ix4 0 h c e) : EReal) =
      comp k (fun h i e => pe (ix3 h i e)) (fun h f e => w (ix3 h f e)) (fun h e => mm (ix4 0 h 0 e)) h c e := by
  unfold rows
  pointwise
  unfold comp
  by_cases hc : c.val = 0
  · exact (dif_pos (by omega : c.val < 1)).trans (if_pos hc).symm
  · refine (dif_neg (by omega : ¬ c.val < 1)).trans (Eq.trans ?_ (if_neg hc).symm)
    refine Finset.sum_congr rfl fun f _ => ?_
    rw [gather_rows _ _ h _ _ _ ⟨8 * (c.val - 1) + f.val / 64, by omega⟩ (rowIdx_at V _ _), hk]
    exact mul_comm _ _

/-- The compressed keys' element. -/
theorem keys_at (h : Fin 12) (c : Fin 256) (e : Fin 64) :
    (rows V (res_main_v18 V) (extractStridedSlice S1x12x1x64 ![0, 0, 0, 0] (V (Proc.devRef .tc main_arg9)) slices_S2x12x1x64_S1x12x1x64_0_0_0_0) (V (Proc.devRef .tc main_arg7)) (V (Proc.devRef .tc main_arg5)) (ix4 0 h c e) : EReal) = (args V).ck h c e :=
  (rows_at V _ _ _ _ (args V).k (v18_at V) h c e).trans (by
    unfold Args.ck
    congr 1
    funext h e
    clean_types
    pointwise
    rfl)

/-- The compressed values' element. -/
theorem values_at (h : Fin 12) (c : Fin 256) (e : Fin 64) :
    (rows V (res_main_v21 V) (extractStridedSlice S1x12x1x64 ![1, 0, 0, 0] (V (Proc.devRef .tc main_arg9)) slices_S2x12x1x64_S1x12x1x64_1_0_0_0) (V (Proc.devRef .tc main_arg8)) (V (Proc.devRef .tc main_arg6)) (ix4 0 h c e) : EReal) = (args V).cv h c e :=
  (rows_at V _ _ _ _ (args V).v (v21_at V) h c e).trans (by
    unfold Args.cv
    congr 1
    funext h e
    clean_types
    pointwise
    rfl)

end Cert.ReferenceIdeal.Value
-- ==== Proof.Value.Ref3.lean ====
module

public import proofs.«01_k».proof.Proof.Value.Ref2

/-!
# The reference's compressed probabilities

The masked scores of the compressed branch, the probabilities, and the blocks' importance, an element at a time.
-/

@[expose] public section

set_option maxRecDepth 16384

noncomputable section

namespace Cert.ReferenceIdeal.Value

open Idealize.ShloMosaic Idealize.ShloMosaic.TcCoe Idealize.ShloMosaic.Tactic
open Cert.ReferenceIdeal Cert.ReferenceIdeal.Gen SparseAttn

variable (V : Valuation τ sig (Elt Ideal))

/-- The compressed branch's scores. -/
def _root_.SparseAttn.Args.cscore (A : Args) (h : Fin 12) (i : Fin 2048) (c : Fin 256) : EReal := ∑ d, A.q h i d * A.ck h c d

/-- The other branches' scores. -/
def _root_.SparseAttn.Args.score (A : Args) (h : Fin 12) (i j : Fin 2048) : EReal := ∑ d, A.q h i d * A.k h j d

/-- Finite arguments give real scores. -/
theorem _root_.SparseAttn.Args.Finite.cscore_isReal {A : Args} (H : A.Finite) (h : Fin 12) (i : Fin 2048) (c : Fin 256) : IsReal (A.cscore h i c) :=
  IsReal.sum _ _ fun d => IsReal.mul (H.q_isReal h i d) (H.ck_isReal h c d)

/-- Finite arguments give real scores. -/
theorem _root_.SparseAttn.Args.Finite.score_isReal {A : Args} (H : A.Finite) (h : Fin 12) (i j : Fin 2048) : IsReal (A.score h i j) :=
  IsReal.sum _ _ fun d => IsReal.mul (H.q_isReal h i d) (H.k_isReal h j d)

/-- Scaling the sum is scaling the queries. -/
theorem _root_.SparseAttn.Args.Finite.cscore_eq {A : Args} (H : A.Finite) (h : Fin 12) (i : Fin 2048) (c : Fin 256) :
    (∑ d, A.q0 h i d * A.ck h c d) * scale = A.cscore h i c :=
  (scale_out (fun d => A.q0 h i d) (fun d => A.ck h c d) scale (H.q0_isReal h i) (H.ck_isReal h c) scale_isReal).symm

/-- Scaling the sum is scaling the queries. -/
theorem _root_.SparseAttn.Args.Finite.score_eq {A : Args} (H : A.Finite) (h : Fin 12) (i j : Fin 2048) :
    (∑ d, A.q0 h i d * A.k h j d) * scale = A.score h i j :=
  (scale_out (fun d => A.q0 h i d) (fun d => A.k h j d) scale (H.q0_isReal h i) (H.k_isReal h j) scale_isReal).symm

/-- A position's number. -/
theorem v69_at (i : Fin 2048) : (res_main_v69 V : IVec S2048x1 32) (ix2 i 0) = BitVec.ofNat 32 i.val := by
  unfold res_main_v69
  clean_types
  pointwise

open scoped Classical in
/-- The compressed branch's mask. -/
theorem cmaskBit (i : Fin 2048) (c : Fin 256) :
    (if c.val < 1 then 1#1 else IntOp.cmpi .sle (IntOp.subi (IntOp.addi (BitVec.ofNat 32 (8 * (c.val - 1))) 16#32) 1#32) (BitVec.ofNat 32 i.val)) =
      BitVec.ofBool (decide (cmask i.val c.val)) := by
  by_cases hc : c.val < 1
  · rw [if_pos hc, decide_eq_true (show cmask i.val c.val from .inl (by omega))]; rfl
  · rw [if_neg hc, show IntOp.subi (IntOp.addi (BitVec.ofNat 32 (8 * (c.val - 1))) 16#32) 1#32 = BitVec.ofNat 32 (8 * (c.val - 1) + 15) from by
      show BitVec.ofNat 32 (8 * (c.val - 1)) + 16#32 - 1#32 = _
      word_omega,
      WordCmp.cmpi_sle_ofNat (w := 32) (by omega) (by omega)]
    refine congrArg BitVec.ofBool (decide_eq_decide.mpr ?_)
    unfold cmask
    omega

open scoped Classical in
/-- The compressed branch's masked scores. -/
theorem v81_at (H : (args V).Finite) (h : Fin 12) (i : Fin 2048) (c : Fin 256) :
    ((res_main_v81 V : Vec Ideal S1x12x2048x256 .f32) (ix4 0 h i c) : EReal) = masked (fun c : Fin 256 => cmask i.val c.val) ((args V).cscore h i) c := by
  unfold res_main_v81
  clean_types
  generalize hck : concatenate S1x12x256x64 2 _ _ = ck
  have hk : ∀ c d, (ck (ix4 0 h c d) : EReal) = (args V).ck h c d := fun c d => (congrFun hck.symm _).trans (keys_at V h c d)
  clear hck
  pointwise
  rw [Finset.sum_congr rfl fun d _ => by rw [hk, v15_at]]
  simp only [v24_at, v69_at]
  refine (congrArg (fun w => Scalar.select w _ _) (cmaskBit i c)).trans ?_
  rw [WordCmp.select_decide]
  unfold masked
  refine ite_congr rfl (fun _ => H.cscore_eq h i c) fun _ => ofBits_negInf

/-- A maximum with −∞ changes nothing. -/
theorem max_negInf (x y : FVec Ideal S1x12x2048 .f32) (i : S1x12x2048.Idx) (h : x i = (⊥ : EReal)) : (maximumf x y i : EReal) = y i := by
  show max (x i : EReal) (y i) = y i
  rw [h, bot_sup_eq]

/-- The constant −∞, spread. -/
theorem negInf_at (i : S1x12x2048.Idx) : (broadcastInDim S1x12x2048 ![] bcast_S_S1x12x2048 (constant S_ .f32 0xFF800000#32) : FVec Ideal S1x12x2048 .f32) i = (⊥ : EReal) :=
  (rfl : _ = Ideal.ofBits .f32 0xFF800000#32).trans ofBits_negInf

/-- A row's maximum. -/
theorem rowMax256 (x : FVec Ideal S1x12x2048x256 .f32) (h : Fin 12) (i : Fin 2048) :
    Host.reduce FloatOps.maximumf x (constant S_ .f32 0xFF800000#32) reducesTo_S1x12x2048x256_S1x12x2048_d3 h_S_ (ix3 0 h i) = rowMax fun k => x (ix4 0 h i k) := by
  simp only [pointwise]
  rfl

/-- A row's exponentials, its maximum taken off. -/
theorem exp256 (x : FVec Ideal S1x12x2048x256 .f32) (h : Fin 12) (i : Fin 2048) (s : Fin 256 → EReal) (hs : ∀ c, (x (ix4 0 h i c) : EReal) = s c) (c : Fin 256) :
    (Host.exp (subf x (broadcastInDim S1x12x2048x256 ![0, 1, 2, 3] bcast_S1x12x2048x1_S1x12x2048x256_0_1_2_3 (broadcastInDim S1x12x2048x1 ![0, 1, 2] bcast_S1x12x2048_S1x12x2048x1_0_1_2 (maximumf (broadcastInDim S1x12x2048 ![] bcast_S_S1x12x2048 (constant S_ .f32 0xFF800000#32)) (Host.reduce FloatOps.maximumf x (constant S_ .f32 0xFF800000#32) reducesTo_S1x12x2048x256_S1x12x2048_d3 h_S_))))) (ix4 0 h i c) : EReal) =
      Ideal.exp (s c - rowMax s) := by
  have hm := ((max_negInf _ _ _ (negInf_at _)).trans (rowMax256 x h i)).trans (congrArg rowMax (funext hs))
  generalize maximumf (F := Ideal) (φ := .f32) (broadcastInDim S1x12x2048 ![] bcast_S_S1x12x2048 (constant S_ .f32 0xFF800000#32)) (Host.reduce FloatOps.maximumf x (constant S_ .f32 0xFF800000#32) reducesTo_S1x12x2048x256_S1x12x2048_d3 h_S_) = mx at hm ⊢
  pointwise
  rw [hs, hm]

/-- A row's maximum. -/
theorem rowMax2048 (x : FVec Ideal S1x12x2048x2048 .f32) (h : Fin 12) (i : Fin 2048) :
    Host.reduce FloatOps.maximumf x (constant S_ .f32 0xFF800000#32) reducesTo_S1x12x2048x2048_S1x12x2048_d3 h_S_ (ix3 0 h i) = rowMax fun k => x (ix4 0 h i k) := by
  simp only [pointwise]
  rfl

/-- A row's exponentials, its maximum taken off. -/
theorem exp2048 (x : FVec Ideal S1x12x2048x2048 .f32) (h : Fin 12) (i : Fin 2048) (s : Fin 2048 → EReal) (hs : ∀ c, (x (ix4 0 h i c) : EReal) = s c) (c : Fin 2048) :
    (Host.exp (subf x (broadcastInDim S1x12x2048x2048 ![0, 1, 2, 3] bcast_S1x12x2048x1_S1x12x2048x2048_0_1_2_3 (broadcastInDim S1x12x2048x1 ![0, 1, 2] bcast_S1x12x2048_S1x12x2048x1_0_1_2 (maximumf (broadcastInDim S1x12x2048 ![] bcast_S_S1x12x2048 (constant S_ .f32 0xFF800000#32)) (Host.reduce FloatOps.maximumf x (constant S_ .f32 0xFF800000#32) reducesTo_S1x12x2048x2048_S1x12x2048_d3 h_S_))))) (ix4 0 h i c) : EReal) =
      Ideal.exp (s c - rowMax s) := by
  have hm := ((max_negInf _ _ _ (negInf_at _)).trans (rowMax2048 x h i)).trans (congrArg rowMax (funext hs))
  generalize maximumf (F := Ideal) (φ := .f32) (broadcastInDim S1x12x2048 ![] bcast_S_S1x12x2048 (constant S_ .f32 0xFF800000#32)) (Host.reduce FloatOps.maximumf x (constant S_ .f32 0xFF800000#32) reducesTo_S1x12x2048x2048_S1x12x2048_d3 h_S_) = mx at hm ⊢
  pointwise
  rw [hs, hm]

/-- The compressed branch's exponentials. -/
theorem v88_at (h : Fin 12) (i : Fin 2048) (s : Fin 256 → EReal) (hs : ∀ c, ((res_main_v81 V : Vec Ideal S1x12x2048x256 .f32) (ix4 0 h i c) : EReal) = s c) (c : Fin 256) :
    ((res_main_v88 V : Vec Ideal S1x12x2048x256 .f32) (ix4 0 h i c) : EReal) = Ideal.exp (s c - rowMax s) := by
  unfold res_main_v88
  exact exp256 (res_main_v81 V) h i s hs c

/-- The compressed branch's probabilities. -/
theorem v92_at (H : (args V).Finite) (h : Fin 12) (i : Fin 2048) (c : Fin 256) :
    ((res_main_v92 V : Vec Ideal S1x12x2048x256 .f32) (ix4 0 h i c) : EReal) = cprob ((args V).cscore h i) i.val c := by
  unfold res_main_v92
  clean_types
  pointwise
  simp only [v88_at V h i _ (v81_at V H h i)]
  unfold cprob softmax
  with_reducible rfl

/-- The blocks' importance. -/
theorem v97_at (H : (args V).Finite) (h : Fin 12) (i : Fin 2048) (b : Fin 128) :
    ((res_main_v97 V : Vec Ideal S1x12x2048x128 .f32) (ix4 0 h i b) : EReal) = impOf (cprob ((args V).cscore h i) i.val) b := by
  unfold res_main_v97
  clean_types
  pointwise
  simp only [v92_at V H]
  generalize cprob ((args V).cscore h i) i.val = p
  rw [Fin.sum_univ_two]
  unfold impOf
  refine congrArg₂ (· + ·) ?_ ?_
  · refine (dif_pos (show b.val * 2 + 0 < 255 by omega)).trans (congrArg p (Fin.ext ?_))
    show 1 + (b.val * 2 + 0) = 2 * b.val + 1
    omega
  · by_cases hb : b.val < 127
    · refine (dif_pos (show b.val * 2 + 1 < 255 by omega)).trans ((congrArg p (Fin.ext ?_)).trans (dif_pos (c := b.val < 127) (t := fun h => p ⟨2 * b.val + 2, by omega⟩) (e := fun _ => 0) hb).symm)
      show 1 + (b.val * 2 + 1) = 2 * b.val + 2
      omega
    · refine (dif_neg (show ¬ b.val * 2 + 1 < 255 by omega)).trans (Eq.trans ?_ (dif_neg hb).symm)
      show (((0#32 : BitVec 32).toInt : ℝ) : EReal) = 0
      simp

end Cert.ReferenceIdeal.Value
-- ==== Proof.Value.Ref4.lean ====
module

public import proofs.«01_k».proof.Proof.Value.Ref3

/-!
# The reference's selection

The four most important blocks, and the gates spread over the keys, an element at a time.
-/

@[expose] public section

set_option maxRecDepth 16384

noncomputable section

namespace Cert.ReferenceIdeal.Value

open Idealize.ShloMosaic Idealize.ShloMosaic.TcCoe Idealize.ShloMosaic.Tactic
open Cert.ReferenceIdeal Cert.ReferenceIdeal.Gen SparseAttn

variable (V : Valuation τ sig (Elt Ideal))

/-- Strictly greater, as the sort asks it. -/
theorem gtBit (x y : EReal) : (FloatOps.cmpfTotal (F := Ideal) (φ := .f32) .gt x y == 1#1) = decide (y < x) := by
  show (BitVec.ofBool (decide (y < x)) == 1#1) = _
  by_cases h : y < x
  · rw [decide_eq_true h]; rfl
  · rw [decide_eq_false h]; rfl

/-- The block at place `k` in the order of importance. -/
def place (f : Fin 128 → EReal) (k : Fin 4) : Fin 128 := sortedFrom (above f) ⟨k.val, by omega⟩

/-- The sort's comparison of two entries of one row. -/
theorem order_eq (x : FVec Ideal S1x12x2048x128 .f32) (h : Fin 12) (i : Fin 2048) (f : Fin 128 → EReal) (hx : ∀ b, (x (ix4 0 h i b) : EReal) = f b) :
    (fun k k' : Fin 128 => FloatOps.cmpfTotal (F := Ideal) (φ := .f32) .gt (x (ix4 0 h i k)) (x (ix4 0 h i k')) == 1#1) = above f := by
  funext k k'
  rw [gtBit, hx, hx]
  unfold above
  exact decide_eq_decide.mpr Iff.rfl

/-- Moving along the last dimension. -/
theorem along_last (h : Fin 12) (i : Fin 2048) (k b : Fin 128) : (ix4 0 h i k : S1x12x2048x128.Idx).along (3 : Fin 4) b = ix4 0 h i b := by
  funext a
  fin_cases a <;> rfl

/-- The order in which the sort puts the row that index `(0, h, i, k)` lies in. -/
def sortRow (x : FVec Ideal S1x12x2048x128 .f32) (h : Fin 12) (i : Fin 2048) (k : Fin 128) : Fin 128 → Fin 128 :=
  sortedFrom fun p q : Fin 128 => FloatOps.cmpfTotal (F := Ideal) (φ := .f32) .gt (x ((ix4 0 h i k : S1x12x2048x128.Idx).along (3 : Fin 4) p)) (x ((ix4 0 h i k : S1x12x2048x128.Idx).along (3 : Fin 4) q)) == 1#1

/-- It is the row's order from the greatest on. -/
theorem sortRow_eq (x : FVec Ideal S1x12x2048x128 .f32) (h : Fin 12) (i : Fin 2048) (f : Fin 128 → EReal) (hx : ∀ b, (x (ix4 0 h i b) : EReal) = f b) (k : Fin 128) :
    sortRow x h i k = sortedFrom (above f) := by
  refine congrArg sortedFrom (Eq.trans ?_ (order_eq x h i f hx))
  funext p q
  rw [along_last, along_last]

/-- The slice's index. -/
theorem slice_ix (h : Fin 12) (i : Fin 2048) (k : Fin 4) (p : ∀ a : Fin 4, 0 + (ix4 0 h i k : S1x12x2048x4.Idx) a < S1x12x2048x128.size a) :
    (fun a : Fin 4 => (⟨0 + (ix4 0 h i k : S1x12x2048x4.Idx) a, p a⟩ : Fin (S1x12x2048x128.size a))) = (ix4 0 h i (⟨k.val, by omega⟩ : Fin 128) : S1x12x2048x128.Idx) := by
  funext a
  fin_cases a <;> exact Fin.ext (Nat.zero_add _)

/-- The four greatest values and their places are the sort's first four. -/
theorem topK_at (x : FVec Ideal S1x12x2048x128 .f32) (h : Fin 12) (i : Fin 2048) (k : Fin 4) :
    ((Host.topK S1x12x2048x4 3 (FloatOps.cmpfTotal (F := Ideal) (φ := .f32) .gt) x sliceFits_S1x12x2048x128_S1x12x2048x4).1 (ix4 0 h i k) =
      (Host.sort2 S1x12x2048x128 3 (fun l r => FloatOps.cmpfTotal (F := Ideal) (φ := .f32) .gt l.1 r.1) x (iotaInDim S1x12x2048x128 32 3)).1 (ix4 0 h i ⟨k.val, by omega⟩)) ∧
    ((Host.topK S1x12x2048x4 3 (FloatOps.cmpfTotal (F := Ideal) (φ := .f32) .gt) x sliceFits_S1x12x2048x128_S1x12x2048x4).2 (ix4 0 h i k) =
      (Host.sort2 S1x12x2048x128 3 (fun l r => FloatOps.cmpfTotal (F := Ideal) (φ := .f32) .gt l.1 r.1) x (iotaInDim S1x12x2048x128 32 3)).2 (ix4 0 h i ⟨k.val, by omega⟩)) :=
  have e := slice_ix h i k fun a => Nat.lt_of_lt_of_le (Nat.add_lt_add_left ((ix4 0 h i k : S1x12x2048x4.Idx) a).isLt 0) (sliceFits_S1x12x2048x128_S1x12x2048x4.2 a)
  ⟨congrArg (Host.sort2 S1x12x2048x128 3 (fun l r => FloatOps.cmpfTotal (F := Ideal) (φ := .f32) .gt l.1 r.1) x (iotaInDim S1x12x2048x128 32 3)).1 e,
    congrArg (Host.sort2 S1x12x2048x128 3 (fun l r => FloatOps.cmpfTotal (F := Ideal) (φ := .f32) .gt l.1 r.1) x (iotaInDim S1x12x2048x128 32 3)).2 e⟩

/-- The four greatest values. -/
theorem topK_values (x : FVec Ideal S1x12x2048x128 .f32) (h : Fin 12) (i : Fin 2048) (f : Fin 128 → EReal) (hx : ∀ b, (x (ix4 0 h i b) : EReal) = f b) (k : Fin 4) :
    ((Host.topK S1x12x2048x4 3 (FloatOps.cmpfTotal (F := Ideal) (φ := .f32) .gt) x sliceFits_S1x12x2048x128_S1x12x2048x4).1 (ix4 0 h i k) : EReal) = f (place f k) := by
  have hb : k.val < 128 := by omega
  refine (topK_at x h i k).1.trans ((congrArg x (along_last h i ⟨k.val, hb⟩ (sortRow x h i ⟨k.val, hb⟩ ⟨k.val, hb⟩))).trans ((hx _).trans ?_))
  rw [sortRow_eq x h i f hx]
  rfl

/-- The four greatest values' places. -/
theorem topK_places (x : FVec Ideal S1x12x2048x128 .f32) (h : Fin 12) (i : Fin 2048) (f : Fin 128 → EReal) (hx : ∀ b, (x (ix4 0 h i b) : EReal) = f b) (k : Fin 4) :
    (Host.topK S1x12x2048x4 3 (FloatOps.cmpfTotal (F := Ideal) (φ := .f32) .gt) x sliceFits_S1x12x2048x128_S1x12x2048x4).2 (ix4 0 h i k) = BitVec.ofNat 32 (place f k).val := by
  have hb : k.val < 128 := by omega
  refine (topK_at x h i k).2.trans ((congrArg (iotaInDim S1x12x2048x128 32 3) (along_last h i ⟨k.val, hb⟩ (sortRow x h i ⟨k.val, hb⟩ ⟨k.val, hb⟩))).trans ?_)
  rw [sortRow_eq x h i f hx]
  rfl

/-- An indicator of equal numbers, as the reference computes it. -/
theorem hot (a b : ℕ) (ha : a < 2 ^ 31) (hb : b < 2 ^ 31) :
    (FloatOps.uitofp (F := Ideal) .f32 (IntOp.cmpi .eq (BitVec.ofNat 32 a) (BitVec.ofNat 32 b)) : EReal) = if a = b then 1 else 0 := by
  rw [WordCmp.cmpi_eq_ofNat (w := 32) (by omega) (by omega)]
  by_cases h : a = b
  · rw [decide_eq_true h, if_pos h]
    show ((((BitVec.ofBool true).toNat : ℕ) : ℝ) : EReal) = 1
    simp
  · rw [decide_eq_false h, if_neg h]
    show ((((BitVec.ofBool false).toNat : ℕ) : ℝ) : EReal) = 0
    simp

/-- A straight-through gate is 1. -/
theorem gate_one {v : EReal} (hv : IsReal v) : v + (1 - v) = 1 := by
  obtain ⟨r, rfl⟩ := hv
  rw [show (1 : EReal) = ((1 : ℝ) : EReal) from rfl, ← EReal.coe_sub, ← EReal.coe_add]
  congr 1
  ring

open scoped Classical in
/-- The indicators of the four places sum to the indicator of the selected blocks. -/
theorem spread (f : Fin 128 → EReal) (b : Fin 128) : (∑ k : Fin 4, (if (place f k).val = b.val then 1 else 0) * (1 : EReal)) = if selected f b.val then 1 else 0 := by
  have hp : ∀ k, ((place f k).val = b.val) = (rank f b = k.val) := fun k => propext ⟨fun e => by
    rw [← Fin.ext e]; exact rank_sortedFrom f _, fun e => by
    refine congrArg Fin.val (rank_injective f ?_)
    rw [e]; exact rank_sortedFrom f _⟩
  simp only [hp, mul_one]
  by_cases hs : selected f b.val
  · obtain ⟨_, hr⟩ := id hs
    rw [if_pos hs, Finset.sum_eq_single (⟨rank f b, hr⟩ : Fin 4)]
    · exact if_pos rfl
    · exact fun k _ hk => if_neg fun e => hk (Fin.ext e.symm)
    · exact fun hn => absurd (Finset.mem_univ _) hn
  · rw [if_neg hs]
    exact Finset.sum_eq_zero fun k _ => if_neg fun e => hs ⟨b.isLt, e.trans_lt k.isLt⟩

/-- A position's block, as the reference computes it. -/
theorem floor_word (j : Fin 2048) :
    Scalar.select
      (IntOp.andi
        (IntOp.cmpi CmpIPredicate.ne (if BitVec.ofNat 32 j.val = 0 then (0 : BitVec 32) else if (BitVec.ofNat 32 j.val).msb = true then -1 else 1)
          (if id (constantI S_ 32 16#32) ix0 = 0 then (0 : BitVec 32) else if BitVec.msb (id (constantI S_ 32 16#32) ix0) = true then -1 else 1))
        (IntOp.cmpi CmpIPredicate.ne (IntOp.remsi ArithUnit.host (BitVec.ofNat 32 j.val) (id (constantI S_ 32 16#32) ix0)) 0#32))
      (IntOp.subi (IntOp.divsi ArithUnit.host (BitVec.ofNat 32 j.val) (id (constantI S_ 32 16#32) ix0)) 1#32)
      (IntOp.divsi ArithUnit.host (BitVec.ofNat 32 j.val) (id (constantI S_ 32 16#32) ix0)) = BitVec.ofNat 32 (j.val / 16) := by
  rw [show id (constantI S_ 32 16#32) ix0 = 16#32 from rfl]
  revert j
  decide +kernel

/-- A key's block. -/
theorem v113_at (j : Fin 2048) : (res_main_v113 V : IVec S2048 32) (ix1 j) = BitVec.ofNat 32 (j.val / 16) := by
  unfold res_main_v113 res_main_call5_v2 res_main_call5_v0 res_main_v112
  clean_types
  pointwise
  exact floor_word j

/-- A key's block, as the gather takes it. -/
theorem call6_v5_at (j : Fin 2048) : (res_main_call6_v5 V : IVec S2048x1 32) (ix2 j 0) = BitVec.ofNat 32 (j.val / 16) := by
  unfold res_main_call6_v5
  clean_types
  pointwise
  rw [v113_at, show (0#32 : BitVec 32) = BitVec.ofNat 32 0 from rfl, WordCmp.cmpi_slt_ofNat (w := 32) (by omega) (by omega)]
  rw [decide_eq_false (by omega)]
  rfl

/-- The importance that the arguments give position `i` of head `h`. -/
abbrev imp (V : Valuation τ sig (Elt Ideal)) (h : Fin 12) (i : Fin 2048) : Fin 128 → EReal := impOf (cprob ((args V).cscore h i) i.val)

open scoped Classical in
/-- The importance is real. -/
theorem imp_isReal (H : (args V).Finite) (h : Fin 12) (i : Fin 2048) (b : Fin 128) : IsReal (imp V h i b) := by
  have hc : ∀ c, IsReal (cprob ((args V).cscore h i) i.val c) := fun c => softmax_masked_isReal _ _ (fun c _ => H.cscore_isReal h i c) 0 (.inl rfl) c
  unfold imp impOf
  refine IsReal.add (hc _) ?_
  split
  · exact hc _
  · exact IsReal.zero

/-- The gathered words are in range. -/
theorem inRange (x : BitVec 32) (n : ℕ) (hx : x = BitVec.ofNat 32 n) (hn : n < 128) : IntOp.andi (IntOp.cmpi .sge x 0#32) (IntOp.cmpi .sle x 127#32) = 1#1 := by
  subst hx
  rw [WordCmp.cmpi_sge_eq, show (127#32 : BitVec 32) = BitVec.ofNat 32 127 from rfl, WordCmp.cmpi_sle_ofNat (w := 32) (by omega) (by omega), WordCmp.toInt_ofNat_of_lt (w := 32) (a := n) (by omega),
    decide_eq_true (show (0#32 : BitVec 32).toInt ≤ (n : ℤ) from Int.natCast_nonneg n), decide_eq_true (by omega)]
  rfl

open scoped Classical in
/-- The gates spread over the keys: 1 at a key of the position's own block or of a selected one, otherwise 0. -/
theorem v114_at (H : (args V).Finite) (h : Fin 12) (i j : Fin 2048) :
    ((res_main_v114 V : Vec Ideal S1x12x2048x2048 .f32) (ix4 0 h i j) : EReal) = if j.val / 16 = i.val / 16 ∨ selected (imp V h i) (j.val / 16) then (1 : EReal) else (0 : EReal) := by
  unfold res_main_v114 res_main_v106 res_main_call3_v2 res_main_call3_v0 res_main_v106
  clean_types
  generalize hO : (select _ _ _ : IVec S2048 32) = own
  have ho : own (ix1 i) = BitVec.ofNat 32 (i.val / 16) := (congrFun hO.symm _).trans (v113_at V i)
  clear hO
  generalize hG : maximumf (F := Ideal) (φ := .f32) (s := S1x12x2048x128) _ _ = G
  have hg : ∀ b : Fin 128, (G (ix4 0 h i b) : EReal) = if b.val = i.val / 16 ∨ selected (imp V h i) b.val then (1 : EReal) else (0 : EReal) := by
    intro b
    rw [← hG]
    show max _ _ = _
    pointwise
    rw [ho, hot _ _ (by omega) (by omega)]
    rw [Finset.sum_congr rfl fun k _ => by
      rw [topK_places (res_main_v97 V) h i (imp V h i) (v97_at V H h i) k, hot _ _ (by omega) (by omega),
        show (res_main_values V : FVec Ideal S1x12x2048x4 .f32) (ix4 0 h i k) = imp V h i (place (imp V h i) k) from topK_values (res_main_v97 V) h i (imp V h i) (v97_at V H h i) k,
        gate_one (imp_isReal V H h i _)]]
    rw [spread]
    have hO (p q : Prop) [Decidable p] [Decidable q] : max (if q then (1 : EReal) else 0) (if p then 1 else 0) = if p ∨ q then 1 else 0 := by
      by_cases hp : p <;> by_cases hq : q <;> simp [hp, hq]
    rw [hO]
    exact if_congr (or_congr eq_comm Iff.rfl) rfl rfl
  clear hG
  pointwise
  rw [Finset.fold_congr (g := fun _ => 1#1) fun z _ => by rw [Subsingleton.elim z 0]; exact inRange _ _ (call6_v5_at V j) (by omega)]
  rw [gather_blocks G _ h i j ⟨j.val / 16, by omega⟩ (call6_v5_at V j), hg]
  rfl

end Cert.ReferenceIdeal.Value
-- ==== Proof.Value.Ref5.lean ====
module

public import proofs.«01_k».proof.Proof.Value.Ref4

/-!
# The reference's result

The selected and the sliding branches, the gated sum and the output projection, an element at a time.
-/

@[expose] public section

set_option maxRecDepth 16384

noncomputable section

namespace Cert.ReferenceIdeal.Value

open Idealize.ShloMosaic Idealize.ShloMosaic.TcCoe Idealize.ShloMosaic.Tactic
open Cert.ReferenceIdeal Cert.ReferenceIdeal.Gen SparseAttn

variable (V : Valuation τ sig (Elt Ideal))

/-- Two indicator bits together. -/
theorem andi_bits (p q : Prop) [Decidable p] [Decidable q] : IntOp.andi (BitVec.ofBool (decide p)) (BitVec.ofBool (decide q)) = BitVec.ofBool (decide (p ∧ q)) := by
  by_cases hp : p <;> by_cases hq : q <;> simp [hp, hq] <;> rfl

/-- Key `j` is not after position `i`. -/
theorem v119_at (i j : Fin 2048) : (res_main_v119 V : IVec S2048x2048 1) (ix2 i j) = BitVec.ofBool (decide (j.val ≤ i.val)) := by
  unfold res_main_v119
  clean_types
  pointwise
  rw [v69_at, WordCmp.cmpi_sge_eq, WordCmp.toInt_ofNat_of_lt (w := 32) (a := i.val) (by omega), WordCmp.toInt_ofNat_of_lt (w := 32) (a := j.val) (by omega)]
  exact congrArg BitVec.ofBool (decide_eq_decide.mpr Int.ofNat_le)

open scoped Classical in
/-- The selected branch's mask. -/
theorem v124_at (H : (args V).Finite) (h : Fin 12) (i j : Fin 2048) :
    (res_main_v124 V : IVec S1x12x2048x2048 1) (ix4 0 h i j) = BitVec.ofBool (decide (fmask (imp V h i) i.val j.val)) := by
  unfold res_main_v124
  clean_types
  pointwise
  rw [v119_at, v114_at V H]
  refine (andi_bits _ _).trans (congrArg BitVec.ofBool (decide_eq_decide.mpr ?_))
  unfold fmask
  rw [and_comm]
  refine and_congr_right fun _ => ?_
  by_cases hp : j.val / 16 = i.val / 16 ∨ selected (imp V h i) (j.val / 16)
  · rw [if_pos hp]; exact iff_of_true zero_lt_one hp
  · rw [if_neg hp]; exact iff_of_false (lt_irrefl _) hp

open scoped Classical in
/-- The selected branch's masked scores. -/
theorem v128_at (H : (args V).Finite) (h : Fin 12) (i j : Fin 2048) :
    ((res_main_v128 V : Vec Ideal S1x12x2048x2048 .f32) (ix4 0 h i j) : EReal) = masked (fun j : Fin 2048 => fmask (imp V h i) i.val j.val) ((args V).score h i) j := by
  unfold res_main_v128
  clean_types
  pointwise
  rw [v124_at V H, Finset.sum_congr rfl fun d _ => by rw [v15_at, v18_at], WordCmp.select_decide]
  unfold masked
  refine ite_congr rfl (fun _ => H.score_eq h i j) fun _ => ofBits_negInf

/-- The window's mask. -/
theorem windowBit (i j : Fin 2048) :
    IntOp.andi (BitVec.ofBool (decide (j.val ≤ i.val))) (IntOp.cmpi .slt (IntOp.subi (BitVec.ofNat 32 i.val) (BitVec.ofNat 32 j.val)) 64#32) = BitVec.ofBool (decide (j.val ≤ i.val ∧ i.val - j.val < 64)) := by
  by_cases hj : j.val ≤ i.val
  · rw [show IntOp.subi (BitVec.ofNat 32 i.val) (BitVec.ofNat 32 j.val) = BitVec.ofNat 32 (i.val - j.val) from by
      show BitVec.ofNat 32 i.val - BitVec.ofNat 32 j.val = _
      word_omega,
      show (64#32 : BitVec 32) = BitVec.ofNat 32 64 from rfl, WordCmp.cmpi_slt_ofNat (w := 32) (by omega) (by omega), andi_bits]
  · rw [decide_eq_false hj, decide_eq_false (fun e => hj e.1)]
    exact BitVec.zero_and

open scoped Classical in
/-- The sliding branch's masked scores. -/
theorem v155_at (H : (args V).Finite) (h : Fin 12) (i j : Fin 2048) :
    ((res_main_v155 V : Vec Ideal S1x12x2048x2048 .f32) (ix4 0 h i j) : EReal) = masked (fun j : Fin 2048 => wmask i.val j.val) ((args V).score h i) j := by
  unfold res_main_v155
  clean_types
  pointwise
  rw [v119_at, v69_at, windowBit, Finset.sum_congr rfl fun d _ => by rw [v15_at, v18_at], WordCmp.select_decide]
  unfold masked
  refine if_congr Iff.rfl (H.score_eq h i j) ofBits_negInf

open scoped Classical in
/-- The selected branch's exponentials. -/
theorem v135_at (H : (args V).Finite) (h : Fin 12) (i j : Fin 2048) :
    ((res_main_v135 V : Vec Ideal S1x12x2048x2048 .f32) (ix4 0 h i j) : EReal) =
      Ideal.exp (masked (fun j : Fin 2048 => fmask (imp V h i) i.val j.val) ((args V).score h i) j - rowMax (masked (fun j : Fin 2048 => fmask (imp V h i) i.val j.val) ((args V).score h i))) := by
  unfold res_main_v135
  exact exp2048 (res_main_v128 V) h i _ (v128_at V H h i) j

open scoped Classical in
/-- The sliding branch's exponentials. -/
theorem v162_at (H : (args V).Finite) (h : Fin 12) (i j : Fin 2048) :
    ((res_main_v162 V : Vec Ideal S1x12x2048x2048 .f32) (ix4 0 h i j) : EReal) =
      Ideal.exp (masked (fun j : Fin 2048 => wmask i.val j.val) ((args V).score h i) j - rowMax (masked (fun j : Fin 2048 => wmask i.val j.val) ((args V).score h i))) := by
  unfold res_main_v162
  exact exp2048 (res_main_v155 V) h i _ (v155_at V H h i) j

open scoped Classical in
/-- A probability times its own key's gate is the probability. -/
theorem weight_eq (H : (args V).Finite) (h : Fin 12) (i j : Fin 2048) :
    softmax (masked (fun j : Fin 2048 => fmask (imp V h i) i.val j.val) ((args V).score h i)) j *
        Scalar.select (BitVec.ofBool (decide (fmask (imp V h i) i.val j.val))) ((res_main_v114 V : Vec Ideal S1x12x2048x2048 .f32) (ix4 0 h i j) : EReal) (0 : EReal) =
      softmax (masked (fun j : Fin 2048 => fmask (imp V h i) i.val j.val) ((args V).score h i)) j := by
  rw [WordCmp.select_decide, v114_at V H]
  by_cases hm : fmask (imp V h i) i.val j.val
  · rw [if_pos hm, if_pos hm.2, mul_one]
  · rw [if_neg hm, mul_zero, softmax_masked_zero _ _ (fun j _ => H.score_isReal h i j) i (fmask_self _ _) j hm]

/-- The constant 0, spread. -/
theorem zero_at (i : S1x12x2048x2048.Idx) : (broadcastInDim S1x12x2048x2048 ![] bcast_S_S1x12x2048x2048 (id (constant S_ .f32 0x00000000#32)) : FVec Ideal S1x12x2048x2048 .f32) i = (0 : EReal) := by
  show (constant S_ .f32 0x00000000#32 : FVec Ideal S_ .f32) ix0 = (0 : EReal)
  pointwise

open scoped Classical in
/-- The selected branch's weights. -/
theorem weights_at (H : (args V).Finite) (h : Fin 12) (i j : Fin 2048) :
    ((mulf (Host.divf (res_main_v135 V) (broadcastInDim S1x12x2048x2048 ![0, 1, 2, 3] bcast_S1x12x2048x1_S1x12x2048x2048_0_1_2_3 (broadcastInDim S1x12x2048x1 ![0, 1, 2] bcast_S1x12x2048_S1x12x2048x1_0_1_2 (Host.reduceAdd (res_main_v135 V) (constant S_ .f32 0x00000000#32) reducesTo_S1x12x2048x2048_S1x12x2048_d3 h_S_)))) (select (res_main_v124 V) (res_main_v114 V) (broadcastInDim S1x12x2048x2048 ![] bcast_S_S1x12x2048x2048 (id (constant S_ .f32 0x00000000#32)))) : FVec Ideal S1x12x2048x2048 .f32) (ix4 0 h i j) : EReal) =
      softmax (masked (fun j : Fin 2048 => fmask (imp V h i) i.val j.val) ((args V).score h i)) j := by
  have e := weight_eq V H h i j
  have hz := zero_at (ix4 0 h i j)
  generalize (broadcastInDim S1x12x2048x2048 ![] bcast_S_S1x12x2048x2048 (id (constant S_ .f32 0x00000000#32)) : FVec Ideal S1x12x2048x2048 .f32) = z at hz ⊢
  refine Eq.trans ?_ e
  pointwise
  rw [hz, v124_at V H]
  refine congrArg₂ (fun a b : EReal => a * b) ?_ (by rw [WordCmp.select_decide])
  simp only [v135_at V H]
  unfold softmax
  with_reducible rfl

open scoped Classical in
/-- The sliding branch's weights. -/
theorem window_at (H : (args V).Finite) (h : Fin 12) (i j : Fin 2048) :
    ((Host.divf (res_main_v162 V) (broadcastInDim S1x12x2048x2048 ![0, 1, 2, 3] bcast_S1x12x2048x1_S1x12x2048x2048_0_1_2_3 (broadcastInDim S1x12x2048x1 ![0, 1, 2] bcast_S1x12x2048_S1x12x2048x1_0_1_2 (Host.reduceAdd (res_main_v162 V) (constant S_ .f32 0x00000000#32) reducesTo_S1x12x2048x2048_S1x12x2048_d3 h_S_))) : FVec Ideal S1x12x2048x2048 .f32) (ix4 0 h i j) : EReal) =
      softmax (masked (fun j : Fin 2048 => wmask i.val j.val) ((args V).score h i)) j := by
  pointwise
  simp only [v162_at V H]
  unfold softmax
  with_reducible rfl

open scoped Classical in
/-- The reference's result, an element at a time. -/
theorem result_at (H : (args V).Finite) (i : Fin 2048) (n : Fin 768) :
    ((val4 V (Proc.devRef .tc main_v197) : Vec Ideal S1x2048x768 .f32) (ix3 0 i n) : EReal) = (args V).result i n := by
  refine (congrFun (val4_main_v197 V) (ix3 0 i n)).trans ?_
  clean_types
  generalize hcv : concatenate S1x12x256x64 2 _ _ = cv
  have hv : ∀ h c e, (cv (ix4 0 h c e) : EReal) = (args V).cv h c e := fun h c e => (congrFun hcv.symm _).trans (values_at V h c e)
  clear hcv
  generalize hw : mulf (F := Ideal) (φ := .f32) (s := S1x12x2048x2048) _ _ = w
  have hf : ∀ h i j, (w (ix4 0 h i j) : EReal) = softmax (masked (fun j : Fin 2048 => fmask (imp V h i) i.val j.val) ((args V).score h i)) j :=
    fun h i j => (congrFun hw.symm _).trans (weights_at V H h i j)
  clear hw
  generalize hw : Host.divf (F := Ideal) (φ := .f32) (s := S1x12x2048x2048) _ _ = u
  have hu : ∀ h i j, (u (ix4 0 h i j) : EReal) = softmax (masked (fun j : Fin 2048 => wmask i.val j.val) ((args V).score h i)) j :=
    fun h i j => (congrFun hw.symm _).trans (window_at V H h i j)
  clear hw
  pointwise
  simp only [v180_at V, v92_at V H, v21_at V, hv, hf, hu]
  unfold Args.result Args.heads headOut attnOut
  rfl

end Cert.ReferenceIdeal.Value
-- ==== Proof.Value.Pre.lean ====
module

public import proofs.«01_k».proof.Defs
public import Idealize.ShloMosaic.Lib.ReduceAll
public import Idealize.ShloMosaic.Lib.Pointwise
public import proofs.«01_k».proof.Proof.Value.Kernel
public import proofs.«01_k».proof.Proof.Gen.Pre_finite_scores

/-!
# What the precondition says

The precondition is the conjunction, over seven of the arguments, of the bits that say of each element that its absolute value
is below infinity. When it holds, those arguments' elements are real numbers.
-/

@[expose] public section

set_option maxRecDepth 16384

noncomputable section

namespace Cert.Pre_finite_scores

open Idealize.ShloMosaic SparseAttn

/-- The pattern of infinity. -/
theorem ofBits_inf : Ideal.ofBits .f32 0x7F800000#32 = ⊤ := by simp [Ideal.ofBits, Ideal.ieee]

/-- A number whose absolute value is below infinity is real. -/
theorem isReal_of_abs (x y : EReal) (hy : y = ⊤) (h : FloatOps.cmpf (F := Ideal) (φ := .f32) .olt (FloatOps.hostAbsf (F := Ideal) (φ := .f32) x) y = 1#1) : IsReal x := by
  have h' : BitVec.ofBool (decide (max x (-x) < y)) = 1#1 := h
  have hlt : max x (-x) < y := by
    by_contra hn
    rw [decide_eq_false hn] at h'
    exact absurd h' (by decide)
  rw [hy, max_lt_iff] at hlt
  refine isReal_of_ne hlt.1.ne fun e => ?_
  rw [e] at hlt
  exact absurd hlt.2 (by simp)

/-- There is one index of rank 0. -/
theorem subsingleton_ix0 : Subsingleton S_.Idx := ⟨fun a b => funext fun i => i.elim0⟩

/-- Both of two bits are 1 when their conjunction is. -/
theorem andi_one {x y : BitVec 1} (h : IntOp.andi x y = 1#1) : x = 1#1 ∧ y = 1#1 := by
  revert h
  revert x y
  decide

/-- An array all of whose elements' absolute values are below infinity has real elements. -/
theorem all_real {s : Shape} {axes : List (Fin s.rank)} (x : FVec Ideal s .f32) (b : S_.BroadcastsInDim s (![] : Fin 0 → Fin s.rank)) (r : s.ReducesTo axes S_)
    (v : IVec S_ 1) (hu : 0 < S_.numel) (j : S_.Idx)
    (e : Host.reduce IntOp.andi (cmpf .olt (Host.absf x) (broadcastInDim s ![] b (constant S_ .f32 0x7F800000#32))) v r hu j = 1#1) (i : s.Idx) : IsReal (x i) := by
  have := subsingleton_ix0
  have hy : ((broadcastInDim s ![] b (constant S_ .f32 0x7F800000#32) : FVec Ideal s .f32) i : EReal) = ⊤ := (rfl : _ = Ideal.ofBits .f32 0x7F800000#32).trans ofBits_inf
  generalize (broadcastInDim s ![] b (constant S_ .f32 0x7F800000#32) : FVec Ideal s .f32) = y at e hy
  exact isReal_of_abs (x i) (y i) hy (Host.reduce_andi_all _ _ r hu j e i)

variable [Facts]

/-- The precondition makes the elements of the seven arguments real. -/
theorem fn_real (a0 : FVec Ideal S1x2048x768 .f32) (a1 : FVec Ideal S768 .f32) (a2 a3 a4 : FVec Ideal S768x768 .f32) (a5 a6 : FVec Ideal S12x16x64 .f32)
    (a7 a8 : FVec Ideal S12x1024x64 .f32) (a9 : FVec Ideal S2x12x1x64 .f32) (a10 : FVec Ideal S768x36 .f32) (a11 : FVec Ideal S36 .f32) (a12 : FVec Ideal S768x768 .f32)
    (h : fn a0 a1 a2 a3 a4 a5 a6 a7 a8 a9 a10 a11 a12 = fun _ => 1#1) :
    (∀ i, IsReal (a0 i)) ∧ (∀ i, IsReal (a1 i)) ∧ (∀ i, IsReal (a2 i)) ∧ (∀ i, IsReal (a3 i)) ∧ (∀ i, IsReal (a5 i)) ∧ (∀ i, IsReal (a7 i)) ∧ ∀ i, IsReal (a9 i) := by
  have h0 := congrFun h ix0
  unfold fn fn_part1 at h0
  obtain ⟨h0, h9⟩ := andi_one h0
  obtain ⟨h0, h7⟩ := andi_one h0
  obtain ⟨h0, h5⟩ := andi_one h0
  obtain ⟨h0, h3⟩ := andi_one h0
  obtain ⟨h0, h2⟩ := andi_one h0
  obtain ⟨h0, h1⟩ := andi_one h0
  exact ⟨all_real a0 _ _ _ _ _ h0, all_real a1 _ _ _ _ _ h1, all_real a2 _ _ _ _ _ h2, all_real a3 _ _ _ _ _ h3, all_real a5 _ _ _ _ _ h5,
    all_real a7 _ _ _ _ _ h7, all_real a9 _ _ _ _ _ h9⟩

/-- The precondition makes the kernel's arguments finite. -/
theorem args_finite (m : (ℓ : Loc Cert.KernelIdeal.nD Cert.KernelIdeal.τ Cert.KernelIdeal.sig) → Buf (Elt Ideal) ℓ) (h : Cert.Pre_KernelIdeal_finite_scores m)
    (c : Dev Cert.KernelIdeal.nD) : (Cert.KernelIdeal.Run.args m c).Finite := by
  obtain ⟨h0, h1, h2, h3, h5, h7, h9⟩ := fn_real _ _ _ _ _ _ _ _ _ _ _ _ _ (h c)
  exact ⟨fun i d => h0 _, fun d => h1 _, fun i d => h2 _, fun i d => h3 _, fun h i d => h5 _, fun h i d => h7 _, fun a h d => h9 _⟩

end Cert.Pre_finite_scores
-- ==== Proof.lean ====
module

public import proofs.«01_k».proof.Defs
public import proofs.«01_k».proof.Proof.Frame.KernelIdeal.Run
public import proofs.«01_k».proof.Proof.Frame.Kernel.Run
public import proofs.«01_k».proof.Proof.Gen.ReferenceIdeal.Run
public import proofs.«01_k».proof.Proof.Gen.Reference.Run
public import proofs.«01_k».proof.Proof.Gen.Pre_finite_scores
public import proofs.«01_k».proof.Proof.Value.Kernel
public import proofs.«01_k».proof.Proof.Value.Ref5
public import proofs.«01_k».proof.Proof.Value.Pre

@[expose] public section

open Idealize Idealize.ShloMosaic

noncomputable section

namespace Cert.Proof

/-- The reference runs to the end, faults nowhere and leaves its arguments as they were. -/
theorem frame_reference : Cert.quiescent_Reference := fun m ρ _ =>
  (θ_run Cert.Reference.defs _ _).mono (fun r h => ⟨fun c => (h c).2,
      Idealize.ShloMosaic.sem_eq_zero_of_no_sems (by decide) r.2⟩)
    (Cert.Reference.Value.run (F := Bits) m ρ)

/-- The same of the reference at the extended reals. -/
theorem frame_referenceIdeal : Cert.quiescent_ReferenceIdeal := fun m ρ _ =>
  (θ_run Cert.ReferenceIdeal.defs _ _).mono (fun r h => ⟨fun c => (h c).2,
      Idealize.ShloMosaic.sem_eq_zero_of_no_sems (by decide) r.2⟩)
    (Cert.ReferenceIdeal.Value.run (F := Ideal) m ρ)

/-- From memories that agree on the arguments, both programs read the same numbers. -/
theorem args_eq (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (h4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
    (h5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5))
    (h6 : m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6))
    (h7 : m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7))
    (h8 : m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8))
    (h9 : m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9))
    (h10 : m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10))
    (h11 : m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11))
    (h12 : m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) :
    Cert.ReferenceIdeal.Value.args (StableHlo.launchContents m' c) = Cert.KernelIdeal.Run.args m c := by
  unfold Cert.ReferenceIdeal.Value.args Cert.KernelIdeal.Run.args
  congr 1
  · exact funext fun _ => funext fun _ => congrFun h0 _
  · exact funext fun _ => congrFun h1 _
  · exact funext fun _ => funext fun _ => congrFun h2 _
  · exact funext fun _ => funext fun _ => congrFun h3 _
  · exact funext fun _ => funext fun _ => congrFun h4 _
  · exact funext fun _ => funext fun _ => funext fun _ => congrFun h5 _
  · exact funext fun _ => funext fun _ => funext fun _ => congrFun h6 _
  · exact funext fun _ => funext fun _ => funext fun _ => congrFun h7 _
  · exact funext fun _ => funext fun _ => funext fun _ => congrFun h8 _
  · exact funext fun _ => funext fun _ => funext fun _ => congrFun h9 _
  · exact funext fun _ => funext fun _ => congrFun h10 _
  · exact funext fun _ => congrFun h11 _
  · exact funext fun _ => funext fun _ => congrFun h12 _

/-- Every index of the result is `(0, i, n)`. -/
theorem result_ext (x y : FVec Ideal Cert.KernelIdeal.S1x2048x768 .f32) (h : ∀ i n, x (ix3 0 i n) = y (ix3 0 i n)) : x = y := by
  funext j
  have e : j = ix3 0 (j 1) (j 2) := by
    funext a
    fin_cases a
    · exact Subsingleton.elim (α := Fin 1) _ _
    · rfl
    · rfl
  rw [e]
  exact h _ _

/-- The kernel and the reference compute the same result at the extended reals, when every number that enters a score is finite. -/
theorem values : Cert.algebraic_KernelIdeal_ReferenceIdeal_pre_finite_scores := fun m ρ m' ρ' hpre hagree => by
  refine ⟨fun c => Cert.KernelIdeal.Run.W18 m c (Proc.devRef .tc Cert.KernelIdeal.main_v35), (θ_run Cert.KernelIdeal.defs _ _).mono (fun r h c => ?_) (Cert.KernelIdeal.Run.run m ρ),
    (θ_run Cert.ReferenceIdeal.defs _ _).mono (fun r h c => ⟨(h c).1.trans ?_, (h c).2⟩) (Cert.ReferenceIdeal.Value.run (F := Ideal) m' ρ')⟩
  · have H : ∀ a ∈ Cert.KernelIdeal.Run.argRefs, ¬ (Proc.devRef .tc a : DevRef Cert.KernelIdeal.τ Cert.KernelIdeal.sig).isScoped →
        r.2.mem ((c.tc : Thread Cert.KernelIdeal.nD Cert.KernelIdeal.τ).loc a) = m ((c.tc : Thread Cert.KernelIdeal.nD Cert.KernelIdeal.τ).loc a) := fun a ha hu =>
      (h.1 c _ (Cert.KernelIdeal.Run.mem_uc a hu)).trans (Cert.KernelIdeal.Run.W18_args m c a ha)
    exact ⟨h.1 c _ (Cert.KernelIdeal.Run.mem_uc Cert.KernelIdeal.main_v35 (by decide)), H Cert.KernelIdeal.main_arg0 (by decide) (by decide), H Cert.KernelIdeal.main_arg1 (by decide) (by decide), H Cert.KernelIdeal.main_arg2 (by decide) (by decide), H Cert.KernelIdeal.main_arg3 (by decide) (by decide), H Cert.KernelIdeal.main_arg4 (by decide) (by decide), H Cert.KernelIdeal.main_arg5 (by decide) (by decide), H Cert.KernelIdeal.main_arg6 (by decide) (by decide), H Cert.KernelIdeal.main_arg7 (by decide) (by decide), H Cert.KernelIdeal.main_arg8 (by decide) (by decide), H Cert.KernelIdeal.main_arg9 (by decide) (by decide), H Cert.KernelIdeal.main_arg10 (by decide) (by decide), H Cert.KernelIdeal.main_arg11 (by decide) (by decide), H Cert.KernelIdeal.main_arg12 (by decide) (by decide)⟩
  · obtain ⟨h0, h1, h2, h3, h4, h5, h6, h7, h8, h9, h10, h11, h12⟩ := hagree c
    have ha := args_eq m m' c h0 h1 h2 h3 h4 h5 h6 h7 h8 h9 h10 h11 h12
    have hfin := Cert.Pre_finite_scores.args_finite m hpre c
    refine (Cert.ReferenceIdeal.Value.val4_main_v197 (StableHlo.launchContents m' c)).symm.trans ?_
    refine result_ext _ _ fun i n => ?_
    refine (Cert.ReferenceIdeal.Value.result_at (StableHlo.launchContents m' c) (ha ▸ hfin) i n).trans ?_
    rw [ha]
    exact (Cert.KernelIdeal.Run.result_at m c hfin i n).symm

/-- The certificate's claim: the kernel and the reference, at the bit patterns and at the extended reals, run to
    the end and leave their arguments as they were; the mask is the one constant that is named; and at the extended reals
    both compute the same result. -/
theorem claim : Cert.Claim :=
  ⟨Cert.Kernel.Gen.facts, Cert.KernelIdeal.Gen.facts, Cert.ReferenceIdeal.Gen.facts, Cert.Reference.Gen.facts, Cert.Pre_finite_scores.Gen.facts,
    fun m ρ _ => Cert.Kernel.Run.frame m ρ, fun m ρ _ => Cert.KernelIdeal.Run.frame m ρ, fun m ρ _ => Cert.KernelIdeal.Run.frame m ρ,
    frame_referenceIdeal, fun m ρ _ => frame_referenceIdeal m ρ trivial, frame_reference,
    IdealRules.named_const.statement Cert.KernelIdeal.κ "mask" .f32 0xF149F2CA#32 ⊥ rfl, trivial, values⟩

end Cert.Proof

end
